-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qv [hPre_finite_qv : Cert.Pre_finite_qv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qv [hPre_finite_qv : Cert.Pre_finite_qv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_InCd (m : (ℓ : Loc Cert.InCd.nD Cert.InCd.τ Cert.InCd.sig) → Buf (Elt Bits) ℓ) : Prop :=
  True

def Pre_InCdIdeal (m : (ℓ : Loc Cert.InCdIdeal.nD Cert.InCdIdeal.τ Cert.InCdIdeal.sig) → Buf (Elt Ideal) ℓ) : Prop :=
  True

def Pre_InCdRefIdeal (m : (ℓ : Loc Cert.InCdRefIdeal.nD Cert.InCdRefIdeal.τ Cert.InCdRefIdeal.sig) → Buf (Elt Ideal) ℓ) : Prop :=
  True

def Pre_InAb (m : (ℓ : Loc Cert.InAb.nD Cert.InAb.τ Cert.InAb.sig) → Buf (Elt Bits) ℓ) : Prop :=
  True

def Pre_InAbIdeal (m : (ℓ : Loc Cert.InAbIdeal.nD Cert.InAbIdeal.τ Cert.InAbIdeal.sig) → Buf (Elt Ideal) ℓ) : Prop :=
  True

def Pre_InAbRefIdeal (m : (ℓ : Loc Cert.InAbRefIdeal.nD Cert.InAbRefIdeal.τ Cert.InAbRefIdeal.sig) → Buf (Elt Ideal) ℓ) : Prop :=
  True

def Pre_OutCd (m : (ℓ : Loc Cert.OutCd.nD Cert.OutCd.τ Cert.OutCd.sig) → Buf (Elt Bits) ℓ) : Prop :=
  True

def Pre_OutCdIdeal (m : (ℓ : Loc Cert.OutCdIdeal.nD Cert.OutCdIdeal.τ Cert.OutCdIdeal.sig) → Buf (Elt Ideal) ℓ) : Prop :=
  True

def Pre_OutCdRefIdeal (m : (ℓ : Loc Cert.OutCdRefIdeal.nD Cert.OutCdRefIdeal.τ Cert.OutCdRefIdeal.sig) → Buf (Elt Ideal) ℓ) : Prop :=
  True

def Pre_OutAb (m : (ℓ : Loc Cert.OutAb.nD Cert.OutAb.τ Cert.OutAb.sig) → Buf (Elt Bits) ℓ) : Prop :=
  True

def Pre_OutAbIdeal (m : (ℓ : Loc Cert.OutAbIdeal.nD Cert.OutAbIdeal.τ Cert.OutAbIdeal.sig) → Buf (Elt Ideal) ℓ) : Prop :=
  True

def Pre_OutAbRefIdeal (m : (ℓ : Loc Cert.OutAbRefIdeal.nD Cert.OutAbRefIdeal.τ Cert.OutAbRefIdeal.sig) → Buf (Elt Ideal) ℓ) : Prop :=
  True

def Pre_OutSmp (m : (ℓ : Loc Cert.OutSmp.nD Cert.OutSmp.τ Cert.OutSmp.sig) → Buf (Elt Bits) ℓ) : Prop :=
  True

def Pre_OutSmpIdeal (m : (ℓ : Loc Cert.OutSmpIdeal.nD Cert.OutSmpIdeal.τ Cert.OutSmpIdeal.sig) → Buf (Elt Ideal) ℓ) : Prop :=
  True

def Pre_OutSmpRefIdeal (m : (ℓ : Loc Cert.OutSmpRefIdeal.nD Cert.OutSmpRefIdeal.τ Cert.OutSmpRefIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmIdeal_finite_qv_forget [hPre_finite_qv_forget : Cert.Pre_finite_qv_forget.Facts] (m : (ℓ : Loc Cert.MlstmIdeal.nD Cert.MlstmIdeal.τ Cert.MlstmIdeal.sig) → Buf (Elt Ideal) ℓ) : Prop :=
  ∀ c : Dev Cert.MlstmIdeal.nD,
    (Cert.Pre_finite_qv_forget.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5))) = (fun _ => 1#1)

def Pre_MlstmRefIdeal (m : (ℓ : Loc Cert.MlstmRefIdeal.nD Cert.MlstmRefIdeal.τ Cert.MlstmRefIdeal.sig) → Buf (Elt Ideal) ℓ) : Prop :=
  True

def Pre_MlstmRefIdeal_finite_qv_forget [hPre_finite_qv_forget : Cert.Pre_finite_qv_forget.Facts] (m : (ℓ : Loc Cert.MlstmRefIdeal.nD Cert.MlstmRefIdeal.τ Cert.MlstmRefIdeal.sig) → Buf (Elt Ideal) ℓ) : Prop :=
  ∀ c : Dev Cert.MlstmRefIdeal.nD,
    (Cert.Pre_finite_qv_forget.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4)) (m ((c.tc : Thread Cert.MlstmRefIdeal.nD Cert.MlstmRefIdeal.τ).loc Cert.MlstmRefIdeal.main_arg5))) = (fun _ => 1#1)

def Pre_Modul (m : (ℓ : Loc Cert.Modul.nD Cert.Modul.τ Cert.Modul.sig) → Buf (Elt Bits) ℓ) : Prop :=
  True

def Pre_ModulIdeal (m : (ℓ : Loc Cert.ModulIdeal.nD Cert.ModulIdeal.τ Cert.ModulIdeal.sig) → Buf (Elt Ideal) ℓ) : Prop :=
  True

def Pre_ModulRefIdeal (m : (ℓ : Loc Cert.ModulRefIdeal.nD Cert.ModulRefIdeal.τ Cert.ModulRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_qv [hKernelIdeal : Cert.KernelIdeal.Facts] [hPre_finite_qv : Cert.Pre_finite_qv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_qv [hReferenceIdeal : Cert.ReferenceIdeal.Facts] [hPre_finite_qv : Cert.Pre_finite_qv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_InCd [hInCd : Cert.InCd.Facts] : Prop :=
  ∀ (m : (ℓ : Loc Cert.InCd.nD Cert.InCd.τ Cert.InCd.sig) → Buf (Elt Bits) ℓ) (g : Dev Cert.InCd.nD → PrngReg), Pre_InCd m →
    θ_run (Cert.InCd.defs (F := Bits)) (onTc (τ := Cert.InCd.τ) (Cert.InCd.main (F := Bits))) ⟨m, fun _ => 0, g⟩ (fun r => (∀ c : Dev Cert.InCd.nD,
      r.2.mem ((c.tc : Thread Cert.InCd.nD Cert.InCd.τ).loc Cert.InCd.main_arg0) = m ((c.tc : Thread Cert.InCd.nD Cert.InCd.τ).loc Cert.InCd.main_arg0)
      ∧ r.2.mem ((c.tc : Thread Cert.InCd.nD Cert.InCd.τ).loc Cert.InCd.main_arg1) = m ((c.tc : Thread Cert.InCd.nD Cert.InCd.τ).loc Cert.InCd.main_arg1)
      ∧ r.2.mem ((c.tc : Thread Cert.InCd.nD Cert.InCd.τ).loc Cert.InCd.main_arg2) = m ((c.tc : Thread Cert.InCd.nD Cert.InCd.τ).loc Cert.InCd.main_arg2)
      ∧ r.2.mem ((c.tc : Thread Cert.InCd.nD Cert.InCd.τ).loc Cert.InCd.main_arg3) = m ((c.tc : Thread Cert.InCd.nD Cert.InCd.τ).loc Cert.InCd.main_arg3))
      ∧ r.2.sem = fun _ => 0)

def quiescent_InCdIdeal [hInCdIdeal : Cert.InCdIdeal.Facts] : Prop :=
  ∀ (m : (ℓ : Loc Cert.InCdIdeal.nD Cert.InCdIdeal.τ Cert.InCdIdeal.sig) → Buf (Elt Ideal) ℓ) (g : Dev Cert.InCdIdeal.nD → PrngReg), Pre_InCdIdeal m →
    θ_run (Cert.InCdIdeal.defs (F := Ideal)) (onTc (τ := Cert.InCdIdeal.τ) (Cert.InCdIdeal.main (F := Ideal))) ⟨m, fun _ => 0, g⟩ (fun r => (∀ c : Dev Cert.InCdIdeal.nD,
      r.2.mem ((c.tc : Thread Cert.InCdIdeal.nD Cert.InCdIdeal.τ).loc Cert.InCdIdeal.main_arg0) = m ((c.tc : Thread Cert.InCdIdeal.nD Cert.InCdIdeal.τ).loc Cert.InCdIdeal.main_arg0)
      ∧ r.2.mem ((c.tc : Thread Cert.InCdIdeal.nD Cert.InCdIdeal.τ).loc Cert.InCdIdeal.main_arg1) = m ((c.tc : Thread Cert.InCdIdeal.nD Cert.InCdIdeal.τ).loc Cert.InCdIdeal.main_arg1)
      ∧ r.2.mem ((c.tc : Thread Cert.InCdIdeal.nD Cert.InCdIdeal.τ).loc Cert.InCdIdeal.main_arg2) = m ((c.tc : Thread Cert.InCdIdeal.nD Cert.InCdIdeal.τ).loc Cert.InCdIdeal.main_arg2)
      ∧ r.2.mem ((c.tc : Thread Cert.InCdIdeal.nD Cert.InCdIdeal.τ).loc Cert.InCdIdeal.main_arg3) = m ((c.tc : Thread Cert.InCdIdeal.nD Cert.InCdIdeal.τ).loc Cert.InCdIdeal.main_arg3))
      ∧ r.2.sem = fun _ => 0)

def quiescent_InCdRefIdeal [hInCdRefIdeal : Cert.InCdRefIdeal.Facts] : Prop :=
  ∀ (m : (ℓ : Loc Cert.InCdRefIdeal.nD Cert.InCdRefIdeal.τ Cert.InCdRefIdeal.sig) → Buf (Elt Ideal) ℓ) (g : Dev Cert.InCdRefIdeal.nD → PrngReg), Pre_InCdRefIdeal m →
    θ_run (Cert.InCdRefIdeal.defs (F := Ideal)) (onTc (τ := Cert.InCdRefIdeal.τ) (Cert.InCdRefIdeal.main (F := Ideal))) ⟨m, fun _ => 0, g⟩ (fun r => (∀ c : Dev Cert.InCdRefIdeal.nD,
      r.2.mem ((c.tc : Thread Cert.InCdRefIdeal.nD Cert.InCdRefIdeal.τ).loc Cert.InCdRefIdeal.main_arg0) = m ((c.tc : Thread Cert.InCdRefIdeal.nD Cert.InCdRefIdeal.τ).loc Cert.InCdRefIdeal.main_arg0)
      ∧ r.2.mem ((c.tc : Thread Cert.InCdRefIdeal.nD Cert.InCdRefIdeal.τ).loc Cert.InCdRefIdeal.main_arg1) = m ((c.tc : Thread Cert.InCdRefIdeal.nD Cert.InCdRefIdeal.τ).loc Cert.InCdRefIdeal.main_arg1)
      ∧ r.2.mem ((c.tc : Thread Cert.InCdRefIdeal.nD Cert.InCdRefIdeal.τ).loc Cert.InCdRefIdeal.main_arg2) = m ((c.tc : Thread Cert.InCdRefIdeal.nD Cert.InCdRefIdeal.τ).loc Cert.InCdRefIdeal.main_arg2)
      ∧ r.2.mem ((c.tc : Thread Cert.InCdRefIdeal.nD Cert.InCdRefIdeal.τ).loc Cert.InCdRefIdeal.main_arg3) = m ((c.tc : Thread Cert.InCdRefIdeal.nD Cert.InCdRefIdeal.τ).loc Cert.InCdRefIdeal.main_arg3))
      ∧ r.2.sem = fun _ => 0)

def quiescent_InAb [hInAb : Cert.InAb.Facts] : Prop :=
  ∀ (m : (ℓ : Loc Cert.InAb.nD Cert.InAb.τ Cert.InAb.sig) → Buf (Elt Bits) ℓ) (g : Dev Cert.InAb.nD → PrngReg), Pre_InAb m →
    θ_run (Cert.InAb.defs (F := Bits)) (onTc (τ := Cert.InAb.τ) (Cert.InAb.main (F := Bits))) ⟨m, fun _ => 0, g⟩ (fun r => (∀ c : Dev Cert.InAb.nD,
      r.2.mem ((c.tc : Thread Cert.InAb.nD Cert.InAb.τ).loc Cert.InAb.main_arg0) = m ((c.tc : Thread Cert.InAb.nD Cert.InAb.τ).loc Cert.InAb.main_arg0)
      ∧ r.2.mem ((c.tc : Thread Cert.InAb.nD Cert.InAb.τ).loc Cert.InAb.main_arg1) = m ((c.tc : Thread Cert.InAb.nD Cert.InAb.τ).loc Cert.InAb.main_arg1)
      ∧ r.2.mem ((c.tc : Thread Cert.InAb.nD Cert.InAb.τ).loc Cert.InAb.main_arg2) = m ((c.tc : Thread Cert.InAb.nD Cert.InAb.τ).loc Cert.InAb.main_arg2)
      ∧ r.2.mem ((c.tc : Thread Cert.InAb.nD Cert.InAb.τ).loc Cert.InAb.main_arg3) = m ((c.tc : Thread Cert.InAb.nD Cert.InAb.τ).loc Cert.InAb.main_arg3))
      ∧ r.2.sem = fun _ => 0)

def quiescent_InAbIdeal [hInAbIdeal : Cert.InAbIdeal.Facts] : Prop :=
  ∀ (m : (ℓ : Loc Cert.InAbIdeal.nD Cert.InAbIdeal.τ Cert.InAbIdeal.sig) → Buf (Elt Ideal) ℓ) (g : Dev Cert.InAbIdeal.nD → PrngReg), Pre_InAbIdeal m →
    θ_run (Cert.InAbIdeal.defs (F := Ideal)) (onTc (τ := Cert.InAbIdeal.τ) (Cert.InAbIdeal.main (F := Ideal))) ⟨m, fun _ => 0, g⟩ (fun r => (∀ c : Dev Cert.InAbIdeal.nD,
      r.2.mem ((c.tc : Thread Cert.InAbIdeal.nD Cert.InAbIdeal.τ).loc Cert.InAbIdeal.main_arg0) = m ((c.tc : Thread Cert.InAbIdeal.nD Cert.InAbIdeal.τ).loc Cert.InAbIdeal.main_arg0)
      ∧ r.2.mem ((c.tc : Thread Cert.InAbIdeal.nD Cert.InAbIdeal.τ).loc Cert.InAbIdeal.main_arg1) = m ((c.tc : Thread Cert.InAbIdeal.nD Cert.InAbIdeal.τ).loc Cert.InAbIdeal.main_arg1)
      ∧ r.2.mem ((c.tc : Thread Cert.InAbIdeal.nD Cert.InAbIdeal.τ).loc Cert.InAbIdeal.main_arg2) = m ((c.tc : Thread Cert.InAbIdeal.nD Cert.InAbIdeal.τ).loc Cert.InAbIdeal.main_arg2)
      ∧ r.2.mem ((c.tc : Thread Cert.InAbIdeal.nD Cert.InAbIdeal.τ).loc Cert.InAbIdeal.main_arg3) = m ((c.tc : Thread Cert.InAbIdeal.nD Cert.InAbIdeal.τ).loc Cert.InAbIdeal.main_arg3))
      ∧ r.2.sem = fun _ => 0)

def quiescent_InAbRefIdeal [hInAbRefIdeal : Cert.InAbRefIdeal.Facts] : Prop :=
  ∀ (m : (ℓ : Loc Cert.InAbRefIdeal.nD Cert.InAbRefIdeal.τ Cert.InAbRefIdeal.sig) → Buf (Elt Ideal) ℓ) (g : Dev Cert.InAbRefIdeal.nD → PrngReg), Pre_InAbRefIdeal m →
    θ_run (Cert.InAbRefIdeal.defs (F := Ideal)) (onTc (τ := Cert.InAbRefIdeal.τ) (Cert.InAbRefIdeal.main (F := Ideal))) ⟨m, fun _ => 0, g⟩ (fun r => (∀ c : Dev Cert.InAbRefIdeal.nD,
      r.2.mem ((c.tc : Thread Cert.InAbRefIdeal.nD Cert.InAbRefIdeal.τ).loc Cert.InAbRefIdeal.main_arg0) = m ((c.tc : Thread Cert.InAbRefIdeal.nD Cert.InAbRefIdeal.τ).loc Cert.InAbRefIdeal.main_arg0)
      ∧ r.2.mem ((c.tc : Thread Cert.InAbRefIdeal.nD Cert.InAbRefIdeal.τ).loc Cert.InAbRefIdeal.main_arg1) = m ((c.tc : Thread Cert.InAbRefIdeal.nD Cert.InAbRefIdeal.τ).loc Cert.InAbRefIdeal.main_arg1)
      ∧ r.2.mem ((c.tc : Thread Cert.InAbRefIdeal.nD Cert.InAbRefIdeal.τ).loc Cert.InAbRefIdeal.main_arg2) = m ((c.tc : Thread Cert.InAbRefIdeal.nD Cert.InAbRefIdeal.τ).loc Cert.InAbRefIdeal.main_arg2)
      ∧ r.2.mem ((c.tc : Thread Cert.InAbRefIdeal.nD Cert.InAbRefIdeal.τ).loc Cert.InAbRefIdeal.main_arg3) = m ((c.tc : Thread Cert.InAbRefIdeal.nD Cert.InAbRefIdeal.τ).loc Cert.InAbRefIdeal.main_arg3))
      ∧ r.2.sem = fun _ => 0)

def quiescent_OutCd [hOutCd : Cert.OutCd.Facts] : Prop :=
  ∀ (m : (ℓ : Loc Cert.OutCd.nD Cert.OutCd.τ Cert.OutCd.sig) → Buf (Elt Bits) ℓ) (g : Dev Cert.OutCd.nD → PrngReg), Pre_OutCd m →
    θ_run (Cert.OutCd.defs (F := Bits)) (onTc (τ := Cert.OutCd.τ) (Cert.OutCd.main (F := Bits))) ⟨m, fun _ => 0, g⟩ (fun r => (∀ c : Dev Cert.OutCd.nD,
      r.2.mem ((c.tc : Thread Cert.OutCd.nD Cert.OutCd.τ).loc Cert.OutCd.main_arg0) = m ((c.tc : Thread Cert.OutCd.nD Cert.OutCd.τ).loc Cert.OutCd.main_arg0)
      ∧ r.2.mem ((c.tc : Thread Cert.OutCd.nD Cert.OutCd.τ).loc Cert.OutCd.main_arg1) = m ((c.tc : Thread Cert.OutCd.nD Cert.OutCd.τ).loc Cert.OutCd.main_arg1)
      ∧ r.2.mem ((c.tc : Thread Cert.OutCd.nD Cert.OutCd.τ).loc Cert.OutCd.main_arg2) = m ((c.tc : Thread Cert.OutCd.nD Cert.OutCd.τ).loc Cert.OutCd.main_arg2)
      ∧ r.2.mem ((c.tc : Thread Cert.OutCd.nD Cert.OutCd.τ).loc Cert.OutCd.main_arg3) = m ((c.tc : Thread Cert.OutCd.nD Cert.OutCd.τ).loc Cert.OutCd.main_arg3)
      ∧ r.2.mem ((c.tc : Thread Cert.OutCd.nD Cert.OutCd.τ).loc Cert.OutCd.main_arg4) = m ((c.tc : Thread Cert.OutCd.nD Cert.OutCd.τ).loc Cert.OutCd.main_arg4)
      ∧ r.2.mem ((c.tc : Thread Cert.OutCd.nD Cert.OutCd.τ).loc Cert.OutCd.main_arg5) = m ((c.tc : Thread Cert.OutCd.nD Cert.OutCd.τ).loc Cert.OutCd.main_arg5))
      ∧ r.2.sem = fun _ => 0)

def quiescent_OutCdIdeal [hOutCdIdeal : Cert.OutCdIdeal.Facts] : Prop :=
  ∀ (m : (ℓ : Loc Cert.OutCdIdeal.nD Cert.OutCdIdeal.τ Cert.OutCdIdeal.sig) → Buf (Elt Ideal) ℓ) (g : Dev Cert.OutCdIdeal.nD → PrngReg), Pre_OutCdIdeal m →
    θ_run (Cert.OutCdIdeal.defs (F := Ideal)) (onTc (τ := Cert.OutCdIdeal.τ) (Cert.OutCdIdeal.main (F := Ideal))) ⟨m, fun _ => 0, g⟩ (fun r => (∀ c : Dev Cert.OutCdIdeal.nD,
      r.2.mem ((c.tc : Thread Cert.OutCdIdeal.nD Cert.OutCdIdeal.τ).loc Cert.OutCdIdeal.main_arg0) = m ((c.tc : Thread Cert.OutCdIdeal.nD Cert.OutCdIdeal.τ).loc Cert.OutCdIdeal.main_arg0)
      ∧ r.2.mem ((c.tc : Thread Cert.OutCdIdeal.nD Cert.OutCdIdeal.τ).loc Cert.OutCdIdeal.main_arg1) = m ((c.tc : Thread Cert.OutCdIdeal.nD Cert.OutCdIdeal.τ).loc Cert.OutCdIdeal.main_arg1)
      ∧ r.2.mem ((c.tc : Thread Cert.OutCdIdeal.nD Cert.OutCdIdeal.τ).loc Cert.OutCdIdeal.main_arg2) = m ((c.tc : Thread Cert.OutCdIdeal.nD Cert.OutCdIdeal.τ).loc Cert.OutCdIdeal.main_arg2)
      ∧ r.2.mem ((c.tc : Thread Cert.OutCdIdeal.nD Cert.OutCdIdeal.τ).loc Cert.OutCdIdeal.main_arg3) = m ((c.tc : Thread Cert.OutCdIdeal.nD Cert.OutCdIdeal.τ).loc Cert.OutCdIdeal.main_arg3)
      ∧ r.2.mem ((c.tc : Thread Cert.OutCdIdeal.nD Cert.OutCdIdeal.τ).loc Cert.OutCdIdeal.main_arg4) = m ((c.tc : Thread Cert.OutCdIdeal.nD Cert.OutCdIdeal.τ).loc Cert.OutCdIdeal.main_arg4)
      ∧ r.2.mem ((c.tc : Thread Cert.OutCdIdeal.nD Cert.OutCdIdeal.τ).loc Cert.OutCdIdeal.main_arg5) = m ((c.tc : Thread Cert.OutCdIdeal.nD Cert.OutCdIdeal.τ).loc Cert.OutCdIdeal.main_arg5))
      ∧ r.2.sem = fun _ => 0)

def quiescent_OutCdRefIdeal [hOutCdRefIdeal : Cert.OutCdRefIdeal.Facts] : Prop :=
  ∀ (m : (ℓ : Loc Cert.OutCdRefIdeal.nD Cert.OutCdRefIdeal.τ Cert.OutCdRefIdeal.sig) → Buf (Elt Ideal) ℓ) (g : Dev Cert.OutCdRefIdeal.nD → PrngReg), Pre_OutCdRefIdeal m →
    θ_run (Cert.OutCdRefIdeal.defs (F := Ideal)) (onTc (τ := Cert.OutCdRefIdeal.τ) (Cert.OutCdRefIdeal.main (F := Ideal))) ⟨m, fun _ => 0, g⟩ (fun r => (∀ c : Dev Cert.OutCdRefIdeal.nD,
      r.2.mem ((c.tc : Thread Cert.OutCdRefIdeal.nD Cert.OutCdRefIdeal.τ).loc Cert.OutCdRefIdeal.main_arg0) = m ((c.tc : Thread Cert.OutCdRefIdeal.nD Cert.OutCdRefIdeal.τ).loc Cert.OutCdRefIdeal.main_arg0)
      ∧ r.2.mem ((c.tc : Thread Cert.OutCdRefIdeal.nD Cert.OutCdRefIdeal.τ).loc Cert.OutCdRefIdeal.main_arg1) = m ((c.tc : Thread Cert.OutCdRefIdeal.nD Cert.OutCdRefIdeal.τ).loc Cert.OutCdRefIdeal.main_arg1)
      ∧ r.2.mem ((c.tc : Thread Cert.OutCdRefIdeal.nD Cert.OutCdRefIdeal.τ).loc Cert.OutCdRefIdeal.main_arg2) = m ((c.tc : Thread Cert.OutCdRefIdeal.nD Cert.OutCdRefIdeal.τ).loc Cert.OutCdRefIdeal.main_arg2)
      ∧ r.2.mem ((c.tc : Thread Cert.OutCdRefIdeal.nD Cert.OutCdRefIdeal.τ).loc Cert.OutCdRefIdeal.main_arg3) = m ((c.tc : Thread Cert.OutCdRefIdeal.nD Cert.OutCdRefIdeal.τ).loc Cert.OutCdRefIdeal.main_arg3)
      ∧ r.2.mem ((c.tc : Thread Cert.OutCdRefIdeal.nD Cert.OutCdRefIdeal.τ).loc Cert.OutCdRefIdeal.main_arg4) = m ((c.tc : Thread Cert.OutCdRefIdeal.nD Cert.OutCdRefIdeal.τ).loc Cert.OutCdRefIdeal.main_arg4)
      ∧ r.2.mem ((c.tc : Thread Cert.OutCdRefIdeal.nD Cert.OutCdRefIdeal.τ).loc Cert.OutCdRefIdeal.main_arg5) = m ((c.tc : Thread Cert.OutCdRefIdeal.nD Cert.OutCdRefIdeal.τ).loc Cert.OutCdRefIdeal.main_arg5))
      ∧ r.2.sem = fun _ => 0)

def quiescent_OutAb [hOutAb : Cert.OutAb.Facts] : Prop :=
  ∀ (m : (ℓ : Loc Cert.OutAb.nD Cert.OutAb.τ Cert.OutAb.sig) → Buf (Elt Bits) ℓ) (g : Dev Cert.OutAb.nD → PrngReg), Pre_OutAb m →
    θ_run (Cert.OutAb.defs (F := Bits)) (onTc (τ := Cert.OutAb.τ) (Cert.OutAb.main (F := Bits))) ⟨m, fun _ => 0, g⟩ (fun r => (∀ c : Dev Cert.OutAb.nD,
      r.2.mem ((c.tc : Thread Cert.OutAb.nD Cert.OutAb.τ).loc Cert.OutAb.main_arg0) = m ((c.tc : Thread Cert.OutAb.nD Cert.OutAb.τ).loc Cert.OutAb.main_arg0)
      ∧ r.2.mem ((c.tc : Thread Cert.OutAb.nD Cert.OutAb.τ).loc Cert.OutAb.main_arg1) = m ((c.tc : Thread Cert.OutAb.nD Cert.OutAb.τ).loc Cert.OutAb.main_arg1)
      ∧ r.2.mem ((c.tc : Thread Cert.OutAb.nD Cert.OutAb.τ).loc Cert.OutAb.main_arg2) = m ((c.tc : Thread Cert.OutAb.nD Cert.OutAb.τ).loc Cert.OutAb.main_arg2)
      ∧ r.2.mem ((c.tc : Thread Cert.OutAb.nD Cert.OutAb.τ).loc Cert.OutAb.main_arg3) = m ((c.tc : Thread Cert.OutAb.nD Cert.OutAb.τ).loc Cert.OutAb.main_arg3)
      ∧ r.2.mem ((c.tc : Thread Cert.OutAb.nD Cert.OutAb.τ).loc Cert.OutAb.main_arg4) = m ((c.tc : Thread Cert.OutAb.nD Cert.OutAb.τ).loc Cert.OutAb.main_arg4)
      ∧ r.2.mem ((c.tc : Thread Cert.OutAb.nD Cert.OutAb.τ).loc Cert.OutAb.main_arg5) = m ((c.tc : Thread Cert.OutAb.nD Cert.OutAb.τ).loc Cert.OutAb.main_arg5)
      ∧ r.2.mem ((c.tc : Thread Cert.OutAb.nD Cert.OutAb.τ).loc Cert.OutAb.main_arg6) = m ((c.tc : Thread Cert.OutAb.nD Cert.OutAb.τ).loc Cert.OutAb.main_arg6)
      ∧ r.2.mem ((c.tc : Thread Cert.OutAb.nD Cert.OutAb.τ).loc Cert.OutAb.main_arg7) = m ((c.tc : Thread Cert.OutAb.nD Cert.OutAb.τ).loc Cert.OutAb.main_arg7)
      ∧ r.2.mem ((c.tc : Thread Cert.OutAb.nD Cert.OutAb.τ).loc Cert.OutAb.main_arg8) = m ((c.tc : Thread Cert.OutAb.nD Cert.OutAb.τ).loc Cert.OutAb.main_arg8)
      ∧ r.2.mem ((c.tc : Thread Cert.OutAb.nD Cert.OutAb.τ).loc Cert.OutAb.main_arg9) = m ((c.tc : Thread Cert.OutAb.nD Cert.OutAb.τ).loc Cert.OutAb.main_arg9))
      ∧ r.2.sem = fun _ => 0)

def quiescent_OutAbIdeal [hOutAbIdeal : Cert.OutAbIdeal.Facts] : Prop :=
  ∀ (m : (ℓ : Loc Cert.OutAbIdeal.nD Cert.OutAbIdeal.τ Cert.OutAbIdeal.sig) → Buf (Elt Ideal) ℓ) (g : Dev Cert.OutAbIdeal.nD → PrngReg), Pre_OutAbIdeal m →
    θ_run (Cert.OutAbIdeal.defs (F := Ideal)) (onTc (τ := Cert.OutAbIdeal.τ) (Cert.OutAbIdeal.main (F := Ideal))) ⟨m, fun _ => 0, g⟩ (fun r => (∀ c : Dev Cert.OutAbIdeal.nD,
      r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
      ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1)
      ∧ r.2.mem ((c.tc : Thread Cert.OutAbIdeal.nD Cert.OutAbIdeal.τ).loc Cert.OutAbIdeal.main_arg2) = m ((c.tc : Thread Cert.OutAbIdeal.nD Cert.OutAbIdeal.τ).loc Cert.OutAbIdeal.main_arg2)
      ∧ r.2.mem ((c.tc : Thread Cert.OutAbIdeal.nD Cert.OutAbIdeal.τ).loc Cert.OutAbIdeal.main_arg3) = m ((c.tc : Thread Cert.OutAbIdeal.nD Cert.OutAbIdeal.τ).loc Cert.OutAbIdeal.main_arg3)
      ∧ r.2.mem ((c.tc : Thread Cert.OutAbIdeal.nD Cert.OutAbIdeal.τ).loc Cert.OutAbIdeal.main_arg4) = m ((c.tc : Thread Cert.OutAbIdeal.nD Cert.OutAbIdeal.τ).loc Cert.OutAbIdeal.main_arg4)
      ∧ r.2.mem ((c.tc : Thread Cert.OutAbIdeal.nD Cert.OutAbIdeal.τ).loc Cert.OutAbIdeal.main_arg5) = m ((c.tc : Thread Cert.OutAbIdeal.nD Cert.OutAbIdeal.τ).loc Cert.OutAbIdeal.main_arg5)
      ∧ r.2.mem ((c.tc : Thread Cert.OutAbIdeal.nD Cert.OutAbIdeal.τ).loc Cert.OutAbIdeal.main_arg6) = m ((c.tc : Thread Cert.OutAbIdeal.nD Cert.OutAbIdeal.τ).loc Cert.OutAbIdeal.main_arg6)
      ∧ r.2.mem ((c.tc : Thread Cert.OutAbIdeal.nD Cert.OutAbIdeal.τ).loc Cert.OutAbIdeal.main_arg7) = m ((c.tc : Thread Cert.OutAbIdeal.nD Cert.OutAbIdeal.τ).loc Cert.OutAbIdeal.main_arg7)
      ∧ r.2.mem ((c.tc : Thread Cert.OutAbIdeal.nD Cert.OutAbIdeal.τ).loc Cert.OutAbIdeal.main_arg8) = m ((c.tc : Thread Cert.OutAbIdeal.nD Cert.OutAbIdeal.τ).loc Cert.OutAbIdeal.main_arg8)
      ∧ r.2.mem ((c.tc : Thread Cert.OutAbIdeal.nD Cert.OutAbIdeal.τ).loc Cert.OutAbIdeal.main_arg9) = m ((c.tc : Thread Cert.OutAbIdeal.nD Cert.OutAbIdeal.τ).loc Cert.OutAbIdeal.main_arg9))
      ∧ r.2.sem = fun _ => 0)

def quiescent_OutAbRefIdeal [hOutAbRefIdeal : Cert.OutAbRefIdeal.Facts] : Prop :=
  ∀ (m : (ℓ : Loc Cert.OutAbRefIdeal.nD Cert.OutAbRefIdeal.τ Cert.OutAbRefIdeal.sig) → Buf (Elt Ideal) ℓ) (g : Dev Cert.OutAbRefIdeal.nD → PrngReg), Pre_OutAbRefIdeal m →
    θ_run (Cert.OutAbRefIdeal.defs (F := Ideal)) (onTc (τ := Cert.OutAbRefIdeal.τ) (Cert.OutAbRefIdeal.main (F := Ideal))) ⟨m, fun _ => 0, g⟩ (fun r => (∀ c : Dev Cert.OutAbRefIdeal.nD,
      r.2.mem ((c.tc : Thread Cert.OutAbRefIdeal.nD Cert.OutAbRefIdeal.τ).loc Cert.OutAbRefIdeal.main_arg0) = m ((c.tc : Thread Cert.OutAbRefIdeal.nD Cert.OutAbRefIdeal.τ).loc Cert.OutAbRefIdeal.main_arg0)
      ∧ r.2.mem ((c.tc : Thread Cert.OutAbRefIdeal.nD Cert.OutAbRefIdeal.τ).loc Cert.OutAbRefIdeal.main_arg1) = m ((c.tc : Thread Cert.OutAbRefIdeal.nD Cert.OutAbRefIdeal.τ).loc Cert.OutAbRefIdeal.main_arg1)
      ∧ r.2.mem ((c.tc : Thread Cert.OutAbRefIdeal.nD Cert.OutAbRefIdeal.τ).loc Cert.OutAbRefIdeal.main_arg2) = m ((c.tc : Thread Cert.OutAbRefIdeal.nD Cert.OutAbRefIdeal.τ).loc Cert.OutAbRefIdeal.main_arg2)
      ∧ r.2.mem ((c.tc : Thread Cert.OutAbRefIdeal.nD Cert.OutAbRefIdeal.τ).loc Cert.OutAbRefIdeal.main_arg3) = m ((c.tc : Thread Cert.OutAbRefIdeal.nD Cert.OutAbRefIdeal.τ).loc Cert.OutAbRefIdeal.main_arg3)
      ∧ r.2.mem ((c.tc : Thread Cert.OutAbRefIdeal.nD Cert.OutAbRefIdeal.τ).loc Cert.OutAbRefIdeal.main_arg4) = m ((c.tc : Thread Cert.OutAbRefIdeal.nD Cert.OutAbRefIdeal.τ).loc Cert.OutAbRefIdeal.main_arg4)
      ∧ r.2.mem ((c.tc : Thread Cert.OutAbRefIdeal.nD Cert.OutAbRefIdeal.τ).loc Cert.OutAbRefIdeal.main_arg5) = m ((c.tc : Thread Cert.OutAbRefIdeal.nD Cert.OutAbRefIdeal.τ).loc Cert.OutAbRefIdeal.main_arg5)
      ∧ r.2.mem ((c.tc : Thread Cert.OutAbRefIdeal.nD Cert.OutAbRefIdeal.τ).loc Cert.OutAbRefIdeal.main_arg6) = m ((c.tc : Thread Cert.OutAbRefIdeal.nD Cert.OutAbRefIdeal.τ).loc Cert.OutAbRefIdeal.main_arg6)
      ∧ r.2.mem ((c.tc : Thread Cert.OutAbRefIdeal.nD Cert.OutAbRefIdeal.τ).loc Cert.OutAbRefIdeal.main_arg7) = m ((c.tc : Thread Cert.OutAbRefIdeal.nD Cert.OutAbRefIdeal.τ).loc Cert.OutAbRefIdeal.main_arg7)
      ∧ r.2.mem ((c.tc : Thread Cert.OutAbRefIdeal.nD Cert.OutAbRefIdeal.τ).loc Cert.OutAbRefIdeal.main_arg8) = m ((c.tc : Thread Cert.OutAbRefIdeal.nD Cert.OutAbRefIdeal.τ).loc Cert.OutAbRefIdeal.main_arg8)
      ∧ r.2.mem ((c.tc : Thread Cert.OutAbRefIdeal.nD Cert.OutAbRefIdeal.τ).loc Cert.OutAbRefIdeal.main_arg9) = m ((c.tc : Thread Cert.OutAbRefIdeal.nD Cert.OutAbRefIdeal.τ).loc Cert.OutAbRefIdeal.main_arg9))
      ∧ r.2.sem = fun _ => 0)

def quiescent_OutSmp [hOutSmp : Cert.OutSmp.Facts] : Prop :=
  ∀ (m : (ℓ : Loc Cert.OutSmp.nD Cert.OutSmp.τ Cert.OutSmp.sig) → Buf (Elt Bits) ℓ) (g : Dev Cert.OutSmp.nD → PrngReg), Pre_OutSmp m →
    θ_run (Cert.OutSmp.defs (F := Bits)) (onTc (τ := Cert.OutSmp.τ) (Cert.OutSmp.main (F := Bits))) ⟨m, fun _ => 0, g⟩ (fun r => (∀ c : Dev Cert.OutSmp.nD,
      r.2.mem ((c.tc : Thread Cert.OutSmp.nD Cert.OutSmp.τ).loc Cert.OutSmp.main_arg0) = m ((c.tc : Thread Cert.OutSmp.nD Cert.OutSmp.τ).loc Cert.OutSmp.main_arg0)
      ∧ r.2.mem ((c.tc : Thread Cert.OutSmp.nD Cert.OutSmp.τ).loc Cert.OutSmp.main_arg1) = m ((c.tc : Thread Cert.OutSmp.nD Cert.OutSmp.τ).loc Cert.OutSmp.main_arg1)
      ∧ r.2.mem ((c.tc : Thread Cert.OutSmp.nD Cert.OutSmp.τ).loc Cert.OutSmp.main_arg2) = m ((c.tc : Thread Cert.OutSmp.nD Cert.OutSmp.τ).loc Cert.OutSmp.main_arg2)
      ∧ r.2.mem ((c.tc : Thread Cert.OutSmp.nD Cert.OutSmp.τ).loc Cert.OutSmp.main_arg3) = m ((c.tc : Thread Cert.OutSmp.nD Cert.OutSmp.τ).loc Cert.OutSmp.main_arg3)
      ∧ r.2.mem ((c.tc : Thread Cert.OutSmp.nD Cert.OutSmp.τ).loc Cert.OutSmp.main_arg4) = m ((c.tc : Thread Cert.OutSmp.nD Cert.OutSmp.τ).loc Cert.OutSmp.main_arg4)
      ∧ r.2.mem ((c.tc : Thread Cert.OutSmp.nD Cert.OutSmp.τ).loc Cert.OutSmp.main_arg5) = m ((c.tc : Thread Cert.OutSmp.nD Cert.OutSmp.τ).loc Cert.OutSmp.main_arg5))
      ∧ r.2.sem = fun _ => 0)

def quiescent_OutSmpIdeal [hOutSmpIdeal : Cert.OutSmpIdeal.Facts] : Prop :=
  ∀ (m : (ℓ : Loc Cert.OutSmpIdeal.nD Cert.OutSmpIdeal.τ Cert.OutSmpIdeal.sig) → Buf (Elt Ideal) ℓ) (g : Dev Cert.OutSmpIdeal.nD → PrngReg), Pre_OutSmpIdeal m →
    θ_run (Cert.OutSmpIdeal.defs (F := Ideal)) (onTc (τ := Cert.OutSmpIdeal.τ) (Cert.OutSmpIdeal.main (F := Ideal))) ⟨m, fun _ => 0, g⟩ (fun r => (∀ c : Dev Cert.OutSmpIdeal.nD,
      r.2.mem ((c.tc : Thread Cert.OutSmpIdeal.nD Cert.OutSmpIdeal.τ).loc Cert.OutSmpIdeal.main_arg0) = m ((c.tc : Thread Cert.OutSmpIdeal.nD Cert.OutSmpIdeal.τ).loc Cert.OutSmpIdeal.main_arg0)
      ∧ r.2.mem ((c.tc : Thread Cert.OutSmpIdeal.nD Cert.OutSmpIdeal.τ).loc Cert.OutSmpIdeal.main_arg1) = m ((c.tc : Thread Cert.OutSmpIdeal.nD Cert.OutSmpIdeal.τ).loc Cert.OutSmpIdeal.main_arg1)
      ∧ r.2.mem ((c.tc : Thread Cert.OutSmpIdeal.nD Cert.OutSmpIdeal.τ).loc Cert.OutSmpIdeal.main_arg2) = m ((c.tc : Thread Cert.OutSmpIdeal.nD Cert.OutSmpIdeal.τ).loc Cert.OutSmpIdeal.main_arg2)
      ∧ r.2.mem ((c.tc : Thread Cert.OutSmpIdeal.nD Cert.OutSmpIdeal.τ).loc Cert.OutSmpIdeal.main_arg3) = m ((c.tc : Thread Cert.OutSmpIdeal.nD Cert.OutSmpIdeal.τ).loc Cert.OutSmpIdeal.main_arg3)
      ∧ r.2.mem ((c.tc : Thread Cert.OutSmpIdeal.nD Cert.OutSmpIdeal.τ).loc Cert.OutSmpIdeal.main_arg4) = m ((c.tc : Thread Cert.OutSmpIdeal.nD Cert.OutSmpIdeal.τ).loc Cert.OutSmpIdeal.main_arg4)
      ∧ r.2.mem ((c.tc : Thread Cert.OutSmpIdeal.nD Cert.OutSmpIdeal.τ).loc Cert.OutSmpIdeal.main_arg5) = m ((c.tc : Thread Cert.OutSmpIdeal.nD Cert.OutSmpIdeal.τ).loc Cert.OutSmpIdeal.main_arg5))
      ∧ r.2.sem = fun _ => 0)

def quiescent_OutSmpRefIdeal [hOutSmpRefIdeal : Cert.OutSmpRefIdeal.Facts] : Prop :=
  ∀ (m : (ℓ : Loc Cert.OutSmpRefIdeal.nD Cert.OutSmpRefIdeal.τ Cert.OutSmpRefIdeal.sig) → Buf (Elt Ideal) ℓ) (g : Dev Cert.OutSmpRefIdeal.nD → PrngReg), Pre_OutSmpRefIdeal m →
    θ_run (Cert.OutSmpRefIdeal.defs (F := Ideal)) (onTc (τ := Cert.OutSmpRefIdeal.τ) (Cert.OutSmpRefIdeal.main (F := Ideal))) ⟨m, fun _ => 0, g⟩ (fun r => (∀ c : Dev Cert.OutSmpRefIdeal.nD,
      r.2.mem ((c.tc : Thread Cert.OutSmpRefIdeal.nD Cert.OutSmpRefIdeal.τ).loc Cert.OutSmpRefIdeal.main_arg0) = m ((c.tc : Thread Cert.OutSmpRefIdeal.nD Cert.OutSmpRefIdeal.τ).loc Cert.OutSmpRefIdeal.main_arg0)
      ∧ r.2.mem ((c.tc : Thread Cert.OutSmpRefIdeal.nD Cert.OutSmpRefIdeal.τ).loc Cert.OutSmpRefIdeal.main_arg1) = m ((c.tc : Thread Cert.OutSmpRefIdeal.nD Cert.OutSmpRefIdeal.τ).loc Cert.OutSmpRefIdeal.main_arg1)
      ∧ r.2.mem ((c.tc : Thread Cert.OutSmpRefIdeal.nD Cert.OutSmpRefIdeal.τ).loc Cert.OutSmpRefIdeal.main_arg2) = m ((c.tc : Thread Cert.OutSmpRefIdeal.nD Cert.OutSmpRefIdeal.τ).loc Cert.OutSmpRefIdeal.main_arg2)
      ∧ r.2.mem ((c.tc : Thread Cert.OutSmpRefIdeal.nD Cert.OutSmpRefIdeal.τ).loc Cert.OutSmpRefIdeal.main_arg3) = m ((c.tc : Thread Cert.OutSmpRefIdeal.nD Cert.OutSmpRefIdeal.τ).loc Cert.OutSmpRefIdeal.main_arg3)
      ∧ r.2.mem ((c.tc : Thread Cert.OutSmpRefIdeal.nD Cert.OutSmpRefIdeal.τ).loc Cert.OutSmpRefIdeal.main_arg4) = m ((c.tc : Thread Cert.OutSmpRefIdeal.nD Cert.OutSmpRefIdeal.τ).loc Cert.OutSmpRefIdeal.main_arg4)
      ∧ r.2.mem ((c.tc : Thread Cert.OutSmpRefIdeal.nD Cert.OutSmpRefIdeal.τ).loc Cert.OutSmpRefIdeal.main_arg5) = m ((c.tc : Thread Cert.OutSmpRefIdeal.nD Cert.OutSmpRefIdeal.τ).loc Cert.OutSmpRefIdeal.main_arg5))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4)
      ∧ r.2.mem ((c.tc : Thread Cert.Mlstm.nD Cert.Mlstm.τ).loc Cert.Mlstm.main_arg5) = m ((c.tc : Thread Cert.Mlstm.nD Cert.Mlstm.τ).loc Cert.Mlstm.main_arg5))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5))
      ∧ r.2.sem = fun _ => 0)

def quiescent_MlstmIdeal_pre_finite_qv_forget [hMlstmIdeal : Cert.MlstmIdeal.Facts] [hPre_finite_qv_forget : Cert.Pre_finite_qv_forget.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal_finite_qv_forget m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
      ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
      ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5))
      ∧ r.2.sem = fun _ => 0)

def quiescent_MlstmRefIdeal_pre_finite_qv_forget [hMlstmRefIdeal : Cert.MlstmRefIdeal.Facts] [hPre_finite_qv_forget : Cert.Pre_finite_qv_forget.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal_finite_qv_forget m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
      ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5))
      ∧ r.2.sem = fun _ => 0)

def quiescent_Modul [hModul : Cert.Modul.Facts] : Prop :=
  ∀ (m : (ℓ : Loc Cert.Modul.nD Cert.Modul.τ Cert.Modul.sig) → Buf (Elt Bits) ℓ) (g : Dev Cert.Modul.nD → PrngReg), Pre_Modul m →
    θ_run (Cert.Modul.defs (F := Bits)) (onTc (τ := Cert.Modul.τ) (Cert.Modul.main (F := Bits))) ⟨m, fun _ => 0, g⟩ (fun r => (∀ c : Dev Cert.Modul.nD,
      r.2.mem ((c.tc : Thread Cert.Modul.nD Cert.Modul.τ).loc Cert.Modul.main_arg0) = m ((c.tc : Thread Cert.Modul.nD Cert.Modul.τ).loc Cert.Modul.main_arg0)
      ∧ r.2.mem ((c.tc : Thread Cert.Modul.nD Cert.Modul.τ).loc Cert.Modul.main_arg1) = m ((c.tc : Thread Cert.Modul.nD Cert.Modul.τ).loc Cert.Modul.main_arg1)
      ∧ r.2.mem ((c.tc : Thread Cert.Modul.nD Cert.Modul.τ).loc Cert.Modul.main_arg2) = m ((c.tc : Thread Cert.Modul.nD Cert.Modul.τ).loc Cert.Modul.main_arg2)
      ∧ r.2.mem ((c.tc : Thread Cert.Modul.nD Cert.Modul.τ).loc Cert.Modul.main_arg3) = m ((c.tc : Thread Cert.Modul.nD Cert.Modul.τ).loc Cert.Modul.main_arg3))
      ∧ r.2.sem = fun _ => 0)

def quiescent_ModulIdeal [hModulIdeal : Cert.ModulIdeal.Facts] : Prop :=
  ∀ (m : (ℓ : Loc Cert.ModulIdeal.nD Cert.ModulIdeal.τ Cert.ModulIdeal.sig) → Buf (Elt Ideal) ℓ) (g : Dev Cert.ModulIdeal.nD → PrngReg), Pre_ModulIdeal m →
    θ_run (Cert.ModulIdeal.defs (F := Ideal)) (onTc (τ := Cert.ModulIdeal.τ) (Cert.ModulIdeal.main (F := Ideal))) ⟨m, fun _ => 0, g⟩ (fun r => (∀ c : Dev Cert.ModulIdeal.nD,
      r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
      ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
      ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2)
      ∧ r.2.mem ((c.tc : Thread Cert.ModulIdeal.nD Cert.ModulIdeal.τ).loc Cert.ModulIdeal.main_arg3) = m ((c.tc : Thread Cert.ModulIdeal.nD Cert.ModulIdeal.τ).loc Cert.ModulIdeal.main_arg3))
      ∧ r.2.sem = fun _ => 0)

def quiescent_ModulRefIdeal [hModulRefIdeal : Cert.ModulRefIdeal.Facts] : Prop :=
  ∀ (m : (ℓ : Loc Cert.ModulRefIdeal.nD Cert.ModulRefIdeal.τ Cert.ModulRefIdeal.sig) → Buf (Elt Ideal) ℓ) (g : Dev Cert.ModulRefIdeal.nD → PrngReg), Pre_ModulRefIdeal m →
    θ_run (Cert.ModulRefIdeal.defs (F := Ideal)) (onTc (τ := Cert.ModulRefIdeal.τ) (Cert.ModulRefIdeal.main (F := Ideal))) ⟨m, fun _ => 0, g⟩ (fun r => (∀ c : Dev Cert.ModulRefIdeal.nD,
      r.2.mem ((c.tc : Thread Cert.ModulRefIdeal.nD Cert.ModulRefIdeal.τ).loc Cert.ModulRefIdeal.main_arg0) = m ((c.tc : Thread Cert.ModulRefIdeal.nD Cert.ModulRefIdeal.τ).loc Cert.ModulRefIdeal.main_arg0)
      ∧ r.2.mem ((c.tc : Thread Cert.ModulRefIdeal.nD Cert.ModulRefIdeal.τ).loc Cert.ModulRefIdeal.main_arg1) = m ((c.tc : Thread Cert.ModulRefIdeal.nD Cert.ModulRefIdeal.τ).loc Cert.ModulRefIdeal.main_arg1)
      ∧ r.2.mem ((c.tc : Thread Cert.ModulRefIdeal.nD Cert.ModulRefIdeal.τ).loc Cert.ModulRefIdeal.main_arg2) = m ((c.tc : Thread Cert.ModulRefIdeal.nD Cert.ModulRefIdeal.τ).loc Cert.ModulRefIdeal.main_arg2)
      ∧ r.2.mem ((c.tc : Thread Cert.ModulRefIdeal.nD Cert.ModulRefIdeal.τ).loc Cert.ModulRefIdeal.main_arg3) = m ((c.tc : Thread Cert.ModulRefIdeal.nD Cert.ModulRefIdeal.τ).loc Cert.ModulRefIdeal.main_arg3))
      ∧ r.2.sem = fun _ => 0)

def preserves_Kernel_KernelIdeal : Prop :=
  True

def algebraic_KernelIdeal_ReferenceIdeal_pre_finite_qv [hKernelIdeal : Cert.KernelIdeal.Facts] [hReferenceIdeal : Cert.ReferenceIdeal.Facts] [hPre_finite_qv : Cert.Pre_finite_qv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_v183) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_InCd_InCdIdeal : Prop :=
  True

def algebraic_InCdIdeal_InCdRefIdeal [hInCdIdeal : Cert.InCdIdeal.Facts] [hInCdRefIdeal : Cert.InCdRefIdeal.Facts] : Prop :=
  ∀ (m : (ℓ : Loc Cert.InCdIdeal.nD Cert.InCdIdeal.τ Cert.InCdIdeal.sig) → Buf (Elt Ideal) ℓ) (g : Dev Cert.InCdIdeal.nD → PrngReg)
    (m' : (ℓ : Loc Cert.InCdRefIdeal.nD Cert.InCdRefIdeal.τ Cert.InCdRefIdeal.sig) → Buf (Elt Ideal) ℓ) (g' : Dev Cert.InCdRefIdeal.nD → PrngReg), Pre_InCdIdeal m →
    (∀ c : Dev Cert.InCdIdeal.nD,
      m' ((c.tc : Thread Cert.InCdRefIdeal.nD Cert.InCdRefIdeal.τ).loc Cert.InCdRefIdeal.main_arg0) = m ((c.tc : Thread Cert.InCdIdeal.nD Cert.InCdIdeal.τ).loc Cert.InCdIdeal.main_arg0)
      ∧ m' ((c.tc : Thread Cert.InCdRefIdeal.nD Cert.InCdRefIdeal.τ).loc Cert.InCdRefIdeal.main_arg1) = m ((c.tc : Thread Cert.InCdIdeal.nD Cert.InCdIdeal.τ).loc Cert.InCdIdeal.main_arg1)
      ∧ m' ((c.tc : Thread Cert.InCdRefIdeal.nD Cert.InCdRefIdeal.τ).loc Cert.InCdRefIdeal.main_arg2) = m ((c.tc : Thread Cert.InCdIdeal.nD Cert.InCdIdeal.τ).loc Cert.InCdIdeal.main_arg2)
      ∧ m' ((c.tc : Thread Cert.InCdRefIdeal.nD Cert.InCdRefIdeal.τ).loc Cert.InCdRefIdeal.main_arg3) = m ((c.tc : Thread Cert.InCdIdeal.nD Cert.InCdIdeal.τ).loc Cert.InCdIdeal.main_arg3)) →
    ∃ (v0 : (c : Dev Cert.InCdIdeal.nD) → Buf (Elt Ideal) ((c.tc : Thread Cert.InCdIdeal.nD Cert.InCdIdeal.τ).loc Cert.InCdIdeal.main_v18_0)) (v1 : (c : Dev Cert.InCdIdeal.nD) → Buf (Elt Ideal) ((c.tc : Thread Cert.InCdIdeal.nD Cert.InCdIdeal.τ).loc Cert.InCdIdeal.main_v18_1)) (v2 : (c : Dev Cert.InCdIdeal.nD) → Buf (Elt Ideal) ((c.tc : Thread Cert.InCdIdeal.nD Cert.InCdIdeal.τ).loc Cert.InCdIdeal.main_v18_2)),
      θ_run (Cert.InCdIdeal.defs (F := Ideal)) (onTc (τ := Cert.InCdIdeal.τ) (Cert.InCdIdeal.main (F := Ideal))) ⟨m, fun _ => 0, g⟩ (fun r => ∀ c : Dev Cert.InCdIdeal.nD,
          r.2.mem ((c.tc : Thread Cert.InCdIdeal.nD Cert.InCdIdeal.τ).loc Cert.InCdIdeal.main_v18_0) = v0 c
          ∧ r.2.mem ((c.tc : Thread Cert.InCdIdeal.nD Cert.InCdIdeal.τ).loc Cert.InCdIdeal.main_v18_1) = v1 c
          ∧ r.2.mem ((c.tc : Thread Cert.InCdIdeal.nD Cert.InCdIdeal.τ).loc Cert.InCdIdeal.main_v18_2) = v2 c
          ∧ r.2.mem ((c.tc : Thread Cert.InCdIdeal.nD Cert.InCdIdeal.τ).loc Cert.InCdIdeal.main_arg0) = m ((c.tc : Thread Cert.InCdIdeal.nD Cert.InCdIdeal.τ).loc Cert.InCdIdeal.main_arg0)
          ∧ r.2.mem ((c.tc : Thread Cert.InCdIdeal.nD Cert.InCdIdeal.τ).loc Cert.InCdIdeal.main_arg1) = m ((c.tc : Thread Cert.InCdIdeal.nD Cert.InCdIdeal.τ).loc Cert.InCdIdeal.main_arg1)
          ∧ r.2.mem ((c.tc : Thread Cert.InCdIdeal.nD Cert.InCdIdeal.τ).loc Cert.InCdIdeal.main_arg2) = m ((c.tc : Thread Cert.InCdIdeal.nD Cert.InCdIdeal.τ).loc Cert.InCdIdeal.main_arg2)
          ∧ r.2.mem ((c.tc : Thread Cert.InCdIdeal.nD Cert.InCdIdeal.τ).loc Cert.InCdIdeal.main_arg3) = m ((c.tc : Thread Cert.InCdIdeal.nD Cert.InCdIdeal.τ).loc Cert.InCdIdeal.main_arg3))
      ∧ θ_run (Cert.InCdRefIdeal.defs (F := Ideal)) (onTc (τ := Cert.InCdRefIdeal.τ) (Cert.InCdRefIdeal.main (F := Ideal))) ⟨m', fun _ => 0, g'⟩ (fun r => ∀ c : Dev Cert.InCdRefIdeal.nD,
          r.2.mem ((c.tc : Thread Cert.InCdRefIdeal.nD Cert.InCdRefIdeal.τ).loc Cert.InCdRefIdeal.main_v23) = v0 c
          ∧ r.2.mem ((c.tc : Thread Cert.InCdRefIdeal.nD Cert.InCdRefIdeal.τ).loc Cert.InCdRefIdeal.main_v24) = v1 c
          ∧ r.2.mem ((c.tc : Thread Cert.InCdRefIdeal.nD Cert.InCdRefIdeal.τ).loc Cert.InCdRefIdeal.main_v26) = v2 c
          ∧ r.2.mem ((c.tc : Thread Cert.InCdRefIdeal.nD Cert.InCdRefIdeal.τ).loc Cert.InCdRefIdeal.main_arg0) = m' ((c.tc : Thread Cert.InCdRefIdeal.nD Cert.InCdRefIdeal.τ).loc Cert.InCdRefIdeal.main_arg0)
          ∧ r.2.mem ((c.tc : Thread Cert.InCdRefIdeal.nD Cert.InCdRefIdeal.τ).loc Cert.InCdRefIdeal.main_arg1) = m' ((c.tc : Thread Cert.InCdRefIdeal.nD Cert.InCdRefIdeal.τ).loc Cert.InCdRefIdeal.main_arg1)
          ∧ r.2.mem ((c.tc : Thread Cert.InCdRefIdeal.nD Cert.InCdRefIdeal.τ).loc Cert.InCdRefIdeal.main_arg2) = m' ((c.tc : Thread Cert.InCdRefIdeal.nD Cert.InCdRefIdeal.τ).loc Cert.InCdRefIdeal.main_arg2)
          ∧ r.2.mem ((c.tc : Thread Cert.InCdRefIdeal.nD Cert.InCdRefIdeal.τ).loc Cert.InCdRefIdeal.main_arg3) = m' ((c.tc : Thread Cert.InCdRefIdeal.nD Cert.InCdRefIdeal.τ).loc Cert.InCdRefIdeal.main_arg3))

def preserves_InAb_InAbIdeal : Prop :=
  True

def algebraic_InAbIdeal_InAbRefIdeal [hInAbIdeal : Cert.InAbIdeal.Facts] [hInAbRefIdeal : Cert.InAbRefIdeal.Facts] : Prop :=
  ∀ (m : (ℓ : Loc Cert.InAbIdeal.nD Cert.InAbIdeal.τ Cert.InAbIdeal.sig) → Buf (Elt Ideal) ℓ) (g : Dev Cert.InAbIdeal.nD → PrngReg)
    (m' : (ℓ : Loc Cert.InAbRefIdeal.nD Cert.InAbRefIdeal.τ Cert.InAbRefIdeal.sig) → Buf (Elt Ideal) ℓ) (g' : Dev Cert.InAbRefIdeal.nD → PrngReg), Pre_InAbIdeal m →
    (∀ c : Dev Cert.InAbIdeal.nD,
      m' ((c.tc : Thread Cert.InAbRefIdeal.nD Cert.InAbRefIdeal.τ).loc Cert.InAbRefIdeal.main_arg0) = m ((c.tc : Thread Cert.InAbIdeal.nD Cert.InAbIdeal.τ).loc Cert.InAbIdeal.main_arg0)
      ∧ m' ((c.tc : Thread Cert.InAbRefIdeal.nD Cert.InAbRefIdeal.τ).loc Cert.InAbRefIdeal.main_arg1) = m ((c.tc : Thread Cert.InAbIdeal.nD Cert.InAbIdeal.τ).loc Cert.InAbIdeal.main_arg1)
      ∧ m' ((c.tc : Thread Cert.InAbRefIdeal.nD Cert.InAbRefIdeal.τ).loc Cert.InAbRefIdeal.main_arg2) = m ((c.tc : Thread Cert.InAbIdeal.nD Cert.InAbIdeal.τ).loc Cert.InAbIdeal.main_arg2)
      ∧ m' ((c.tc : Thread Cert.InAbRefIdeal.nD Cert.InAbRefIdeal.τ).loc Cert.InAbRefIdeal.main_arg3) = m ((c.tc : Thread Cert.InAbIdeal.nD Cert.InAbIdeal.τ).loc Cert.InAbIdeal.main_arg3)) →
    ∃ (v0 : (c : Dev Cert.InAbIdeal.nD) → Buf (Elt Ideal) ((c.tc : Thread Cert.InAbIdeal.nD Cert.InAbIdeal.τ).loc Cert.InAbIdeal.main_v18_0)) (v1 : (c : Dev Cert.InAbIdeal.nD) → Buf (Elt Ideal) ((c.tc : Thread Cert.InAbIdeal.nD Cert.InAbIdeal.τ).loc Cert.InAbIdeal.main_v18_1)) (v2 : (c : Dev Cert.InAbIdeal.nD) → Buf (Elt Ideal) ((c.tc : Thread Cert.InAbIdeal.nD Cert.InAbIdeal.τ).loc Cert.InAbIdeal.main_v18_2)) (v3 : (c : Dev Cert.InAbIdeal.nD) → Buf (Elt Ideal) ((c.tc : Thread Cert.InAbIdeal.nD Cert.InAbIdeal.τ).loc Cert.InAbIdeal.main_v18_3)),
      θ_run (Cert.InAbIdeal.defs (F := Ideal)) (onTc (τ := Cert.InAbIdeal.τ) (Cert.InAbIdeal.main (F := Ideal))) ⟨m, fun _ => 0, g⟩ (fun r => ∀ c : Dev Cert.InAbIdeal.nD,
          r.2.mem ((c.tc : Thread Cert.InAbIdeal.nD Cert.InAbIdeal.τ).loc Cert.InAbIdeal.main_v18_0) = v0 c
          ∧ r.2.mem ((c.tc : Thread Cert.InAbIdeal.nD Cert.InAbIdeal.τ).loc Cert.InAbIdeal.main_v18_1) = v1 c
          ∧ r.2.mem ((c.tc : Thread Cert.InAbIdeal.nD Cert.InAbIdeal.τ).loc Cert.InAbIdeal.main_v18_2) = v2 c
          ∧ r.2.mem ((c.tc : Thread Cert.InAbIdeal.nD Cert.InAbIdeal.τ).loc Cert.InAbIdeal.main_v18_3) = v3 c
          ∧ r.2.mem ((c.tc : Thread Cert.InAbIdeal.nD Cert.InAbIdeal.τ).loc Cert.InAbIdeal.main_arg0) = m ((c.tc : Thread Cert.InAbIdeal.nD Cert.InAbIdeal.τ).loc Cert.InAbIdeal.main_arg0)
          ∧ r.2.mem ((c.tc : Thread Cert.InAbIdeal.nD Cert.InAbIdeal.τ).loc Cert.InAbIdeal.main_arg1) = m ((c.tc : Thread Cert.InAbIdeal.nD Cert.InAbIdeal.τ).loc Cert.InAbIdeal.main_arg1)
          ∧ r.2.mem ((c.tc : Thread Cert.InAbIdeal.nD Cert.InAbIdeal.τ).loc Cert.InAbIdeal.main_arg2) = m ((c.tc : Thread Cert.InAbIdeal.nD Cert.InAbIdeal.τ).loc Cert.InAbIdeal.main_arg2)
          ∧ r.2.mem ((c.tc : Thread Cert.InAbIdeal.nD Cert.InAbIdeal.τ).loc Cert.InAbIdeal.main_arg3) = m ((c.tc : Thread Cert.InAbIdeal.nD Cert.InAbIdeal.τ).loc Cert.InAbIdeal.main_arg3))
      ∧ θ_run (Cert.InAbRefIdeal.defs (F := Ideal)) (onTc (τ := Cert.InAbRefIdeal.τ) (Cert.InAbRefIdeal.main (F := Ideal))) ⟨m', fun _ => 0, g'⟩ (fun r => ∀ c : Dev Cert.InAbRefIdeal.nD,
          r.2.mem ((c.tc : Thread Cert.InAbRefIdeal.nD Cert.InAbRefIdeal.τ).loc Cert.InAbRefIdeal.main_v26) = v0 c
          ∧ r.2.mem ((c.tc : Thread Cert.InAbRefIdeal.nD Cert.InAbRefIdeal.τ).loc Cert.InAbRefIdeal.main_v27) = v1 c
          ∧ r.2.mem ((c.tc : Thread Cert.InAbRefIdeal.nD Cert.InAbRefIdeal.τ).loc Cert.InAbRefIdeal.main_v28) = v2 c
          ∧ r.2.mem ((c.tc : Thread Cert.InAbRefIdeal.nD Cert.InAbRefIdeal.τ).loc Cert.InAbRefIdeal.main_v30) = v3 c
          ∧ r.2.mem ((c.tc : Thread Cert.InAbRefIdeal.nD Cert.InAbRefIdeal.τ).loc Cert.InAbRefIdeal.main_arg0) = m' ((c.tc : Thread Cert.InAbRefIdeal.nD Cert.InAbRefIdeal.τ).loc Cert.InAbRefIdeal.main_arg0)
          ∧ r.2.mem ((c.tc : Thread Cert.InAbRefIdeal.nD Cert.InAbRefIdeal.τ).loc Cert.InAbRefIdeal.main_arg1) = m' ((c.tc : Thread Cert.InAbRefIdeal.nD Cert.InAbRefIdeal.τ).loc Cert.InAbRefIdeal.main_arg1)
          ∧ r.2.mem ((c.tc : Thread Cert.InAbRefIdeal.nD Cert.InAbRefIdeal.τ).loc Cert.InAbRefIdeal.main_arg2) = m' ((c.tc : Thread Cert.InAbRefIdeal.nD Cert.InAbRefIdeal.τ).loc Cert.InAbRefIdeal.main_arg2)
          ∧ r.2.mem ((c.tc : Thread Cert.InAbRefIdeal.nD Cert.InAbRefIdeal.τ).loc Cert.InAbRefIdeal.main_arg3) = m' ((c.tc : Thread Cert.InAbRefIdeal.nD Cert.InAbRefIdeal.τ).loc Cert.InAbRefIdeal.main_arg3))

def preserves_OutCd_OutCdIdeal : Prop :=
  True

def algebraic_OutCdIdeal_OutCdRefIdeal [hOutCdIdeal : Cert.OutCdIdeal.Facts] [hOutCdRefIdeal : Cert.OutCdRefIdeal.Facts] : Prop :=
  ∀ (m : (ℓ : Loc Cert.OutCdIdeal.nD Cert.OutCdIdeal.τ Cert.OutCdIdeal.sig) → Buf (Elt Ideal) ℓ) (g : Dev Cert.OutCdIdeal.nD → PrngReg)
    (m' : (ℓ : Loc Cert.OutCdRefIdeal.nD Cert.OutCdRefIdeal.τ Cert.OutCdRefIdeal.sig) → Buf (Elt Ideal) ℓ) (g' : Dev Cert.OutCdRefIdeal.nD → PrngReg), Pre_OutCdIdeal m →
    (∀ c : Dev Cert.OutCdIdeal.nD,
      m' ((c.tc : Thread Cert.OutCdRefIdeal.nD Cert.OutCdRefIdeal.τ).loc Cert.OutCdRefIdeal.main_arg0) = m ((c.tc : Thread Cert.OutCdIdeal.nD Cert.OutCdIdeal.τ).loc Cert.OutCdIdeal.main_arg0)
      ∧ m' ((c.tc : Thread Cert.OutCdRefIdeal.nD Cert.OutCdRefIdeal.τ).loc Cert.OutCdRefIdeal.main_arg1) = m ((c.tc : Thread Cert.OutCdIdeal.nD Cert.OutCdIdeal.τ).loc Cert.OutCdIdeal.main_arg1)
      ∧ m' ((c.tc : Thread Cert.OutCdRefIdeal.nD Cert.OutCdRefIdeal.τ).loc Cert.OutCdRefIdeal.main_arg2) = m ((c.tc : Thread Cert.OutCdIdeal.nD Cert.OutCdIdeal.τ).loc Cert.OutCdIdeal.main_arg2)
      ∧ m' ((c.tc : Thread Cert.OutCdRefIdeal.nD Cert.OutCdRefIdeal.τ).loc Cert.OutCdRefIdeal.main_arg3) = m ((c.tc : Thread Cert.OutCdIdeal.nD Cert.OutCdIdeal.τ).loc Cert.OutCdIdeal.main_arg3)
      ∧ m' ((c.tc : Thread Cert.OutCdRefIdeal.nD Cert.OutCdRefIdeal.τ).loc Cert.OutCdRefIdeal.main_arg4) = m ((c.tc : Thread Cert.OutCdIdeal.nD Cert.OutCdIdeal.τ).loc Cert.OutCdIdeal.main_arg4)
      ∧ m' ((c.tc : Thread Cert.OutCdRefIdeal.nD Cert.OutCdRefIdeal.τ).loc Cert.OutCdRefIdeal.main_arg5) = m ((c.tc : Thread Cert.OutCdIdeal.nD Cert.OutCdIdeal.τ).loc Cert.OutCdIdeal.main_arg5)) →
    ∃ (v0 : (c : Dev Cert.OutCdIdeal.nD) → Buf (Elt Ideal) ((c.tc : Thread Cert.OutCdIdeal.nD Cert.OutCdIdeal.τ).loc Cert.OutCdIdeal.main_v13)),
      θ_run (Cert.OutCdIdeal.defs (F := Ideal)) (onTc (τ := Cert.OutCdIdeal.τ) (Cert.OutCdIdeal.main (F := Ideal))) ⟨m, fun _ => 0, g⟩ (fun r => ∀ c : Dev Cert.OutCdIdeal.nD,
          r.2.mem ((c.tc : Thread Cert.OutCdIdeal.nD Cert.OutCdIdeal.τ).loc Cert.OutCdIdeal.main_v13) = v0 c
          ∧ r.2.mem ((c.tc : Thread Cert.OutCdIdeal.nD Cert.OutCdIdeal.τ).loc Cert.OutCdIdeal.main_arg0) = m ((c.tc : Thread Cert.OutCdIdeal.nD Cert.OutCdIdeal.τ).loc Cert.OutCdIdeal.main_arg0)
          ∧ r.2.mem ((c.tc : Thread Cert.OutCdIdeal.nD Cert.OutCdIdeal.τ).loc Cert.OutCdIdeal.main_arg1) = m ((c.tc : Thread Cert.OutCdIdeal.nD Cert.OutCdIdeal.τ).loc Cert.OutCdIdeal.main_arg1)
          ∧ r.2.mem ((c.tc : Thread Cert.OutCdIdeal.nD Cert.OutCdIdeal.τ).loc Cert.OutCdIdeal.main_arg2) = m ((c.tc : Thread Cert.OutCdIdeal.nD Cert.OutCdIdeal.τ).loc Cert.OutCdIdeal.main_arg2)
          ∧ r.2.mem ((c.tc : Thread Cert.OutCdIdeal.nD Cert.OutCdIdeal.τ).loc Cert.OutCdIdeal.main_arg3) = m ((c.tc : Thread Cert.OutCdIdeal.nD Cert.OutCdIdeal.τ).loc Cert.OutCdIdeal.main_arg3)
          ∧ r.2.mem ((c.tc : Thread Cert.OutCdIdeal.nD Cert.OutCdIdeal.τ).loc Cert.OutCdIdeal.main_arg4) = m ((c.tc : Thread Cert.OutCdIdeal.nD Cert.OutCdIdeal.τ).loc Cert.OutCdIdeal.main_arg4)
          ∧ r.2.mem ((c.tc : Thread Cert.OutCdIdeal.nD Cert.OutCdIdeal.τ).loc Cert.OutCdIdeal.main_arg5) = m ((c.tc : Thread Cert.OutCdIdeal.nD Cert.OutCdIdeal.τ).loc Cert.OutCdIdeal.main_arg5))
      ∧ θ_run (Cert.OutCdRefIdeal.defs (F := Ideal)) (onTc (τ := Cert.OutCdRefIdeal.τ) (Cert.OutCdRefIdeal.main (F := Ideal))) ⟨m', fun _ => 0, g'⟩ (fun r => ∀ c : Dev Cert.OutCdRefIdeal.nD,
          r.2.mem ((c.tc : Thread Cert.OutCdRefIdeal.nD Cert.OutCdRefIdeal.τ).loc Cert.OutCdRefIdeal.main_v22) = v0 c
          ∧ r.2.mem ((c.tc : Thread Cert.OutCdRefIdeal.nD Cert.OutCdRefIdeal.τ).loc Cert.OutCdRefIdeal.main_arg0) = m' ((c.tc : Thread Cert.OutCdRefIdeal.nD Cert.OutCdRefIdeal.τ).loc Cert.OutCdRefIdeal.main_arg0)
          ∧ r.2.mem ((c.tc : Thread Cert.OutCdRefIdeal.nD Cert.OutCdRefIdeal.τ).loc Cert.OutCdRefIdeal.main_arg1) = m' ((c.tc : Thread Cert.OutCdRefIdeal.nD Cert.OutCdRefIdeal.τ).loc Cert.OutCdRefIdeal.main_arg1)
          ∧ r.2.mem ((c.tc : Thread Cert.OutCdRefIdeal.nD Cert.OutCdRefIdeal.τ).loc Cert.OutCdRefIdeal.main_arg2) = m' ((c.tc : Thread Cert.OutCdRefIdeal.nD Cert.OutCdRefIdeal.τ).loc Cert.OutCdRefIdeal.main_arg2)
          ∧ r.2.mem ((c.tc : Thread Cert.OutCdRefIdeal.nD Cert.OutCdRefIdeal.τ).loc Cert.OutCdRefIdeal.main_arg3) = m' ((c.tc : Thread Cert.OutCdRefIdeal.nD Cert.OutCdRefIdeal.τ).loc Cert.OutCdRefIdeal.main_arg3)
          ∧ r.2.mem ((c.tc : Thread Cert.OutCdRefIdeal.nD Cert.OutCdRefIdeal.τ).loc Cert.OutCdRefIdeal.main_arg4) = m' ((c.tc : Thread Cert.OutCdRefIdeal.nD Cert.OutCdRefIdeal.τ).loc Cert.OutCdRefIdeal.main_arg4)
          ∧ r.2.mem ((c.tc : Thread Cert.OutCdRefIdeal.nD Cert.OutCdRefIdeal.τ).loc Cert.OutCdRefIdeal.main_arg5) = m' ((c.tc : Thread Cert.OutCdRefIdeal.nD Cert.OutCdRefIdeal.τ).loc Cert.OutCdRefIdeal.main_arg5))

def preserves_OutAb_OutAbIdeal : Prop :=
  True

def algebraic_OutAbIdeal_OutAbRefIdeal [hOutAbIdeal : Cert.OutAbIdeal.Facts] [hOutAbRefIdeal : Cert.OutAbRefIdeal.Facts] : Prop :=
  ∀ (m : (ℓ : Loc Cert.OutAbIdeal.nD Cert.OutAbIdeal.τ Cert.OutAbIdeal.sig) → Buf (Elt Ideal) ℓ) (g : Dev Cert.OutAbIdeal.nD → PrngReg)
    (m' : (ℓ : Loc Cert.OutAbRefIdeal.nD Cert.OutAbRefIdeal.τ Cert.OutAbRefIdeal.sig) → Buf (Elt Ideal) ℓ) (g' : Dev Cert.OutAbRefIdeal.nD → PrngReg), Pre_OutAbIdeal m →
    (∀ c : Dev Cert.OutAbIdeal.nD,
      m' ((c.tc : Thread Cert.OutAbRefIdeal.nD Cert.OutAbRefIdeal.τ).loc Cert.OutAbRefIdeal.main_arg0) = m ((c.tc : Thread Cert.OutAbIdeal.nD Cert.OutAbIdeal.τ).loc Cert.OutAbIdeal.main_arg0)
      ∧ m' ((c.tc : Thread Cert.OutAbRefIdeal.nD Cert.OutAbRefIdeal.τ).loc Cert.OutAbRefIdeal.main_arg1) = m ((c.tc : Thread Cert.OutAbIdeal.nD Cert.OutAbIdeal.τ).loc Cert.OutAbIdeal.main_arg1)
      ∧ m' ((c.tc : Thread Cert.OutAbRefIdeal.nD Cert.OutAbRefIdeal.τ).loc Cert.OutAbRefIdeal.main_arg2) = m ((c.tc : Thread Cert.OutAbIdeal.nD Cert.OutAbIdeal.τ).loc Cert.OutAbIdeal.main_arg2)
      ∧ m' ((c.tc : Thread Cert.OutAbRefIdeal.nD Cert.OutAbRefIdeal.τ).loc Cert.OutAbRefIdeal.main_arg3) = m ((c.tc : Thread Cert.OutAbIdeal.nD Cert.OutAbIdeal.τ).loc Cert.OutAbIdeal.main_arg3)
      ∧ m' ((c.tc : Thread Cert.OutAbRefIdeal.nD Cert.OutAbRefIdeal.τ).loc Cert.OutAbRefIdeal.main_arg4) = m ((c.tc : Thread Cert.OutAbIdeal.nD Cert.OutAbIdeal.τ).loc Cert.OutAbIdeal.main_arg4)
      ∧ m' ((c.tc : Thread Cert.OutAbRefIdeal.nD Cert.OutAbRefIdeal.τ).loc Cert.OutAbRefIdeal.main_arg5) = m ((c.tc : Thread Cert.OutAbIdeal.nD Cert.OutAbIdeal.τ).loc Cert.OutAbIdeal.main_arg5)
      ∧ m' ((c.tc : Thread Cert.OutAbRefIdeal.nD Cert.OutAbRefIdeal.τ).loc Cert.OutAbRefIdeal.main_arg6) = m ((c.tc : Thread Cert.OutAbIdeal.nD Cert.OutAbIdeal.τ).loc Cert.OutAbIdeal.main_arg6)
      ∧ m' ((c.tc : Thread Cert.OutAbRefIdeal.nD Cert.OutAbRefIdeal.τ).loc Cert.OutAbRefIdeal.main_arg7) = m ((c.tc : Thread Cert.OutAbIdeal.nD Cert.OutAbIdeal.τ).loc Cert.OutAbIdeal.main_arg7)
      ∧ m' ((c.tc : Thread Cert.OutAbRefIdeal.nD Cert.OutAbRefIdeal.τ).loc Cert.OutAbRefIdeal.main_arg8) = m ((c.tc : Thread Cert.OutAbIdeal.nD Cert.OutAbIdeal.τ).loc Cert.OutAbIdeal.main_arg8)
      ∧ m' ((c.tc : Thread Cert.OutAbRefIdeal.nD Cert.OutAbRefIdeal.τ).loc Cert.OutAbRefIdeal.main_arg9) = m ((c.tc : Thread Cert.OutAbIdeal.nD Cert.OutAbIdeal.τ).loc Cert.OutAbIdeal.main_arg9)) →
    ∃ (v0 : (c : Dev Cert.OutAbIdeal.nD) → Buf (Elt Ideal) ((c.tc : Thread Cert.OutAbIdeal.nD Cert.OutAbIdeal.τ).loc Cert.OutAbIdeal.main_v15)),
      θ_run (Cert.OutAbIdeal.defs (F := Ideal)) (onTc (τ := Cert.OutAbIdeal.τ) (Cert.OutAbIdeal.main (F := Ideal))) ⟨m, fun _ => 0, g⟩ (fun r => ∀ c : Dev Cert.OutAbIdeal.nD,
          r.2.mem ((c.tc : Thread Cert.OutAbIdeal.nD Cert.OutAbIdeal.τ).loc Cert.OutAbIdeal.main_v15) = v0 c
          ∧ r.2.mem ((c.tc : Thread Cert.OutAbIdeal.nD Cert.OutAbIdeal.τ).loc Cert.OutAbIdeal.main_arg0) = m ((c.tc : Thread Cert.OutAbIdeal.nD Cert.OutAbIdeal.τ).loc Cert.OutAbIdeal.main_arg0)
          ∧ r.2.mem ((c.tc : Thread Cert.OutAbIdeal.nD Cert.OutAbIdeal.τ).loc Cert.OutAbIdeal.main_arg1) = m ((c.tc : Thread Cert.OutAbIdeal.nD Cert.OutAbIdeal.τ).loc Cert.OutAbIdeal.main_arg1)
          ∧ r.2.mem ((c.tc : Thread Cert.OutAbIdeal.nD Cert.OutAbIdeal.τ).loc Cert.OutAbIdeal.main_arg2) = m ((c.tc : Thread Cert.OutAbIdeal.nD Cert.OutAbIdeal.τ).loc Cert.OutAbIdeal.main_arg2)
          ∧ r.2.mem ((c.tc : Thread Cert.OutAbIdeal.nD Cert.OutAbIdeal.τ).loc Cert.OutAbIdeal.main_arg3) = m ((c.tc : Thread Cert.OutAbIdeal.nD Cert.OutAbIdeal.τ).loc Cert.OutAbIdeal.main_arg3)
          ∧ r.2.mem ((c.tc : Thread Cert.OutAbIdeal.nD Cert.OutAbIdeal.τ).loc Cert.OutAbIdeal.main_arg4) = m ((c.tc : Thread Cert.OutAbIdeal.nD Cert.OutAbIdeal.τ).loc Cert.OutAbIdeal.main_arg4)
          ∧ r.2.mem ((c.tc : Thread Cert.OutAbIdeal.nD Cert.OutAbIdeal.τ).loc Cert.OutAbIdeal.main_arg5) = m ((c.tc : Thread Cert.OutAbIdeal.nD Cert.OutAbIdeal.τ).loc Cert.OutAbIdeal.main_arg5)
          ∧ r.2.mem ((c.tc : Thread Cert.OutAbIdeal.nD Cert.OutAbIdeal.τ).loc Cert.OutAbIdeal.main_arg6) = m ((c.tc : Thread Cert.OutAbIdeal.nD Cert.OutAbIdeal.τ).loc Cert.OutAbIdeal.main_arg6)
          ∧ r.2.mem ((c.tc : Thread Cert.OutAbIdeal.nD Cert.OutAbIdeal.τ).loc Cert.OutAbIdeal.main_arg7) = m ((c.tc : Thread Cert.OutAbIdeal.nD Cert.OutAbIdeal.τ).loc Cert.OutAbIdeal.main_arg7)
          ∧ r.2.mem ((c.tc : Thread Cert.OutAbIdeal.nD Cert.OutAbIdeal.τ).loc Cert.OutAbIdeal.main_arg8) = m ((c.tc : Thread Cert.OutAbIdeal.nD Cert.OutAbIdeal.τ).loc Cert.OutAbIdeal.main_arg8)
          ∧ r.2.mem ((c.tc : Thread Cert.OutAbIdeal.nD Cert.OutAbIdeal.τ).loc Cert.OutAbIdeal.main_arg9) = m ((c.tc : Thread Cert.OutAbIdeal.nD Cert.OutAbIdeal.τ).loc Cert.OutAbIdeal.main_arg9))
      ∧ θ_run (Cert.OutAbRefIdeal.defs (F := Ideal)) (onTc (τ := Cert.OutAbRefIdeal.τ) (Cert.OutAbRefIdeal.main (F := Ideal))) ⟨m', fun _ => 0, g'⟩ (fun r => ∀ c : Dev Cert.OutAbRefIdeal.nD,
          r.2.mem ((c.tc : Thread Cert.OutAbRefIdeal.nD Cert.OutAbRefIdeal.τ).loc Cert.OutAbRefIdeal.main_v55) = v0 c
          ∧ r.2.mem ((c.tc : Thread Cert.OutAbRefIdeal.nD Cert.OutAbRefIdeal.τ).loc Cert.OutAbRefIdeal.main_arg0) = m' ((c.tc : Thread Cert.OutAbRefIdeal.nD Cert.OutAbRefIdeal.τ).loc Cert.OutAbRefIdeal.main_arg0)
          ∧ r.2.mem ((c.tc : Thread Cert.OutAbRefIdeal.nD Cert.OutAbRefIdeal.τ).loc Cert.OutAbRefIdeal.main_arg1) = m' ((c.tc : Thread Cert.OutAbRefIdeal.nD Cert.OutAbRefIdeal.τ).loc Cert.OutAbRefIdeal.main_arg1)
          ∧ r.2.mem ((c.tc : Thread Cert.OutAbRefIdeal.nD Cert.OutAbRefIdeal.τ).loc Cert.OutAbRefIdeal.main_arg2) = m' ((c.tc : Thread Cert.OutAbRefIdeal.nD Cert.OutAbRefIdeal.τ).loc Cert.OutAbRefIdeal.main_arg2)
          ∧ r.2.mem ((c.tc : Thread Cert.OutAbRefIdeal.nD Cert.OutAbRefIdeal.τ).loc Cert.OutAbRefIdeal.main_arg3) = m' ((c.tc : Thread Cert.OutAbRefIdeal.nD Cert.OutAbRefIdeal.τ).loc Cert.OutAbRefIdeal.main_arg3)
          ∧ r.2.mem ((c.tc : Thread Cert.OutAbRefIdeal.nD Cert.OutAbRefIdeal.τ).loc Cert.OutAbRefIdeal.main_arg4) = m' ((c.tc : Thread Cert.OutAbRefIdeal.nD Cert.OutAbRefIdeal.τ).loc Cert.OutAbRefIdeal.main_arg4)
          ∧ r.2.mem ((c.tc : Thread Cert.OutAbRefIdeal.nD Cert.OutAbRefIdeal.τ).loc Cert.OutAbRefIdeal.main_arg5) = m' ((c.tc : Thread Cert.OutAbRefIdeal.nD Cert.OutAbRefIdeal.τ).loc Cert.OutAbRefIdeal.main_arg5)
          ∧ r.2.mem ((c.tc : Thread Cert.OutAbRefIdeal.nD Cert.OutAbRefIdeal.τ).loc Cert.OutAbRefIdeal.main_arg6) = m' ((c.tc : Thread Cert.OutAbRefIdeal.nD Cert.OutAbRefIdeal.τ).loc Cert.OutAbRefIdeal.main_arg6)
          ∧ r.2.mem ((c.tc : Thread Cert.OutAbRefIdeal.nD Cert.OutAbRefIdeal.τ).loc Cert.OutAbRefIdeal.main_arg7) = m' ((c.tc : Thread Cert.OutAbRefIdeal.nD Cert.OutAbRefIdeal.τ).loc Cert.OutAbRefIdeal.main_arg7)
          ∧ r.2.mem ((c.tc : Thread Cert.OutAbRefIdeal.nD Cert.OutAbRefIdeal.τ).loc Cert.OutAbRefIdeal.main_arg8) = m' ((c.tc : Thread Cert.OutAbRefIdeal.nD Cert.OutAbRefIdeal.τ).loc Cert.OutAbRefIdeal.main_arg8)
          ∧ r.2.mem ((c.tc : Thread Cert.OutAbRefIdeal.nD Cert.OutAbRefIdeal.τ).loc Cert.OutAbRefIdeal.main_arg9) = m' ((c.tc : Thread Cert.OutAbRefIdeal.nD Cert.OutAbRefIdeal.τ).loc Cert.OutAbRefIdeal.main_arg9))

def preserves_OutSmp_OutSmpIdeal : Prop :=
  True

def algebraic_OutSmpIdeal_OutSmpRefIdeal [hOutSmpIdeal : Cert.OutSmpIdeal.Facts] [hOutSmpRefIdeal : Cert.OutSmpRefIdeal.Facts] : Prop :=
  ∀ (m : (ℓ : Loc Cert.OutSmpIdeal.nD Cert.OutSmpIdeal.τ Cert.OutSmpIdeal.sig) → Buf (Elt Ideal) ℓ) (g : Dev Cert.OutSmpIdeal.nD → PrngReg)
    (m' : (ℓ : Loc Cert.OutSmpRefIdeal.nD Cert.OutSmpRefIdeal.τ Cert.OutSmpRefIdeal.sig) → Buf (Elt Ideal) ℓ) (g' : Dev Cert.OutSmpRefIdeal.nD → PrngReg), Pre_OutSmpIdeal m →
    (∀ c : Dev Cert.OutSmpIdeal.nD,
      m' ((c.tc : Thread Cert.OutSmpRefIdeal.nD Cert.OutSmpRefIdeal.τ).loc Cert.OutSmpRefIdeal.main_arg0) = m ((c.tc : Thread Cert.OutSmpIdeal.nD Cert.OutSmpIdeal.τ).loc Cert.OutSmpIdeal.main_arg0)
      ∧ m' ((c.tc : Thread Cert.OutSmpRefIdeal.nD Cert.OutSmpRefIdeal.τ).loc Cert.OutSmpRefIdeal.main_arg1) = m ((c.tc : Thread Cert.OutSmpIdeal.nD Cert.OutSmpIdeal.τ).loc Cert.OutSmpIdeal.main_arg1)
      ∧ m' ((c.tc : Thread Cert.OutSmpRefIdeal.nD Cert.OutSmpRefIdeal.τ).loc Cert.OutSmpRefIdeal.main_arg2) = m ((c.tc : Thread Cert.OutSmpIdeal.nD Cert.OutSmpIdeal.τ).loc Cert.OutSmpIdeal.main_arg2)
      ∧ m' ((c.tc : Thread Cert.OutSmpRefIdeal.nD Cert.OutSmpRefIdeal.τ).loc Cert.OutSmpRefIdeal.main_arg3) = m ((c.tc : Thread Cert.OutSmpIdeal.nD Cert.OutSmpIdeal.τ).loc Cert.OutSmpIdeal.main_arg3)
      ∧ m' ((c.tc : Thread Cert.OutSmpRefIdeal.nD Cert.OutSmpRefIdeal.τ).loc Cert.OutSmpRefIdeal.main_arg4) = m ((c.tc : Thread Cert.OutSmpIdeal.nD Cert.OutSmpIdeal.τ).loc Cert.OutSmpIdeal.main_arg4)
      ∧ m' ((c.tc : Thread Cert.OutSmpRefIdeal.nD Cert.OutSmpRefIdeal.τ).loc Cert.OutSmpRefIdeal.main_arg5) = m ((c.tc : Thread Cert.OutSmpIdeal.nD Cert.OutSmpIdeal.τ).loc Cert.OutSmpIdeal.main_arg5)) →
    ∃ (v0 : (c : Dev Cert.OutSmpIdeal.nD) → Buf (Elt Ideal) ((c.tc : Thread Cert.OutSmpIdeal.nD Cert.OutSmpIdeal.τ).loc Cert.OutSmpIdeal.main_v13)),
      θ_run (Cert.OutSmpIdeal.defs (F := Ideal)) (onTc (τ := Cert.OutSmpIdeal.τ) (Cert.OutSmpIdeal.main (F := Ideal))) ⟨m, fun _ => 0, g⟩ (fun r => ∀ c : Dev Cert.OutSmpIdeal.nD,
          r.2.mem ((c.tc : Thread Cert.OutSmpIdeal.nD Cert.OutSmpIdeal.τ).loc Cert.OutSmpIdeal.main_v13) = v0 c
          ∧ r.2.mem ((c.tc : Thread Cert.OutSmpIdeal.nD Cert.OutSmpIdeal.τ).loc Cert.OutSmpIdeal.main_arg0) = m ((c.tc : Thread Cert.OutSmpIdeal.nD Cert.OutSmpIdeal.τ).loc Cert.OutSmpIdeal.main_arg0)
          ∧ r.2.mem ((c.tc : Thread Cert.OutSmpIdeal.nD Cert.OutSmpIdeal.τ).loc Cert.OutSmpIdeal.main_arg1) = m ((c.tc : Thread Cert.OutSmpIdeal.nD Cert.OutSmpIdeal.τ).loc Cert.OutSmpIdeal.main_arg1)
          ∧ r.2.mem ((c.tc : Thread Cert.OutSmpIdeal.nD Cert.OutSmpIdeal.τ).loc Cert.OutSmpIdeal.main_arg2) = m ((c.tc : Thread Cert.OutSmpIdeal.nD Cert.OutSmpIdeal.τ).loc Cert.OutSmpIdeal.main_arg2)
          ∧ r.2.mem ((c.tc : Thread Cert.OutSmpIdeal.nD Cert.OutSmpIdeal.τ).loc Cert.OutSmpIdeal.main_arg3) = m ((c.tc : Thread Cert.OutSmpIdeal.nD Cert.OutSmpIdeal.τ).loc Cert.OutSmpIdeal.main_arg3)
          ∧ r.2.mem ((c.tc : Thread Cert.OutSmpIdeal.nD Cert.OutSmpIdeal.τ).loc Cert.OutSmpIdeal.main_arg4) = m ((c.tc : Thread Cert.OutSmpIdeal.nD Cert.OutSmpIdeal.τ).loc Cert.OutSmpIdeal.main_arg4)
          ∧ r.2.mem ((c.tc : Thread Cert.OutSmpIdeal.nD Cert.OutSmpIdeal.τ).loc Cert.OutSmpIdeal.main_arg5) = m ((c.tc : Thread Cert.OutSmpIdeal.nD Cert.OutSmpIdeal.τ).loc Cert.OutSmpIdeal.main_arg5))
      ∧ θ_run (Cert.OutSmpRefIdeal.defs (F := Ideal)) (onTc (τ := Cert.OutSmpRefIdeal.τ) (Cert.OutSmpRefIdeal.main (F := Ideal))) ⟨m', fun _ => 0, g'⟩ (fun r => ∀ c : Dev Cert.OutSmpRefIdeal.nD,
          r.2.mem ((c.tc : Thread Cert.OutSmpRefIdeal.nD Cert.OutSmpRefIdeal.τ).loc Cert.OutSmpRefIdeal.main_v27) = v0 c
          ∧ r.2.mem ((c.tc : Thread Cert.OutSmpRefIdeal.nD Cert.OutSmpRefIdeal.τ).loc Cert.OutSmpRefIdeal.main_arg0) = m' ((c.tc : Thread Cert.OutSmpRefIdeal.nD Cert.OutSmpRefIdeal.τ).loc Cert.OutSmpRefIdeal.main_arg0)
          ∧ r.2.mem ((c.tc : Thread Cert.OutSmpRefIdeal.nD Cert.OutSmpRefIdeal.τ).loc Cert.OutSmpRefIdeal.main_arg1) = m' ((c.tc : Thread Cert.OutSmpRefIdeal.nD Cert.OutSmpRefIdeal.τ).loc Cert.OutSmpRefIdeal.main_arg1)
          ∧ r.2.mem ((c.tc : Thread Cert.OutSmpRefIdeal.nD Cert.OutSmpRefIdeal.τ).loc Cert.OutSmpRefIdeal.main_arg2) = m' ((c.tc : Thread Cert.OutSmpRefIdeal.nD Cert.OutSmpRefIdeal.τ).loc Cert.OutSmpRefIdeal.main_arg2)
          ∧ r.2.mem ((c.tc : Thread Cert.OutSmpRefIdeal.nD Cert.OutSmpRefIdeal.τ).loc Cert.OutSmpRefIdeal.main_arg3) = m' ((c.tc : Thread Cert.OutSmpRefIdeal.nD Cert.OutSmpRefIdeal.τ).loc Cert.OutSmpRefIdeal.main_arg3)
          ∧ r.2.mem ((c.tc : Thread Cert.OutSmpRefIdeal.nD Cert.OutSmpRefIdeal.τ).loc Cert.OutSmpRefIdeal.main_arg4) = m' ((c.tc : Thread Cert.OutSmpRefIdeal.nD Cert.OutSmpRefIdeal.τ).loc Cert.OutSmpRefIdeal.main_arg4)
          ∧ r.2.mem ((c.tc : Thread Cert.OutSmpRefIdeal.nD Cert.OutSmpRefIdeal.τ).loc Cert.OutSmpRefIdeal.main_arg5) = m' ((c.tc : Thread Cert.OutSmpRefIdeal.nD Cert.OutSmpRefIdeal.τ).loc Cert.OutSmpRefIdeal.main_arg5))

def preserves_Mlstm_MlstmIdeal : Prop :=
  True

def algebraic_MlstmIdeal_MlstmRefIdeal_pre_finite_qv_forget [hMlstmIdeal : Cert.MlstmIdeal.Facts] [hMlstmRefIdeal : Cert.MlstmRefIdeal.Facts] [hPre_finite_qv_forget : Cert.Pre_finite_qv_forget.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal_finite_qv_forget m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)
      ∧ m' ((c.tc : Thread Cert.MlstmRefIdeal.nD Cert.MlstmRefIdeal.τ).loc Cert.MlstmRefIdeal.main_arg2) = m ((c.tc : Thread Cert.MlstmIdeal.nD Cert.MlstmIdeal.τ).loc Cert.MlstmIdeal.main_arg2)
      ∧ m' ((c.tc : Thread Cert.MlstmRefIdeal.nD Cert.MlstmRefIdeal.τ).loc Cert.MlstmRefIdeal.main_arg3) = m ((c.tc : Thread Cert.MlstmIdeal.nD Cert.MlstmIdeal.τ).loc Cert.MlstmIdeal.main_arg3)
      ∧ m' ((c.tc : Thread Cert.MlstmRefIdeal.nD Cert.MlstmRefIdeal.τ).loc Cert.MlstmRefIdeal.main_arg4) = m ((c.tc : Thread Cert.MlstmIdeal.nD Cert.MlstmIdeal.τ).loc Cert.MlstmIdeal.main_arg4)
      ∧ m' ((c.tc : Thread Cert.MlstmRefIdeal.nD Cert.MlstmRefIdeal.τ).loc Cert.MlstmRefIdeal.main_arg5) = m ((c.tc : Thread Cert.MlstmIdeal.nD Cert.MlstmIdeal.τ).loc Cert.MlstmIdeal.main_arg5)) →
    ∃ (v0 : (c : Dev Cert.MlstmIdeal.nD) → Buf (Elt Ideal) ((c.tc : Thread Cert.MlstmIdeal.nD Cert.MlstmIdeal.τ).loc Cert.MlstmIdeal.main_v4_0)) (v1 : (c : Dev Cert.MlstmIdeal.nD) → Buf (Elt Ideal) ((c.tc : Thread Cert.MlstmIdeal.nD Cert.MlstmIdeal.τ).loc Cert.MlstmIdeal.main_v4_1)) (v2 : (c : Dev Cert.MlstmIdeal.nD) → Buf (Elt Ideal) ((c.tc : Thread Cert.MlstmIdeal.nD Cert.MlstmIdeal.τ).loc Cert.MlstmIdeal.main_v4_2)) (v3 : (c : Dev Cert.MlstmIdeal.nD) → Buf (Elt Ideal) ((c.tc : Thread Cert.MlstmIdeal.nD Cert.MlstmIdeal.τ).loc Cert.MlstmIdeal.main_v4_3)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v4_0) = v0 c
          ∧ r.2.mem ((c.tc : Thread Cert.MlstmIdeal.nD Cert.MlstmIdeal.τ).loc Cert.MlstmIdeal.main_v4_1) = v1 c
          ∧ r.2.mem ((c.tc : Thread Cert.MlstmIdeal.nD Cert.MlstmIdeal.τ).loc Cert.MlstmIdeal.main_v4_2) = v2 c
          ∧ r.2.mem ((c.tc : Thread Cert.MlstmIdeal.nD Cert.MlstmIdeal.τ).loc Cert.MlstmIdeal.main_v4_3) = v3 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
          ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4)
          ∧ r.2.mem ((c.tc : Thread Cert.MlstmIdeal.nD Cert.MlstmIdeal.τ).loc Cert.MlstmIdeal.main_arg5) = m ((c.tc : Thread Cert.MlstmIdeal.nD Cert.MlstmIdeal.τ).loc Cert.MlstmIdeal.main_arg5))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v393) = v0 c
          ∧ r.2.mem ((c.tc : Thread Cert.MlstmRefIdeal.nD Cert.MlstmRefIdeal.τ).loc Cert.MlstmRefIdeal.main_v397) = v1 c
          ∧ r.2.mem ((c.tc : Thread Cert.MlstmRefIdeal.nD Cert.MlstmRefIdeal.τ).loc Cert.MlstmRefIdeal.main_v398) = v2 c
          ∧ r.2.mem ((c.tc : Thread Cert.MlstmRefIdeal.nD Cert.MlstmRefIdeal.τ).loc Cert.MlstmRefIdeal.main_v400) = v3 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1)
          ∧ r.2.mem ((c.tc : Thread Cert.MlstmRefIdeal.nD Cert.MlstmRefIdeal.τ).loc Cert.MlstmRefIdeal.main_arg2) = m' ((c.tc : Thread Cert.MlstmRefIdeal.nD Cert.MlstmRefIdeal.τ).loc Cert.MlstmRefIdeal.main_arg2)
          ∧ r.2.mem ((c.tc : Thread Cert.MlstmRefIdeal.nD Cert.MlstmRefIdeal.τ).loc Cert.MlstmRefIdeal.main_arg3) = m' ((c.tc : Thread Cert.MlstmRefIdeal.nD Cert.MlstmRefIdeal.τ).loc Cert.MlstmRefIdeal.main_arg3)
          ∧ r.2.mem ((c.tc : Thread Cert.MlstmRefIdeal.nD Cert.MlstmRefIdeal.τ).loc Cert.MlstmRefIdeal.main_arg4) = m' ((c.tc : Thread Cert.MlstmRefIdeal.nD Cert.MlstmRefIdeal.τ).loc Cert.MlstmRefIdeal.main_arg4)
          ∧ r.2.mem ((c.tc : Thread Cert.MlstmRefIdeal.nD Cert.MlstmRefIdeal.τ).loc Cert.MlstmRefIdeal.main_arg5) = m' ((c.tc : Thread Cert.MlstmRefIdeal.nD Cert.MlstmRefIdeal.τ).loc Cert.MlstmRefIdeal.main_arg5))

def preserves_Modul_ModulIdeal : Prop :=
  True

def algebraic_ModulIdeal_ModulRefIdeal [hModulIdeal : Cert.ModulIdeal.Facts] [hModulRefIdeal : Cert.ModulRefIdeal.Facts] : Prop :=
  ∀ (m : (ℓ : Loc Cert.ModulIdeal.nD Cert.ModulIdeal.τ Cert.ModulIdeal.sig) → Buf (Elt Ideal) ℓ) (g : Dev Cert.ModulIdeal.nD → PrngReg)
    (m' : (ℓ : Loc Cert.ModulRefIdeal.nD Cert.ModulRefIdeal.τ Cert.ModulRefIdeal.sig) → Buf (Elt Ideal) ℓ) (g' : Dev Cert.ModulRefIdeal.nD → PrngReg), Pre_ModulIdeal m →
    (∀ c : Dev Cert.ModulIdeal.nD,
      m' ((c.tc : Thread Cert.ModulRefIdeal.nD Cert.ModulRefIdeal.τ).loc Cert.ModulRefIdeal.main_arg0) = m ((c.tc : Thread Cert.ModulIdeal.nD Cert.ModulIdeal.τ).loc Cert.ModulIdeal.main_arg0)
      ∧ m' ((c.tc : Thread Cert.ModulRefIdeal.nD Cert.ModulRefIdeal.τ).loc Cert.ModulRefIdeal.main_arg1) = m ((c.tc : Thread Cert.ModulIdeal.nD Cert.ModulIdeal.τ).loc Cert.ModulIdeal.main_arg1)
      ∧ m' ((c.tc : Thread Cert.ModulRefIdeal.nD Cert.ModulRefIdeal.τ).loc Cert.ModulRefIdeal.main_arg2) = m ((c.tc : Thread Cert.ModulIdeal.nD Cert.ModulIdeal.τ).loc Cert.ModulIdeal.main_arg2)
      ∧ m' ((c.tc : Thread Cert.ModulRefIdeal.nD Cert.ModulRefIdeal.τ).loc Cert.ModulRefIdeal.main_arg3) = m ((c.tc : Thread Cert.ModulIdeal.nD Cert.ModulIdeal.τ).loc Cert.ModulIdeal.main_arg3)) →
    ∃ (v0 : (c : Dev Cert.ModulIdeal.nD) → Buf (Elt Ideal) ((c.tc : Thread Cert.ModulIdeal.nD Cert.ModulIdeal.τ).loc Cert.ModulIdeal.main_v6)),
      θ_run (Cert.ModulIdeal.defs (F := Ideal)) (onTc (τ := Cert.ModulIdeal.τ) (Cert.ModulIdeal.main (F := Ideal))) ⟨m, fun _ => 0, g⟩ (fun r => ∀ c : Dev Cert.ModulIdeal.nD,
          r.2.mem ((c.tc : Thread Cert.ModulIdeal.nD Cert.ModulIdeal.τ).loc Cert.ModulIdeal.main_v6) = v0 c
          ∧ r.2.mem ((c.tc : Thread Cert.ModulIdeal.nD Cert.ModulIdeal.τ).loc Cert.ModulIdeal.main_arg0) = m ((c.tc : Thread Cert.ModulIdeal.nD Cert.ModulIdeal.τ).loc Cert.ModulIdeal.main_arg0)
          ∧ r.2.mem ((c.tc : Thread Cert.ModulIdeal.nD Cert.ModulIdeal.τ).loc Cert.ModulIdeal.main_arg1) = m ((c.tc : Thread Cert.ModulIdeal.nD Cert.ModulIdeal.τ).loc Cert.ModulIdeal.main_arg1)
          ∧ r.2.mem ((c.tc : Thread Cert.ModulIdeal.nD Cert.ModulIdeal.τ).loc Cert.ModulIdeal.main_arg2) = m ((c.tc : Thread Cert.ModulIdeal.nD Cert.ModulIdeal.τ).loc Cert.ModulIdeal.main_arg2)
          ∧ r.2.mem ((c.tc : Thread Cert.ModulIdeal.nD Cert.ModulIdeal.τ).loc Cert.ModulIdeal.main_arg3) = m ((c.tc : Thread Cert.ModulIdeal.nD Cert.ModulIdeal.τ).loc Cert.ModulIdeal.main_arg3))
      ∧ θ_run (Cert.ModulRefIdeal.defs (F := Ideal)) (onTc (τ := Cert.ModulRefIdeal.τ) (Cert.ModulRefIdeal.main (F := Ideal))) ⟨m', fun _ => 0, g'⟩ (fun r => ∀ c : Dev Cert.ModulRefIdeal.nD,
          r.2.mem ((c.tc : Thread Cert.ModulRefIdeal.nD Cert.ModulRefIdeal.τ).loc Cert.ModulRefIdeal.main_v43) = v0 c
          ∧ r.2.mem ((c.tc : Thread Cert.ModulRefIdeal.nD Cert.ModulRefIdeal.τ).loc Cert.ModulRefIdeal.main_arg0) = m' ((c.tc : Thread Cert.ModulRefIdeal.nD Cert.ModulRefIdeal.τ).loc Cert.ModulRefIdeal.main_arg0)
          ∧ r.2.mem ((c.tc : Thread Cert.ModulRefIdeal.nD Cert.ModulRefIdeal.τ).loc Cert.ModulRefIdeal.main_arg1) = m' ((c.tc : Thread Cert.ModulRefIdeal.nD Cert.ModulRefIdeal.τ).loc Cert.ModulRefIdeal.main_arg1)
          ∧ r.2.mem ((c.tc : Thread Cert.ModulRefIdeal.nD Cert.ModulRefIdeal.τ).loc Cert.ModulRefIdeal.main_arg2) = m' ((c.tc : Thread Cert.ModulRefIdeal.nD Cert.ModulRefIdeal.τ).loc Cert.ModulRefIdeal.main_arg2)
          ∧ r.2.mem ((c.tc : Thread Cert.ModulRefIdeal.nD Cert.ModulRefIdeal.τ).loc Cert.ModulRefIdeal.main_arg3) = m' ((c.tc : Thread Cert.ModulRefIdeal.nD Cert.ModulRefIdeal.τ).loc Cert.ModulRefIdeal.main_arg3))

def Claim : Prop :=
  ∃ (hKernel : Cert.Kernel.Facts) (hKernelIdeal : Cert.KernelIdeal.Facts) (hReferenceIdeal : Cert.ReferenceIdeal.Facts) (hInCd : Cert.InCd.Facts) (hInCdIdeal : Cert.InCdIdeal.Facts) (hInCdRefIdeal : Cert.InCdRefIdeal.Facts) (hInAb : Cert.InAb.Facts) (hInAbIdeal : Cert.InAbIdeal.Facts) (hInAbRefIdeal : Cert.InAbRefIdeal.Facts) (hOutCd : Cert.OutCd.Facts) (hOutCdIdeal : Cert.OutCdIdeal.Facts) (hOutCdRefIdeal : Cert.OutCdRefIdeal.Facts) (hOutAb : Cert.OutAb.Facts) (hOutAbIdeal : Cert.OutAbIdeal.Facts) (hOutAbRefIdeal : Cert.OutAbRefIdeal.Facts) (hOutSmp : Cert.OutSmp.Facts) (hOutSmpIdeal : Cert.OutSmpIdeal.Facts) (hOutSmpRefIdeal : Cert.OutSmpRefIdeal.Facts) (hMlstm : Cert.Mlstm.Facts) (hMlstmIdeal : Cert.MlstmIdeal.Facts) (hMlstmRefIdeal : Cert.MlstmRefIdeal.Facts) (hModul : Cert.Modul.Facts) (hModulIdeal : Cert.ModulIdeal.Facts) (hModulRefIdeal : Cert.ModulRefIdeal.Facts) (hPre_finite_qv : Cert.Pre_finite_qv.Facts) (hPre_finite_qv_forget : Cert.Pre_finite_qv_forget.Facts),
    quiescent_Kernel (hKernel := hKernel)
    ∧ quiescent_KernelIdeal (hKernelIdeal := hKernelIdeal)
    ∧ quiescent_KernelIdeal_pre_finite_qv (hKernelIdeal := hKernelIdeal) (hPre_finite_qv := hPre_finite_qv)
    ∧ quiescent_ReferenceIdeal (hReferenceIdeal := hReferenceIdeal)
    ∧ quiescent_ReferenceIdeal_pre_finite_qv (hReferenceIdeal := hReferenceIdeal) (hPre_finite_qv := hPre_finite_qv)
    ∧ quiescent_InCd (hInCd := hInCd)
    ∧ quiescent_InCdIdeal (hInCdIdeal := hInCdIdeal)
    ∧ quiescent_InCdRefIdeal (hInCdRefIdeal := hInCdRefIdeal)
    ∧ quiescent_InAb (hInAb := hInAb)
    ∧ quiescent_InAbIdeal (hInAbIdeal := hInAbIdeal)
    ∧ quiescent_InAbRefIdeal (hInAbRefIdeal := hInAbRefIdeal)
    ∧ quiescent_OutCd (hOutCd := hOutCd)
    ∧ quiescent_OutCdIdeal (hOutCdIdeal := hOutCdIdeal)
    ∧ quiescent_OutCdRefIdeal (hOutCdRefIdeal := hOutCdRefIdeal)
    ∧ quiescent_OutAb (hOutAb := hOutAb)
    ∧ quiescent_OutAbIdeal (hOutAbIdeal := hOutAbIdeal)
    ∧ quiescent_OutAbRefIdeal (hOutAbRefIdeal := hOutAbRefIdeal)
    ∧ quiescent_OutSmp (hOutSmp := hOutSmp)
    ∧ quiescent_OutSmpIdeal (hOutSmpIdeal := hOutSmpIdeal)
    ∧ quiescent_OutSmpRefIdeal (hOutSmpRefIdeal := hOutSmpRefIdeal)
    ∧ quiescent_Mlstm (hMlstm := hMlstm)
    ∧ quiescent_MlstmIdeal (hMlstmIdeal := hMlstmIdeal)
    ∧ quiescent_MlstmIdeal_pre_finite_qv_forget (hMlstmIdeal := hMlstmIdeal) (hPre_finite_qv_forget := hPre_finite_qv_forget)
    ∧ quiescent_MlstmRefIdeal (hMlstmRefIdeal := hMlstmRefIdeal)
    ∧ quiescent_MlstmRefIdeal_pre_finite_qv_forget (hMlstmRefIdeal := hMlstmRefIdeal) (hPre_finite_qv_forget := hPre_finite_qv_forget)
    ∧ quiescent_Modul (hModul := hModul)
    ∧ quiescent_ModulIdeal (hModulIdeal := hModulIdeal)
    ∧ quiescent_ModulRefIdeal (hModulRefIdeal := hModulRefIdeal)
    ∧ preserves_Kernel_KernelIdeal
    ∧ algebraic_KernelIdeal_ReferenceIdeal_pre_finite_qv (hKernelIdeal := hKernelIdeal) (hReferenceIdeal := hReferenceIdeal) (hPre_finite_qv := hPre_finite_qv)
    ∧ preserves_InCd_InCdIdeal
    ∧ algebraic_InCdIdeal_InCdRefIdeal (hInCdIdeal := hInCdIdeal) (hInCdRefIdeal := hInCdRefIdeal)
    ∧ preserves_InAb_InAbIdeal
    ∧ algebraic_InAbIdeal_InAbRefIdeal (hInAbIdeal := hInAbIdeal) (hInAbRefIdeal := hInAbRefIdeal)
    ∧ preserves_OutCd_OutCdIdeal
    ∧ algebraic_OutCdIdeal_OutCdRefIdeal (hOutCdIdeal := hOutCdIdeal) (hOutCdRefIdeal := hOutCdRefIdeal)
    ∧ preserves_OutAb_OutAbIdeal
    ∧ algebraic_OutAbIdeal_OutAbRefIdeal (hOutAbIdeal := hOutAbIdeal) (hOutAbRefIdeal := hOutAbRefIdeal)
    ∧ preserves_OutSmp_OutSmpIdeal
    ∧ algebraic_OutSmpIdeal_OutSmpRefIdeal (hOutSmpIdeal := hOutSmpIdeal) (hOutSmpRefIdeal := hOutSmpRefIdeal)
    ∧ preserves_Mlstm_MlstmIdeal
    ∧ algebraic_MlstmIdeal_MlstmRefIdeal_pre_finite_qv_forget (hMlstmIdeal := hMlstmIdeal) (hMlstmRefIdeal := hMlstmRefIdeal) (hPre_finite_qv_forget := hPre_finite_qv_forget)
    ∧ preserves_Modul_ModulIdeal
    ∧ algebraic_ModulIdeal_ModulRefIdeal (hModulIdeal := hModulIdeal) (hModulRefIdeal := hModulRefIdeal)
-- ==== Pre_finite_qv.lean ====
abbrev S8192x6144 : Shape := ⟨2, ![8192, 6144]⟩
abbrev S2x4 : Shape := ⟨2, ![2, 4]⟩
abbrev S8192x512 : Shape := ⟨2, ![8192, 512]⟩
abbrev S8192x1024 : Shape := ⟨2, ![8192, 1024]⟩
abbrev S8192x1536 : Shape := ⟨2, ![8192, 1536]⟩
abbrev S_ : Shape := ⟨0, ![]⟩

class Facts : Prop where
  slices_S8192x6144_S8192x512_0_0 : S8192x6144.Slices ![0, 0] S8192x512
  slices_S8192x6144_S8192x1024_0_1024 : S8192x6144.Slices ![0, 1024] S8192x1024
  concatenates_S8192x512_S8192x1024_S8192x1536_d1 : Shape.Concatenates [S8192x512, S8192x1024] S8192x1536 1
  bcast_S_S8192x1536 : S_.BroadcastsInDim S8192x1536 (![] : Fin 0 → Fin S8192x1536.rank)

variable [Facts]

def fn {F : FTy → Type} [FloatOps F] (main_arg0 : FVec F S8192x6144 .f32) (main_arg1 : FVec F S2x4 .f32) : IVec S8192x1536 1 :=
  let main_v0 : FVec F S8192x512 .f32 := (extractStridedSlice S8192x512 ![0, 0] · slices_S8192x6144_S8192x512_0_0) main_arg0
  let main_v1 : FVec F S8192x1024 .f32 := (extractStridedSlice S8192x1024 ![0, 1024] · slices_S8192x6144_S8192x1024_0_1024) main_arg0
  let main_v2 : FVec F S8192x1536 .f32 := (fun a b => concatenate S8192x1536 1 [⟨S8192x512, a⟩, ⟨S8192x1024, b⟩] concatenates_S8192x512_S8192x1024_S8192x1536_d1) main_v0 main_v1
  let main_v3 : FVec F S8192x1536 .f32 := Host.absf main_v2
  let main_cst : FVec F S_ .f32 := constant S_ .f32 0x7F800000#32
  let main_v4 : FVec F S8192x1536 .f32 := broadcastInDim S8192x1536 ![] bcast_S_S8192x1536 main_cst
  let main_v5 : IVec S8192x1536 1 := cmpf .olt main_v3 main_v4
  main_v5
-- ==== Pre_finite_qv_forget.lean ====
abbrev S8192x4096 : Shape := ⟨2, ![8192, 4096]⟩
abbrev S8192x1024 : Shape := ⟨2, ![8192, 1024]⟩
abbrev S16x8192 : Shape := ⟨2, ![16, 8192]⟩
abbrev S2x4 : Shape := ⟨2, ![2, 4]⟩
abbrev S1024 : Shape := ⟨1, ![1024]⟩
abbrev S8192x512 : Shape := ⟨2, ![8192, 512]⟩
abbrev S_ : Shape := ⟨0, ![]⟩
abbrev S4194304 : Shape := ⟨1, ![4194304]⟩
abbrev S8388608 : Shape := ⟨1, ![8388608]⟩
abbrev S8x8192 : Shape := ⟨2, ![8, 8192]⟩
abbrev S65536 : Shape := ⟨1, ![65536]⟩
abbrev S8 : Shape := ⟨1, ![8]⟩
abbrev S12648456 : Shape := ⟨1, ![12648456]⟩

class Facts : Prop where
  slices_S8192x4096_S8192x512_0_1024 : S8192x4096.Slices ![0, 1024] S8192x512
  bcast_S_S8192x512 : S_.BroadcastsInDim S8192x512 (![] : Fin 0 → Fin S8192x512.rank)
  shapeCasts_S8192x512_S4194304 : S8192x512.ShapeCasts S4194304
  slices_S8192x4096_S8192x1024_0_2048 : S8192x4096.Slices ![0, 2048] S8192x1024
  bcast_S_S8192x1024 : S_.BroadcastsInDim S8192x1024 (![] : Fin 0 → Fin S8192x1024.rank)
  shapeCasts_S8192x1024_S8388608 : S8192x1024.ShapeCasts S8388608
  slices_S16x8192_S8x8192_8_0 : S16x8192.Slices ![8, 0] S8x8192
  bcast_S_S8x8192 : S_.BroadcastsInDim S8x8192 (![] : Fin 0 → Fin S8x8192.rank)
  shapeCasts_S8x8192_S65536 : S8x8192.ShapeCasts S65536
  bcast_S_S2x4 : S_.BroadcastsInDim S2x4 (![] : Fin 0 → Fin S2x4.rank)
  shapeCasts_S2x4_S8 : S2x4.ShapeCasts S8
  concatenates_S4194304_S8388608_S65536_S8_S12648456_d0 : Shape.Concatenates [S4194304, S8388608, S65536, S8] S12648456 0

variable [Facts]

def fn {F : FTy → Type} [FloatOps F] (main_arg0 : FVec F S8192x4096 .f32) (main_arg1 : FVec F S8192x1024 .f32) (main_arg2 : FVec F S16x8192 .f32) (main_arg3 : FVec F S2x4 .f32) (main_arg4 : FVec F S2x4 .f32) (main_arg5 : FVec F S1024 .f32) : IVec S12648456 1 :=
  let main_v0 : FVec F S8192x512 .f32 := (extractStridedSlice S8192x512 ![0, 1024] · slices_S8192x4096_S8192x512_0_1024) main_arg0
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_v4 : IVec S4194304 1 := shapeCast S4194304 main_v3 shapeCasts_S8192x512_S4194304
  let main_v5 : FVec F S8192x1024 .f32 := (extractStridedSlice S8192x1024 ![0, 2048] · slices_S8192x4096_S8192x1024_0_2048) main_arg0
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_v9 : IVec S8388608 1 := shapeCast S8388608 main_v8 shapeCasts_S8192x1024_S8388608
  let main_v10 : FVec F S8x8192 .f32 := (extractStridedSlice S8x8192 ![8, 0] · slices_S16x8192_S8x8192_8_0) main_arg2
  let main_cst_1 : FVec F S_ .f32 := constant S_ .f32 0xFF800000#32
  let main_v11 : FVec F S8x8192 .f32 := broadcastInDim S8x8192 ![] bcast_S_S8x8192 main_cst_1
  let main_v12 : IVec S8x8192 1 := cmpf .ogt main_v10 main_v11
  let main_v13 : IVec S65536 1 := shapeCast S65536 main_v12 shapeCasts_S8x8192_S65536
  let main_cst_2 : FVec F S_ .f32 := constant S_ .f32 0xFF800000#32
  let main_v14 : FVec F S2x4 .f32 := broadcastInDim S2x4 ![] bcast_S_S2x4 main_cst_2
  let main_v15 : IVec S2x4 1 := cmpf .ogt main_arg4 main_v14
  let main_v16 : IVec S8 1 := shapeCast S8 main_v15 shapeCasts_S2x4_S8
  let main_v17 : IVec S12648456 1 := concatenate S12648456 0 [⟨S4194304, main_v4⟩, ⟨S8388608, main_v9⟩, ⟨S65536, main_v13⟩, ⟨S8, main_v16⟩] concatenates_S4194304_S8388608_S65536_S8_S12648456_d0
  main_v17
-- ==== Kernel.lean ====
abbrev S8192x6144 : Shape := ⟨2, ![8192, 6144]⟩
abbrev S2x4 : Shape := ⟨2, ![2, 4]⟩
abbrev S8 : Shape := ⟨1, ![8]⟩
abbrev S8192x1024 : Shape := ⟨2, ![8192, 1024]⟩
abbrev S32x2x2x4x128x256 : Shape := ⟨6, ![32, 2, 2, 4, 128, 256]⟩
abbrev S256x512 : Shape := ⟨2, ![256, 512]⟩
abbrev S256x1024 : Shape := ⟨2, ![256, 1024]⟩
abbrev S1x2x2x4x128x256 : Shape := ⟨6, ![1, 2, 2, 4, 128, 256]⟩
abbrev S256x256 : Shape := ⟨2, ![256, 256]⟩
abbrev S256x1 : Shape := ⟨2, ![256, 1]⟩
abbrev S256x128 : Shape := ⟨2, ![256, 128]⟩
abbrev S1x1 : Shape := ⟨2, ![1, 1]⟩
abbrev S1 : Shape := ⟨1, ![1]⟩
abbrev S512x256 : Shape := ⟨2, ![512, 256]⟩
abbrev S128x256 : Shape := ⟨2, ![128, 256]⟩
abbrev S1x1x1x1x128x256 : Shape := ⟨6, ![1, 1, 1, 1, 128, 256]⟩
abbrev S256 : Shape := ⟨1, ![256]⟩

abbrev nBuf : Space → Nat
  | .hbm => 5
  | .vmem => 16
  | .smem => 1
  | _ => 0

abbrev bufTy : (tb : Table) → Fin (tcTables nBuf tb) → BufTy
  | .hbm, ⟨0, _⟩ => ⟨S8192x6144, .f32⟩
  | .hbm, ⟨1, _⟩ => ⟨S2x4, .f32⟩
  | .hbm, ⟨2, _⟩ => ⟨S8, .f32⟩
  | .hbm, ⟨3, _⟩ => ⟨S8192x1024, .bf16⟩
  | .hbm, ⟨4, _⟩ => ⟨S32x2x2x4x128x256, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S1x2x2x4x128x256, .f32⟩
  | .local _ .vmem, ⟨11, _⟩ => ⟨S1x2x2x4x128x256, .f32⟩
  | .local _ .vmem, ⟨12, _⟩ => ⟨S256x1024, .f32⟩
  | .local _ .vmem, ⟨13, _⟩ => ⟨S256x1024, .f32⟩
  | .local _ .vmem, ⟨14, _⟩ => ⟨S256x512, .f32⟩
  | .local _ .vmem, ⟨15, _⟩ => ⟨S256x512, .f32⟩
  | .local _ .smem, ⟨0, _⟩ => ⟨S8, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![32, 1], ![false, false]⟩

def k0_off1 (i : grid0.Coords) (c0_i32 : BitVec 32) (c0_i32_8 : BitVec 32) : Fin 1 → Nat :=
  let arg1 : BitVec 32 := BitVec.ofNat 32 (i 1).val
  let c4_i32 : BitVec 32 := 4#32
  let v0 : BitVec 32 := Scalar.muli arg1 c4_i32
  let v20 : BitVec 32 := Scalar.addi c0_i32 v0
  let v21 : BitVec 32 := Scalar.addi v20 c0_i32_8
  let v22 : Index := Scalar.indexCast v21
  ![v22.toNat]
def k0_mult1 : BitVec 32 :=
  let c0_i32_111 : BitVec 32 := 0#32
  c0_i32_111
def k0_mult2 : BitVec 32 :=
  let c0_i32_115 : BitVec 32 := 0#32
  c0_i32_115
def k0_mult3 : BitVec 32 :=
  let c0_i32_119 : BitVec 32 := 0#32
  c0_i32_119
def k0_mult4 : BitVec 32 :=
  let c0_i32_122 : BitVec 32 := 0#32
  c0_i32_122
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, arg1.toNat, c0_i32_1.toNat, c0_i32_2.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .smem S8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x2x4x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8192x6144 : Shape := ⟨2, ![8192, 6144]⟩
abbrev S2x4 : Shape := ⟨2, ![2, 4]⟩
abbrev S8192x512 : Shape := ⟨2, ![8192, 512]⟩
abbrev S8192x1024 : Shape := ⟨2, ![8192, 1024]⟩
abbrev S32x256x4x128 : Shape := ⟨4, ![32, 256, 4, 128]⟩
abbrev S32x4x256x128 : Shape := ⟨4, ![32, 4, 256, 128]⟩
abbrev S_ : Shape := ⟨0, ![]⟩
abbrev S32x256x4x256 : Shape := ⟨4, ![32, 256, 4, 256]⟩
abbrev S32x4x256x256 : Shape := ⟨4, ![32, 4, 256, 256]⟩
abbrev S32x1x4x256x128 : Shape := ⟨5, ![32, 1, 4, 256, 128]⟩
abbrev S32x2x4x256x128 : Shape := ⟨5, ![32, 2, 4, 256, 128]⟩
abbrev S32x1x4x256x256 : Shape := ⟨5, ![32, 1, 4, 256, 256]⟩
abbrev S32x2x4x256x256 : Shape := ⟨5, ![32, 2, 4, 256, 256]⟩
abbrev S32x2x4x128x256 : Shape := ⟨5, ![32, 2, 4, 128, 256]⟩
abbrev S64 : Shape := ⟨1, ![64]⟩
abbrev S2x4x1 : Shape := ⟨3, ![2, 4, 1]⟩
abbrev S64x1 : Shape := ⟨2, ![64, 1]⟩
abbrev S1x64 : Shape := ⟨2, ![1, 64]⟩
abbrev S64x64 : Shape := ⟨2, ![64, 64]⟩
abbrev S2x4x1x1 : Shape := ⟨4, ![2, 4, 1, 1]⟩
abbrev S1x1x64x64 : Shape := ⟨4, ![1, 1, 64, 64]⟩
abbrev S2x4x64x64 : Shape := ⟨4, ![2, 4, 64, 64]⟩
abbrev S1x1x64 : Shape := ⟨3, ![1, 1, 64]⟩
abbrev S2x4x64 : Shape := ⟨3, ![2, 4, 64]⟩
abbrev S32x2x4x64x128 : Shape := ⟨5, ![32, 2, 4, 64, 128]⟩
abbrev S32x2x4x64x256 : Shape := ⟨5, ![32, 2, 4, 64, 256]⟩
abbrev S32x2x4x64x64 : Shape := ⟨5, ![32, 2, 4, 64, 64]⟩
abbrev S1x2x4x64x64 : Shape := ⟨5, ![1, 2, 4, 64, 64]⟩
abbrev S2x4x64x1 : Shape := ⟨4, ![2, 4, 64, 1]⟩
abbrev S1x2x4x64x1 : Shape := ⟨5, ![1, 2, 4, 64, 1]⟩
abbrev S1x2x4x1x1 : Shape := ⟨5, ![1, 2, 4, 1, 1]⟩
abbrev S32x256x4 : Shape := ⟨3, ![32, 256, 4]⟩
abbrev S32x256x4x1 : Shape := ⟨4, ![32, 256, 4, 1]⟩
abbrev S32x1x2x4x128x256 : Shape := ⟨6, ![32, 1, 2, 4, 128, 256]⟩
abbrev S32x2x2x4x128x256 : Shape := ⟨6, ![32, 2, 2, 4, 128, 256]⟩

abbrev nBuf : Space → Nat
  | .hbm => 224
  | .vmem => 0
  | .smem => 0
  | _ => 0

abbrev hbmTy0_0 (i : Nat) : BufTy := match i % 128 with
  | 0 => ⟨S8192x6144, .f32⟩
  | 1 => ⟨S2x4, .f32⟩
  | 2 => ⟨S8192x512, .f32⟩
  | 3 => ⟨S8192x512, .f32⟩
  | 4 => ⟨S8192x1024, .f32⟩
  | 5 => ⟨S8192x1024, .f32⟩
  | 6 => ⟨S32x256x4x128, .f32⟩
  | 7 => ⟨S32x4x256x128, .f32⟩
  | 8 => ⟨S32x256x4x128, .f32⟩
  | 9 => ⟨S32x4x256x128, .f32⟩
  | 10 => ⟨S_, .f32⟩
  | 11 => ⟨S32x4x256x128, .f32⟩
  | 12 => ⟨S32x4x256x128, .f32⟩
  | 13 => ⟨S32x256x4x256, .f32⟩
  | 14 => ⟨S32x4x256x256, .f32⟩
  | 15 => ⟨S2x4, .f32⟩
  | 16 => ⟨S_, .f32⟩
  | 17 => ⟨S2x4, .f32⟩
  | 18 => ⟨S2x4, .f32⟩
  | 19 => ⟨S2x4, .f32⟩
  | 20 => ⟨S2x4, .f32⟩
  | 21 => ⟨S2x4, .i1⟩
  | 22 => ⟨S2x4, .f32⟩
  | 23 => ⟨S2x4, .f32⟩
  | 24 => ⟨S2x4, .f32⟩
  | 25 => ⟨S2x4, .f32⟩
  | 26 => ⟨S2x4, .f32⟩
  | 27 => ⟨S2x4, .f32⟩
  | 28 => ⟨S2x4, .f32⟩
  | 29 => ⟨S2x4, .f32⟩
  | 30 => ⟨S2x4, .f32⟩
  | 31 => ⟨S32x4x256x128, .f32⟩
  | 32 => ⟨S32x1x4x256x128, .f32⟩
  | 33 => ⟨S32x1x4x256x128, .f32⟩
  | 34 => ⟨S32x2x4x256x128, .f32⟩
  | 35 => ⟨S32x4x256x128, .f32⟩
  | 36 => ⟨S32x1x4x256x128, .f32⟩
  | 37 => ⟨S32x1x4x256x128, .f32⟩
  | 38 => ⟨S32x2x4x256x128, .f32⟩
  | 39 => ⟨S32x4x256x256, .f32⟩
  | 40 => ⟨S32x1x4x256x256, .f32⟩
  | 41 => ⟨S32x1x4x256x256, .f32⟩
  | 42 => ⟨S32x2x4x256x256, .f32⟩
  | 43 => ⟨S_, .f32⟩
  | 44 => ⟨S32x2x4x128x256, .f32⟩
  | 45 => ⟨S64, .i32⟩
  | 46 => ⟨S64, .f32⟩
  | 47 => ⟨S2x4x1, .f32⟩
  | 48 => ⟨S64x1, .f32⟩
  | 49 => ⟨S1x64, .f32⟩
  | 50 => ⟨S64x64, .f32⟩
  | 51 => ⟨S64x64, .f32⟩
  | 52 => ⟨S64x64, .f32⟩
  | 53 => ⟨S_, .f32⟩
  | 54 => ⟨S64x64, .f32⟩
  | 55 => ⟨S64x64, .i1⟩
  | 56 => ⟨S_, .f32⟩
  | 57 => ⟨S64x64, .f32⟩
  | 58 => ⟨S64x64, .f32⟩
  | 59 => ⟨S2x4x1x1, .f32⟩
  | 60 => ⟨S1x1x64x64, .f32⟩
  | 61 => ⟨S2x4x64x64, .f32⟩
  | 62 => ⟨S2x4x64x64, .f32⟩
  | 63 => ⟨S2x4x64x64, .f32⟩
  | 64 => ⟨S2x4x64x64, .f32⟩
  | 65 => ⟨S_, .f32⟩
  | 66 => ⟨S_, .f32⟩
  | 67 => ⟨S2x4x64x64, .i1⟩
  | 68 => ⟨S2x4x64x64, .f32⟩
  | 69 => ⟨S2x4x64x64, .f32⟩
  | 70 => ⟨S_, .f32⟩
  | 71 => ⟨S64, .f32⟩
  | 72 => ⟨S64, .f32⟩
  | 73 => ⟨S1x1x64, .f32⟩
  | 74 => ⟨S2x4x64, .f32⟩
  | 75 => ⟨S2x4x64, .f32⟩
  | 76 => ⟨S2x4x64, .f32⟩
  | 77 => ⟨S2x4x64, .f32⟩
  | 78 => ⟨S_, .f32⟩
  | 79 => ⟨S64, .f32⟩
  | 80 => ⟨S64, .f32⟩
  | 81 => ⟨S1x1x64, .f32⟩
  | 82 => ⟨S2x4x64, .f32⟩
  | 83 => ⟨S2x4x64, .f32⟩
  | 84 => ⟨S2x4x64, .f32⟩
  | 85 => ⟨S2x4x64, .f32⟩
  | 86 => ⟨S_, .f32⟩
  | 87 => ⟨S2x4, .f32⟩
  | 88 => ⟨S2x4, .f32⟩
  | 89 => ⟨S2x4, .f32⟩
  | 90 => ⟨S32x2x4x64x128, .f32⟩
  | 91 => ⟨S32x2x4x64x128, .f32⟩
  | 92 => ⟨S32x2x4x64x256, .f32⟩
  | 93 => ⟨S32x2x4x64x64, .f32⟩
  | 94 => ⟨S1x2x4x64x64, .f32⟩
  | 95 => ⟨S32x2x4x64x64, .f32⟩
  | 96 => ⟨S32x2x4x64x64, .f32⟩
  | 97 => ⟨S32x2x4x64x256, .f32⟩
  | 98 => ⟨S2x4x64x1, .f32⟩
  | 99 => ⟨S1x2x4x64x1, .f32⟩
  | 100 => ⟨S32x2x4x64x128, .f32⟩
  | 101 => ⟨S32x2x4x64x128, .f32⟩
  | 102 => ⟨S32x2x4x64x256, .f32⟩
  | 103 => ⟨S32x2x4x64x256, .f32⟩
  | 104 => ⟨S2x4x1x1, .f32⟩
  | 105 => ⟨S1x2x4x1x1, .f32⟩
  | 106 => ⟨S32x2x4x128x256, .f32⟩
  | 107 => ⟨S32x2x4x128x256, .f32⟩
  | 108 => ⟨S2x4x64x1, .f32⟩
  | 109 => ⟨S1x2x4x64x1, .f32⟩
  | 110 => ⟨S32x2x4x64x128, .f32⟩
  | 111 => ⟨S32x2x4x64x128, .f32⟩
  | 112 => ⟨S32x2x4x128x256, .f32⟩
  | 113 => ⟨S32x2x4x128x256, .f32⟩
  | 114 => ⟨S32x2x4x64x128, .f32⟩
  | 115 => ⟨S32x2x4x64x128, .f32⟩
  | 116 => ⟨S32x2x4x64x256, .f32⟩
  | 117 => ⟨S32x2x4x64x64, .f32⟩
  | 118 => ⟨S1x2x4x64x64, .f32⟩
  | 119 => ⟨S32x2x4x64x64, .f32⟩
  | 120 => ⟨S32x2x4x64x64, .f32⟩
  | 121 => ⟨S32x2x4x64x256, .f32⟩
  | 122 => ⟨S2x4x64x1, .f32⟩
  | 123 => ⟨S1x2x4x64x1, .f32⟩
  | 124 => ⟨S32x2x4x64x128, .f32⟩
  | 125 => ⟨S32x2x4x64x128, .f32⟩
  | 126 => ⟨S32x2x4x64x256, .f32⟩
  | 127 => ⟨S32x2x4x64x256, .f32⟩
  | _ => ⟨S8192x6144, .f32⟩

abbrev hbmTy0_1 (i : Nat) : BufTy := match i % 128 with
  | 0 => ⟨S2x4x1x1, .f32⟩
  | 1 => ⟨S1x2x4x1x1, .f32⟩
  | 2 => ⟨S32x2x4x128x256, .f32⟩
  | 3 => ⟨S32x2x4x128x256, .f32⟩
  | 4 => ⟨S2x4x64x1, .f32⟩
  | 5 => ⟨S1x2x4x64x1, .f32⟩
  | 6 => ⟨S32x2x4x64x128, .f32⟩
  | 7 => ⟨S32x2x4x64x128, .f32⟩
  | 8 => ⟨S32x2x4x128x256, .f32⟩
  | 9 => ⟨S32x2x4x128x256, .f32⟩
  | 10 => ⟨S32x2x4x64x128, .f32⟩
  | 11 => ⟨S32x2x4x64x128, .f32⟩
  | 12 => ⟨S32x2x4x64x256, .f32⟩
  | 13 => ⟨S32x2x4x64x64, .f32⟩
  | 14 => ⟨S1x2x4x64x64, .f32⟩
  | 15 => ⟨S32x2x4x64x64, .f32⟩
  | 16 => ⟨S32x2x4x64x64, .f32⟩
  | 17 => ⟨S32x2x4x64x256, .f32⟩
  | 18 => ⟨S2x4x64x1, .f32⟩
  | 19 => ⟨S1x2x4x64x1, .f32⟩
  | 20 => ⟨S32x2x4x64x128, .f32⟩
  | 21 => ⟨S32x2x4x64x128, .f32⟩
  | 22 => ⟨S32x2x4x64x256, .f32⟩
  | 23 => ⟨S32x2x4x64x256, .f32⟩
  | 24 => ⟨S2x4x1x1, .f32⟩
  | 25 => ⟨S1x2x4x1x1, .f32⟩
  | 26 => ⟨S32x2x4x128x256, .f32⟩
  | 27 => ⟨S32x2x4x128x256, .f32⟩
  | 28 => ⟨S2x4x64x1, .f32⟩
  | 29 => ⟨S1x2x4x64x1, .f32⟩
  | 30 => ⟨S32x2x4x64x128, .f32⟩
  | 31 => ⟨S32x2x4x64x128, .f32⟩
  | 32 => ⟨S32x2x4x128x256, .f32⟩
  | 33 => ⟨S32x2x4x128x256, .f32⟩
  | 34 => ⟨S32x2x4x64x128, .f32⟩
  | 35 => ⟨S32x2x4x64x128, .f32⟩
  | 36 => ⟨S32x2x4x64x256, .f32⟩
  | 37 => ⟨S32x2x4x64x64, .f32⟩
  | 38 => ⟨S1x2x4x64x64, .f32⟩
  | 39 => ⟨S32x2x4x64x64, .f32⟩
  | 40 => ⟨S32x2x4x64x64, .f32⟩
  | 41 => ⟨S32x2x4x64x256, .f32⟩
  | 42 => ⟨S2x4x64x1, .f32⟩
  | 43 => ⟨S1x2x4x64x1, .f32⟩
  | 44 => ⟨S32x2x4x64x128, .f32⟩
  | 45 => ⟨S32x2x4x64x128, .f32⟩
  | 46 => ⟨S32x2x4x64x256, .f32⟩
  | 47 => ⟨S32x2x4x64x256, .f32⟩
  | 48 => ⟨S2x4x1x1, .f32⟩
  | 49 => ⟨S1x2x4x1x1, .f32⟩
  | 50 => ⟨S32x2x4x128x256, .f32⟩
  | 51 => ⟨S32x2x4x128x256, .f32⟩
  | 52 => ⟨S2x4x64x1, .f32⟩
  | 53 => ⟨S1x2x4x64x1, .f32⟩
  | 54 => ⟨S32x2x4x64x128, .f32⟩
  | 55 => ⟨S32x2x4x64x128, .f32⟩
  | 56 => ⟨S32x2x4x128x256, .f32⟩
  | 57 => ⟨S32x2x4x128x256, .f32⟩
  | 58 => ⟨S32x2x4x256x256, .f32⟩
  | 59 => ⟨S32x1x4x256x256, .f32⟩
  | 60 => ⟨S32x4x256x256, .f32⟩
  | 61 => ⟨S32x1x4x256x256, .f32⟩
  | 62 => ⟨S32x4x256x256, .f32⟩
  | 63 => ⟨S32x4x256x256, .f32⟩
  | 64 => ⟨S32x4x256x256, .f32⟩
  | 65 => ⟨S32x256x4x256, .f32⟩
  | 66 => ⟨S32x256x4x256, .f32⟩
  | 67 => ⟨S_, .f32⟩
  | 68 => ⟨S32x256x4, .f32⟩
  | 69 => ⟨S32x256x4x1, .f32⟩
  | 70 => ⟨S_, .f32⟩
  | 71 => ⟨S32x256x4x1, .f32⟩
  | 72 => ⟨S32x256x4x1, .f32⟩
  | 73 => ⟨S_, .f32⟩
  | 74 => ⟨S32x256x4x1, .f32⟩
  | 75 => ⟨S32x256x4x1, .f32⟩
  | 76 => ⟨S32x256x4x1, .f32⟩
  | 77 => ⟨S32x256x4x256, .f32⟩
  | 78 => ⟨S32x256x4x256, .f32⟩
  | 79 => ⟨S8192x1024, .f32⟩
  | 80 => ⟨S8192x1024, .f32⟩
  | 81 => ⟨S8192x1024, .f32⟩
  | 82 => ⟨S_, .f32⟩
  | 83 => ⟨S8192x1024, .f32⟩
  | 84 => ⟨S8192x1024, .f32⟩
  | 85 => ⟨S_, .f32⟩
  | 86 => ⟨S8192x1024, .f32⟩
  | 87 => ⟨S8192x1024, .f32⟩
  | 88 => ⟨S8192x1024, .f32⟩
  | 89 => ⟨S8192x1024, .f32⟩
  | 90 => ⟨S8192x1024, .bf16⟩
  | 91 => ⟨S_, .f32⟩
  | 92 => ⟨S32x2x4x128x256, .f32⟩
  | 93 => ⟨S32x1x2x4x128x256, .f32⟩
  | 94 => ⟨S32x1x2x4x128x256, .f32⟩
  | 95 => ⟨S32x2x2x4x128x256, .f32⟩
  | _ => ⟨S8192x6144, .f32⟩

abbrev hbmTy (i : Nat) : BufTy := match i / 128 with
  | 0 => hbmTy0_0 i
  | 1 => hbmTy0_1 i
  | _ => ⟨S8192x6144, .f32⟩

abbrev bufTy : (tb : Table) → Fin (tcTables nBuf tb) → BufTy
  | .hbm, ⟨i, _⟩ => hbmTy i
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_0 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_1 : Ref sig .tc := ⟨.hbm, 53, rfl⟩
abbrev main_v34 : Ref sig .tc := ⟨.hbm, 54, rfl⟩
abbrev main_v35 : Ref sig .tc := ⟨.hbm, 55, rfl⟩
abbrev main_cst_2 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_3 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v44 : Ref sig .tc := ⟨.hbm, 69, rfl⟩
abbrev main_cst_4 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_5 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_6 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_cst_7 : Ref sig .tc := ⟨.hbm, 195, rfl⟩
abbrev main_v167 : Ref sig .tc := ⟨.hbm, 196, rfl⟩
abbrev main_v168 : Ref sig .tc := ⟨.hbm, 197, rfl⟩
abbrev main_cst_8 : Ref sig .tc := ⟨.hbm, 198, rfl⟩
abbrev main_v169 : Ref sig .tc := ⟨.hbm, 199, rfl⟩
abbrev main_v170 : Ref sig .tc := ⟨.hbm, 200, rfl⟩
abbrev main_cst_9 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_call6_v0 : Ref sig .tc := ⟨.hbm, 208, rfl⟩
abbrev main_call6_v1 : Ref sig .tc := ⟨.hbm, 209, rfl⟩
abbrev main_call6_cst : Ref sig .tc := ⟨.hbm, 210, rfl⟩
abbrev main_call6_v2 : Ref sig .tc := ⟨.hbm, 211, rfl⟩
abbrev main_call6_v3 : Ref sig .tc := ⟨.hbm, 212, rfl⟩
abbrev main_call6_cst_0 : Ref sig .tc := ⟨.hbm, 213, rfl⟩
abbrev main_call6_v4 : Ref sig .tc := ⟨.hbm, 214, rfl⟩
abbrev main_call6_v5 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_cst_10 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩

abbrev nD : Nat := 1
abbrev τ : Topo := Topo.v7x

variable {F : FTy → Type} [FloatOps F]
-- ==== InCd.lean ====
abbrev S8192x1024 : Shape := ⟨2, ![8192, 1024]⟩
abbrev S1x3072 : Shape := ⟨2, ![1, 3072]⟩
abbrev S1024 : Shape := ⟨1, ![1024]⟩
abbrev S1024x7200 : Shape := ⟨2, ![1024, 7200]⟩
abbrev S3 : Shape := ⟨1, ![3]⟩
abbrev S_ : Shape := ⟨0, ![]⟩
abbrev S1024x7296 : Shape := ⟨2, ![1024, 7296]⟩
abbrev S1024x32 : Shape := ⟨2, ![1024, 32]⟩
abbrev S32x1024 : Shape := ⟨2, ![32, 1024]⟩
abbrev S1x3x1024 : Shape := ⟨3, ![1, 3, 1024]⟩
abbrev S1 : Shape := ⟨1, ![1]⟩
abbrev S1x1024 : Shape := ⟨2, ![1, 1024]⟩
abbrev S3x1 : Shape := ⟨2, ![3, 1]⟩
abbrev S1x2x1024 : Shape := ⟨3, ![1, 2, 1024]⟩
abbrev S8192x6144 : Shape := ⟨2, ![8192, 6144]⟩
abbrev S32x8192 : Shape := ⟨2, ![32, 8192]⟩
abbrev S256x1024 : Shape := ⟨2, ![256, 1024]⟩
abbrev S256x6144 : Shape := ⟨2, ![256, 6144]⟩
abbrev S32x256 : Shape := ⟨2, ![32, 256]⟩
abbrev S256 : Shape := ⟨1, ![256]⟩
abbrev S256x1 : Shape := ⟨2, ![256, 1]⟩
abbrev S1x1x1024 : Shape := ⟨3, ![1, 1, 1024]⟩
abbrev S1024x1024 : Shape := ⟨2, ![1024, 1024]⟩
abbrev S1024x1152 : Shape := ⟨2, ![1024, 1152]⟩
abbrev S256x1152 : Shape := ⟨2, ![256, 1152]⟩

abbrev nBuf : Space → Nat
  | .hbm => 32
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1x3072, .f32⟩
  | .hbm, ⟨2, _⟩ => ⟨S1024, .f32⟩
  | .hbm, ⟨3, _⟩ => ⟨S1024x7200, .f32⟩
  | .hbm, ⟨4, _⟩ => ⟨S3, .i32⟩
  | .hbm, ⟨5, _⟩ => ⟨S1024x7200, .bf16⟩
  | .hbm, ⟨6, _⟩ => ⟨S_, .i32⟩
  | .hbm, ⟨7, _⟩ => ⟨S_, .bf16⟩
  | .hbm, ⟨8, _⟩ => ⟨S1024x7296, .bf16⟩
  | .hbm, ⟨9, _⟩ => ⟨S1024x32, .f32⟩
  | .hbm, ⟨10, _⟩ => ⟨S32x1024, .f32⟩
  | .hbm, ⟨11, _⟩ => ⟨S32x1024, .bf16⟩
  | .hbm, ⟨12, _⟩ => ⟨S1x3x1024, .f32⟩
  | .hbm, ⟨13, _⟩ => ⟨S_, .i32⟩
  | .hbm, ⟨14, _⟩ => ⟨S1, .i32⟩
  | .hbm, ⟨15, _⟩ => ⟨S_, .f32⟩
  | .hbm, ⟨16, _⟩ => ⟨S1x1024, .f32⟩
  | .hbm, ⟨17, _⟩ => ⟨S1x3x1024, .f32⟩
  | .hbm, ⟨18, _⟩ => ⟨S_, .i32⟩
  | .hbm, ⟨19, _⟩ => ⟨S3, .i32⟩
  | .hbm, ⟨20, _⟩ => ⟨S3, .i1⟩
  | .hbm, ⟨21, _⟩ => ⟨S_, .i32⟩
  | .hbm, ⟨22, _⟩ => ⟨S3, .i32⟩
  | .hbm, ⟨23, _⟩ => ⟨S3, .i32⟩
  | .hbm, ⟨24, _⟩ => ⟨S3, .i32⟩
  | .hbm, ⟨25, _⟩ => ⟨S3x1, .i32⟩
  | .hbm, ⟨26, _⟩ => ⟨S1x3x1024, .f32⟩
  | .hbm, ⟨27, _⟩ => ⟨S1x2x1024, .f32⟩
  | .hbm, ⟨28, _⟩ => ⟨S1x1024, .f32⟩
  | .hbm, ⟨29, _⟩ => ⟨S8192x6144, .f32⟩
  | .hbm, ⟨30, _⟩ => ⟨S8192x1024, .f32⟩
  | .hbm, ⟨31, _⟩ => ⟨S32x8192, .f32⟩
  | .local _ .vmem, ⟨0, _⟩ => ⟨S256x1024, .f32⟩
  | .local _ .vmem, ⟨1, _⟩ => ⟨S256x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x1024, .f32⟩
  | .local _ .vmem, ⟨5, _⟩ => ⟨S1024x7296, .bf16⟩
  | .local _ .vmem, ⟨6, _⟩ => ⟨S32x1024, .bf16⟩
  | .local _ .vmem, ⟨7, _⟩ => ⟨S256x6144, .f32⟩
  | .local _ .vmem, ⟨8, _⟩ => ⟨S256x6144, .f32⟩
  | .local _ .vmem, ⟨9, _⟩ => ⟨S256x1024, .f32⟩
  | .local _ .vmem, ⟨10, _⟩ => ⟨S256x1024, .f32⟩
  | .local _ .vmem, ⟨11, _⟩ => ⟨S32x256, .f32⟩
  | .local _ .vmem, ⟨12, _⟩ => ⟨S32x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x7296 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InCdRefIdeal.lean ====
abbrev S8192x1024 : Shape := ⟨2, ![8192, 1024]⟩
abbrev S1x3072 : Shape := ⟨2, ![1, 3072]⟩
abbrev S1024 : Shape := ⟨1, ![1024]⟩
abbrev S1024x7200 : Shape := ⟨2, ![1024, 7200]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x7200 : Shape := ⟨2, ![8192, 7200]⟩
abbrev S8192x6144 : Shape := ⟨2, ![8192, 6144]⟩
abbrev S8192x32 : Shape := ⟨2, ![8192, 32]⟩
abbrev S32x8192 : Shape := ⟨2, ![32, 8192]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x3072, .f32⟩
  | .hbm, ⟨2, _⟩ => ⟨S1024, .f32⟩
  | .hbm, ⟨3, _⟩ => ⟨S1024x7200, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x7200, .f32⟩
  | .hbm, ⟨31, _⟩ => ⟨S8192x6144, .f32⟩
  | .hbm, ⟨32, _⟩ => ⟨S8192x1024, .f32⟩
  | .hbm, ⟨33, _⟩ => ⟨S8192x32, .f32⟩
  | .hbm, ⟨34, _⟩ => ⟨S32x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== InAb.lean ====
abbrev S8192x1024 : Shape := ⟨2, ![8192, 1024]⟩
abbrev S1x3072 : Shape := ⟨2, ![1, 3072]⟩
abbrev S1024 : Shape := ⟨1, ![1024]⟩
abbrev S1024x6160 : Shape := ⟨2, ![1024, 6160]⟩
abbrev S3 : Shape := ⟨1, ![3]⟩
abbrev S_ : Shape := ⟨0, ![]⟩
abbrev S1024x6272 : Shape := ⟨2, ![1024, 6272]⟩
abbrev S1024x16 : Shape := ⟨2, ![1024, 16]⟩
abbrev S16x1024 : Shape := ⟨2, ![16, 1024]⟩
abbrev S1x3x1024 : Shape := ⟨3, ![1, 3, 1024]⟩
abbrev S1 : Shape := ⟨1, ![1]⟩
abbrev S1x1024 : Shape := ⟨2, ![1, 1024]⟩
abbrev S3x1 : Shape := ⟨2, ![3, 1]⟩
abbrev S1x2x1024 : Shape := ⟨3, ![1, 2, 1024]⟩
abbrev S256x32768 : Shape := ⟨2, ![256, 32768]⟩
abbrev S8192x4096 : Shape := ⟨2, ![8192, 4096]⟩
abbrev S16x8192 : Shape := ⟨2, ![16, 8192]⟩
abbrev S256x1024 : Shape := ⟨2, ![256, 1024]⟩
abbrev S256x4096 : Shape := ⟨2, ![256, 4096]⟩
abbrev S16x256 : Shape := ⟨2, ![16, 256]⟩
abbrev S256 : Shape := ⟨1, ![256]⟩
abbrev S256x1 : Shape := ⟨2, ![256, 1]⟩
abbrev S1x1x1024 : Shape := ⟨3, ![1, 1, 1024]⟩
abbrev S1024x1024 : Shape := ⟨2, ![1024, 1024]⟩
abbrev S1024x1152 : Shape := ⟨2, ![1024, 1152]⟩
abbrev S256x1152 : Shape := ⟨2, ![256, 1152]⟩

abbrev nBuf : Space → Nat
  | .hbm => 33
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x3072, .f32⟩
  | .hbm, ⟨2, _⟩ => ⟨S1024, .f32⟩
  | .hbm, ⟨3, _⟩ => ⟨S1024x6160, .f32⟩
  | .hbm, ⟨4, _⟩ => ⟨S3, .i32⟩
  | .hbm, ⟨5, _⟩ => ⟨S1024x6160, .bf16⟩
  | .hbm, ⟨6, _⟩ => ⟨S_, .i32⟩
  | .hbm, ⟨7, _⟩ => ⟨S_, .bf16⟩
  | .hbm, ⟨8, _⟩ => ⟨S1024x6272, .bf16⟩
  | .hbm, ⟨9, _⟩ => ⟨S1024x16, .f32⟩
  | .hbm, ⟨10, _⟩ => ⟨S16x1024, .f32⟩
  | .hbm, ⟨11, _⟩ => ⟨S16x1024, .bf16⟩
  | .hbm, ⟨12, _⟩ => ⟨S1x3x1024, .f32⟩
  | .hbm, ⟨13, _⟩ => ⟨S_, .i32⟩
  | .hbm, ⟨14, _⟩ => ⟨S1, .i32⟩
  | .hbm, ⟨15, _⟩ => ⟨S_, .f32⟩
  | .hbm, ⟨16, _⟩ => ⟨S1x1024, .f32⟩
  | .hbm, ⟨17, _⟩ => ⟨S1x3x1024, .f32⟩
  | .hbm, ⟨18, _⟩ => ⟨S_, .i32⟩
  | .hbm, ⟨19, _⟩ => ⟨S3, .i32⟩
  | .hbm, ⟨20, _⟩ => ⟨S3, .i1⟩
  | .hbm, ⟨21, _⟩ => ⟨S_, .i32⟩
  | .hbm, ⟨22, _⟩ => ⟨S3, .i32⟩
  | .hbm, ⟨23, _⟩ => ⟨S3, .i32⟩
  | .hbm, ⟨24, _⟩ => ⟨S3, .i32⟩
  | .hbm, ⟨25, _⟩ => ⟨S3x1, .i32⟩
  | .hbm, ⟨26, _⟩ => ⟨S1x3x1024, .f32⟩
  | .hbm, ⟨27, _⟩ => ⟨S1x2x1024, .f32⟩
  | .hbm, ⟨28, _⟩ => ⟨S1x1024, .f32⟩
  | .hbm, ⟨29, _⟩ => ⟨S256x32768, .f32⟩
  | .hbm, ⟨30, _⟩ => ⟨S8192x4096, .f32⟩
  | .hbm, ⟨31, _⟩ => ⟨S8192x1024, .f32⟩
  | .hbm, ⟨32, _⟩ => ⟨S16x8192, .f32⟩
  | .local _ .vmem, ⟨0, _⟩ => ⟨S256x1024, .f32⟩
  | .local _ .vmem, ⟨1, _⟩ => ⟨S256x1024, .f32⟩
  | .local _ .vmem, ⟨2, _⟩ => ⟨S1x2x1024, .f32⟩
  | .local _ .vmem, ⟨3, _⟩ => ⟨S1x2x1024, .f32⟩
  | .local _ .vmem, ⟨4, _⟩ => ⟨S1x1024, .f32⟩
  | .local _ .vmem, ⟨5, _⟩ => ⟨S1024x6272, .bf16⟩
  | .local _ .vmem, ⟨6, _⟩ => ⟨S16x1024, .bf16⟩
  | .local _ .vmem, ⟨7, _⟩ => ⟨S256x1024, .f32⟩
  | .local _ .vmem, ⟨8, _⟩ => ⟨S256x1024, .f32⟩
  | .local _ .vmem, ⟨9, _⟩ => ⟨S256x4096, .f32⟩
  | .local _ .vmem, ⟨10, _⟩ => ⟨S256x4096, .f32⟩
  | .local _ .vmem, ⟨11, _⟩ => ⟨S256x1024, .f32⟩
  | .local _ .vmem, ⟨12, _⟩ => ⟨S256x1024, .f32⟩
  | .local _ .vmem, ⟨13, _⟩ => ⟨S16x256, .f32⟩
  | .local _ .vmem, ⟨14, _⟩ => ⟨S16x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_v18_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x6272 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== InAbRefIdeal.lean ====
abbrev S8192x1024 : Shape := ⟨2, ![8192, 1024]⟩
abbrev S1x3072 : Shape := ⟨2, ![1, 3072]⟩
abbrev S1024 : Shape := ⟨1, ![1024]⟩
abbrev S1024x6160 : Shape := ⟨2, ![1024, 6160]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x6160 : Shape := ⟨2, ![8192, 6160]⟩
abbrev S32x256x1024 : Shape := ⟨3, ![32, 256, 1024]⟩
abbrev S256x32x1024 : Shape := ⟨3, ![256, 32, 1024]⟩
abbrev S256x32768 : Shape := ⟨2, ![256, 32768]⟩
abbrev S8192x4096 : Shape := ⟨2, ![8192, 4096]⟩
abbrev S8192x16 : Shape := ⟨2, ![8192, 16]⟩
abbrev S16x8192 : Shape := ⟨2, ![16, 8192]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x3072, .f32⟩
  | .hbm, ⟨2, _⟩ => ⟨S1024, .f32⟩
  | .hbm, ⟨3, _⟩ => ⟨S1024x6160, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x6160, .f32⟩
  | .hbm, ⟨31, _⟩ => ⟨S8192x1024, .f32⟩
  | .hbm, ⟨32, _⟩ => ⟨S32x256x1024, .f32⟩
  | .hbm, ⟨33, _⟩ => ⟨S256x32x1024, .f32⟩
  | .hbm, ⟨34, _⟩ => ⟨S256x32768, .f32⟩
  | .hbm, ⟨35, _⟩ => ⟨S8192x4096, .f32⟩
  | .hbm, ⟨36, _⟩ => ⟨S8192x1024, .f32⟩
  | .hbm, ⟨37, _⟩ => ⟨S8192x16, .f32⟩
  | .hbm, ⟨38, _⟩ => ⟨S16x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== OutCd.lean ====
abbrev S8192x1024 : Shape := ⟨2, ![8192, 1024]⟩
abbrev S2048x1024 : Shape := ⟨2, ![2048, 1024]⟩
abbrev S1x3072 : Shape := ⟨2, ![1, 3072]⟩
abbrev S1024 : Shape := ⟨1, ![1024]⟩
abbrev S3 : Shape := ⟨1, ![3]⟩
abbrev S1x3x1024 : Shape := ⟨3, ![1, 3, 1024]⟩
abbrev S_ : Shape := ⟨0, ![]⟩
abbrev S1 : Shape := ⟨1, ![1]⟩
abbrev S1x1024 : Shape := ⟨2, ![1, 1024]⟩
abbrev S3x1 : Shape := ⟨2, ![3, 1]⟩
abbrev S512x1024 : Shape := ⟨2, ![512, 1024]⟩
abbrev S1024x1024 : Shape := ⟨2, ![1024, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 25
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x1024, .f32⟩
  | .hbm, ⟨3, _⟩ => ⟨S8192x1024, .f32⟩
  | .hbm, ⟨4, _⟩ => ⟨S1x3072, .f32⟩
  | .hbm, ⟨5, _⟩ => ⟨S1024, .f32⟩
  | .hbm, ⟨6, _⟩ => ⟨S3, .i32⟩
  | .hbm, ⟨7, _⟩ => ⟨S2048x1024, .bf16⟩
  | .hbm, ⟨8, _⟩ => ⟨S1x3x1024, .f32⟩
  | .hbm, ⟨9, _⟩ => ⟨S_, .i32⟩
  | .hbm, ⟨10, _⟩ => ⟨S1, .i32⟩
  | .hbm, ⟨11, _⟩ => ⟨S_, .f32⟩
  | .hbm, ⟨12, _⟩ => ⟨S1x1024, .f32⟩
  | .hbm, ⟨13, _⟩ => ⟨S1x3x1024, .f32⟩
  | .hbm, ⟨14, _⟩ => ⟨S_, .i32⟩
  | .hbm, ⟨15, _⟩ => ⟨S3, .i32⟩
  | .hbm, ⟨16, _⟩ => ⟨S3, .i1⟩
  | .hbm, ⟨17, _⟩ => ⟨S_, .i32⟩
  | .hbm, ⟨18, _⟩ => ⟨S3, .i32⟩
  | .hbm, ⟨19, _⟩ => ⟨S3, .i32⟩
  | .hbm, ⟨20, _⟩ => ⟨S3, .i32⟩
  | .hbm, ⟨21, _⟩ => ⟨S3x1, .i32⟩
  | .hbm, ⟨22, _⟩ => ⟨S1x3x1024, .f32⟩
  | .hbm, ⟨23, _⟩ => ⟨S1x1024, .f32⟩
  | .hbm, ⟨24, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S1x3x1024, .f32⟩
  | .local _ .vmem, ⟨8, _⟩ => ⟨S1x3x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutCdRefIdeal.lean ====
abbrev S8192x1024 : Shape := ⟨2, ![8192, 1024]⟩
abbrev S2048x1024 : Shape := ⟨2, ![2048, 1024]⟩
abbrev S1x3072 : Shape := ⟨2, ![1, 3072]⟩
abbrev S1024 : Shape := ⟨1, ![1024]⟩
abbrev S8192x2048 : Shape := ⟨2, ![8192, 2048]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x1024, .f32⟩
  | .hbm, ⟨3, _⟩ => ⟨S8192x1024, .f32⟩
  | .hbm, ⟨4, _⟩ => ⟨S1x3072, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S8192x2048, .f32⟩
  | .hbm, ⟨9, _⟩ => ⟨S8192x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== OutAb.lean ====
abbrev S256x32768 : Shape := ⟨2, ![256, 32768]⟩
abbrev S8192x4096 : Shape := ⟨2, ![8192, 4096]⟩
abbrev S1024 : Shape := ⟨1, ![1024]⟩
abbrev S1024x1024 : Shape := ⟨2, ![1024, 1024]⟩
abbrev S8192x1024 : Shape := ⟨2, ![8192, 1024]⟩
abbrev S2048x1024 : Shape := ⟨2, ![2048, 1024]⟩
abbrev S1x3072 : Shape := ⟨2, ![1, 3072]⟩
abbrev S3 : Shape := ⟨1, ![3]⟩
abbrev S1x1024 : Shape := ⟨2, ![1, 1024]⟩
abbrev S1x3x1024 : Shape := ⟨3, ![1, 3, 1024]⟩
abbrev S_ : Shape := ⟨0, ![]⟩
abbrev S1 : Shape := ⟨1, ![1]⟩
abbrev S3x1 : Shape := ⟨2, ![3, 1]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩

abbrev nBuf : Space → Nat
  | .hbm => 31
  | .vmem => 18
  | .smem => 0
  | _ => 0

abbrev bufTy : (tb : Table) → Fin (tcTables nBuf tb) → BufTy
  | .hbm, ⟨0, _⟩ => ⟨S256x32768, .f32⟩
  | .hbm, ⟨1, _⟩ => ⟨S256x32768, .f32⟩
  | .hbm, ⟨2, _⟩ => ⟨S8192x4096, .f32⟩
  | .hbm, ⟨3, _⟩ => ⟨S1024, .f32⟩
  | .hbm, ⟨4, _⟩ => ⟨S1024x1024, .f32⟩
  | .hbm, ⟨5, _⟩ => ⟨S8192x1024, .bf16⟩
  | .hbm, ⟨6, _⟩ => ⟨S2048x1024, .f32⟩
  | .hbm, ⟨7, _⟩ => ⟨S8192x1024, .f32⟩
  | .hbm, ⟨8, _⟩ => ⟨S1x3072, .f32⟩
  | .hbm, ⟨9, _⟩ => ⟨S1024, .f32⟩
  | .hbm, ⟨10, _⟩ => ⟨S3, .i32⟩
  | .hbm, ⟨11, _⟩ => ⟨S1x1024, .f32⟩
  | .hbm, ⟨12, _⟩ => ⟨S1024x1024, .bf16⟩
  | .hbm, ⟨13, _⟩ => ⟨S2048x1024, .bf16⟩
  | .hbm, ⟨14, _⟩ => ⟨S1x3x1024, .f32⟩
  | .hbm, ⟨15, _⟩ => ⟨S_, .i32⟩
  | .hbm, ⟨16, _⟩ => ⟨S1, .i32⟩
  | .hbm, ⟨17, _⟩ => ⟨S_, .f32⟩
  | .hbm, ⟨18, _⟩ => ⟨S1x1024, .f32⟩
  | .hbm, ⟨19, _⟩ => ⟨S1x3x1024, .f32⟩
  | .hbm, ⟨20, _⟩ => ⟨S_, .i32⟩
  | .hbm, ⟨21, _⟩ => ⟨S3, .i32⟩
  | .hbm, ⟨22, _⟩ => ⟨S3, .i1⟩
  | .hbm, ⟨23, _⟩ => ⟨S_, .i32⟩
  | .hbm, ⟨24, _⟩ => ⟨S3, .i32⟩
  | .hbm, ⟨25, _⟩ => ⟨S3, .i32⟩
  | .hbm, ⟨26, _⟩ => ⟨S3, .i32⟩
  | .hbm, ⟨27, _⟩ => ⟨S3x1, .i32⟩
  | .hbm, ⟨28, _⟩ => ⟨S1x3x1024, .f32⟩
  | .hbm, ⟨29, _⟩ => ⟨S1x1024, .f32⟩
  | .hbm, ⟨30, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1024x1024, .bf16⟩
  | .local _ .vmem, ⟨8, _⟩ => ⟨S256x1024, .bf16⟩
  | .local _ .vmem, ⟨9, _⟩ => ⟨S256x1024, .bf16⟩
  | .local _ .vmem, ⟨10, _⟩ => ⟨S2048x1024, .bf16⟩
  | .local _ .vmem, ⟨11, _⟩ => ⟨S256x1024, .f32⟩
  | .local _ .vmem, ⟨12, _⟩ => ⟨S256x1024, .f32⟩
  | .local _ .vmem, ⟨13, _⟩ => ⟨S1x3x1024, .f32⟩
  | .local _ .vmem, ⟨14, _⟩ => ⟨S1x3x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | _, _ => ⟨S256x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutAbRefIdeal.lean ====
abbrev S256x32768 : Shape := ⟨2, ![256, 32768]⟩
abbrev S8192x4096 : Shape := ⟨2, ![8192, 4096]⟩
abbrev S1024 : Shape := ⟨1, ![1024]⟩
abbrev S1024x1024 : Shape := ⟨2, ![1024, 1024]⟩
abbrev S8192x1024 : Shape := ⟨2, ![8192, 1024]⟩
abbrev S2048x1024 : Shape := ⟨2, ![2048, 1024]⟩
abbrev S1x3072 : Shape := ⟨2, ![1, 3072]⟩
abbrev S256x32x1024 : Shape := ⟨3, ![256, 32, 1024]⟩
abbrev S32x256x1024 : Shape := ⟨3, ![32, 256, 1024]⟩
abbrev S1x1024 : Shape := ⟨2, ![1, 1024]⟩
abbrev S_ : Shape := ⟨0, ![]⟩
abbrev S8192x2048 : Shape := ⟨2, ![8192, 2048]⟩
abbrev S8192 : Shape := ⟨1, ![8192]⟩
abbrev S8192x1 : Shape := ⟨2, ![8192, 1]⟩

abbrev nBuf : Space → Nat
  | .hbm => 83
  | .vmem => 0
  | .smem => 0
  | _ => 0

abbrev bufTy : (tb : Table) → Fin (tcTables nBuf tb) → BufTy
  | .hbm, ⟨0, _⟩ => ⟨S256x32768, .f32⟩
  | .hbm, ⟨1, _⟩ => ⟨S256x32768, .f32⟩
  | .hbm, ⟨2, _⟩ => ⟨S8192x4096, .f32⟩
  | .hbm, ⟨3, _⟩ => ⟨S1024, .f32⟩
  | .hbm, ⟨4, _⟩ => ⟨S1024x1024, .f32⟩
  | .hbm, ⟨5, _⟩ => ⟨S8192x1024, .bf16⟩
  | .hbm, ⟨6, _⟩ => ⟨S2048x1024, .f32⟩
  | .hbm, ⟨7, _⟩ => ⟨S8192x1024, .f32⟩
  | .hbm, ⟨8, _⟩ => ⟨S1x3072, .f32⟩
  | .hbm, ⟨9, _⟩ => ⟨S1024, .f32⟩
  | .hbm, ⟨10, _⟩ => ⟨S256x32x1024, .f32⟩
  | .hbm, ⟨11, _⟩ => ⟨S32x256x1024, .f32⟩
  | .hbm, ⟨12, _⟩ => ⟨S8192x1024, .f32⟩
  | .hbm, ⟨13, _⟩ => ⟨S256x32x1024, .f32⟩
  | .hbm, ⟨14, _⟩ => ⟨S32x256x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x2048, .f32⟩
  | .hbm, ⟨60, _⟩ => ⟨S8192x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S1x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | _, _ => ⟨S256x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]
-- ==== OutSmp.lean ====
abbrev S2048x1024 : Shape := ⟨2, ![2048, 1024]⟩
abbrev S2x3072 : Shape := ⟨2, ![2, 3072]⟩
abbrev S1024 : Shape := ⟨1, ![1024]⟩
abbrev S3 : Shape := ⟨1, ![3]⟩
abbrev S2x3x1024 : Shape := ⟨3, ![2, 3, 1024]⟩
abbrev S_ : Shape := ⟨0, ![]⟩
abbrev S1 : Shape := ⟨1, ![1]⟩
abbrev S2x1024 : Shape := ⟨2, ![2, 1024]⟩
abbrev S3x1 : Shape := ⟨2, ![3, 1]⟩
abbrev S1x1024 : Shape := ⟨2, ![1, 1024]⟩
abbrev S512x1024 : Shape := ⟨2, ![512, 1024]⟩
abbrev S1x3x1024 : Shape := ⟨3, ![1, 3, 1024]⟩
abbrev S1024x1024 : Shape := ⟨2, ![1024, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 25
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S2x3072, .f32⟩
  | .hbm, ⟨5, _⟩ => ⟨S1024, .f32⟩
  | .hbm, ⟨6, _⟩ => ⟨S3, .i32⟩
  | .hbm, ⟨7, _⟩ => ⟨S2048x1024, .bf16⟩
  | .hbm, ⟨8, _⟩ => ⟨S2x3x1024, .f32⟩
  | .hbm, ⟨9, _⟩ => ⟨S_, .i32⟩
  | .hbm, ⟨10, _⟩ => ⟨S1, .i32⟩
  | .hbm, ⟨11, _⟩ => ⟨S_, .f32⟩
  | .hbm, ⟨12, _⟩ => ⟨S2x1024, .f32⟩
  | .hbm, ⟨13, _⟩ => ⟨S2x3x1024, .f32⟩
  | .hbm, ⟨14, _⟩ => ⟨S_, .i32⟩
  | .hbm, ⟨15, _⟩ => ⟨S3, .i32⟩
  | .hbm, ⟨16, _⟩ => ⟨S3, .i1⟩
  | .hbm, ⟨17, _⟩ => ⟨S_, .i32⟩
  | .hbm, ⟨18, _⟩ => ⟨S3, .i32⟩
  | .hbm, ⟨19, _⟩ => ⟨S3, .i32⟩
  | .hbm, ⟨20, _⟩ => ⟨S3, .i32⟩
  | .hbm, ⟨21, _⟩ => ⟨S3x1, .i32⟩
  | .hbm, ⟨22, _⟩ => ⟨S2x3x1024, .f32⟩
  | .hbm, ⟨23, _⟩ => ⟨S1x1024, .f32⟩
  | .hbm, ⟨24, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x1024, .bf16⟩
  | .local _ .vmem, ⟨5, _⟩ => ⟨S512x1024, .f32⟩
  | .local _ .vmem, ⟨6, _⟩ => ⟨S512x1024, .f32⟩
  | .local _ .vmem, ⟨7, _⟩ => ⟨S1x3x1024, .f32⟩
  | .local _ .vmem, ⟨8, _⟩ => ⟨S1x3x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutSmpRefIdeal.lean ====
abbrev S2048x1024 : Shape := ⟨2, ![2048, 1024]⟩
abbrev S2x3072 : Shape := ⟨2, ![2, 3072]⟩
abbrev S1024 : Shape := ⟨1, ![1024]⟩
abbrev S2x1024x1024 : Shape := ⟨3, ![2, 1024, 1024]⟩
abbrev S2x1x3072 : Shape := ⟨3, ![2, 1, 3072]⟩
abbrev S2x1024x2048 : Shape := ⟨3, ![2, 1024, 2048]⟩
abbrev S2x1x1024 : Shape := ⟨3, ![2, 1, 1024]⟩
abbrev S_ : Shape := ⟨0, ![]⟩
abbrev S2x1024 : Shape := ⟨2, ![2, 1024]⟩
abbrev S2x1024x1 : Shape := ⟨3, ![2, 1024, 1]⟩
abbrev S1x1x1024 : Shape := ⟨3, ![1, 1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S2x3072, .f32⟩
  | .hbm, ⟨5, _⟩ => ⟨S1024, .f32⟩
  | .hbm, ⟨6, _⟩ => ⟨S2x1024x1024, .f32⟩
  | .hbm, ⟨7, _⟩ => ⟨S2x1024x1024, .bf16⟩
  | .hbm, ⟨8, _⟩ => ⟨S2x1024x1024, .bf16⟩
  | .hbm, ⟨9, _⟩ => ⟨S2x1x3072, .f32⟩
  | .hbm, ⟨10, _⟩ => ⟨S2x1024x1024, .f32⟩
  | .hbm, ⟨11, _⟩ => ⟨S2x1024x1024, .f32⟩
  | .hbm, ⟨12, _⟩ => ⟨S2x1024x2048, .f32⟩
  | .hbm, ⟨13, _⟩ => ⟨S2x1024x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1024x1024, .f32⟩
  | .hbm, ⟨18, _⟩ => ⟨S_, .f32⟩
  | .hbm, ⟨19, _⟩ => ⟨S2x1024, .f32⟩
  | .hbm, ⟨20, _⟩ => ⟨S2x1024x1, .f32⟩
  | .hbm, ⟨21, _⟩ => ⟨S_, .f32⟩
  | .hbm, ⟨22, _⟩ => ⟨S2x1024x1, .f32⟩
  | .hbm, ⟨23, _⟩ => ⟨S2x1024x1, .f32⟩
  | .hbm, ⟨24, _⟩ => ⟨S_, .f32⟩
  | .hbm, ⟨25, _⟩ => ⟨S2x1024x1, .f32⟩
  | .hbm, ⟨26, _⟩ => ⟨S2x1024x1, .f32⟩
  | .hbm, ⟨27, _⟩ => ⟨S2x1024x1, .f32⟩
  | .hbm, ⟨28, _⟩ => ⟨S2x1024x1024, .f32⟩
  | .hbm, ⟨29, _⟩ => ⟨S2x1024x1024, .f32⟩
  | .hbm, ⟨30, _⟩ => ⟨S1x1x1024, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S2x1024x1024, .f32⟩
  | .hbm, ⟨35, _⟩ => ⟨S2x1024x1024, .f32⟩
  | .hbm, ⟨36, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Mlstm.lean ====
abbrev S8192x4096 : Shape := ⟨2, ![8192, 4096]⟩
abbrev S8192x1024 : Shape := ⟨2, ![8192, 1024]⟩
abbrev S16x8192 : Shape := ⟨2, ![16, 8192]⟩
abbrev S2x4 : Shape := ⟨2, ![2, 4]⟩
abbrev S1024 : Shape := ⟨1, ![1024]⟩
abbrev S1x1024 : Shape := ⟨2, ![1, 1024]⟩
abbrev S16x32x1x256 : Shape := ⟨4, ![16, 32, 1, 256]⟩
abbrev S8 : Shape := ⟨1, ![8]⟩
abbrev S32x2x2x4x128x256 : Shape := ⟨6, ![32, 2, 2, 4, 128, 256]⟩
abbrev S32x2x4x1x128 : Shape := ⟨5, ![32, 2, 4, 1, 128]⟩
abbrev S256x512 : Shape := ⟨2, ![256, 512]⟩
abbrev S256x1024 : Shape := ⟨2, ![256, 1024]⟩
abbrev S4x1x1x256 : Shape := ⟨4, ![4, 1, 1, 256]⟩
abbrev S1x2x2x4x128x256 : Shape := ⟨6, ![1, 2, 2, 4, 128, 256]⟩
abbrev S1x2x4x1x128 : Shape := ⟨5, ![1, 2, 4, 1, 128]⟩
abbrev S256x256 : Shape := ⟨2, ![256, 256]⟩
abbrev S256x128 : Shape := ⟨2, ![256, 128]⟩
abbrev S1x1 : Shape := ⟨2, ![1, 1]⟩
abbrev S1x1x1x256 : Shape := ⟨4, ![1, 1, 1, 256]⟩
abbrev S1x256 : Shape := ⟨2, ![1, 256]⟩
abbrev S1 : Shape := ⟨1, ![1]⟩
abbrev S256 : Shape := ⟨1, ![256]⟩
abbrev S256x1 : Shape := ⟨2, ![256, 1]⟩
abbrev S512x256 : Shape := ⟨2, ![512, 256]⟩
abbrev S128x256 : Shape := ⟨2, ![128, 256]⟩
abbrev S128 : Shape := ⟨1, ![128]⟩
abbrev S1x128 : Shape := ⟨2, ![1, 128]⟩
abbrev S1x1x1x1x128x256 : Shape := ⟨6, ![1, 1, 1, 1, 128, 256]⟩
abbrev S1x1x1x1x128 : Shape := ⟨5, ![1, 1, 1, 1, 128]⟩

abbrev nBuf : Space → Nat
  | .hbm => 14
  | .vmem => 29
  | .smem => 2
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S16x8192, .f32⟩
  | .hbm, ⟨3, _⟩ => ⟨S2x4, .f32⟩
  | .hbm, ⟨4, _⟩ => ⟨S2x4, .f32⟩
  | .hbm, ⟨5, _⟩ => ⟨S1024, .f32⟩
  | .hbm, ⟨6, _⟩ => ⟨S1x1024, .f32⟩
  | .hbm, ⟨7, _⟩ => ⟨S16x32x1x256, .f32⟩
  | .hbm, ⟨8, _⟩ => ⟨S8, .f32⟩
  | .hbm, ⟨9, _⟩ => ⟨S8, .f32⟩
  | .hbm, ⟨10, _⟩ => ⟨S8192x1024, .bf16⟩
  | .hbm, ⟨11, _⟩ => ⟨S32x2x2x4x128x256, .f32⟩
  | .hbm, ⟨12, _⟩ => ⟨S32x2x4x1x128, .f32⟩
  | .hbm, ⟨13, _⟩ => ⟨S32x2x4x1x128, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S4x1x1x256, .f32⟩
  | .local _ .vmem, ⟨11, _⟩ => ⟨S4x1x1x256, .f32⟩
  | .local _ .vmem, ⟨12, _⟩ => ⟨S4x1x1x256, .f32⟩
  | .local _ .vmem, ⟨13, _⟩ => ⟨S4x1x1x256, .f32⟩
  | .local _ .vmem, ⟨14, _⟩ => ⟨S4x1x1x256, .f32⟩
  | .local _ .vmem, ⟨15, _⟩ => ⟨S4x1x1x256, .f32⟩
  | .local _ .vmem, ⟨16, _⟩ => ⟨S4x1x1x256, .f32⟩
  | .local _ .vmem, ⟨17, _⟩ => ⟨S4x1x1x256, .f32⟩
  | .local _ .vmem, ⟨18, _⟩ => ⟨S1x1024, .f32⟩
  | .local _ .vmem, ⟨19, _⟩ => ⟨S256x1024, .bf16⟩
  | .local _ .vmem, ⟨20, _⟩ => ⟨S256x1024, .bf16⟩
  | .local _ .vmem, ⟨21, _⟩ => ⟨S1x2x2x4x128x256, .f32⟩
  | .local _ .vmem, ⟨22, _⟩ => ⟨S1x2x2x4x128x256, .f32⟩
  | .local _ .vmem, ⟨23, _⟩ => ⟨S1x2x4x1x128, .f32⟩
  | .local _ .vmem, ⟨24, _⟩ => ⟨S1x2x4x1x128, .f32⟩
  | .local _ .vmem, ⟨25, _⟩ => ⟨S1x2x4x1x128, .f32⟩
  | .local _ .vmem, ⟨26, _⟩ => ⟨S1x2x4x1x128, .f32⟩
  | .local _ .vmem, ⟨27, _⟩ => ⟨S256x1024, .f32⟩
  | .local _ .vmem, ⟨28, _⟩ => ⟨S256x1024, .f32⟩
  | .local _ .smem, ⟨0, _⟩ => ⟨S8, .f32⟩
  | .local _ .smem, ⟨1, _⟩ => ⟨S8, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_scratch1 : Ref sig .tc := ⟨.vmem, 28, rfl⟩
abbrev cc0_stg9_0 : Ref sig .tc := ⟨.smem, 0, rfl⟩
abbrev cc0_stg10_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨2, ![32, 1], ![false, false]⟩

def k0_mult1 : BitVec 32 :=
  let c0_i32 : BitVec 32 := 0#32
  c0_i32
def k0_mult2 : BitVec 32 :=
  let c0_i32_2 : BitVec 32 := 0#32
  c0_i32_2
def k0_mult3 : BitVec 32 :=
  let c0_i32_5 : BitVec 32 := 0#32
  c0_i32_5
def k0_mult4 : BitVec 32 :=
  let c0_i32_9 : BitVec 32 := 0#32
  c0_i32_9
def k0_off1 (i : grid0.Coords) (c0_i32_17 : BitVec 32) (c0_i32_18 : BitVec 32) : Fin 1 → Nat :=
  let arg1 : BitVec 32 := BitVec.ofNat 32 (i 1).val
  let c4_i32 : BitVec 32 := 4#32
  let v0 : BitVec 32 := Scalar.muli arg1 c4_i32
  let v47 : BitVec 32 := Scalar.addi c0_i32_17 v0
  let v48 : BitVec 32 := Scalar.addi v47 c0_i32_18
  let v49 : Index := Scalar.indexCast v48
  ![v49.toNat]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, arg0.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, arg1.toNat, c0_i32_1.toNat, c0_i32_2.toNat]

def cc0_transform_14 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .smem S8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .smem S8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x2x4x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x4x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x4x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MlstmRefIdeal.lean ====
abbrev S8192x4096 : Shape := ⟨2, ![8192, 4096]⟩
abbrev S8192x1024 : Shape := ⟨2, ![8192, 1024]⟩
abbrev S16x8192 : Shape := ⟨2, ![16, 8192]⟩
abbrev S2x4 : Shape := ⟨2, ![2, 4]⟩
abbrev S1024 : Shape := ⟨1, ![1024]⟩
abbrev S8192x512 : Shape := ⟨2, ![8192, 512]⟩
abbrev S32x256x4x128 : Shape := ⟨4, ![32, 256, 4, 128]⟩
abbrev S32x4x256x128 : Shape := ⟨4, ![32, 4, 256, 128]⟩
abbrev S_ : Shape := ⟨0, ![]⟩
abbrev S32x256x4x256 : Shape := ⟨4, ![32, 256, 4, 256]⟩
abbrev S32x4x256x256 : Shape := ⟨4, ![32, 4, 256, 256]⟩
abbrev S8x8192 : Shape := ⟨2, ![8, 8192]⟩
abbrev S2x4x32x256 : Shape := ⟨4, ![2, 4, 32, 256]⟩
abbrev S32x2x4x256 : Shape := ⟨4, ![32, 2, 4, 256]⟩
abbrev S1x2x4x1 : Shape := ⟨4, ![1, 2, 4, 1]⟩
abbrev S32x1x4x256x128 : Shape := ⟨5, ![32, 1, 4, 256, 128]⟩
abbrev S32x2x4x256x128 : Shape := ⟨5, ![32, 2, 4, 256, 128]⟩
abbrev S32x1x4x256x256 : Shape := ⟨5, ![32, 1, 4, 256, 256]⟩
abbrev S32x2x4x256x256 : Shape := ⟨5, ![32, 2, 4, 256, 256]⟩
abbrev S32x1x4x256 : Shape := ⟨4, ![32, 1, 4, 256]⟩
abbrev S32x4x256 : Shape := ⟨3, ![32, 4, 256]⟩
abbrev S64x64 : Shape := ⟨2, ![64, 64]⟩
abbrev S32x2x4x128x256 : Shape := ⟨5, ![32, 2, 4, 128, 256]⟩
abbrev S32x2x4x128 : Shape := ⟨4, ![32, 2, 4, 128]⟩
abbrev S32x2x4 : Shape := ⟨3, ![32, 2, 4]⟩
abbrev S32x2x4x64x128 : Shape := ⟨5, ![32, 2, 4, 64, 128]⟩
abbrev S32x2x4x64x256 : Shape := ⟨5, ![32, 2, 4, 64, 256]⟩
abbrev S32x2x4x64 : Shape := ⟨4, ![32, 2, 4, 64]⟩
abbrev S32x2x4x1x64 : Shape := ⟨5, ![32, 2, 4, 1, 64]⟩
abbrev S32x2x4x64x64 : Shape := ⟨5, ![32, 2, 4, 64, 64]⟩
abbrev S32x2x4x64x1 : Shape := ⟨5, ![32, 2, 4, 64, 1]⟩
abbrev S32x2x4x1 : Shape := ⟨4, ![32, 2, 4, 1]⟩
abbrev S32x2x4x1x1 : Shape := ⟨5, ![32, 2, 4, 1, 1]⟩
abbrev S32x256x4 : Shape := ⟨3, ![32, 256, 4]⟩
abbrev S32x256x4x1 : Shape := ⟨4, ![32, 256, 4, 1]⟩
abbrev S1x1024 : Shape := ⟨2, ![1, 1024]⟩
abbrev S32x1x2x4x128x256 : Shape := ⟨6, ![32, 1, 2, 4, 128, 256]⟩
abbrev S32x2x2x4x128x256 : Shape := ⟨6, ![32, 2, 2, 4, 128, 256]⟩
abbrev S32x2x4x1x128 : Shape := ⟨5, ![32, 2, 4, 1, 128]⟩

abbrev nBuf : Space → Nat
  | .hbm => 505
  | .vmem => 0
  | .smem => 0
  | _ => 0

abbrev hbmTy0_0 (i : Nat) : BufTy := match i % 128 with
  | 0 => ⟨S8192x4096, .f32⟩
  | 1 => ⟨S8192x1024, .f32⟩
  | 2 => ⟨S16x8192, .f32⟩
  | 3 => ⟨S2x4, .f32⟩
  | 4 => ⟨S2x4, .f32⟩
  | 5 => ⟨S1024, .f32⟩
  | 6 => ⟨S8192x512, .f32⟩
  | 7 => ⟨S8192x512, .f32⟩
  | 8 => ⟨S8192x1024, .f32⟩
  | 9 => ⟨S8192x1024, .f32⟩
  | 10 => ⟨S32x256x4x128, .f32⟩
  | 11 => ⟨S32x4x256x128, .f32⟩
  | 12 => ⟨S32x256x4x128, .f32⟩
  | 13 => ⟨S32x4x256x128, .f32⟩
  | 14 => ⟨S_, .f32⟩
  | 15 => ⟨S32x4x256x128, .f32⟩
  | 16 => ⟨S32x4x256x128, .f32⟩
  | 17 => ⟨S32x256x4x256, .f32⟩
  | 18 => ⟨S32x4x256x256, .f32⟩
  | 19 => ⟨S8x8192, .f32⟩
  | 20 => ⟨S8x8192, .f32⟩
  | 21 => ⟨S2x4x32x256, .f32⟩
  | 22 => ⟨S32x2x4x256, .f32⟩
  | 23 => ⟨S2x4x32x256, .f32⟩
  | 24 => ⟨S32x2x4x256, .f32⟩
  | 25 => ⟨S1x2x4x1, .f32⟩
  | 26 => ⟨S32x2x4x256, .f32⟩
  | 27 => ⟨S32x2x4x256, .f32⟩
  | 28 => ⟨S1x2x4x1, .f32⟩
  | 29 => ⟨S32x2x4x256, .f32⟩
  | 30 => ⟨S32x2x4x256, .f32⟩
  | 31 => ⟨S32x2x4x256, .f32⟩
  | 32 => ⟨S_, .f32⟩
  | 33 => ⟨S32x2x4x256, .f32⟩
  | 34 => ⟨S32x2x4x256, .f32⟩
  | 35 => ⟨S32x2x4x256, .f32⟩
  | 36 => ⟨S32x2x4x256, .f32⟩
  | 37 => ⟨S32x2x4x256, .i1⟩
  | 38 => ⟨S32x2x4x256, .f32⟩
  | 39 => ⟨S32x2x4x256, .f32⟩
  | 40 => ⟨S32x2x4x256, .f32⟩
  | 41 => ⟨S32x2x4x256, .f32⟩
  | 42 => ⟨S32x2x4x256, .f32⟩
  | 43 => ⟨S32x2x4x256, .f32⟩
  | 44 => ⟨S32x2x4x256, .f32⟩
  | 45 => ⟨S32x2x4x256, .f32⟩
  | 46 => ⟨S32x2x4x256, .f32⟩
  | 47 => ⟨S32x4x256x128, .f32⟩
  | 48 => ⟨S32x1x4x256x128, .f32⟩
  | 49 => ⟨S32x1x4x256x128, .f32⟩
  | 50 => ⟨S32x2x4x256x128, .f32⟩
  | 51 => ⟨S32x4x256x128, .f32⟩
  | 52 => ⟨S32x1x4x256x128, .f32⟩
  | 53 => ⟨S32x1x4x256x128, .f32⟩
  | 54 => ⟨S32x2x4x256x128, .f32⟩
  | 55 => ⟨S32x4x256x256, .f32⟩
  | 56 => ⟨S32x1x4x256x256, .f32⟩
  | 57 => ⟨S32x1x4x256x256, .f32⟩
  | 58 => ⟨S32x2x4x256x256, .f32⟩
  | 59 => ⟨S32x1x4x256, .f32⟩
  | 60 => ⟨S32x4x256, .f32⟩
  | 61 => ⟨S32x1x4x256, .f32⟩
  | 62 => ⟨S32x4x256, .f32⟩
  | 63 => ⟨S32x4x256, .f32⟩
  | 64 => ⟨S32x1x4x256, .f32⟩
  | 65 => ⟨S32x1x4x256, .f32⟩
  | 66 => ⟨S32x2x4x256, .f32⟩
  | 67 => ⟨S32x1x4x256, .f32⟩
  | 68 => ⟨S32x4x256, .f32⟩
  | 69 => ⟨S32x1x4x256, .f32⟩
  | 70 => ⟨S32x4x256, .f32⟩
  | 71 => ⟨S32x4x256, .f32⟩
  | 72 => ⟨S32x1x4x256, .f32⟩
  | 73 => ⟨S32x1x4x256, .f32⟩
  | 74 => ⟨S32x2x4x256, .f32⟩
  | 75 => ⟨S_, .i1⟩
  | 76 => ⟨S64x64, .i1⟩
  | 77 => ⟨S64x64, .i32⟩
  | 78 => ⟨S_, .i32⟩
  | 79 => ⟨S64x64, .i32⟩
  | 80 => ⟨S64x64, .i32⟩
  | 81 => ⟨S64x64, .i32⟩
  | 82 => ⟨S64x64, .i1⟩
  | 83 => ⟨S_, .i1⟩
  | 84 => ⟨S64x64, .i1⟩
  | 85 => ⟨S64x64, .i1⟩
  | 86 => ⟨S_, .f32⟩
  | 87 => ⟨S32x2x4x128x256, .f32⟩
  | 88 => ⟨S_, .f32⟩
  | 89 => ⟨S32x2x4x128, .f32⟩
  | 90 => ⟨S_, .f32⟩
  | 91 => ⟨S32x2x4, .f32⟩
  | 92 => ⟨S32x2x4x64x128, .f32⟩
  | 93 => ⟨S32x2x4x64x128, .f32⟩
  | 94 => ⟨S32x2x4x64x256, .f32⟩
  | 95 => ⟨S32x2x4x64, .f32⟩
  | 96 => ⟨S32x2x4x64, .f32⟩
  | 97 => ⟨S32x2x4x1x64, .f32⟩
  | 98 => ⟨S_, .f32⟩
  | 99 => ⟨S_, .f32⟩
  | 100 => ⟨S32x2x4x64x64, .i1⟩
  | 101 => ⟨S32x2x4x64x64, .f32⟩
  | 102 => ⟨S32x2x4x64x64, .f32⟩
  | 103 => ⟨S32x2x4x64x64, .f32⟩
  | 104 => ⟨S_, .f32⟩
  | 105 => ⟨S32x2x4x64, .f32⟩
  | 106 => ⟨S32x2x4x64x1, .f32⟩
  | 107 => ⟨S32x2x4x1x64, .f32⟩
  | 108 => ⟨S32x2x4x64x64, .f32⟩
  | 109 => ⟨S32x2x4x64x64, .f32⟩
  | 110 => ⟨S32x2x4x64x64, .f32⟩
  | 111 => ⟨S32x2x4x1x64, .f32⟩
  | 112 => ⟨S32x2x4x64x64, .f32⟩
  | 113 => ⟨S32x2x4x64x64, .f32⟩
  | 114 => ⟨S_, .f32⟩
  | 115 => ⟨S_, .f32⟩
  | 116 => ⟨S32x2x4x64x64, .i1⟩
  | 117 => ⟨S32x2x4x64x64, .f32⟩
  | 118 => ⟨S32x2x4x64x64, .f32⟩
  | 119 => ⟨S32x2x4x1, .f32⟩
  | 120 => ⟨S32x2x4x64, .f32⟩
  | 121 => ⟨S32x2x4x64, .f32⟩
  | 122 => ⟨S_, .f32⟩
  | 123 => ⟨S32x2x4x64, .f32⟩
  | 124 => ⟨S32x2x4x64, .f32⟩
  | 125 => ⟨S32x2x4x64x64, .f32⟩
  | 126 => ⟨S32x2x4x64x1, .f32⟩
  | 127 => ⟨S32x2x4x64x64, .f32⟩
  | _ => ⟨S8192x4096, .f32⟩

abbrev hbmTy0_1 (i : Nat) : BufTy := match i % 128 with
  | 0 => ⟨S32x2x4x64x64, .f32⟩
  | 1 => ⟨S32x2x4x64x64, .f32⟩
  | 2 => ⟨S32x2x4x64x64, .f32⟩
  | 3 => ⟨S32x2x4x64, .f32⟩
  | 4 => ⟨S32x2x4x64, .f32⟩
  | 5 => ⟨S32x2x4x64x256, .f32⟩
  | 6 => ⟨S32x2x4x64x1, .f32⟩
  | 7 => ⟨S32x2x4x64x256, .f32⟩
  | 8 => ⟨S32x2x4x64x256, .f32⟩
  | 9 => ⟨S32x2x4x64x256, .f32⟩
  | 10 => ⟨S32x2x4x64x256, .f32⟩
  | 11 => ⟨S_, .f32⟩
  | 12 => ⟨S32x2x4x64, .f32⟩
  | 13 => ⟨S32x2x4x64, .f32⟩
  | 14 => ⟨S32x2x4x64, .f32⟩
  | 15 => ⟨S32x2x4x64, .f32⟩
  | 16 => ⟨S32x2x4x64, .f32⟩
  | 17 => ⟨S32x2x4x64, .f32⟩
  | 18 => ⟨S32x2x4x64, .f32⟩
  | 19 => ⟨S32x2x4x64, .f32⟩
  | 20 => ⟨S32x2x4x64x1, .f32⟩
  | 21 => ⟨S32x2x4x64x256, .f32⟩
  | 22 => ⟨S32x2x4x64x256, .f32⟩
  | 23 => ⟨S32x2x4x1, .f32⟩
  | 24 => ⟨S32x2x4, .f32⟩
  | 25 => ⟨S32x2x4x1, .f32⟩
  | 26 => ⟨S32x2x4x64, .f32⟩
  | 27 => ⟨S32x2x4x64, .f32⟩
  | 28 => ⟨S32x2x4x64, .f32⟩
  | 29 => ⟨S32x2x4, .f32⟩
  | 30 => ⟨S_, .f32⟩
  | 31 => ⟨S32x2x4, .f32⟩
  | 32 => ⟨S32x2x4, .f32⟩
  | 33 => ⟨S32x2x4x1, .f32⟩
  | 34 => ⟨S32x2x4x64, .f32⟩
  | 35 => ⟨S32x2x4x64, .f32⟩
  | 36 => ⟨S32x2x4x64, .f32⟩
  | 37 => ⟨S32x2x4, .f32⟩
  | 38 => ⟨S32x2x4, .f32⟩
  | 39 => ⟨S32x2x4, .f32⟩
  | 40 => ⟨S32x2x4x64x1, .f32⟩
  | 41 => ⟨S32x2x4x64x128, .f32⟩
  | 42 => ⟨S32x2x4x64x128, .f32⟩
  | 43 => ⟨S32x2x4x1x1, .f32⟩
  | 44 => ⟨S32x2x4x128x256, .f32⟩
  | 45 => ⟨S32x2x4x128x256, .f32⟩
  | 46 => ⟨S32x2x4x128x256, .f32⟩
  | 47 => ⟨S32x2x4x128x256, .f32⟩
  | 48 => ⟨S32x2x4x1, .f32⟩
  | 49 => ⟨S32x2x4x128, .f32⟩
  | 50 => ⟨S32x2x4x128, .f32⟩
  | 51 => ⟨S_, .f32⟩
  | 52 => ⟨S32x2x4x128, .f32⟩
  | 53 => ⟨S32x2x4x128, .f32⟩
  | 54 => ⟨S32x2x4x64x128, .f32⟩
  | 55 => ⟨S32x2x4x64x128, .f32⟩
  | 56 => ⟨S32x2x4x64x256, .f32⟩
  | 57 => ⟨S32x2x4x64, .f32⟩
  | 58 => ⟨S32x2x4x64, .f32⟩
  | 59 => ⟨S32x2x4x1x64, .f32⟩
  | 60 => ⟨S_, .f32⟩
  | 61 => ⟨S_, .f32⟩
  | 62 => ⟨S32x2x4x64x64, .i1⟩
  | 63 => ⟨S32x2x4x64x64, .f32⟩
  | 64 => ⟨S32x2x4x64x64, .f32⟩
  | 65 => ⟨S32x2x4x64x64, .f32⟩
  | 66 => ⟨S_, .f32⟩
  | 67 => ⟨S32x2x4x64, .f32⟩
  | 68 => ⟨S32x2x4x64x1, .f32⟩
  | 69 => ⟨S32x2x4x1x64, .f32⟩
  | 70 => ⟨S32x2x4x64x64, .f32⟩
  | 71 => ⟨S32x2x4x64x64, .f32⟩
  | 72 => ⟨S32x2x4x64x64, .f32⟩
  | 73 => ⟨S32x2x4x1x64, .f32⟩
  | 74 => ⟨S32x2x4x64x64, .f32⟩
  | 75 => ⟨S32x2x4x64x64, .f32⟩
  | 76 => ⟨S_, .f32⟩
  | 77 => ⟨S_, .f32⟩
  | 78 => ⟨S32x2x4x64x64, .i1⟩
  | 79 => ⟨S32x2x4x64x64, .f32⟩
  | 80 => ⟨S32x2x4x64x64, .f32⟩
  | 81 => ⟨S32x2x4x1, .f32⟩
  | 82 => ⟨S32x2x4x64, .f32⟩
  | 83 => ⟨S32x2x4x64, .f32⟩
  | 84 => ⟨S_, .f32⟩
  | 85 => ⟨S32x2x4x64, .f32⟩
  | 86 => ⟨S32x2x4x64, .f32⟩
  | 87 => ⟨S32x2x4x64x64, .f32⟩
  | 88 => ⟨S32x2x4x64x1, .f32⟩
  | 89 => ⟨S32x2x4x64x64, .f32⟩
  | 90 => ⟨S32x2x4x64x64, .f32⟩
  | 91 => ⟨S32x2x4x64x64, .f32⟩
  | 92 => ⟨S32x2x4x64x64, .f32⟩
  | 93 => ⟨S32x2x4x64, .f32⟩
  | 94 => ⟨S32x2x4x64, .f32⟩
  | 95 => ⟨S32x2x4x64x256, .f32⟩
  | 96 => ⟨S32x2x4x64x1, .f32⟩
  | 97 => ⟨S32x2x4x64x256, .f32⟩
  | 98 => ⟨S32x2x4x64x256, .f32⟩
  | 99 => ⟨S32x2x4x64x256, .f32⟩
  | 100 => ⟨S32x2x4x64x256, .f32⟩
  | 101 => ⟨S_, .f32⟩
  | 102 => ⟨S32x2x4x64, .f32⟩
  | 103 => ⟨S32x2x4x64, .f32⟩
  | 104 => ⟨S32x2x4x64, .f32⟩
  | 105 => ⟨S32x2x4x64, .f32⟩
  | 106 => ⟨S32x2x4x64, .f32⟩
  | 107 => ⟨S32x2x4x64, .f32⟩
  | 108 => ⟨S32x2x4x64, .f32⟩
  | 109 => ⟨S32x2x4x64, .f32⟩
  | 110 => ⟨S32x2x4x64x1, .f32⟩
  | 111 => ⟨S32x2x4x64x256, .f32⟩
  | 112 => ⟨S32x2x4x64x256, .f32⟩
  | 113 => ⟨S32x2x4x1, .f32⟩
  | 114 => ⟨S32x2x4, .f32⟩
  | 115 => ⟨S32x2x4x1, .f32⟩
  | 116 => ⟨S32x2x4x64, .f32⟩
  | 117 => ⟨S32x2x4x64, .f32⟩
  | 118 => ⟨S32x2x4x64, .f32⟩
  | 119 => ⟨S32x2x4, .f32⟩
  | 120 => ⟨S_, .f32⟩
  | 121 => ⟨S32x2x4, .f32⟩
  | 122 => ⟨S32x2x4, .f32⟩
  | 123 => ⟨S32x2x4x1, .f32⟩
  | 124 => ⟨S32x2x4x64, .f32⟩
  | 125 => ⟨S32x2x4x64, .f32⟩
  | 126 => ⟨S32x2x4x64, .f32⟩
  | 127 => ⟨S32x2x4, .f32⟩
  | _ => ⟨S8192x4096, .f32⟩

abbrev hbmTy0_2 (i : Nat) : BufTy := match i % 128 with
  | 0 => ⟨S32x2x4, .f32⟩
  | 1 => ⟨S32x2x4, .f32⟩
  | 2 => ⟨S32x2x4x64x1, .f32⟩
  | 3 => ⟨S32x2x4x64x128, .f32⟩
  | 4 => ⟨S32x2x4x64x128, .f32⟩
  | 5 => ⟨S32x2x4x1x1, .f32⟩
  | 6 => ⟨S32x2x4x128x256, .f32⟩
  | 7 => ⟨S32x2x4x128x256, .f32⟩
  | 8 => ⟨S32x2x4x128x256, .f32⟩
  | 9 => ⟨S32x2x4x128x256, .f32⟩
  | 10 => ⟨S32x2x4x1, .f32⟩
  | 11 => ⟨S32x2x4x128, .f32⟩
  | 12 => ⟨S32x2x4x128, .f32⟩
  | 13 => ⟨S_, .f32⟩
  | 14 => ⟨S32x2x4x128, .f32⟩
  | 15 => ⟨S32x2x4x128, .f32⟩
  | 16 => ⟨S32x2x4x64x128, .f32⟩
  | 17 => ⟨S32x2x4x64x128, .f32⟩
  | 18 => ⟨S32x2x4x64x256, .f32⟩
  | 19 => ⟨S32x2x4x64, .f32⟩
  | 20 => ⟨S32x2x4x64, .f32⟩
  | 21 => ⟨S32x2x4x1x64, .f32⟩
  | 22 => ⟨S_, .f32⟩
  | 23 => ⟨S_, .f32⟩
  | 24 => ⟨S32x2x4x64x64, .i1⟩
  | 25 => ⟨S32x2x4x64x64, .f32⟩
  | 26 => ⟨S32x2x4x64x64, .f32⟩
  | 27 => ⟨S32x2x4x64x64, .f32⟩
  | 28 => ⟨S_, .f32⟩
  | 29 => ⟨S32x2x4x64, .f32⟩
  | 30 => ⟨S32x2x4x64x1, .f32⟩
  | 31 => ⟨S32x2x4x1x64, .f32⟩
  | 32 => ⟨S32x2x4x64x64, .f32⟩
  | 33 => ⟨S32x2x4x64x64, .f32⟩
  | 34 => ⟨S32x2x4x64x64, .f32⟩
  | 35 => ⟨S32x2x4x1x64, .f32⟩
  | 36 => ⟨S32x2x4x64x64, .f32⟩
  | 37 => ⟨S32x2x4x64x64, .f32⟩
  | 38 => ⟨S_, .f32⟩
  | 39 => ⟨S_, .f32⟩
  | 40 => ⟨S32x2x4x64x64, .i1⟩
  | 41 => ⟨S32x2x4x64x64, .f32⟩
  | 42 => ⟨S32x2x4x64x64, .f32⟩
  | 43 => ⟨S32x2x4x1, .f32⟩
  | 44 => ⟨S32x2x4x64, .f32⟩
  | 45 => ⟨S32x2x4x64, .f32⟩
  | 46 => ⟨S_, .f32⟩
  | 47 => ⟨S32x2x4x64, .f32⟩
  | 48 => ⟨S32x2x4x64, .f32⟩
  | 49 => ⟨S32x2x4x64x64, .f32⟩
  | 50 => ⟨S32x2x4x64x1, .f32⟩
  | 51 => ⟨S32x2x4x64x64, .f32⟩
  | 52 => ⟨S32x2x4x64x64, .f32⟩
  | 53 => ⟨S32x2x4x64x64, .f32⟩
  | 54 => ⟨S32x2x4x64x64, .f32⟩
  | 55 => ⟨S32x2x4x64, .f32⟩
  | 56 => ⟨S32x2x4x64, .f32⟩
  | 57 => ⟨S32x2x4x64x256, .f32⟩
  | 58 => ⟨S32x2x4x64x1, .f32⟩
  | 59 => ⟨S32x2x4x64x256, .f32⟩
  | 60 => ⟨S32x2x4x64x256, .f32⟩
  | 61 => ⟨S32x2x4x64x256, .f32⟩
  | 62 => ⟨S32x2x4x64x256, .f32⟩
  | 63 => ⟨S_, .f32⟩
  | 64 => ⟨S32x2x4x64, .f32⟩
  | 65 => ⟨S32x2x4x64, .f32⟩
  | 66 => ⟨S32x2x4x64, .f32⟩
  | 67 => ⟨S32x2x4x64, .f32⟩
  | 68 => ⟨S32x2x4x64, .f32⟩
  | 69 => ⟨S32x2x4x64, .f32⟩
  | 70 => ⟨S32x2x4x64, .f32⟩
  | 71 => ⟨S32x2x4x64, .f32⟩
  | 72 => ⟨S32x2x4x64x1, .f32⟩
  | 73 => ⟨S32x2x4x64x256, .f32⟩
  | 74 => ⟨S32x2x4x64x256, .f32⟩
  | 75 => ⟨S32x2x4x1, .f32⟩
  | 76 => ⟨S32x2x4, .f32⟩
  | 77 => ⟨S32x2x4x1, .f32⟩
  | 78 => ⟨S32x2x4x64, .f32⟩
  | 79 => ⟨S32x2x4x64, .f32⟩
  | 80 => ⟨S32x2x4x64, .f32⟩
  | 81 => ⟨S32x2x4, .f32⟩
  | 82 => ⟨S_, .f32⟩
  | 83 => ⟨S32x2x4, .f32⟩
  | 84 => ⟨S32x2x4, .f32⟩
  | 85 => ⟨S32x2x4x1, .f32⟩
  | 86 => ⟨S32x2x4x64, .f32⟩
  | 87 => ⟨S32x2x4x64, .f32⟩
  | 88 => ⟨S32x2x4x64, .f32⟩
  | 89 => ⟨S32x2x4, .f32⟩
  | 90 => ⟨S32x2x4, .f32⟩
  | 91 => ⟨S32x2x4, .f32⟩
  | 92 => ⟨S32x2x4x64x1, .f32⟩
  | 93 => ⟨S32x2x4x64x128, .f32⟩
  | 94 => ⟨S32x2x4x64x128, .f32⟩
  | 95 => ⟨S32x2x4x1x1, .f32⟩
  | 96 => ⟨S32x2x4x128x256, .f32⟩
  | 97 => ⟨S32x2x4x128x256, .f32⟩
  | 98 => ⟨S32x2x4x128x256, .f32⟩
  | 99 => ⟨S32x2x4x128x256, .f32⟩
  | 100 => ⟨S32x2x4x1, .f32⟩
  | 101 => ⟨S32x2x4x128, .f32⟩
  | 102 => ⟨S32x2x4x128, .f32⟩
  | 103 => ⟨S_, .f32⟩
  | 104 => ⟨S32x2x4x128, .f32⟩
  | 105 => ⟨S32x2x4x128, .f32⟩
  | 106 => ⟨S32x2x4x64x128, .f32⟩
  | 107 => ⟨S32x2x4x64x128, .f32⟩
  | 108 => ⟨S32x2x4x64x256, .f32⟩
  | 109 => ⟨S32x2x4x64, .f32⟩
  | 110 => ⟨S32x2x4x64, .f32⟩
  | 111 => ⟨S32x2x4x1x64, .f32⟩
  | 112 => ⟨S_, .f32⟩
  | 113 => ⟨S_, .f32⟩
  | 114 => ⟨S32x2x4x64x64, .i1⟩
  | 115 => ⟨S32x2x4x64x64, .f32⟩
  | 116 => ⟨S32x2x4x64x64, .f32⟩
  | 117 => ⟨S32x2x4x64x64, .f32⟩
  | 118 => ⟨S_, .f32⟩
  | 119 => ⟨S32x2x4x64, .f32⟩
  | 120 => ⟨S32x2x4x64x1, .f32⟩
  | 121 => ⟨S32x2x4x1x64, .f32⟩
  | 122 => ⟨S32x2x4x64x64, .f32⟩
  | 123 => ⟨S32x2x4x64x64, .f32⟩
  | 124 => ⟨S32x2x4x64x64, .f32⟩
  | 125 => ⟨S32x2x4x1x64, .f32⟩
  | 126 => ⟨S32x2x4x64x64, .f32⟩
  | 127 => ⟨S32x2x4x64x64, .f32⟩
  | _ => ⟨S8192x4096, .f32⟩

abbrev hbmTy0_3 (i : Nat) : BufTy := match i % 128 with
  | 0 => ⟨S_, .f32⟩
  | 1 => ⟨S_, .f32⟩
  | 2 => ⟨S32x2x4x64x64, .i1⟩
  | 3 => ⟨S32x2x4x64x64, .f32⟩
  | 4 => ⟨S32x2x4x64x64, .f32⟩
  | 5 => ⟨S32x2x4x1, .f32⟩
  | 6 => ⟨S32x2x4x64, .f32⟩
  | 7 => ⟨S32x2x4x64, .f32⟩
  | 8 => ⟨S_, .f32⟩
  | 9 => ⟨S32x2x4x64, .f32⟩
  | 10 => ⟨S32x2x4x64, .f32⟩
  | 11 => ⟨S32x2x4x64x64, .f32⟩
  | 12 => ⟨S32x2x4x64x1, .f32⟩
  | 13 => ⟨S32x2x4x64x64, .f32⟩
  | 14 => ⟨S32x2x4x64x64, .f32⟩
  | 15 => ⟨S32x2x4x64x64, .f32⟩
  | 16 => ⟨S32x2x4x64x64, .f32⟩
  | 17 => ⟨S32x2x4x64, .f32⟩
  | 18 => ⟨S32x2x4x64, .f32⟩
  | 19 => ⟨S32x2x4x64x256, .f32⟩
  | 20 => ⟨S32x2x4x64x1, .f32⟩
  | 21 => ⟨S32x2x4x64x256, .f32⟩
  | 22 => ⟨S32x2x4x64x256, .f32⟩
  | 23 => ⟨S32x2x4x64x256, .f32⟩
  | 24 => ⟨S32x2x4x64x256, .f32⟩
  | 25 => ⟨S_, .f32⟩
  | 26 => ⟨S32x2x4x64, .f32⟩
  | 27 => ⟨S32x2x4x64, .f32⟩
  | 28 => ⟨S32x2x4x64, .f32⟩
  | 29 => ⟨S32x2x4x64, .f32⟩
  | 30 => ⟨S32x2x4x64, .f32⟩
  | 31 => ⟨S32x2x4x64, .f32⟩
  | 32 => ⟨S32x2x4x64, .f32⟩
  | 33 => ⟨S32x2x4x64, .f32⟩
  | 34 => ⟨S32x2x4x64x1, .f32⟩
  | 35 => ⟨S32x2x4x64x256, .f32⟩
  | 36 => ⟨S32x2x4x64x256, .f32⟩
  | 37 => ⟨S32x2x4x1, .f32⟩
  | 38 => ⟨S32x2x4, .f32⟩
  | 39 => ⟨S32x2x4x1, .f32⟩
  | 40 => ⟨S32x2x4x64, .f32⟩
  | 41 => ⟨S32x2x4x64, .f32⟩
  | 42 => ⟨S32x2x4x64, .f32⟩
  | 43 => ⟨S32x2x4, .f32⟩
  | 44 => ⟨S_, .f32⟩
  | 45 => ⟨S32x2x4, .f32⟩
  | 46 => ⟨S32x2x4, .f32⟩
  | 47 => ⟨S32x2x4x1, .f32⟩
  | 48 => ⟨S32x2x4x64, .f32⟩
  | 49 => ⟨S32x2x4x64, .f32⟩
  | 50 => ⟨S32x2x4x64, .f32⟩
  | 51 => ⟨S32x2x4, .f32⟩
  | 52 => ⟨S32x2x4, .f32⟩
  | 53 => ⟨S32x2x4, .f32⟩
  | 54 => ⟨S32x2x4x64x1, .f32⟩
  | 55 => ⟨S32x2x4x64x128, .f32⟩
  | 56 => ⟨S32x2x4x64x128, .f32⟩
  | 57 => ⟨S32x2x4x1x1, .f32⟩
  | 58 => ⟨S32x2x4x128x256, .f32⟩
  | 59 => ⟨S32x2x4x128x256, .f32⟩
  | 60 => ⟨S32x2x4x128x256, .f32⟩
  | 61 => ⟨S32x2x4x128x256, .f32⟩
  | 62 => ⟨S32x2x4x1, .f32⟩
  | 63 => ⟨S32x2x4x128, .f32⟩
  | 64 => ⟨S32x2x4x128, .f32⟩
  | 65 => ⟨S_, .f32⟩
  | 66 => ⟨S32x2x4x128, .f32⟩
  | 67 => ⟨S32x2x4x128, .f32⟩
  | 68 => ⟨S32x2x4x256x256, .f32⟩
  | 69 => ⟨S32x1x4x256x256, .f32⟩
  | 70 => ⟨S32x4x256x256, .f32⟩
  | 71 => ⟨S32x1x4x256x256, .f32⟩
  | 72 => ⟨S32x4x256x256, .f32⟩
  | 73 => ⟨S32x4x256x256, .f32⟩
  | 74 => ⟨S32x4x256x256, .f32⟩
  | 75 => ⟨S32x256x4x256, .f32⟩
  | 76 => ⟨S32x256x4x256, .f32⟩
  | 77 => ⟨S_, .f32⟩
  | 78 => ⟨S32x256x4, .f32⟩
  | 79 => ⟨S32x256x4x1, .f32⟩
  | 80 => ⟨S_, .f32⟩
  | 81 => ⟨S32x256x4x1, .f32⟩
  | 82 => ⟨S32x256x4x1, .f32⟩
  | 83 => ⟨S_, .f32⟩
  | 84 => ⟨S32x256x4x1, .f32⟩
  | 85 => ⟨S32x256x4x1, .f32⟩
  | 86 => ⟨S32x256x4x1, .f32⟩
  | 87 => ⟨S32x256x4x256, .f32⟩
  | 88 => ⟨S32x256x4x256, .f32⟩
  | 89 => ⟨S8192x1024, .f32⟩
  | 90 => ⟨S1x1024, .f32⟩
  | 91 => ⟨S8192x1024, .f32⟩
  | 92 => ⟨S8192x1024, .f32⟩
  | 93 => ⟨S8192x1024, .f32⟩
  | 94 => ⟨S8192x1024, .f32⟩
  | 95 => ⟨S_, .f32⟩
  | 96 => ⟨S8192x1024, .f32⟩
  | 97 => ⟨S8192x1024, .f32⟩
  | 98 => ⟨S_, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S_, .f32⟩
  | 105 => ⟨S8192x1024, .f32⟩
  | 106 => ⟨S8192x1024, .f32⟩
  | 107 => ⟨S_, .f32⟩
  | 108 => ⟨S8192x1024, .f32⟩
  | 109 => ⟨S8192x1024, .f32⟩
  | 110 => ⟨S8192x1024, .f32⟩
  | 111 => ⟨S8192x1024, .f32⟩
  | 112 => ⟨S8192x1024, .bf16⟩
  | 113 => ⟨S_, .f32⟩
  | 114 => ⟨S32x2x4x128x256, .f32⟩
  | 115 => ⟨S32x1x2x4x128x256, .f32⟩
  | 116 => ⟨S32x1x2x4x128x256, .f32⟩
  | 117 => ⟨S32x2x2x4x128x256, .f32⟩
  | 118 => ⟨S32x2x4x1x128, .f32⟩
  | 119 => ⟨S32x2x4x1x1, .f32⟩
  | 120 => ⟨S32x2x4x1x128, .f32⟩
  | _ => ⟨S8192x4096, .f32⟩

abbrev hbmTy (i : Nat) : BufTy := match i / 128 with
  | 0 => hbmTy0_0 i
  | 1 => hbmTy0_1 i
  | 2 => hbmTy0_2 i
  | 3 => hbmTy0_3 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c : Ref sig .tc := ⟨.hbm, 75, rfl⟩
abbrev main_v53 : Ref sig .tc := ⟨.hbm, 76, rfl⟩
abbrev main_call6_v0 : Ref sig .tc := ⟨.hbm, 77, rfl⟩
abbrev main_call6_c : Ref sig .tc := ⟨.hbm, 78, rfl⟩
abbrev main_call6_v1 : Ref sig .tc := ⟨.hbm, 79, rfl⟩
abbrev main_call6_v2 : Ref sig .tc := ⟨.hbm, 80, rfl⟩
abbrev main_call6_v3 : Ref sig .tc := ⟨.hbm, 81, rfl⟩
abbrev main_call6_v4 : Ref sig .tc := ⟨.hbm, 82, rfl⟩
abbrev main_call6_c_0 : Ref sig .tc := ⟨.hbm, 83, rfl⟩
abbrev main_call6_v5 : Ref sig .tc := ⟨.hbm, 84, rfl⟩
abbrev main_v54 : Ref sig .tc := ⟨.hbm, 85, rfl⟩
abbrev main_cst_0 : Ref sig .tc := ⟨.hbm, 86, rfl⟩
abbrev main_v55 : Ref sig .tc := ⟨.hbm, 87, rfl⟩
abbrev main_cst_1 : Ref sig .tc := ⟨.hbm, 88, rfl⟩
abbrev main_v56 : Ref sig .tc := ⟨.hbm, 89, rfl⟩
abbrev main_cst_2 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_3 : Ref sig .tc := ⟨.hbm, 98, rfl⟩
abbrev main_call7_v0 : Ref sig .tc := ⟨.hbm, 99, rfl⟩
abbrev main_call7_v1 : Ref sig .tc := ⟨.hbm, 100, rfl⟩
abbrev main_call7_v2 : Ref sig .tc := ⟨.hbm, 101, rfl⟩
abbrev main_call7_v3 : Ref sig .tc := ⟨.hbm, 102, rfl⟩
abbrev main_v64 : Ref sig .tc := ⟨.hbm, 103, rfl⟩
abbrev main_cst_4 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_5 : Ref sig .tc := ⟨.hbm, 114, rfl⟩
abbrev main_call8_v0 : Ref sig .tc := ⟨.hbm, 115, rfl⟩
abbrev main_call8_v1 : Ref sig .tc := ⟨.hbm, 116, rfl⟩
abbrev main_call8_v2 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_cst_6 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_cst_7 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_8 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_9 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_cst_10 : Ref sig .tc := ⟨.hbm, 188, rfl⟩
abbrev main_call9_v0 : Ref sig .tc := ⟨.hbm, 189, rfl⟩
abbrev main_call9_v1 : Ref sig .tc := ⟨.hbm, 190, rfl⟩
abbrev main_call9_v2 : Ref sig .tc := ⟨.hbm, 191, rfl⟩
abbrev main_call9_v3 : Ref sig .tc := ⟨.hbm, 192, rfl⟩
abbrev main_v140 : Ref sig .tc := ⟨.hbm, 193, rfl⟩
abbrev main_cst_11 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_cst_12 : Ref sig .tc := ⟨.hbm, 204, rfl⟩
abbrev main_call10_v0 : Ref sig .tc := ⟨.hbm, 205, rfl⟩
abbrev main_call10_v1 : Ref sig .tc := ⟨.hbm, 206, rfl⟩
abbrev main_call10_v2 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_cst_13 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_cst_14 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_cst_15 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_cst_16 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_cst_17 : Ref sig .tc := ⟨.hbm, 278, rfl⟩
abbrev main_call11_v0 : Ref sig .tc := ⟨.hbm, 279, rfl⟩
abbrev main_call11_v1 : Ref sig .tc := ⟨.hbm, 280, rfl⟩
abbrev main_call11_v2 : Ref sig .tc := ⟨.hbm, 281, rfl⟩
abbrev main_call11_v3 : Ref sig .tc := ⟨.hbm, 282, rfl⟩
abbrev main_v216 : Ref sig .tc := ⟨.hbm, 283, rfl⟩
abbrev main_cst_18 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_cst_19 : Ref sig .tc := ⟨.hbm, 294, rfl⟩
abbrev main_call12_v0 : Ref sig .tc := ⟨.hbm, 295, rfl⟩
abbrev main_call12_v1 : Ref sig .tc := ⟨.hbm, 296, rfl⟩
abbrev main_call12_v2 : Ref sig .tc := ⟨.hbm, 297, rfl⟩
abbrev main_v226 : Ref sig .tc := ⟨.hbm, 298, rfl⟩
abbrev main_v227 : Ref sig .tc := ⟨.hbm, 299, rfl⟩
abbrev main_v228 : Ref sig .tc := ⟨.hbm, 300, rfl⟩
abbrev main_v229 : Ref sig .tc := ⟨.hbm, 301, rfl⟩
abbrev main_cst_20 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_v236 : Ref sig .tc := ⟨.hbm, 309, rfl⟩
abbrev main_v237 : Ref sig .tc := ⟨.hbm, 310, rfl⟩
abbrev main_v238 : Ref sig .tc := ⟨.hbm, 311, rfl⟩
abbrev main_v239 : Ref sig .tc := ⟨.hbm, 312, rfl⟩
abbrev main_v240 : Ref sig .tc := ⟨.hbm, 313, rfl⟩
abbrev main_v241 : Ref sig .tc := ⟨.hbm, 314, rfl⟩
abbrev main_v242 : Ref sig .tc := ⟨.hbm, 315, rfl⟩
abbrev main_v243 : Ref sig .tc := ⟨.hbm, 316, rfl⟩
abbrev main_v244 : Ref sig .tc := ⟨.hbm, 317, rfl⟩
abbrev main_v245 : Ref sig .tc := ⟨.hbm, 318, rfl⟩
abbrev main_cst_21 : Ref sig .tc := ⟨.hbm, 319, rfl⟩
abbrev main_v246 : Ref sig .tc := ⟨.hbm, 320, rfl⟩
abbrev main_v247 : Ref sig .tc := ⟨.hbm, 321, rfl⟩
abbrev main_v248 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩
abbrev main_v253 : Ref sig .tc := ⟨.hbm, 327, rfl⟩
abbrev main_v254 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_v260 : Ref sig .tc := ⟨.hbm, 334, rfl⟩
abbrev main_v261 : Ref sig .tc := ⟨.hbm, 335, rfl⟩
abbrev main_v262 : Ref sig .tc := ⟨.hbm, 336, rfl⟩
abbrev main_v263 : Ref sig .tc := ⟨.hbm, 337, rfl⟩
abbrev main_cst_22 : Ref sig .tc := ⟨.hbm, 338, rfl⟩
abbrev main_v264 : Ref sig .tc := ⟨.hbm, 339, rfl⟩
abbrev main_v265 : Ref sig .tc := ⟨.hbm, 340, rfl⟩
abbrev main_v266 : Ref sig .tc := ⟨.hbm, 341, rfl⟩
abbrev main_v267 : Ref sig .tc := ⟨.hbm, 342, rfl⟩
abbrev main_v268 : Ref sig .tc := ⟨.hbm, 343, rfl⟩
abbrev main_v269 : Ref sig .tc := ⟨.hbm, 344, rfl⟩
abbrev main_v270 : Ref sig .tc := ⟨.hbm, 345, rfl⟩
abbrev main_v271 : Ref sig .tc := ⟨.hbm, 346, rfl⟩
abbrev main_v272 : Ref sig .tc := ⟨.hbm, 347, rfl⟩
abbrev main_v273 : Ref sig .tc := ⟨.hbm, 348, rfl⟩
abbrev main_v274 : Ref sig .tc := ⟨.hbm, 349, rfl⟩
abbrev main_v275 : Ref sig .tc := ⟨.hbm, 350, rfl⟩
abbrev main_v276 : Ref sig .tc := ⟨.hbm, 351, rfl⟩
abbrev main_v277 : Ref sig .tc := ⟨.hbm, 352, rfl⟩
abbrev main_v278 : Ref sig .tc := ⟨.hbm, 353, rfl⟩
abbrev main_v279 : Ref sig .tc := ⟨.hbm, 354, rfl⟩
abbrev main_v280 : Ref sig .tc := ⟨.hbm, 355, rfl⟩
abbrev main_v281 : Ref sig .tc := ⟨.hbm, 356, rfl⟩
abbrev main_v282 : Ref sig .tc := ⟨.hbm, 357, rfl⟩
abbrev main_v283 : Ref sig .tc := ⟨.hbm, 358, rfl⟩
abbrev main_cst_23 : Ref sig .tc := ⟨.hbm, 359, rfl⟩
abbrev main_v284 : Ref sig .tc := ⟨.hbm, 360, rfl⟩
abbrev main_v285 : Ref sig .tc := ⟨.hbm, 361, rfl⟩
abbrev main_v286 : Ref sig .tc := ⟨.hbm, 362, rfl⟩
abbrev main_v287 : Ref sig .tc := ⟨.hbm, 363, rfl⟩
abbrev main_v288 : Ref sig .tc := ⟨.hbm, 364, rfl⟩
abbrev main_v289 : Ref sig .tc := ⟨.hbm, 365, rfl⟩
abbrev main_v290 : Ref sig .tc := ⟨.hbm, 366, rfl⟩
abbrev main_v291 : Ref sig .tc := ⟨.hbm, 367, rfl⟩
abbrev main_cst_24 : Ref sig .tc := ⟨.hbm, 368, rfl⟩
abbrev main_call13_v0 : Ref sig .tc := ⟨.hbm, 369, rfl⟩
abbrev main_call13_v1 : Ref sig .tc := ⟨.hbm, 370, rfl⟩
abbrev main_call13_v2 : Ref sig .tc := ⟨.hbm, 371, rfl⟩
abbrev main_call13_v3 : Ref sig .tc := ⟨.hbm, 372, rfl⟩
abbrev main_v292 : Ref sig .tc := ⟨.hbm, 373, rfl⟩
abbrev main_cst_25 : Ref sig .tc := ⟨.hbm, 374, rfl⟩
abbrev main_v293 : Ref sig .tc := ⟨.hbm, 375, rfl⟩
abbrev main_v294 : Ref sig .tc := ⟨.hbm, 376, rfl⟩
abbrev main_v295 : Ref sig .tc := ⟨.hbm, 377, rfl⟩
abbrev main_v296 : Ref sig .tc := ⟨.hbm, 378, rfl⟩
abbrev main_v297 : Ref sig .tc := ⟨.hbm, 379, rfl⟩
abbrev main_v298 : Ref sig .tc := ⟨.hbm, 380, rfl⟩
abbrev main_v299 : Ref sig .tc := ⟨.hbm, 381, rfl⟩
abbrev main_v300 : Ref sig .tc := ⟨.hbm, 382, rfl⟩
abbrev main_v301 : Ref sig .tc := ⟨.hbm, 383, rfl⟩
abbrev main_cst_26 : Ref sig .tc := ⟨.hbm, 384, rfl⟩
abbrev main_call14_v0 : Ref sig .tc := ⟨.hbm, 385, rfl⟩
abbrev main_call14_v1 : Ref sig .tc := ⟨.hbm, 386, rfl⟩
abbrev main_call14_v2 : Ref sig .tc := ⟨.hbm, 387, rfl⟩
abbrev main_v302 : Ref sig .tc := ⟨.hbm, 388, rfl⟩
abbrev main_v303 : Ref sig .tc := ⟨.hbm, 389, rfl⟩
abbrev main_v304 : Ref sig .tc := ⟨.hbm, 390, rfl⟩
abbrev main_v305 : Ref sig .tc := ⟨.hbm, 391, rfl⟩
abbrev main_cst_27 : Ref sig .tc := ⟨.hbm, 392, rfl⟩
abbrev main_v306 : Ref sig .tc := ⟨.hbm, 393, rfl⟩
abbrev main_v307 : Ref sig .tc := ⟨.hbm, 394, rfl⟩
abbrev main_v308 : Ref sig .tc := ⟨.hbm, 395, rfl⟩
abbrev main_v309 : Ref sig .tc := ⟨.hbm, 396, rfl⟩
abbrev main_v310 : Ref sig .tc := ⟨.hbm, 397, rfl⟩
abbrev main_v311 : Ref sig .tc := ⟨.hbm, 398, rfl⟩
abbrev main_v312 : Ref sig .tc := ⟨.hbm, 399, rfl⟩
abbrev main_v313 : Ref sig .tc := ⟨.hbm, 400, rfl⟩
abbrev main_v314 : Ref sig .tc := ⟨.hbm, 401, rfl⟩
abbrev main_v315 : Ref sig .tc := ⟨.hbm, 402, rfl⟩
abbrev main_v316 : Ref sig .tc := ⟨.hbm, 403, rfl⟩
abbrev main_v317 : Ref sig .tc := ⟨.hbm, 404, rfl⟩
abbrev main_v318 : Ref sig .tc := ⟨.hbm, 405, rfl⟩
abbrev main_v319 : Ref sig .tc := ⟨.hbm, 406, rfl⟩
abbrev main_v320 : Ref sig .tc := ⟨.hbm, 407, rfl⟩
abbrev main_v321 : Ref sig .tc := ⟨.hbm, 408, rfl⟩
abbrev main_cst_28 : Ref sig .tc := ⟨.hbm, 409, rfl⟩
abbrev main_v322 : Ref sig .tc := ⟨.hbm, 410, rfl⟩
abbrev main_v323 : Ref sig .tc := ⟨.hbm, 411, rfl⟩
abbrev main_v324 : Ref sig .tc := ⟨.hbm, 412, rfl⟩
abbrev main_v325 : Ref sig .tc := ⟨.hbm, 413, rfl⟩
abbrev main_v326 : Ref sig .tc := ⟨.hbm, 414, rfl⟩
abbrev main_v327 : Ref sig .tc := ⟨.hbm, 415, rfl⟩
abbrev main_v328 : Ref sig .tc := ⟨.hbm, 416, rfl⟩
abbrev main_v329 : Ref sig .tc := ⟨.hbm, 417, rfl⟩
abbrev main_v330 : Ref sig .tc := ⟨.hbm, 418, rfl⟩
abbrev main_v331 : Ref sig .tc := ⟨.hbm, 419, rfl⟩
abbrev main_v332 : Ref sig .tc := ⟨.hbm, 420, rfl⟩
abbrev main_v333 : Ref sig .tc := ⟨.hbm, 421, rfl⟩
abbrev main_v334 : Ref sig .tc := ⟨.hbm, 422, rfl⟩
abbrev main_v335 : Ref sig .tc := ⟨.hbm, 423, rfl⟩
abbrev main_v336 : Ref sig .tc := ⟨.hbm, 424, rfl⟩
abbrev main_v337 : Ref sig .tc := ⟨.hbm, 425, rfl⟩
abbrev main_v338 : Ref sig .tc := ⟨.hbm, 426, rfl⟩
abbrev main_v339 : Ref sig .tc := ⟨.hbm, 427, rfl⟩
abbrev main_cst_29 : Ref sig .tc := ⟨.hbm, 428, rfl⟩
abbrev main_v340 : Ref sig .tc := ⟨.hbm, 429, rfl⟩
abbrev main_v341 : Ref sig .tc := ⟨.hbm, 430, rfl⟩
abbrev main_v342 : Ref sig .tc := ⟨.hbm, 431, rfl⟩
abbrev main_v343 : Ref sig .tc := ⟨.hbm, 432, rfl⟩
abbrev main_v344 : Ref sig .tc := ⟨.hbm, 433, rfl⟩
abbrev main_v345 : Ref sig .tc := ⟨.hbm, 434, rfl⟩
abbrev main_v346 : Ref sig .tc := ⟨.hbm, 435, rfl⟩
abbrev main_v347 : Ref sig .tc := ⟨.hbm, 436, rfl⟩
abbrev main_v348 : Ref sig .tc := ⟨.hbm, 437, rfl⟩
abbrev main_v349 : Ref sig .tc := ⟨.hbm, 438, rfl⟩
abbrev main_v350 : Ref sig .tc := ⟨.hbm, 439, rfl⟩
abbrev main_v351 : Ref sig .tc := ⟨.hbm, 440, rfl⟩
abbrev main_v352 : Ref sig .tc := ⟨.hbm, 441, rfl⟩
abbrev main_v353 : Ref sig .tc := ⟨.hbm, 442, rfl⟩
abbrev main_v354 : Ref sig .tc := ⟨.hbm, 443, rfl⟩
abbrev main_v355 : Ref sig .tc := ⟨.hbm, 444, rfl⟩
abbrev main_v356 : Ref sig .tc := ⟨.hbm, 445, rfl⟩
abbrev main_v357 : Ref sig .tc := ⟨.hbm, 446, rfl⟩
abbrev main_v358 : Ref sig .tc := ⟨.hbm, 447, rfl⟩
abbrev main_v359 : Ref sig .tc := ⟨.hbm, 448, rfl⟩
abbrev main_cst_30 : Ref sig .tc := ⟨.hbm, 449, rfl⟩
abbrev main_v360 : Ref sig .tc := ⟨.hbm, 450, rfl⟩
abbrev main_v361 : Ref sig .tc := ⟨.hbm, 451, rfl⟩
abbrev main_v362 : Ref sig .tc := ⟨.hbm, 452, rfl⟩
abbrev main_v363 : Ref sig .tc := ⟨.hbm, 453, rfl⟩
abbrev main_v364 : Ref sig .tc := ⟨.hbm, 454, rfl⟩
abbrev main_v365 : Ref sig .tc := ⟨.hbm, 455, rfl⟩
abbrev main_v366 : Ref sig .tc := ⟨.hbm, 456, rfl⟩
abbrev main_v367 : Ref sig .tc := ⟨.hbm, 457, rfl⟩
abbrev main_v368 : Ref sig .tc := ⟨.hbm, 458, rfl⟩
abbrev main_v369 : Ref sig .tc := ⟨.hbm, 459, rfl⟩
abbrev main_v370 : Ref sig .tc := ⟨.hbm, 460, rfl⟩
abbrev main_cst_31 : Ref sig .tc := ⟨.hbm, 461, rfl⟩
abbrev main_v371 : Ref sig .tc := ⟨.hbm, 462, rfl⟩
abbrev main_v372 : Ref sig .tc := ⟨.hbm, 463, rfl⟩
abbrev main_cst_32 : Ref sig .tc := ⟨.hbm, 464, rfl⟩
abbrev main_v373 : Ref sig .tc := ⟨.hbm, 465, rfl⟩
abbrev main_v374 : Ref sig .tc := ⟨.hbm, 466, rfl⟩
abbrev main_cst_33 : Ref sig .tc := ⟨.hbm, 467, rfl⟩
abbrev main_v375 : Ref sig .tc := ⟨.hbm, 468, rfl⟩
abbrev main_v376 : Ref sig .tc := ⟨.hbm, 469, rfl⟩
abbrev main_v377 : Ref sig .tc := ⟨.hbm, 470, rfl⟩
abbrev main_v378 : Ref sig .tc := ⟨.hbm, 471, rfl⟩
abbrev main_v379 : Ref sig .tc := ⟨.hbm, 472, rfl⟩
abbrev main_v380 : Ref sig .tc := ⟨.hbm, 473, rfl⟩
abbrev main_v381 : Ref sig .tc := ⟨.hbm, 474, rfl⟩
abbrev main_v382 : Ref sig .tc := ⟨.hbm, 475, rfl⟩
abbrev main_v383 : Ref sig .tc := ⟨.hbm, 476, rfl⟩
abbrev main_v384 : Ref sig .tc := ⟨.hbm, 477, rfl⟩
abbrev main_v385 : Ref sig .tc := ⟨.hbm, 478, rfl⟩
abbrev main_cst_34 : Ref sig .tc := ⟨.hbm, 479, rfl⟩
abbrev main_v386 : Ref sig .tc := ⟨.hbm, 480, rfl⟩
abbrev main_v387 : Ref sig .tc := ⟨.hbm, 481, rfl⟩
abbrev main_cst_35 : Ref sig .tc := ⟨.hbm, 482, rfl⟩
abbrev main_v388 : Ref sig .tc := ⟨.hbm, 483, rfl⟩
abbrev main_v389 : Ref sig .tc := ⟨.hbm, 484, rfl⟩
abbrev main_v390 : Ref sig .tc := ⟨.hbm, 485, rfl⟩
abbrev main_call16_v0 : Ref sig .tc := ⟨.hbm, 486, rfl⟩
abbrev main_call16_v1 : Ref sig .tc := ⟨.hbm, 487, rfl⟩
abbrev main_call16_cst : Ref sig .tc := ⟨.hbm, 488, rfl⟩
abbrev main_call16_v2 : Ref sig .tc := ⟨.hbm, 489, rfl⟩
abbrev main_call16_v3 : Ref sig .tc := ⟨.hbm, 490, rfl⟩
abbrev main_call16_cst_0 : Ref sig .tc := ⟨.hbm, 491, rfl⟩
abbrev main_call16_v4 : Ref sig .tc := ⟨.hbm, 492, rfl⟩
abbrev main_call16_v5 : Ref sig .tc := ⟨.hbm, 493, rfl⟩
abbrev main_v391 : Ref sig .tc := ⟨.hbm, 494, rfl⟩
abbrev main_v392 : Ref sig .tc := ⟨.hbm, 495, rfl⟩
abbrev main_v393 : Ref sig .tc := ⟨.hbm, 496, rfl⟩
abbrev main_cst_36 : Ref sig .tc := ⟨.hbm, 497, rfl⟩
abbrev main_v394 : Ref sig .tc := ⟨.hbm, 498, rfl⟩
abbrev main_v395 : Ref sig .tc := ⟨.hbm, 499, rfl⟩
abbrev main_v396 : Ref sig .tc := ⟨.hbm, 500, rfl⟩
abbrev main_v397 : Ref sig .tc := ⟨.hbm, 501, rfl⟩
abbrev main_v398 : Ref sig .tc := ⟨.hbm, 502, rfl⟩
abbrev main_v399 : Ref sig .tc := ⟨.hbm, 503, rfl⟩
abbrev main_v400 : Ref sig .tc := ⟨.hbm, 504, rfl⟩

abbrev nD : Nat := 1
abbrev τ : Topo := Topo.v7x

variable {F : FTy → Type} [FloatOps F]
-- ==== Modul.lean ====
abbrev S1024 : Shape := ⟨1, ![1024]⟩
abbrev S2x1024 : Shape := ⟨2, ![2, 1024]⟩
abbrev S4x1024x3072 : Shape := ⟨3, ![4, 1024, 3072]⟩
abbrev S4x3072 : Shape := ⟨2, ![4, 3072]⟩
abbrev S_ : Shape := ⟨0, ![]⟩
abbrev S8x1024 : Shape := ⟨2, ![8, 1024]⟩
abbrev S1 : Shape := ⟨1, ![1]⟩
abbrev S4x1x3072 : Shape := ⟨3, ![4, 1, 3072]⟩
abbrev S4x8x3072 : Shape := ⟨3, ![4, 8, 3072]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S1024, .f32⟩
  | .hbm, ⟨1, _⟩ => ⟨S2x1024, .f32⟩
  | .hbm, ⟨2, _⟩ => ⟨S4x1024x3072, .f32⟩
  | .hbm, ⟨3, _⟩ => ⟨S4x3072, .f32⟩
  | .hbm, ⟨4, _⟩ => ⟨S_, .f32⟩
  | .hbm, ⟨5, _⟩ => ⟨S8x1024, .f32⟩
  | .hbm, ⟨6, _⟩ => ⟨S_, .i32⟩
  | .hbm, ⟨7, _⟩ => ⟨S1, .i32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S4x1x3072, .f32⟩
  | .hbm, ⟨13, _⟩ => ⟨S4x8x3072, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulRefIdeal.lean ====
abbrev S1024 : Shape := ⟨1, ![1024]⟩
abbrev S2x1024 : Shape := ⟨2, ![2, 1024]⟩
abbrev S4x1024x3072 : Shape := ⟨3, ![4, 1024, 3072]⟩
abbrev S4x3072 : Shape := ⟨2, ![4, 3072]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1x1024x3072 : Shape := ⟨3, ![1, 1024, 3072]⟩
abbrev S1024x3072 : Shape := ⟨2, ![1024, 3072]⟩
abbrev S8x3072 : Shape := ⟨2, ![8, 3072]⟩
abbrev S1x3072 : Shape := ⟨2, ![1, 3072]⟩
abbrev S3072 : Shape := ⟨1, ![3072]⟩
abbrev S1x8x3072 : Shape := ⟨3, ![1, 8, 3072]⟩
abbrev S4x8x3072 : Shape := ⟨3, ![4, 8, 3072]⟩

abbrev nBuf : Space → Nat
  | .hbm => 81
  | .vmem => 0
  | .smem => 0
  | _ => 0

abbrev bufTy : (tb : Table) → Fin (tcTables nBuf tb) → BufTy
  | .hbm, ⟨0, _⟩ => ⟨S1024, .f32⟩
  | .hbm, ⟨1, _⟩ => ⟨S2x1024, .f32⟩
  | .hbm, ⟨2, _⟩ => ⟨S4x1024x3072, .f32⟩
  | .hbm, ⟨3, _⟩ => ⟨S4x3072, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1x1024x3072, .f32⟩
  | .hbm, ⟨18, _⟩ => ⟨S1024x3072, .f32⟩
  | .hbm, ⟨19, _⟩ => ⟨S8x3072, .f32⟩
  | .hbm, ⟨20, _⟩ => ⟨S1x3072, .f32⟩
  | .hbm, ⟨21, _⟩ => ⟨S3072, .f32⟩
  | .hbm, ⟨22, _⟩ => ⟨S1x3072, .f32⟩
  | .hbm, ⟨23, _⟩ => ⟨S8x3072, .f32⟩
  | .hbm, ⟨24, _⟩ => ⟨S8x3072, .f32⟩
  | .hbm, ⟨25, _⟩ => ⟨S8x1024, .f32⟩
  | .hbm, ⟨26, _⟩ => ⟨S8x1024, .f32⟩
  | .hbm, ⟨27, _⟩ => ⟨S_, .f32⟩
  | .hbm, ⟨28, _⟩ => ⟨S8x1024, .f32⟩
  | .hbm, ⟨29, _⟩ => ⟨S8x1024, .f32⟩
  | .hbm, ⟨30, _⟩ => ⟨S_, .f32⟩
  | .hbm, ⟨31, _⟩ => ⟨S8x1024, .f32⟩
  | .hbm, ⟨32, _⟩ => ⟨S8x1024, .f32⟩
  | .hbm, ⟨33, _⟩ => ⟨S8x1024, .f32⟩
  | .hbm, ⟨34, _⟩ => ⟨S1x1024x3072, .f32⟩
  | .hbm, ⟨35, _⟩ => ⟨S1024x3072, .f32⟩
  | .hbm, ⟨36, _⟩ => ⟨S8x3072, .f32⟩
  | .hbm, ⟨37, _⟩ => ⟨S1x3072, .f32⟩
  | .hbm, ⟨38, _⟩ => ⟨S3072, .f32⟩
  | .hbm, ⟨39, _⟩ => ⟨S1x3072, .f32⟩
  | .hbm, ⟨40, _⟩ => ⟨S8x3072, .f32⟩
  | .hbm, ⟨41, _⟩ => ⟨S8x3072, .f32⟩
  | .hbm, ⟨42, _⟩ => ⟨S8x1024, .f32⟩
  | .hbm, ⟨43, _⟩ => ⟨S8x1024, .f32⟩
  | .hbm, ⟨44, _⟩ => ⟨S_, .f32⟩
  | .hbm, ⟨45, _⟩ => ⟨S8x1024, .f32⟩
  | .hbm, ⟨46, _⟩ => ⟨S8x1024, .f32⟩
  | .hbm, ⟨47, _⟩ => ⟨S_, .f32⟩
  | .hbm, ⟨48, _⟩ => ⟨S8x1024, .f32⟩
  | .hbm, ⟨49, _⟩ => ⟨S8x1024, .f32⟩
  | .hbm, ⟨50, _⟩ => ⟨S8x1024, .f32⟩
  | .hbm, ⟨51, _⟩ => ⟨S1x1024x3072, .f32⟩
  | .hbm, ⟨52, _⟩ => ⟨S1024x3072, .f32⟩
  | .hbm, ⟨53, _⟩ => ⟨S8x3072, .f32⟩
  | .hbm, ⟨54, _⟩ => ⟨S1x3072, .f32⟩
  | .hbm, ⟨55, _⟩ => ⟨S3072, .f32⟩
  | .hbm, ⟨56, _⟩ => ⟨S1x3072, .f32⟩
  | .hbm, ⟨57, _⟩ => ⟨S8x3072, .f32⟩
  | .hbm, ⟨58, _⟩ => ⟨S8x3072, .f32⟩
  | .hbm, ⟨59, _⟩ => ⟨S8x1024, .f32⟩
  | .hbm, ⟨60, _⟩ => ⟨S8x1024, .f32⟩
  | .hbm, ⟨61, _⟩ => ⟨S_, .f32⟩
  | .hbm, ⟨62, _⟩ => ⟨S8x1024, .f32⟩
  | .hbm, ⟨63, _⟩ => ⟨S8x1024, .f32⟩
  | .hbm, ⟨64, _⟩ => ⟨S_, .f32⟩
  | .hbm, ⟨65, _⟩ => ⟨S8x1024, .f32⟩
  | .hbm, ⟨66, _⟩ => ⟨S8x1024, .f32⟩
  | .hbm, ⟨67, _⟩ => ⟨S8x1024, .f32⟩
  | .hbm, ⟨68, _⟩ => ⟨S1x1024x3072, .f32⟩
  | .hbm, ⟨69, _⟩ => ⟨S1024x3072, .f32⟩
  | .hbm, ⟨70, _⟩ => ⟨S8x3072, .f32⟩
  | .hbm, ⟨71, _⟩ => ⟨S1x3072, .f32⟩
  | .hbm, ⟨72, _⟩ => ⟨S3072, .f32⟩
  | .hbm, ⟨73, _⟩ => ⟨S1x3072, .f32⟩
  | .hbm, ⟨74, _⟩ => ⟨S8x3072, .f32⟩
  | .hbm, ⟨75, _⟩ => ⟨S8x3072, .f32⟩
  | .hbm, ⟨76, _⟩ => ⟨S1x8x3072, .f32⟩
  | .hbm, ⟨77, _⟩ => ⟨S1x8x3072, .f32⟩
  | .hbm, ⟨78, _⟩ => ⟨S1x8x3072, .f32⟩
  | .hbm, ⟨79, _⟩ => ⟨S1x8x3072, .f32⟩
  | .hbm, ⟨80, _⟩ => ⟨S4x8x3072, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_call2_v0 : Ref sig .tc := ⟨.hbm, 42, rfl⟩
abbrev main_call2_v1 : Ref sig .tc := ⟨.hbm, 43, rfl⟩
abbrev main_call2_cst : Ref sig .tc := ⟨.hbm, 44, rfl⟩
abbrev main_call2_v2 : Ref sig .tc := ⟨.hbm, 45, rfl⟩
abbrev main_call2_v3 : Ref sig .tc := ⟨.hbm, 46, rfl⟩
abbrev main_call2_cst_0 : Ref sig .tc := ⟨.hbm, 47, rfl⟩
abbrev main_call2_v4 : Ref sig .tc := ⟨.hbm, 48, rfl⟩
abbrev main_call2_v5 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_call3_v0 : Ref sig .tc := ⟨.hbm, 59, rfl⟩
abbrev main_call3_v1 : Ref sig .tc := ⟨.hbm, 60, rfl⟩
abbrev main_call3_cst : Ref sig .tc := ⟨.hbm, 61, rfl⟩
abbrev main_call3_v2 : Ref sig .tc := ⟨.hbm, 62, rfl⟩
abbrev main_call3_v3 : Ref sig .tc := ⟨.hbm, 63, rfl⟩
abbrev main_call3_cst_0 : Ref sig .tc := ⟨.hbm, 64, rfl⟩
abbrev main_call3_v4 : Ref sig .tc := ⟨.hbm, 65, rfl⟩
abbrev main_call3_v5 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩

abbrev nD : Nat := 1
abbrev τ : Topo := Topo.v7x

variable {F : FTy → Type} [FloatOps F]
-- ==== Proof.Spec.lean ====
module
public import Idealize.ShloMosaic.Lib.Pointwise
/-! The retention of one window of 256 positions and one head, as plain sums over the extended reals.
Both programs are shown to compute these. -/
@[expose] public section
set_option maxRecDepth 16384
noncomputable section
open Idealize.ShloMosaic
namespace Cert.Retention

/-- The logarithm of the sigmoid of `x`, written as `-(max (-x) 0 + log (1 + exp (-|x|)))`. -/
def logSig (x : EReal) : EReal :=
  0 - (max (0 - x) 0 + Ideal.log (1 + Ideal.exp (0 - max (0 - x) (-(0 - x)))))

/-- The decay over `n` steps at logarithmic rate `g`. -/
def decay (g : EReal) (n : ℕ) : EReal := Ideal.exp (((n : ℝ) : EReal) * g)

/-- The decay with which position `t` sees the earlier position `s`; later positions are unseen. -/
def seenF (g : EReal) (t s : Fin 256) : EReal := if (s : ℕ) ≤ t then decay g (t - s) else 0

/-- The decay with which position `t` sees the later position `s`; earlier positions are unseen. -/
def seenB (g : EReal) (t s : Fin 256) : EReal := if (t : ℕ) ≤ s then decay g (s - t) else 0

/-- The output of one direction: scores times decay, times values. -/
def outp (M : Fin 256 → Fin 256 → EReal) (q k : Fin 256 → Fin 128 → EReal) (v : Fin 256 → Fin 256 → EReal)
    (t j : Fin 256) : EReal :=
  ∑ s, (∑ d, q t d * k s d) * M t s * v s j

/-- The state of one direction: keys times decay, times values. -/
def stat (D : Fin 256 → EReal) (k : Fin 256 → Fin 128 → EReal) (v : Fin 256 → Fin 256 → EReal)
    (d : Fin 128) (j : Fin 256) : EReal :=
  ∑ s, k s d * D s * v s j

/-- A row divided by its root mean square, gated by the sigmoid-weighted `z`. -/
def gated (o z : Fin 256 → EReal) (j : Fin 256) : EReal :=
  o j * Ideal.rsqrt (Ideal.div (∑ i, o i * o i) (Ideal.ofBits .f32 0x43800000#32) + Ideal.ofBits .f32 0x358637BD#32)
    * (z j * Ideal.div 1 (1 + Ideal.exp (0 - z j)))

/-- The logarithm of the sigmoid is not positive. -/
theorem logSig_nonpos (x : EReal) : logSig x ≤ 0 := by
  have he : ∀ y : EReal, 0 ≤ Ideal.exp y := fun y => by
    induction y using EReal.rec with
    | bot => exact le_rfl
    | coe r => exact EReal.coe_nonneg.mpr (Real.exp_pos r).le
    | top => exact le_top
  have hl : ∀ y : EReal, 1 ≤ y → 0 ≤ Ideal.log y := fun y hy => by
    induction y using EReal.rec with
    | bot => exact absurd (le_bot_iff.mp hy) (EReal.coe_ne_bot 1)
    | coe r =>
      have hr : (1 : ℝ) ≤ r := by exact_mod_cast hy
      show 0 ≤ (if r ≤ 0 then (⊥ : EReal) else (Real.log r : EReal))
      rw [if_neg (by linarith)]
      exact EReal.coe_nonneg.mpr (Real.log_nonneg hr)
    | top => exact le_top
  have h : 0 ≤ max (0 - x) 0 + Ideal.log (1 + Ideal.exp (0 - max (0 - x) (-(0 - x)))) :=
    add_nonneg (le_max_right _ _) (hl _ (le_add_of_nonneg_right (he _)))
  unfold logSig
  rw [zero_sub]
  exact EReal.neg_le_neg_iff.mp (by rwa [neg_neg, neg_zero])

/-! The window `n` (256 positions) and the head `h` of the projected queries, keys, values and gates. -/

/-- The projected layer input: queries, keys, values and gates side by side. -/
abbrev Proj : Type := (⟨2, ![8192, 6144]⟩ : Shape).Idx → EReal
/-- The decay logits, per direction and head. -/
abbrev Logits : Type := (⟨2, ![2, 4]⟩ : Shape).Idx → EReal

/-- The scale of the keys, `128 ^ (-1/2)` rounded. -/
abbrev kscale : EReal := Ideal.ofBits .f32 0x3DB504F3#32

/-- The queries. -/
def qOf (X : Proj) (n : Fin 32) (h : Fin 4) (t : Fin 256) (d : Fin 128) : EReal :=
  X (ix2 (⟨256 * n + t, by omega⟩ : Fin 8192) (⟨128 * h + d, by omega⟩ : Fin 6144))
/-- The scaled keys. -/
def kOf (X : Proj) (n : Fin 32) (h : Fin 4) (t : Fin 256) (d : Fin 128) : EReal :=
  X (ix2 (⟨256 * n + t, by omega⟩ : Fin 8192) (⟨512 + (128 * h + d), by omega⟩ : Fin 6144)) * kscale
/-- The values. -/
def vOf (X : Proj) (n : Fin 32) (h : Fin 4) (t : Fin 256) (j : Fin 256) : EReal :=
  X (ix2 (⟨256 * n + t, by omega⟩ : Fin 8192) (⟨1024 + (256 * h + j), by omega⟩ : Fin 6144))
/-- The gates. -/
def zOf (X : Proj) (n : Fin 32) (h : Fin 4) (t : Fin 256) (j : Fin 256) : EReal :=
  X (ix2 (⟨256 * n + t, by omega⟩ : Fin 8192) (⟨2048 + (256 * h + j), by omega⟩ : Fin 6144))

/-- The sum of the two directions' outputs. -/
def both (X : Proj) (L : Logits) (n : Fin 32) (h : Fin 4) (t j : Fin 256) : EReal :=
  outp (seenF (logSig (L (ix2 0 h)))) (qOf X n h) (kOf X n h) (vOf X n h) t j
    + outp (seenB (logSig (L (ix2 1 h)))) (qOf X n h) (kOf X n h) (vOf X n h) t j

/-- The first result: the gated rows. -/
def resY (X : Proj) (L : Logits) (i : (⟨2, ![8192, 1024]⟩ : Shape).Idx) : EReal :=
  gated (both X L ⟨(i 0 : ℕ) / 256, by have h : (i 0 : ℕ) < 8192 := (i 0).isLt; omega⟩
      ⟨(i 1 : ℕ) / 256, by have h : (i 1 : ℕ) < 1024 := (i 1).isLt; omega⟩ ⟨(i 0 : ℕ) % 256, by omega⟩)
    (zOf X ⟨(i 0 : ℕ) / 256, by have h : (i 0 : ℕ) < 8192 := (i 0).isLt; omega⟩
      ⟨(i 1 : ℕ) / 256, by have h : (i 1 : ℕ) < 1024 := (i 1).isLt; omega⟩ ⟨(i 0 : ℕ) % 256, by omega⟩)
    ⟨(i 1 : ℕ) % 256, by omega⟩

/-- One direction's final state: the earlier direction decays towards the window's end, the later one towards its start. -/
def fin (X : Proj) (L : Logits) (n : Fin 32) (r : Fin 2) (h : Fin 4) (d : Fin 128) (j : Fin 256) : EReal :=
  stat (fun s => decay (logSig (L (ix2 r h))) (if (r : ℕ) = 0 then 255 - s else s)) (kOf X n h) (vOf X n h) d j

/-- The second result: the two directions' states in the first slot, zeros in the second. -/
def resS (X : Proj) (L : Logits) (i : (⟨6, ![32, 2, 2, 4, 128, 256]⟩ : Shape).Idx) : EReal :=
  if (i 1 : ℕ) = 0 then fin X L (i 0) (i 2) (i 3) (i 4) (i 5) else 0

/-- `resY` at the index of window `n`, head `h`, position `t` and column `j`. -/
theorem resY_at (X : Proj) (L : Logits) (i : (⟨2, ![8192, 1024]⟩ : Shape).Idx) (n : Fin 32) (h : Fin 4) (t j : Fin 256)
    (h0 : (i 0 : ℕ) = 256 * n + t) (h1 : (i 1 : ℕ) = 256 * h + j) :
    resY X L i = gated (both X L n h t) (zOf X n h t) j := by
  have e0 : (⟨(i 0 : ℕ) / 256, by have h : (i 0 : ℕ) < 8192 := (i 0).isLt; omega⟩ : Fin 32) = n := Fin.ext (by show _ / 256 = _; omega)
  have e1 : (⟨(i 1 : ℕ) / 256, by have h : (i 1 : ℕ) < 1024 := (i 1).isLt; omega⟩ : Fin 4) = h := Fin.ext (by show _ / 256 = _; omega)
  have e2 : (⟨(i 0 : ℕ) % 256, by omega⟩ : Fin 256) = t := Fin.ext (by show _ % 256 = _; omega)
  have e3 : (⟨(i 1 : ℕ) % 256, by omega⟩ : Fin 256) = j := Fin.ext (by show _ % 256 = _; omega)
  unfold resY
  rw [e0, e1, e2, e3]

/-- The gated row of a window from any blocks that hold its queries, keys, values and gates. -/
theorem resY_point (X : Proj) (L : Logits) (i : (⟨2, ![8192, 1024]⟩ : Shape).Idx) (n : Fin 32) (h : Fin 4) (t j : Fin 256)
    (h0 : (i 0 : ℕ) = 256 * n + t) (h1 : (i 1 : ℕ) = 256 * h + j)
    (q k : Fin 256 → Fin 128 → EReal) (v : Fin 256 → Fin 256 → EReal) (z : Fin 256 → EReal) (a b : EReal)
    (hq : ∀ t d, q t d = qOf X n h t d) (hk : ∀ t d, k t d = kOf X n h t d) (hv : ∀ t d, v t d = vOf X n h t d)
    (hz : ∀ j, z j = zOf X n h t j) (ha : a = L (ix2 0 h)) (hb : b = L (ix2 1 h)) :
    gated (fun j => outp (seenF (logSig a)) q k v t j + outp (seenB (logSig b)) q k v t j) z j = resY X L i := by
  rw [resY_at X L i n h t j h0 h1]
  obtain rfl : q = qOf X n h := funext fun t => funext fun d => hq t d
  obtain rfl : k = kOf X n h := funext fun t => funext fun d => hk t d
  obtain rfl : v = vOf X n h := funext fun t => funext fun d => hv t d
  obtain rfl : z = zOf X n h t := funext fun j => hz j
  subst ha hb
  rfl

/-- The state of a window from any blocks that hold its keys and values. -/
theorem resS_point (X : Proj) (L : Logits) (i : (⟨6, ![32, 2, 2, 4, 128, 256]⟩ : Shape).Idx) (n : Fin 32) (r : Fin 2) (h : Fin 4)
    (d : Fin 128) (j : Fin 256) (h0 : (i 0 : ℕ) = n) (h1 : (i 1 : ℕ) = 0) (h2 : (i 2 : ℕ) = r) (h3 : (i 3 : ℕ) = h)
    (h4 : (i 4 : ℕ) = d) (h5 : (i 5 : ℕ) = j) (D : Fin 256 → EReal)
    (k : Fin 256 → Fin 128 → EReal) (v : Fin 256 → Fin 256 → EReal)
    (hk : ∀ t d, k t d = kOf X n h t d) (hv : ∀ t d, v t d = vOf X n h t d)
    (hD : ∀ s : Fin 256, D s = decay (logSig (L (ix2 r h))) (if (r : ℕ) = 0 then 255 - s else s)) :
    stat D k v d j = resS X L i := by
  obtain rfl : n = i 0 := Fin.ext h0.symm
  obtain rfl : r = i 2 := Fin.ext h2.symm
  obtain rfl : h = i 3 := Fin.ext h3.symm
  obtain rfl : d = i 4 := Fin.ext h4.symm
  obtain rfl : j = i 5 := Fin.ext h5.symm
  obtain rfl : k = kOf X (i 0) (i 3) := funext fun t => funext fun d => hk t d
  obtain rfl : v = vOf X (i 0) (i 3) := funext fun t => funext fun d => hv t d
  obtain rfl := funext hD
  unfold resS
  rw [if_pos h1]
  rfl

/-- The second slot of the states is zero. -/
theorem resS_zero (X : Proj) (L : Logits) (i : (⟨6, ![32, 2, 2, 4, 128, 256]⟩ : Shape).Idx) (h1 : (i 1 : ℕ) = 1) :
    (0 : EReal) = resS X L i := by
  unfold resS
  rw [if_neg (by omega)]

end Cert.Retention
end
-- ==== Proof.Chunks.lean ====
module
public import proofs.«01_k».proof.Proof.Spec
/-! The recurrence over chunks of 64 positions, its decay, and its second direction. -/
@[expose] public section
set_option maxRecDepth 16384
noncomputable section
open Idealize.ShloMosaic
namespace Cert.Retention

/-! ### The recurrence -/

/-- Position `l` of chunk `c`. -/
def at64 (c : Fin 4) (l : Fin 64) : Fin 256 := ⟨64 * c + l, by omega⟩

/-- One chunk's output from the state `R` before it. -/
def chunkOut (g : EReal) (q k : Fin 256 → Fin 128 → EReal) (v : Fin 256 → Fin 256 → EReal) (c : Fin 4)
    (R : Fin 128 → Fin 256 → EReal) (l : Fin 64) (j : Fin 256) : EReal :=
  (∑ s : Fin 64, (∑ d, q (at64 c l) d * k (at64 c s) d) * (if (s : ℕ) ≤ l then decay g (l - s) else 0) * v (at64 c s) j)
    + ∑ d, q (at64 c l) d * decay g (l + 1) * R d j

/-- The state after a chunk from the state `R` before it. -/
def chunkState (g : EReal) (k : Fin 256 → Fin 128 → EReal) (v : Fin 256 → Fin 256 → EReal) (c : Fin 4)
    (R : Fin 128 → Fin 256 → EReal) (d : Fin 128) (j : Fin 256) : EReal :=
  decay g 64 * R d j + ∑ s : Fin 64, k (at64 c s) d * decay g (63 - s) * v (at64 c s) j

/-- The state before chunk `n`. -/
def before (g : EReal) (k : Fin 256 → Fin 128 → EReal) (v : Fin 256 → Fin 256 → EReal) : ℕ → Fin 128 → Fin 256 → EReal
  | 0 => fun _ _ => 0
  | n + 1 => chunkState g k v (Fin.ofNat 4 n) (before g k v n)

/-! ### The decay -/

theorem exp_coe (r : ℝ) : Ideal.exp (r : EReal) = (Real.exp r : EReal) := rfl

/-- At a rate that is not positive the decay is a real number, not negative and multiplicative in the steps. -/
theorem decay_real (g : EReal) (hg : g ≤ 0) :
    ∃ a : ℕ → ℝ, (∀ n, decay g n = (a n : EReal)) ∧ (∀ n, 0 ≤ a n) ∧ ∀ m n, a (m + n) = a m * a n := by
  induction g using EReal.rec with
  | bot =>
    refine ⟨fun n => if n = 0 then 1 else 0, fun n => ?_, fun n => by beta_reduce; split <;> norm_num, fun m n => ?_⟩
    · unfold decay
      rcases Nat.eq_zero_or_pos n with rfl | hn
      · have : (((0 : ℕ) : ℝ) : EReal) * ⊥ = ((0 : ℝ) : EReal) := by simp
        rw [this, exp_coe]; simp
      · rw [EReal.coe_mul_bot_of_pos (by exact_mod_cast hn)]
        have h : ¬(n = 0) := by omega
        simp only [if_neg h]
        rfl
    · rcases Nat.eq_zero_or_pos m with rfl | hm
      · simp
      · have h1 : ¬(m + n = 0) := by omega
        have h2 : ¬(m = 0) := by omega
        simp [h2]
  | coe r =>
    refine ⟨fun n => Real.exp (n * r), fun n => ?_, fun n => (Real.exp_pos _).le, fun m n => ?_⟩
    · unfold decay
      rw [← EReal.coe_mul, exp_coe]
    · rw [← Real.exp_add]; push_cast; ring_nf
  | top => simp at hg

/-- The cast of a finite sum of reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- A family of real numbers among the extended reals, continued beyond its range. -/
theorem lift_real {β : Type} (f : Fin 256 → β → EReal) (hf : ∀ t d, ∃ x : ℝ, f t d = x) :
    ∃ f' : ℕ → β → ℝ, ∀ t d, f t d = (f' t d : EReal) := by
  choose f0 h0 using hf
  exact ⟨fun n d => if h : n < 256 then f0 ⟨n, h⟩ d else 0, fun t d => by simp [h0]⟩

section Turn
variable (g : EReal) (q k : Fin 256 → Fin 128 → EReal) (v : Fin 256 → Fin 256 → EReal)

/-! ### The other direction -/

/-- The forward sums over the reversed window are the backward sums. -/
theorem outp_rev (t j : Fin 256) :
    outp (seenF g) (fun t => q t.rev) (fun t => k t.rev) (fun t => v t.rev) t.rev j = outp (seenB g) q k v t j := by
  unfold outp
  rw [← Equiv.sum_comp Fin.revPerm]
  refine Finset.sum_congr rfl fun s _ => ?_
  have e : seenF g t.rev (Fin.revPerm s) = seenB g t s := by
    unfold seenF seenB
    have ht := t.isLt
    have hs := s.isLt
    simp only [Fin.revPerm_apply, Fin.val_rev]
    by_cases h : (t : ℕ) ≤ s
    · rw [if_pos h, if_pos (by omega)]
      congr 1; omega
    · rw [if_neg h, if_neg (by omega)]
  rw [e]
  simp only [Fin.revPerm_apply, Fin.rev_rev]

/-- The forward state over the reversed window is the backward state. -/
theorem stat_rev (d : Fin 128) (j : Fin 256) :
    stat (fun s => decay g (255 - s)) (fun t => k t.rev) (fun t => v t.rev) d j = stat (fun s => decay g s) k v d j := by
  unfold stat
  rw [← Equiv.sum_comp Fin.revPerm]
  refine Finset.sum_congr rfl fun s _ => ?_
  have hs := s.isLt
  have e : 255 - ((Fin.revPerm s : Fin 256) : ℕ) = s := by
    simp only [Fin.revPerm_apply, Fin.val_rev]; omega
  beta_reduce
  rw [e]
  simp only [Fin.revPerm_apply, Fin.rev_rev]
end Turn

end Cert.Retention
end
-- ==== Proof.RefInputs.lean ====
module
public import proofs.«01_k».proof.Proof.Gen.ReferenceIdeal.Read
public import proofs.«01_k».proof.Proof.Chunks
public import Idealize.ShloMosaic.Lib.WordCmp
/-! What the reference reads: queries, keys and values in the order of each direction, and the decays. -/
@[expose] public section
set_option maxRecDepth 16384
noncomputable section
open Idealize.ShloMosaic Idealize.ShloMosaic.TcCoe Idealize.SL.Sem
namespace Cert.ReferenceIdeal.Stages
open Cert.ReferenceIdeal Cert.ReferenceIdeal.Gen Cert.ReferenceIdeal.Read Cert.Retention
variable (X : FVec Ideal S8192x6144 .f32) (L : FVec Ideal S2x4 .f32)

/-- The position that direction `r` visits at its step `t`. -/
def visit (r : Fin 2) (t : Fin 256) : Fin 256 := if (r : ℕ) = 0 then t else t.rev

/-- The queries in the order of direction `r`. -/
theorem q_at (n : Fin 32) (r : Fin 2) (h : Fin 4) (t : Fin 256) (d : Fin 128) :
    val_main_v16 (F := Ideal) X (ix5 n r h t d) = qOf X n h (visit r t) d := by
  pointwise [val_main_v16, val_main_v15, val_main_v14, val_main_v13, val_main_v5, val_main_v4, val_main_v0]
  unfold qOf visit
  by_cases hr : (r : ℕ) < 1
  · rw [dif_pos hr, if_pos (by omega)]
    congr 2 <;> exact Fin.ext (by simp only []; omega)
  · rw [dif_neg hr, if_neg (by omega)]
    congr 2 <;> exact Fin.ext (by simp; omega)

/-- The scaled keys in the order of direction `r`. -/
theorem k_at (n : Fin 32) (r : Fin 2) (h : Fin 4) (t : Fin 256) (d : Fin 128) :
    val_main_v20 (F := Ideal) X (ix5 n r h t d) = kOf X n h (visit r t) d := by
  pointwise [val_main_v20, val_main_v19, val_main_v18, val_main_v17, val_main_v9, val_main_v8, val_main_cst, val_main_v7, val_main_v6, val_main_v1]
  unfold kOf visit
  by_cases hr : (r : ℕ) < 1
  · rw [dif_pos hr, if_pos (by omega)]
    refine congrArg (· * _) ?_
    congr 2 <;> exact Fin.ext (by simp only []; omega)
  · rw [dif_neg hr, if_neg (by omega)]
    refine congrArg (· * _) ?_
    congr 2 <;> exact Fin.ext (by simp; omega)

/-- The values in the order of direction `r`. -/
theorem v_at (n : Fin 32) (r : Fin 2) (h : Fin 4) (t : Fin 256) (j : Fin 256) :
    val_main_v24 (F := Ideal) X (ix5 n r h t j) = vOf X n h (visit r t) j := by
  pointwise [val_main_v24, val_main_v23, val_main_v22, val_main_v21, val_main_v11, val_main_v10, val_main_v2]
  unfold vOf visit
  by_cases hr : (r : ℕ) < 1
  · rw [dif_pos hr, if_pos (by omega)]
    congr 2 <;> exact Fin.ext (by simp only []; omega)
  · rw [dif_neg hr, if_neg (by omega)]
    congr 2 <;> exact Fin.ext (by simp; omega)

/-- The logarithmic rate of direction `r` and head `h`. -/
theorem rate_at (r : Fin 2) (h : Fin 4) :
    val_main_v12 (F := Ideal) L (ix2 r h) = logSig (L (ix2 r h)) := by
  pointwise [val_main_v12, val_main_call0_v1, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v0]
  rw [if_neg (fun e => e rfl)]
  show -(max (-L (ix2 r h)) 0 + Ideal.log (1 + Ideal.exp (-max (-L (ix2 r h)) (- -L (ix2 r h))))) = _
  unfold logSig
  simp only [zero_sub, sub_zero]

theorem word_small (n : ℕ) (h : n < 1000) :
    FloatOps.sitofp (F := Ideal) FTy.f32 (BitVec.ofNat 32 n) = ((n : ℝ) : EReal) := by
  show (((BitVec.ofNat 32 n).toInt : ℝ) : EReal) = _
  have : (BitVec.ofNat 32 n).toInt = n := by
    rw [BitVec.toInt_eq_toNat_of_lt] <;> simp <;> omega
  rw [this]; simp

theorem c63 : Ideal.ofBits .f32 0x427C0000#32 = ((63 : ℝ) : EReal) := by
  simp [Ideal.ofBits, Ideal.ieee, -EReal.coe_mul]; norm_num

theorem c64 : Ideal.ofBits .f32 0x42800000#32 = ((64 : ℝ) : EReal) := by
  simp [Ideal.ofBits, Ideal.ieee, -EReal.coe_mul]; norm_num

/-- The decay between two positions of one chunk. -/
theorem mask_at (r : Fin 2) (h : Fin 4) (l s : Fin 64) :
    val_main_v44 (F := Ideal) L (ix4 r h l s) = if (s : ℕ) ≤ l then decay (logSig (L (ix2 r h))) (l - s) else 0 := by
  have hl := l.isLt
  have hs := s.isLt
  rw [← rate_at]
  pointwise [val_main_v44, val_main_call4_v2, val_main_call4_v1, val_main_call4_v0, val_main_cst_3, val_main_v43, val_main_v42, val_main_v41, val_main_v40, val_main_v39, val_main_v38, val_main_v37, val_main_v36, val_main_cst_2, val_main_v35, val_main_v34, val_main_v33, val_main_v32, val_main_v31, val_main_v30, val_main_v29, val_main_v28, val_main_v27, val_main_v26, val_main_cst_1]
  rw [word_small _ (by omega), word_small _ (by omega), ← EReal.coe_sub]
  by_cases e : (s : ℕ) ≤ l
  · have e' : (0 : ℝ) ≤ (l : ℝ) - (s : ℝ) := sub_nonneg.mpr (by exact_mod_cast e)
    rw [if_pos (EReal.coe_nonneg.mpr e'), if_pos e, max_eq_left (EReal.coe_nonneg.mpr e'), decay, Nat.cast_sub e]
  · have e' : ¬ (0 : ℝ) ≤ (l : ℝ) - (s : ℝ) := fun h => e (by exact_mod_cast sub_nonneg.mp h)
    rw [if_neg (fun h => e' (EReal.coe_nonneg.mp h)), if_neg e]
    exact Ideal.ofBits_zero_f32

/-- The decay from a chunk's start to its position `l`. -/
theorem qdec_at (r : Fin 2) (h : Fin 4) (l : Fin 64) :
    val_main_v51 (F := Ideal) L (ix3 r h l) = decay (logSig (L (ix2 r h))) (l + 1) := by
  have hl := l.isLt
  rw [← rate_at]
  pointwise [val_main_v51, val_main_v50, val_main_v49, val_main_v48, val_main_v47, val_main_v46, val_main_v45, val_main_cst_4, val_main_v28, val_main_v27, val_main_v26]
  rw [word_small _ (by omega), decay]
  push_cast
  rfl

/-- The decay from position `l` to a chunk's end. -/
theorem kdec_at (r : Fin 2) (h : Fin 4) (l : Fin 64) :
    val_main_v58 (F := Ideal) L (ix3 r h l) = decay (logSig (L (ix2 r h))) (63 - l) := by
  have hl := l.isLt
  rw [← rate_at]
  pointwise [val_main_v58, val_main_v57, val_main_v56, val_main_v55, val_main_v54, val_main_v53, val_main_v52, val_main_cst_5, val_main_v28, val_main_v27, val_main_v26]
  rw [word_small _ (by omega), c63, ← EReal.coe_sub, decay, Nat.cast_sub (by omega)]
  norm_num

/-- The decay over a whole chunk. -/
theorem cdec_at (r : Fin 2) (h : Fin 4) :
    val_main_v61 (F := Ideal) L (ix2 r h) = decay (logSig (L (ix2 r h))) 64 := by
  rw [← rate_at]
  pointwise [val_main_v61, val_main_v60, val_main_v59, val_main_cst_6]
  rw [c64, decay]
  norm_num

end Cert.ReferenceIdeal.Stages
end
-- ==== Proof.RefChunks.lean ====
module
public import proofs.«01_k».proof.Proof.Gen.ReferenceIdeal.Read
public import proofs.«01_k».proof.Proof.RefInputs
/-! What the reference computes chunk by chunk. -/
@[expose] public section
set_option maxRecDepth 16384
noncomputable section
open Idealize.ShloMosaic Idealize.ShloMosaic.TcCoe Idealize.SL.Sem
namespace Cert.ReferenceIdeal.Stages
open Cert.ReferenceIdeal Cert.ReferenceIdeal.Gen Cert.ReferenceIdeal.Read Cert.Retention
variable (X : FVec Ideal S8192x6144 .f32) (L : FVec Ideal S2x4 .f32)

/-- The queries of one window and head in the order of direction `r`. -/
def qIn (n : Fin 32) (r : Fin 2) (h : Fin 4) : Fin 256 → Fin 128 → EReal := fun t => qOf X n h (visit r t)
/-- The keys of one window and head in the order of direction `r`. -/
def kIn (n : Fin 32) (r : Fin 2) (h : Fin 4) : Fin 256 → Fin 128 → EReal := fun t => kOf X n h (visit r t)
/-- The values of one window and head in the order of direction `r`. -/
def vIn (n : Fin 32) (r : Fin 2) (h : Fin 4) : Fin 256 → Fin 256 → EReal := fun t => vOf X n h (visit r t)

/-- The state before the first chunk. -/
theorem state0 (n : Fin 32) (r : Fin 2) (h : Fin 4) (d : Fin 128) (j : Fin 256) :
    val_main_v25 (F := Ideal) (ix5 n r h d j) = before (logSig (L (ix2 r h))) (kIn X n r h) (vIn X n r h) 0 d j := by
  pointwise [val_main_v25, val_main_cst_0]
  rfl

theorem first_chunk (l : Fin 64) (p : (l : ℕ) < 256) : (⟨l, p⟩ : Fin 256) = at64 0 l :=
  Fin.ext (by simp [at64])

/-- The outputs of chunk 0. -/
theorem out0 (n : Fin 32) (r : Fin 2) (h : Fin 4) (l : Fin 64) (j : Fin 256) :
    val_main_v75 (F := Ideal) X L (ix5 n r h l j)
      = chunkOut (logSig (L (ix2 r h))) (qIn X n r h) (kIn X n r h) (vIn X n r h) 0
          (before (logSig (L (ix2 r h))) (kIn X n r h) (vIn X n r h) 0) l j := by
  pointwise [val_main_v75, val_main_v74, val_main_v73, val_main_v72, val_main_v71, val_main_v70, val_main_v69, val_main_v68, val_main_v67, val_main_v66, val_main_v65, val_main_v64, val_main_v63, val_main_v62]
  unfold chunkOut
  refine congrArg₂ (· + ·) (Finset.sum_congr rfl fun s _ => ?_) (Finset.sum_congr rfl fun d _ => ?_)
  · rw [mask_at, v_at]
    simp only [q_at, k_at, first_chunk]
    rfl
  · rw [q_at, qdec_at, state0 X L, first_chunk]
    rfl

/-- The state after chunk 0. -/
theorem state1 (n : Fin 32) (r : Fin 2) (h : Fin 4) (d : Fin 128) (j : Fin 256) :
    val_main_v85 (F := Ideal) X L (ix5 n r h d j)
      = before (logSig (L (ix2 r h))) (kIn X n r h) (vIn X n r h) 1 d j := by
  pointwise [val_main_v85, val_main_v84, val_main_v83, val_main_v82, val_main_v81, val_main_v80, val_main_v79, val_main_v78, val_main_v77, val_main_v76, val_main_v64, val_main_v63, val_main_v62]
  rw [cdec_at, state0 X L]
  show _ = chunkState _ _ _ 0 (before _ _ _ 0) d j
  unfold chunkState
  refine congrArg (_ + ·) (Finset.sum_congr rfl fun s _ => ?_)
  rw [k_at, kdec_at, v_at, first_chunk]
  rfl

/-- The outputs of chunk 1. -/
theorem out1 (n : Fin 32) (r : Fin 2) (h : Fin 4) (l : Fin 64) (j : Fin 256) :
    val_main_v99 (F := Ideal) X L (ix5 n r h l j)
      = chunkOut (logSig (L (ix2 r h))) (qIn X n r h) (kIn X n r h) (vIn X n r h) 1
          (before (logSig (L (ix2 r h))) (kIn X n r h) (vIn X n r h) 1) l j := by
  pointwise [val_main_v99, val_main_v98, val_main_v97, val_main_v96, val_main_v95, val_main_v94, val_main_v93, val_main_v92, val_main_v91, val_main_v90, val_main_v89, val_main_v88, val_main_v87, val_main_v86]
  unfold chunkOut
  refine congrArg₂ (· + ·) (Finset.sum_congr rfl fun s _ => ?_) (Finset.sum_congr rfl fun d _ => ?_)
  · rw [mask_at, v_at]
    simp only [q_at, k_at]
    rfl
  · rw [q_at, qdec_at, state1 X L]
    rfl

/-- The state after chunk 1. -/
theorem state2 (n : Fin 32) (r : Fin 2) (h : Fin 4) (d : Fin 128) (j : Fin 256) :
    val_main_v109 (F := Ideal) X L (ix5 n r h d j)
      = before (logSig (L (ix2 r h))) (kIn X n r h) (vIn X n r h) 2 d j := by
  pointwise [val_main_v109, val_main_v108, val_main_v107, val_main_v106, val_main_v105, val_main_v104, val_main_v103, val_main_v102, val_main_v101, val_main_v100, val_main_v88, val_main_v87, val_main_v86]
  rw [cdec_at, state1 X L]
  show _ = chunkState _ _ _ 1 (before _ _ _ 1) d j
  unfold chunkState
  refine congrArg (_ + ·) (Finset.sum_congr rfl fun s _ => ?_)
  rw [k_at, kdec_at, v_at]
  rfl

/-- The outputs of chunk 2. -/
theorem out2 (n : Fin 32) (r : Fin 2) (h : Fin 4) (l : Fin 64) (j : Fin 256) :
    val_main_v123 (F := Ideal) X L (ix5 n r h l j)
      = chunkOut (logSig (L (ix2 r h))) (qIn X n r h) (kIn X n r h) (vIn X n r h) 2
          (before (logSig (L (ix2 r h))) (kIn X n r h) (vIn X n r h) 2) l j := by
  pointwise [val_main_v123, val_main_v122, val_main_v121, val_main_v120, val_main_v119, val_main_v118, val_main_v117, val_main_v116, val_main_v115, val_main_v114, val_main_v113, val_main_v112, val_main_v111, val_main_v110]
  unfold chunkOut
  refine congrArg₂ (· + ·) (Finset.sum_congr rfl fun s _ => ?_) (Finset.sum_congr rfl fun d _ => ?_)
  · rw [mask_at, v_at]
    simp only [q_at, k_at]
    rfl
  · rw [q_at, qdec_at, state2 X L]
    rfl

/-- The state after chunk 2. -/
theorem state3 (n : Fin 32) (r : Fin 2) (h : Fin 4) (d : Fin 128) (j : Fin 256) :
    val_main_v133 (F := Ideal) X L (ix5 n r h d j)
      = before (logSig (L (ix2 r h))) (kIn X n r h) (vIn X n r h) 3 d j := by
  pointwise [val_main_v133, val_main_v132, val_main_v131, val_main_v130, val_main_v129, val_main_v128, val_main_v127, val_main_v126, val_main_v125, val_main_v124, val_main_v112, val_main_v111, val_main_v110]
  rw [cdec_at, state2 X L]
  show _ = chunkState _ _ _ 2 (before _ _ _ 2) d j
  unfold chunkState
  refine congrArg (_ + ·) (Finset.sum_congr rfl fun s _ => ?_)
  rw [k_at, kdec_at, v_at]
  rfl

/-- The outputs of chunk 3. -/
theorem out3 (n : Fin 32) (r : Fin 2) (h : Fin 4) (l : Fin 64) (j : Fin 256) :
    val_main_v147 (F := Ideal) X L (ix5 n r h l j)
      = chunkOut (logSig (L (ix2 r h))) (qIn X n r h) (kIn X n r h) (vIn X n r h) 3
          (before (logSig (L (ix2 r h))) (kIn X n r h) (vIn X n r h) 3) l j := by
  pointwise [val_main_v147, val_main_v146, val_main_v145, val_main_v144, val_main_v143, val_main_v142, val_main_v141, val_main_v140, val_main_v139, val_main_v138, val_main_v137, val_main_v136, val_main_v135, val_main_v134]
  unfold chunkOut
  refine congrArg₂ (· + ·) (Finset.sum_congr rfl fun s _ => ?_) (Finset.sum_congr rfl fun d _ => ?_)
  · rw [mask_at, v_at]
    simp only [q_at, k_at]
    rfl
  · rw [q_at, qdec_at, state3 X L]
    rfl

/-- The state after chunk 3. -/
theorem state4 (n : Fin 32) (r : Fin 2) (h : Fin 4) (d : Fin 128) (j : Fin 256) :
    val_main_v157 (F := Ideal) X L (ix5 n r h d j)
      = before (logSig (L (ix2 r h))) (kIn X n r h) (vIn X n r h) 4 d j := by
  pointwise [val_main_v157, val_main_v156, val_main_v155, val_main_v154, val_main_v153, val_main_v152, val_main_v151, val_main_v150, val_main_v149, val_main_v148, val_main_v136, val_main_v135, val_main_v134]
  rw [cdec_at, state3 X L]
  show _ = chunkState _ _ _ 3 (before _ _ _ 3) d j
  unfold chunkState
  refine congrArg (_ + ·) (Finset.sum_congr rfl fun s _ => ?_)
  rw [k_at, kdec_at, v_at]
  rfl

end Cert.ReferenceIdeal.Stages
end
-- ==== Proof.Collapse.lean ====
module
public import proofs.«01_k».proof.Proof.Chunks
/-! Extended reals with the two infinities taken for one: there every real factor distributes over sums, so that two
groupings of a sum agree, and two extended reals that agree there are equal numbers or both infinite. -/
@[expose] public section
set_option maxRecDepth 16384
noncomputable section
open Idealize.ShloMosaic
namespace Cert.Collapse

/-- An extended real with one infinity. -/
def col (x : EReal) : WithTop ℝ := if x = ⊤ ∨ x = ⊥ then ⊤ else ((x.toReal : ℝ) : WithTop ℝ)

/-- The product with a real number; zero times infinity is zero. -/
def act (c : ℝ) (x : WithTop ℝ) : WithTop ℝ := if c = 0 then 0 else x.map (c * ·)

theorem col_coe (r : ℝ) : col (r : EReal) = (r : WithTop ℝ) := by
  unfold col
  rw [if_neg (by simp), EReal.toReal_coe]

theorem col_top : col ⊤ = ⊤ := if_pos (Or.inl rfl)
theorem col_bot : col ⊥ = ⊤ := if_pos (Or.inr rfl)
theorem col_zero : col 0 = 0 := col_coe 0

theorem col_add (x y : EReal) : col (x + y) = col x + col y := by
  induction x using EReal.rec with
  | bot => rw [EReal.bot_add, col_bot, top_add]
  | top =>
    induction y using EReal.rec with
    | bot => rw [EReal.add_bot, col_bot, add_top]
    | top => rw [EReal.top_add_top, col_top, top_add]
    | coe y => rw [EReal.top_add_coe, col_top, top_add]
  | coe x =>
    induction y using EReal.rec with
    | bot => rw [EReal.add_bot, col_bot, add_top]
    | top => rw [EReal.coe_add_top, col_top, add_top]
    | coe y => rw [← EReal.coe_add, col_coe, col_coe, col_coe]; rfl

theorem col_sum {ι : Type*} (S : Finset ι) (f : ι → EReal) : col (∑ s ∈ S, f s) = ∑ s ∈ S, col (f s) := by
  classical
  induction S using Finset.induction_on with
  | empty => simp [col_zero]
  | insert a S ha ih => rw [Finset.sum_insert ha, Finset.sum_insert ha, col_add, ih]

theorem act_coe (c r : ℝ) : act c (r : WithTop ℝ) = ((c * r : ℝ) : WithTop ℝ) := by
  unfold act
  by_cases h : c = 0
  · rw [if_pos h, h, zero_mul]; rfl
  · rw [if_neg h]; rfl

theorem act_top (c : ℝ) (h : c ≠ 0) : act c ⊤ = ⊤ := if_neg h
theorem zero_act (x : WithTop ℝ) : act 0 x = 0 := if_pos rfl
theorem act_zero (c : ℝ) : act c 0 = 0 := (act_coe c 0).trans (by rw [mul_zero]; rfl)

theorem act_add (c : ℝ) (x y : WithTop ℝ) : act c (x + y) = act c x + act c y := by
  by_cases h : c = 0
  · rw [h, zero_act, zero_act, zero_act, add_zero]
  · induction x using WithTop.recTopCoe with
    | top => rw [top_add, act_top c h, top_add]
    | coe x =>
      induction y using WithTop.recTopCoe with
      | top => rw [add_top, act_top c h, add_top]
      | coe y => rw [← WithTop.coe_add, act_coe, act_coe, act_coe, ← WithTop.coe_add, mul_add]

theorem act_act (a b : ℝ) (x : WithTop ℝ) : act a (act b x) = act (a * b) x := by
  by_cases ha : a = 0
  · rw [ha, zero_mul, zero_act, zero_act]
  by_cases hb : b = 0
  · rw [hb, mul_zero, zero_act, act_zero]
  induction x using WithTop.recTopCoe with
  | top => rw [act_top b hb, act_top a ha, act_top _ (mul_ne_zero ha hb)]
  | coe x => rw [act_coe, act_coe, act_coe, mul_assoc]

theorem act_sum {ι : Type*} (c : ℝ) (S : Finset ι) (f : ι → WithTop ℝ) : act c (∑ s ∈ S, f s) = ∑ s ∈ S, act c (f s) := by
  classical
  induction S using Finset.induction_on with
  | empty => simp [act_zero]
  | insert a S ha ih => rw [Finset.sum_insert ha, Finset.sum_insert ha, act_add, ih]

theorem col_mul (c : ℝ) (x : EReal) : col ((c : EReal) * x) = act c (col x) := by
  induction x using EReal.rec with
  | bot =>
    rcases lt_trichotomy c 0 with h | h | h
    · rw [EReal.coe_mul_bot_of_neg h, col_top, col_bot, act_top c h.ne]
    · rw [h, EReal.coe_zero, zero_mul, zero_act, col_zero]
    · rw [EReal.coe_mul_bot_of_pos h, col_bot, act_top c h.ne']
  | top =>
    rcases lt_trichotomy c 0 with h | h | h
    · rw [EReal.coe_mul_top_of_neg h, col_top, col_bot, act_top c h.ne]
    · rw [h, EReal.coe_zero, zero_mul, zero_act, col_zero]
    · rw [EReal.coe_mul_top_of_pos h, col_top, act_top c h.ne']
  | coe x => rw [← EReal.coe_mul, col_coe, col_coe, act_coe]

theorem col_mul' (c : ℝ) (x : EReal) : col (x * (c : EReal)) = act c (col x) := by
  rw [mul_comm, col_mul]

/-- A collapsed number that is not infinite is that number. -/
theorem eq_coe (x : EReal) (h : col x ≠ ⊤) : x = (x.toReal : EReal) := by
  induction x using EReal.rec with
  | bot => exact absurd col_bot h
  | top => exact absurd col_top h
  | coe x => rw [EReal.toReal_coe]

/-- What agrees and is not infinite is equal. -/
theorem eq_of_col (x y : EReal) (e : col x = col y) (h : col x ≠ ⊤) : x = y := by
  have hx := eq_coe x h
  have hy := eq_coe y (e ▸ h)
  rw [hx, hy, col_coe, col_coe] at e
  rw [hx, hy, WithTop.coe_injective e]

theorem top_cases (x : EReal) (h : col x = ⊤) : x = ⊤ ∨ x = ⊥ := by
  by_contra hx
  rw [col, if_neg hx] at h
  exact WithTop.coe_ne_top h

/-- A sum that is not infinite has no infinite term. -/
theorem term_ne_top {ι : Type*} (S : Finset ι) (f : ι → WithTop ℝ) (h : ∑ s ∈ S, f s ≠ ⊤) (s : ι) (hs : s ∈ S) : f s ≠ ⊤ := by
  classical
  intro e
  rw [← Finset.add_sum_erase S f hs, e, top_add] at h
  exact h rfl

theorem sum_ne_top {ι : Type*} (S : Finset ι) (f : ι → WithTop ℝ) (h : ∀ s ∈ S, f s ≠ ⊤) : ∑ s ∈ S, f s ≠ ⊤ := by
  classical
  induction S using Finset.induction_on with
  | empty => simp
  | insert a S ha ih =>
    rw [Finset.sum_insert ha]
    exact WithTop.add_ne_top.2 ⟨h a (Finset.mem_insert_self _ _), ih fun s hs => h s (Finset.mem_insert_of_mem hs)⟩

theorem act_ne_top (c : ℝ) (x : WithTop ℝ) (h : x ≠ ⊤) : act c x ≠ ⊤ := by
  induction x using WithTop.recTopCoe with
  | top => exact absurd rfl h
  | coe x => rw [act_coe]; exact WithTop.coe_ne_top

/-- A real factor that is not negative distributes over a sum of extended reals. -/
theorem mul_sum {ι : Type*} (c : ℝ) (hc : 0 ≤ c) (S : Finset ι) (f : ι → EReal) :
    (c : EReal) * ∑ s ∈ S, f s = ∑ s ∈ S, (c : EReal) * f s := by
  classical
  induction S using Finset.induction_on with
  | empty => simp
  | insert a S ha ih =>
    rw [Finset.sum_insert ha, Finset.sum_insert ha, ← ih]
    exact EReal.left_distrib_of_nonneg_of_ne_top (EReal.coe_nonneg.2 hc) (EReal.coe_ne_top c) _ _

/-! ### Exponentials of differences to an upper bound -/

/-- Below a bound that is not negative the exponential of the difference is a real number. -/
theorem exp_sub (x y : EReal) (hxy : x ≤ y) (hy : 0 ≤ y) :
    Ideal.exp (x - y) = ((Ideal.exp (x - y)).toReal : EReal) ∧ 0 ≤ (Ideal.exp (x - y)).toReal := by
  induction y using EReal.rec with
  | bot => simp at hy
  | top => rw [EReal.sub_top]; exact ⟨by show (0 : EReal) = ((0 : EReal).toReal : EReal); simp, by show 0 ≤ (0 : EReal).toReal; simp⟩
  | coe y =>
    induction x using EReal.rec with
    | bot => rw [EReal.bot_sub]; exact ⟨by show (0 : EReal) = ((0 : EReal).toReal : EReal); simp, by show 0 ≤ (0 : EReal).toReal; simp⟩
    | top => simp at hxy
    | coe x =>
      rw [← EReal.coe_sub, Cert.Retention.exp_coe, EReal.toReal_coe]
      exact ⟨rfl, (Real.exp_pos _).le⟩

/-- By way of a bound in between. -/
theorem exp_trans (x y z : EReal) (hxy : x ≤ y) (hyz : y ≤ z) (hy : 0 ≤ y) :
    Ideal.exp (x - z) = Ideal.exp (y - z) * Ideal.exp (x - y) := by
  induction z using EReal.rec with
  | bot => simp at hyz; rw [hyz] at hy; simp at hy
  | top =>
    rw [EReal.sub_top, EReal.sub_top]
    exact (zero_mul _).symm
  | coe z =>
    induction y using EReal.rec with
    | bot => simp at hy
    | top => simp at hyz
    | coe y =>
      induction x using EReal.rec with
      | bot => rw [EReal.bot_sub, EReal.bot_sub]; exact (mul_zero _).symm
      | top => simp at hxy
      | coe x =>
        rw [← EReal.coe_sub, ← EReal.coe_sub, ← EReal.coe_sub, Cert.Retention.exp_coe, Cert.Retention.exp_coe, Cert.Retention.exp_coe,
          ← EReal.coe_mul, ← Real.exp_add]
        congr 2
        ring

/-- A real number added to both sides of a difference. -/
theorem shift (a : ℝ) (x y : EReal) : ((a : EReal) + x) - (a + y) = x - y := by
  induction x using EReal.rec with
  | bot => rw [EReal.add_bot, EReal.bot_sub, EReal.bot_sub]
  | top =>
    induction y using EReal.rec with
    | bot => rw [EReal.coe_add_top, EReal.add_bot]
    | top => rw [EReal.coe_add_top]
    | coe y => rw [EReal.coe_add_top, ← EReal.coe_add, EReal.top_sub_coe, EReal.top_sub_coe]
  | coe x =>
    induction y using EReal.rec with
    | bot => rw [EReal.add_bot, ← EReal.coe_add, EReal.coe_sub_bot, EReal.coe_sub_bot]
    | top => rw [EReal.coe_add_top, EReal.sub_top, EReal.sub_top]
    | coe y => rw [← EReal.coe_add, ← EReal.coe_add, ← EReal.coe_sub, ← EReal.coe_sub, add_sub_add_left_eq_sub]

/-- Anything over an infinity is zero. -/
theorem div_top (x : EReal) : Ideal.div x ⊤ = 0 := by
  unfold Ideal.div
  rw [if_neg (by simp), EReal.inv_top, mul_zero]
end Cert.Collapse
end
-- ==== Proof.Window.lean ====
module
public import proofs.«01_k».proof.Proof.Collapse
/-! The recurrence over chunks of 64 positions computes the same sums as the single window of 256. Queries and values
are numbers; keys may be infinite, and then the outputs agree up to the sign of an infinity, which the norm removes. -/
@[expose] public section
set_option maxRecDepth 16384
noncomputable section
open Idealize.ShloMosaic
namespace Cert.Retention
open Cert.Collapse (col act col_add col_sum col_mul col_mul' act_act act_sum zero_act eq_of_col top_cases)

section Sums
variable (a : ℕ → ℝ) (q : ℕ → Fin 128 → ℝ) (k : ℕ → Fin 128 → EReal) (v : ℕ → Fin 256 → ℝ)

/-- The state before position `n`. -/
def stW (n : ℕ) (d : Fin 128) (j : Fin 256) : EReal :=
  ∑ s ∈ Finset.range n, k s d * (a (n - 1 - s) : EReal) * (v s j : EReal)

/-- The output at position `t`, with the infinities taken for one. -/
def outW (t : ℕ) (j : Fin 256) : WithTop ℝ :=
  ∑ s ∈ Finset.range 256, ∑ d, act (v s j * (if s ≤ t then a (t - s) else 0) * q t d) (col (k s d))

variable (h0 : ∀ n, 0 ≤ a n) (hm : ∀ m n, a (m + n) = a m * a n)

include h0 hm in
/-- The state after 64 further positions. -/
theorem stW_step (n : ℕ) (d : Fin 128) (j : Fin 256) :
    stW a k v (n + 64) d j = (a 64 : EReal) * stW a k v n d j
      + ∑ s ∈ Finset.range 64, k (n + s) d * (a (63 - s) : EReal) * (v (n + s) j : EReal) := by
  unfold stW
  rw [Finset.sum_range_add, Cert.Collapse.mul_sum _ (h0 64)]
  refine congrArg₂ (· + ·) (Finset.sum_congr rfl fun s hs => ?_) (Finset.sum_congr rfl fun s hs => ?_)
  · have := Finset.mem_range.mp hs
    rw [show n + 64 - 1 - s = 64 + (n - 1 - s) by omega, hm, EReal.coe_mul, mul_left_comm (k s d), mul_assoc ((a 64 : ℝ) : EReal)]
  · have := Finset.mem_range.mp hs
    rw [show n + 64 - 1 - (n + s) = 63 - s by omega]

/-- The state with the infinities taken for one. -/
theorem col_stW (n : ℕ) (d : Fin 128) (j : Fin 256) :
    col (stW a k v n d j) = ∑ s ∈ Finset.range n, act (v s j * a (n - 1 - s)) (col (k s d)) := by
  unfold stW
  rw [col_sum]
  refine Finset.sum_congr rfl fun s _ => ?_
  rw [col_mul', col_mul', act_act]

include hm in
/-- The output at position `n + l` from the state before `n` and the 64 positions from `n` on. -/
theorem outW_split (n l : ℕ) (hl : l < 64) (hn : n + 64 ≤ 256) (j : Fin 256) :
    outW a q k v (n + l) j
      = (∑ s ∈ Finset.range 64, ∑ d, act (v (n + s) j * (if s ≤ l then a (l - s) else 0) * q (n + l) d) (col (k (n + s) d)))
        + ∑ d, act (q (n + l) d * a (l + 1)) (col (stW a k v n d j)) := by
  unfold outW
  obtain ⟨e, he⟩ : ∃ e, 256 = n + 64 + e := ⟨256 - (n + 64), by omega⟩
  rw [he, Finset.sum_range_add, Finset.sum_range_add]
  have h3 : ∑ x ∈ Finset.range e, ∑ d, act (v (n + 64 + x) j * (if n + 64 + x ≤ n + l then a (n + l - (n + 64 + x)) else 0) * q (n + l) d)
      (col (k (n + 64 + x) d)) = 0 := by
    refine Finset.sum_eq_zero fun x _ => Finset.sum_eq_zero fun d _ => ?_
    rw [if_neg (by omega), mul_zero, zero_mul, zero_act]
  rw [h3, add_zero, add_comm]
  refine congrArg₂ (· + ·) (Finset.sum_congr rfl fun s _ => Finset.sum_congr rfl fun d _ => ?_) ?_
  · by_cases h : s ≤ l
    · rw [if_pos h, if_pos (by omega), show n + l - (n + s) = l - s by omega]
    · rw [if_neg h, if_neg (by omega)]
  · simp only [col_stW, act_sum, act_act]
    rw [Finset.sum_comm]
    refine Finset.sum_congr rfl fun d _ => Finset.sum_congr rfl fun s hs => ?_
    have := Finset.mem_range.mp hs
    rw [if_pos (by omega), show n + l - s = (l + 1) + (n - 1 - s) by omega, hm]
    congr 1
    ring
end Sums

section Lift
variable (g : EReal) (q k : Fin 256 → Fin 128 → EReal) (v : Fin 256 → Fin 256 → EReal)
  (a : ℕ → ℝ) (q' : ℕ → Fin 128 → ℝ) (k' : ℕ → Fin 128 → EReal) (v' : ℕ → Fin 256 → ℝ)
  (ha : ∀ n, decay g n = (a n : EReal)) (h0 : ∀ n, 0 ≤ a n) (hm : ∀ m n, a (m + n) = a m * a n)
  (hq : ∀ t d, q t d = (q' t d : EReal)) (hk : ∀ (t : Fin 256) d, k t d = k' t d) (hv : ∀ t d, v t d = (v' t d : EReal))

include ha hk hv hm h0 in
theorem before_stW (n : ℕ) (hn : n ≤ 4) (d : Fin 128) (j : Fin 256) :
    before g k v n d j = stW a k' v' (64 * n) d j := by
  induction n generalizing d j with
  | zero => simp [before, stW]
  | succ n ih =>
    have e : ((Fin.ofNat 4 n : Fin 4) : ℕ) = n := by simp [Fin.ofNat]; omega
    rw [before, chunkState, ih (by omega), show 64 * (n + 1) = 64 * n + 64 by ring, stW_step a k' v' h0 hm]
    simp only [ha, hk, hv, at64, e]
    rw [Finset.sum_range]

include ha hk hv hm hq h0 in
/-- The output of a chunk from the state before it is the window's output there, but for the sign of an infinity. -/
theorem col_chunkOut (c : Fin 4) (l : Fin 64) (j : Fin 256) :
    col (chunkOut g q k v c (before g k v c) l j) = outW a q' k' v' (at64 c l) j := by
  have hc := c.isLt
  have hl := l.isLt
  show _ = outW a q' k' v' (64 * c + l) j
  rw [outW_split a q' k' v' hm _ _ hl (by omega), Finset.sum_range]
  unfold chunkOut
  rw [col_add, col_sum, col_sum]
  refine congrArg₂ (· + ·) (Finset.sum_congr rfl fun s _ => ?_) (Finset.sum_congr rfl fun d _ => ?_)
  · have e : (if (s : ℕ) ≤ l then decay g (l - s) else 0) = ((if (s : ℕ) ≤ l then a (l - s) else 0 : ℝ) : EReal) := by
      split
      · exact ha _
      · rfl
    rw [e, hv, col_mul', col_mul', act_act, col_sum, act_sum]
    refine Finset.sum_congr rfl fun d _ => ?_
    rw [hq, hk, col_mul, act_act]
    rfl
  · rw [hq, ha, ← EReal.coe_mul, col_mul, before_stW g k v a k' v' ha h0 hm hk hv c (by omega)]
    rfl

include ha hk hv hq in
theorem col_outp (t j : Fin 256) : col (outp (seenF g) q k v t j) = outW a q' k' v' t j := by
  unfold outp outW
  rw [Finset.sum_range, col_sum]
  refine Finset.sum_congr rfl fun s _ => ?_
  have e : seenF g t s = ((if (s : ℕ) ≤ t then a (t - s) else 0 : ℝ) : EReal) := by
    unfold seenF
    split
    · exact ha _
    · rfl
  rw [e, hv, col_mul', col_mul', act_act, col_sum, act_sum]
  refine Finset.sum_congr rfl fun d _ => ?_
  rw [hq, hk, col_mul, act_act]

include ha hk hv in
theorem stat_stW (d : Fin 128) (j : Fin 256) :
    stat (fun s => decay g (255 - s)) k v d j = stW a k' v' 256 d j := by
  unfold stat stW
  rw [Finset.sum_range]
  refine Finset.sum_congr rfl fun s _ => ?_
  beta_reduce
  rw [hv, hk, ha]
end Lift

section Main
variable (g : EReal) (hg : g ≤ 0) (q k : Fin 256 → Fin 128 → EReal) (v : Fin 256 → Fin 256 → EReal)
  (hq : ∀ t d, ∃ x : ℝ, q t d = x) (hv : ∀ t d, ∃ x : ℝ, v t d = x)

/-- The keys, continued beyond the window. -/
theorem more_keys : ∃ k' : ℕ → Fin 128 → EReal, ∀ (t : Fin 256) d, k t d = k' t d :=
  ⟨fun n d => if h : n < 256 then k ⟨n, h⟩ d else 0, fun t d => by simp⟩

include hg hq hv in
/-- Chunk by chunk is all at once: the outputs, but for the sign of an infinity. -/
theorem chunkOut_eq (c : Fin 4) (l : Fin 64) (j : Fin 256) :
    col (chunkOut g q k v c (before g k v c) l j) = col (outp (seenF g) q k v (at64 c l) j) := by
  obtain ⟨a, ha, h0, hm⟩ := decay_real g hg
  obtain ⟨q', hq'⟩ := lift_real q hq
  obtain ⟨k', hk'⟩ := more_keys k
  obtain ⟨v', hv'⟩ := lift_real v hv
  rw [col_chunkOut g q k v a q' k' v' ha h0 hm hq' hk' hv', col_outp g q k v a q' k' v' ha hq' hk' hv']

include hg hv in
/-- Chunk by chunk is all at once: the state after the last chunk. -/
theorem before_eq (d : Fin 128) (j : Fin 256) :
    before g k v 4 d j = stat (fun s => decay g (255 - s)) k v d j := by
  obtain ⟨a, ha, h0, hm⟩ := decay_real g hg
  obtain ⟨k', hk'⟩ := more_keys k
  obtain ⟨v', hv'⟩ := lift_real v hv
  rw [before_stW g k v a k' v' ha h0 hm hk' hv' 4 le_rfl, stat_stW g k v a k' v' ha hk' hv']
end Main

/-! ### The norm -/

theorem square_nonneg (x : EReal) : 0 ≤ x * x := by
  rcases le_total 0 x with h | h
  · exact mul_nonneg h h
  · exact EReal.mul_nonneg_iff.mpr (Or.inr ⟨h, h⟩)

/-- A row with an infinity is zero after the norm. -/
theorem gated_top (o z : Fin 256 → EReal) (i j : Fin 256) (h : col (o i) = ⊤) : gated o z j = 0 := by
  have hs : ∑ i, o i * o i = ⊤ := by
    refine top_le_iff.mp (le_trans (le_of_eq ?_) (Finset.single_le_sum (f := fun i => o i * o i) (fun i _ => square_nonneg _) (Finset.mem_univ i)))
    rcases top_cases _ h with e | e
    · show ⊤ = o i * o i; rw [e, EReal.top_mul_top]
    · show ⊤ = o i * o i; rw [e, EReal.bot_mul_bot]
  have hc : Ideal.ofBits .f32 0x43800000#32 = ((256 : ℝ) : EReal) := by
    simp [Ideal.ofBits, Ideal.ieee, -EReal.coe_mul]; norm_num
  obtain ⟨e, he⟩ : ∃ e : ℝ, Ideal.ofBits .f32 0x358637BD#32 = e := by
    simp [Ideal.ofBits, Ideal.ieee, -EReal.coe_mul]
  have hd : Ideal.div ⊤ ((256 : ℝ) : EReal) = ⊤ := by
    unfold Ideal.div
    rw [if_neg (by simp), ← EReal.coe_inv, EReal.top_mul_coe_of_pos (by norm_num)]
  unfold gated
  rw [hs, hc, he, hd, EReal.top_add_coe]
  show o j * 0 * _ = 0
  rw [mul_zero, zero_mul]

/-- The norm does not see the sign of an infinity. -/
theorem gated_col (o o' z : Fin 256 → EReal) (h : ∀ i, col (o i) = col (o' i)) (j : Fin 256) : gated o z j = gated o' z j := by
  by_cases hi : ∃ i, col (o i) = ⊤
  · obtain ⟨i, hi⟩ := hi
    rw [gated_top o z i j hi, gated_top o' z i j ((h i).symm.trans hi)]
  · obtain rfl : o = o' := funext fun i => eq_of_col _ _ (h i) fun e => hi ⟨i, e⟩
    rfl
end Cert.Retention
end
-- ==== Proof.RefScan.lean ====
module
public import proofs.«01_k».proof.Proof.Gen.ReferenceIdeal.Read
public import proofs.«01_k».proof.Proof.RefChunks
public import proofs.«01_k».proof.Proof.Window
/-! What the chunks of the reference add up to. -/
@[expose] public section
set_option maxRecDepth 16384
noncomputable section
open Idealize.ShloMosaic Idealize.ShloMosaic.TcCoe Idealize.SL.Sem
namespace Cert.ReferenceIdeal.Stages
open Cert.ReferenceIdeal Cert.ReferenceIdeal.Gen Cert.ReferenceIdeal.Read Cert.Retention
open Cert.Collapse (col col_add)
variable (X : FVec Ideal S8192x6144 .f32) (L : FVec Ideal S2x4 .f32)

variable (hX : ∀ i : S8192x6144.Idx, (i 1 : ℕ) < 512 ∨ 1024 ≤ (i 1 : ℕ) ∧ (i 1 : ℕ) < 2048 → ∃ x : ℝ, X i = x)
include hX

theorem q_real (n : Fin 32) (r : Fin 2) (h : Fin 4) (t : Fin 256) (d : Fin 128) : ∃ x : ℝ, qIn X n r h t d = x :=
  hX _ (by simp; omega)

theorem v_real (n : Fin 32) (r : Fin 2) (h : Fin 4) (t : Fin 256) (j : Fin 256) : ∃ x : ℝ, vIn X n r h t j = x :=
  hX _ (by simp; omega)

/-- The outputs of direction `r`, in its own order, but for the sign of an infinity. -/
theorem scan_at (n : Fin 32) (r : Fin 2) (h : Fin 4) (t : Fin 256) (j : Fin 256) :
    col (val_main_v158 (F := Ideal) X L (ix5 n r h t j))
      = col (outp (seenF (logSig (L (ix2 r h)))) (qIn X n r h) (kIn X n r h) (vIn X n r h) t j) := by
  have key : ∀ (c : Fin 4) (l : Fin 64), at64 c l = t →
      col (chunkOut (logSig (L (ix2 r h))) (qIn X n r h) (kIn X n r h) (vIn X n r h) c
        (before (logSig (L (ix2 r h))) (kIn X n r h) (vIn X n r h) c) l j)
      = col (outp (seenF (logSig (L (ix2 r h)))) (qIn X n r h) (kIn X n r h) (vIn X n r h) t j) := by
    intro c l e
    rw [← e]
    exact chunkOut_eq _ (logSig_nonpos _) _ _ _ (q_real X hX n r h) (v_real X hX n r h) c l j
  pointwise [val_main_v158]
  by_cases h1 : (t : ℕ) < 64
  · rw [dif_pos h1, out0]
    exact key 0 _ (Fin.ext (by simp [at64]))
  rw [dif_neg h1]
  by_cases h2 : (t : ℕ) - 64 < 64
  · rw [dif_pos h2, out1]
    exact key 1 _ (Fin.ext (by simp [at64]; omega))
  rw [dif_neg h2]
  by_cases h3 : (t : ℕ) - 64 - 64 < 64
  · rw [dif_pos h3, out2]
    exact key 2 _ (Fin.ext (by simp [at64]; omega))
  rw [dif_neg h3, out3]
  exact key 3 _ (Fin.ext (by simp [at64]; omega))

/-- The state after the last chunk. -/
theorem last_at (n : Fin 32) (r : Fin 2) (h : Fin 4) (d : Fin 128) (j : Fin 256) :
    val_main_v157 (F := Ideal) X L (ix5 n r h d j) = fin X L n r h d j := by
  rw [state4, before_eq _ (logSig_nonpos _) _ _ (v_real X hX n r h)]
  match r with
  | 0 => rfl
  | 1 => exact stat_rev _ _ _ d j

/-- Both directions together, but for the sign of an infinity. -/
theorem both_at (n : Fin 32) (h : Fin 4) (t : Fin 256) (j : Fin 256) :
    col (val_main_v164 (F := Ideal) X L (ix4 n h t j)) = col (both X L n h t j) := by
  pointwise [val_main_v164, val_main_v163, val_main_v162, val_main_v161, val_main_v160, val_main_v159]
  show col (val_main_v158 (F := Ideal) X L (ix5 n 0 h t j) + val_main_v158 (F := Ideal) X L (ix5 n 1 h t.rev j)) = _
  rw [col_add, scan_at X L hX, scan_at X L hX, ← col_add]
  exact congrArg (fun x => col (_ + x)) (outp_rev _ _ _ _ t j)

end Cert.ReferenceIdeal.Stages
end
-- ==== Proof.RefTail.lean ====
module
public import proofs.«01_k».proof.Proof.Gen.ReferenceIdeal.Read
public import proofs.«01_k».proof.Proof.Spec
/-! How the reference forms its two results from the chunks' outputs and states. -/
@[expose] public section
set_option maxRecDepth 16384
noncomputable section
open Idealize.ShloMosaic Idealize.ShloMosaic.TcCoe Idealize.SL.Sem
namespace Cert.ReferenceIdeal.Stages
open Cert.ReferenceIdeal Cert.ReferenceIdeal.Gen Cert.ReferenceIdeal.Read Cert.Retention
variable (X : FVec Ideal S8192x6144 .f32) (L : FVec Ideal S2x4 .f32)

/-- The normalised outputs of one head. -/
theorem norm_at (n : Fin 32) (t : Fin 256) (h : Fin 4) (j : Fin 256) :
    val_main_v175 (F := Ideal) X L (ix4 n t h j)
      = val_main_v164 (F := Ideal) X L (ix4 n h t j) * Ideal.rsqrt (Ideal.div
          (∑ i, val_main_v164 (F := Ideal) X L (ix4 n h t i) * val_main_v164 (F := Ideal) X L (ix4 n h t i))
          (Ideal.ofBits .f32 0x43800000#32) + Ideal.ofBits .f32 0x358637BD#32) := by
  pointwise [val_main_v175, val_main_v174, val_main_v173, val_main_v172, val_main_v171, val_main_v170, val_main_v169, val_main_v168, val_main_v167, val_main_v166, val_main_v165, val_main_cst_7, val_main_cst_8, val_main_cst_9]

/-- The gate. -/
theorem gate_at (a : Fin 8192) (b : Fin 1024) :
    val_main_v177 (F := Ideal) X (ix2 a b)
      = X (ix2 a ⟨2048 + (b : ℕ), by omega⟩) * Ideal.div 1 (1 + Ideal.exp (0 - X (ix2 a ⟨2048 + (b : ℕ), by omega⟩))) := by
  pointwise [val_main_v177, val_main_call6_v5, val_main_call6_v4, val_main_call6_cst_0, val_main_call6_v3, val_main_call6_cst, val_main_call6_v2, val_main_call6_v1, val_main_call6_v0, val_main_v3]
  simp only [zero_sub]

/-- The first result at a row and a column, by window, head, position and place in the head. -/
theorem y_at (a : Fin 8192) (b : Fin 1024) :
    val_main_v179 (F := Ideal) X L (ix2 a b)
      = val_main_v175 (F := Ideal) X L (ix4 ⟨(a : ℕ) / 256, by omega⟩ ⟨(a : ℕ) % 256, by omega⟩ ⟨(b : ℕ) / 256, by omega⟩ ⟨(b : ℕ) % 256, by omega⟩)
        * val_main_v177 (F := Ideal) X (ix2 a b) := by
  pointwise [val_main_v179, val_main_v178, val_main_v176]

/-- The second result: the last states in the first slot, zeros in the second. -/
theorem s_at (n : Fin 32) (c r : Fin 2) (h : Fin 4) (d : Fin 128) (j : Fin 256) :
    val_main_v183 (F := Ideal) X L (ix6 n c r h d j)
      = if (c : ℕ) = 0 then val_main_v157 (F := Ideal) X L (ix5 n r h d j) else 0 := by
  pointwise [val_main_v183, val_main_v182, val_main_v181, val_main_v180, val_main_cst_10]
  by_cases e : (c : ℕ) < 1
  · rw [dif_pos e, if_pos (by omega)]
  · rw [dif_neg e, if_neg (by omega)]

end Cert.ReferenceIdeal.Stages
end
-- ==== Proof.Equation.lean ====
module
public import proofs.«01_k».proof.Proof.Gen.ReferenceIdeal.Read
public import proofs.«01_k».proof.Proof.Gen.Pre_finite_qv
public import proofs.«01_k».proof.Proof.RefScan
public import proofs.«01_k».proof.Proof.RefTail
public import proofs.«01_k».proof.Defs
/-! The two results of the reference are the arrays of the specification, where queries and values are finite. -/
@[expose] public section
set_option maxRecDepth 16384
noncomputable section
open Idealize.ShloMosaic Idealize.ShloMosaic.TcCoe Idealize.SL.Sem
namespace Cert.ReferenceIdeal.Stages
open Cert.ReferenceIdeal Cert.ReferenceIdeal.Gen Cert.ReferenceIdeal.Read Cert.Retention
variable (X : FVec Ideal S8192x6144 .f32) (L : FVec Ideal S2x4 .f32)

/-- A number whose absolute value is less than infinity is real. -/
theorem real_of_abs_lt (x : EReal) (h : max x (-x) < ⊤) : ∃ r : ℝ, x = r := by
  induction x using EReal.rec with
  | bot => simp at h
  | coe r => exact ⟨r, rfl⟩
  | top => simp at h

/-- What is tested finite is real. -/
theorem real_of_bit (x : EReal)
    (e : BitVec.ofBool (decide (max x (-x) < Ideal.ofBits .f32 0x7F800000#32)) = 1#1) :
    ∃ y : ℝ, x = y := by
  have ht : Ideal.ofBits .f32 0x7F800000#32 = ⊤ := by simp [Ideal.ofBits, Ideal.ieee]
  rw [ht] at e
  by_cases hlt : max x (-x) < ⊤
  · exact real_of_abs_lt _ hlt
  · rw [decide_eq_false hlt] at e
    exact absurd e (by decide)

/-- The precondition, read: queries and values are real. -/
theorem real_of_pre (h : Cert.Pre_finite_qv.fn (F := Ideal) X L = fun _ => 1#1) :
    ∀ i : S8192x6144.Idx, (i 1 : ℕ) < 512 ∨ 1024 ≤ (i 1 : ℕ) ∧ (i 1 : ℕ) < 2048 → ∃ x : ℝ, X i = x := by
  intro i hi
  idx_vars i
  have hi : (i1 : ℕ) < 512 ∨ 1024 ≤ (i1 : ℕ) ∧ (i1 : ℕ) < 2048 := hi
  rcases hi with hi | hi
  · obtain ⟨c, hc⟩ : ∃ c : Fin 1536, (c : ℕ) = i1 := ⟨⟨i1, by omega⟩, rfl⟩
    have e := congrFun h (ix2 i0 c : Cert.Pre_finite_qv.S8192x1536.Idx)
    pointwise [Cert.Pre_finite_qv.fn] at e
    rw [dif_pos (by omega)] at e
    obtain ⟨y, hy⟩ := real_of_bit _ e
    exact ⟨y, (congrArg (fun b => X (ix2 i0 b)) (Fin.ext (by show (i1 : ℕ) = c; omega))).trans hy⟩
  · obtain ⟨c, hc⟩ : ∃ c : Fin 1536, (c : ℕ) = i1 - 512 := ⟨⟨i1 - 512, by omega⟩, rfl⟩
    have e := congrFun h (ix2 i0 c : Cert.Pre_finite_qv.S8192x1536.Idx)
    pointwise [Cert.Pre_finite_qv.fn] at e
    rw [dif_neg (by omega)] at e
    obtain ⟨y, hy⟩ := real_of_bit _ e
    exact ⟨y, (congrArg (fun b => X (ix2 i0 b)) (Fin.ext (by show (i1 : ℕ) = 1024 + (c - 512); omega))).trans hy⟩

variable (hX : ∀ i : S8192x6144.Idx, (i 1 : ℕ) < 512 ∨ 1024 ≤ (i 1 : ℕ) ∧ (i 1 : ℕ) < 2048 → ∃ x : ℝ, X i = x)
include hX

/-- The first result of the reference. -/
theorem y_eq : val_main_v179 (F := Ideal) X L = resY X L := by
  funext i
  idx_vars i
  rw [y_at, norm_at, gate_at]
  have e : (⟨2048 + (i1 : ℕ), by omega⟩ : Fin 6144) = ⟨2048 + (256 * ((i1 : ℕ) / 256) + (i1 : ℕ) % 256), by omega⟩ := Fin.ext (by simp only []; omega)
  have e' : X (ix2 i0 ⟨2048 + (i1 : ℕ), by omega⟩) = zOf X ⟨(i0 : ℕ) / 256, by omega⟩ ⟨(i1 : ℕ) / 256, by omega⟩ ⟨(i0 : ℕ) % 256, by omega⟩ ⟨(i1 : ℕ) % 256, by omega⟩ := by
    unfold zOf
    congr 2 <;> exact Fin.ext (by simp only []; omega)
  rw [e']
  exact gated_col (fun j => val_main_v164 (F := Ideal) X L (ix4 ⟨(i0 : ℕ) / 256, by omega⟩ ⟨(i1 : ℕ) / 256, by omega⟩ ⟨(i0 : ℕ) % 256, by omega⟩ j)) _ _
    (fun j => both_at X L hX _ _ _ j) _

/-- The second result of the reference. -/
theorem s_eq : val_main_v183 (F := Ideal) X L = resS X L := by
  funext i
  idx_vars i
  rw [s_at, last_at X L hX]
  rfl

end Cert.ReferenceIdeal.Stages
end
-- ==== Proof.Block.lean ====
module
public import proofs.«01_k».proof.Proof.Gen.KernelIdeal.Skeleton
public import proofs.«01_k».proof.Proof.Spec
public import Idealize.ShloMosaic.Lib.WordCmp
/-! What one grid step of the kernel computes, head by head, read at an index. -/
@[expose] public section
set_option maxRecDepth 16384
noncomputable section
open Idealize.ShloMosaic Idealize.ShloMosaic.TcCoe Idealize.SL.Sem
namespace Cert.KernelIdeal.Block
open Cert.KernelIdeal Cert.KernelIdeal.Gen Cert.Retention

/-- The row numbers of a square tile. -/
abbrev rows : IVec S256x256 32 := iota Kind.tc S256x256 32 [0] iota_S256x256_d0_w32
/-- The column numbers of a square tile. -/
abbrev cols : IVec S256x256 32 := iota Kind.tc S256x256 32 [1] iota_S256x256_d1_w32

theorem c255 : Ideal.ofBits .f32 0x437F0000#32 = ((255 : ℝ) : EReal) := by
  simp [Ideal.ofBits, Ideal.ieee, -EReal.coe_mul]; norm_num

/-- A small number read back as a signed word. -/
theorem sitofp_small (n : ℕ) (h : n < 1000) :
    FloatOps.sitofp (F := Ideal) FTy.f32 (BitVec.ofNat 32 n) = ((n : ℝ) : EReal) := by
  show (((BitVec.ofNat 32 n).toInt : ℝ) : EReal) = _
  have : (BitVec.ofNat 32 n).toInt = n := by
    rw [BitVec.toInt_eq_toNat_of_lt] <;> simp <;> omega
  rw [this]; simp

/-- The distance of two positions. -/
theorem dist (t s : Fin 256) :
    FloatOps.sitofp (F := Ideal) FTy.f32 (IntOp.absi (IntOp.subi (BitVec.ofNat 32 ↑t) (BitVec.ofNat 32 ↑s)))
      = ((((if (s : ℕ) ≤ t then (t : ℕ) - s else (s : ℕ) - t : ℕ)) : ℝ) : EReal) := by
  have ht := t.isLt
  have hs := s.isLt
  have e : IntOp.absi (IntOp.subi (BitVec.ofNat 32 ↑t) (BitVec.ofNat 32 ↑s))
      = BitVec.ofNat 32 (if (s : ℕ) ≤ t then (t : ℕ) - s else (s : ℕ) - t) := by
    unfold IntOp.absi IntOp.subi
    apply BitVec.eq_of_toNat_eq
    rw [BitVec.msb_eq_decide]
    split <;> split <;> simp_all [BitVec.toNat_sub, BitVec.toNat_neg] <;> omega
  rw [e, sitofp_small]
  split <;> omega

theorem seenF_eq (g : EReal) (t s : Fin 256) :
    Scalar.select (IntOp.cmpi CmpIPredicate.sle (BitVec.ofNat 32 ↑s) (BitVec.ofNat 32 ↑t))
      (Ideal.exp (FloatOps.sitofp (F := Ideal) FTy.f32 (IntOp.absi (IntOp.subi (BitVec.ofNat 32 ↑t) (BitVec.ofNat 32 ↑s))) * g)) 0
      = seenF g t s := by
  have ht := t.isLt
  have hs := s.isLt
  rw [dist]
  simp (disch := word_cmp_side) only [hlo_ix]
  unfold seenF decay
  by_cases h : (s : ℕ) ≤ t <;> simp [h]

theorem seenB_eq (g : EReal) (t s : Fin 256) :
    Scalar.select (IntOp.cmpi CmpIPredicate.sge (BitVec.ofNat 32 ↑s) (BitVec.ofNat 32 ↑t))
      (Ideal.exp (FloatOps.sitofp (F := Ideal) FTy.f32 (IntOp.absi (IntOp.subi (BitVec.ofNat 32 ↑t) (BitVec.ofNat 32 ↑s))) * g)) 0
      = seenB g t s := by
  have ht := t.isLt
  have hs := s.isLt
  have e : (if (s : ℕ) ≤ t then (t : ℕ) - s else (s : ℕ) - t) = if (t : ℕ) ≤ s then (s : ℕ) - t else (t : ℕ) - s := by
    split <;> split <;> omega
  rw [dist, e]
  simp (disch := word_cmp_side) only [hlo_ix]
  unfold seenB decay
  by_cases h : (t : ℕ) ≤ s <;> simp [h]

theorem lateF_eq (g : EReal) (s : Fin 256) :
    Ideal.exp ((Ideal.ofBits FTy.f32 0x437F0000#32 - FloatOps.sitofp (F := Ideal) FTy.f32 (BitVec.ofNat 32 ↑s)) * g)
      = decay g (255 - s) := by
  have hs := s.isLt
  rw [c255, sitofp_small _ (by omega), ← EReal.coe_sub, decay, Nat.cast_sub (by omega)]
  norm_num

theorem lateB_eq (g : EReal) (s : Fin 256) :
    Ideal.exp ((Ideal.ofBits FTy.f32 0x437F0000#32 - (Ideal.ofBits FTy.f32 0x437F0000#32 - FloatOps.sitofp (F := Ideal) FTy.f32 (BitVec.ofNat 32 ↑s))) * g)
      = decay g s := by
  have hs := s.isLt
  rw [c255, sitofp_small _ (by omega), ← EReal.coe_sub, ← EReal.coe_sub, decay]
  congr 3
  ring

section Decays
variable (a : EReal) (t s : Fin 256)

/-- The forward mask of head 0. -/
theorem maskF0 : k0_pay9 (F := Ideal) k0_pay2 k0_pay6 (k0_pay7 a) (FloatOps.ofBits FTy.f32 0#32) (ix2 t s) = seenF (logSig a) t s := by
  pointwise [k0_pay2, k0_pay6, k0_pay7, k0_pay8, k0_pay9, k0_pay10, k0_pay3, k0_pay11, k0_pay12, k0_pay13]
  exact seenF_eq (logSig a) t s

/-- The backward mask of head 0. -/
theorem maskB0 : k0_pay12 (F := Ideal) rows cols k0_pay2 a (ix2 t s) = seenB (logSig a) t s := by
  pointwise [k0_pay2, k0_pay6, k0_pay7, k0_pay8, k0_pay9, k0_pay10, k0_pay3, k0_pay11, k0_pay12, k0_pay13]
  exact seenB_eq (logSig a) t s

/-- The forward decay of the keys of head 0. -/
theorem lateF0 : k0_pay10 (F := Ideal) k0_pay3 (k0_pay7 a) (FloatOps.ofBits FTy.f32 0#32) (ix2 s 0) = decay (logSig a) (255 - s) := by
  pointwise [k0_pay2, k0_pay6, k0_pay7, k0_pay8, k0_pay9, k0_pay10, k0_pay3, k0_pay11, k0_pay12, k0_pay13]
  exact lateF_eq (logSig a) s

/-- The backward decay of the keys of head 0. -/
theorem lateB0 : k0_pay13 (F := Ideal) k0_pay3 a (ix2 s 0) = decay (logSig a) s := by
  pointwise [k0_pay2, k0_pay6, k0_pay7, k0_pay8, k0_pay9, k0_pay10, k0_pay3, k0_pay11, k0_pay12, k0_pay13]
  exact lateB_eq (logSig a) s

/-- The forward mask of head 1. -/
theorem maskF1 : k0_pay17 (F := Ideal) rows cols k0_pay2 a (ix2 t s) = seenF (logSig a) t s := by
  pointwise [k0_pay2, k0_pay3, k0_pay16, k0_pay17, k0_pay18, k0_pay19, k0_pay20, k0_pay21, k0_pay22, k0_pay23]
  exact seenF_eq (logSig a) t s

/-- The backward mask of head 1. -/
theorem maskB1 : k0_pay22 (F := Ideal) rows cols k0_pay2 a (ix2 t s) = seenB (logSig a) t s := by
  pointwise [k0_pay2, k0_pay3, k0_pay16, k0_pay17, k0_pay18, k0_pay19, k0_pay20, k0_pay21, k0_pay22, k0_pay23]
  exact seenB_eq (logSig a) t s

/-- The forward decay of the keys of head 1. -/
theorem lateF1 : k0_pay20 (F := Ideal) (k0_pay18 k0_pay3) (k0_pay19 a) (ix2 s 0) = decay (logSig a) (255 - s) := by
  pointwise [k0_pay2, k0_pay3, k0_pay16, k0_pay17, k0_pay18, k0_pay19, k0_pay20, k0_pay21, k0_pay22, k0_pay23]
  exact lateF_eq (logSig a) s

/-- The backward decay of the keys of head 1. -/
theorem lateB1 : k0_pay23 (F := Ideal) k0_pay3 a (ix2 s 0) = decay (logSig a) s := by
  pointwise [k0_pay2, k0_pay3, k0_pay16, k0_pay17, k0_pay18, k0_pay19, k0_pay20, k0_pay21, k0_pay22, k0_pay23]
  exact lateB_eq (logSig a) s

/-- The forward mask of head 2. -/
theorem maskF2 : k0_pay27 (F := Ideal) rows cols k0_pay2 a (ix2 t s) = seenF (logSig a) t s := by
  pointwise [k0_pay2, k0_pay3, k0_pay26, k0_pay27, k0_pay28, k0_pay29, k0_pay30, k0_pay31, k0_pay32, k0_pay33, k0_pay34]
  exact seenF_eq (logSig a) t s

/-- The backward mask of head 2. -/
theorem maskB2 : k0_pay33 (F := Ideal) k0_pay2 (k0_pay29 rows cols) k0_pay30 (k0_pay31 a) (ix2 t s) = seenB (logSig a) t s := by
  pointwise [k0_pay2, k0_pay3, k0_pay26, k0_pay27, k0_pay28, k0_pay29, k0_pay30, k0_pay31, k0_pay32, k0_pay33, k0_pay34]
  exact seenB_eq (logSig a) t s

/-- The forward decay of the keys of head 2. -/
theorem lateF2 : k0_pay28 (F := Ideal) k0_pay3 a (ix2 s 0) = decay (logSig a) (255 - s) := by
  pointwise [k0_pay2, k0_pay3, k0_pay26, k0_pay27, k0_pay28, k0_pay29, k0_pay30, k0_pay31, k0_pay32, k0_pay33, k0_pay34]
  exact lateF_eq (logSig a) s

/-- The backward decay of the keys of head 2. -/
theorem lateB2 : k0_pay34 (F := Ideal) k0_pay3 k0_pay30 (k0_pay31 a) (ix2 s 0) = decay (logSig a) s := by
  pointwise [k0_pay2, k0_pay3, k0_pay26, k0_pay27, k0_pay28, k0_pay29, k0_pay30, k0_pay31, k0_pay32, k0_pay33, k0_pay34]
  exact lateB_eq (logSig a) s

/-- The forward mask of head 3. -/
theorem maskF3 : k0_pay40 (F := Ideal) k0_pay2 (k0_pay37 rows cols) k0_pay38 a (ix2 t s) = seenF (logSig a) t s := by
  pointwise [k0_pay2, k0_pay3, k0_pay37, k0_pay38, k0_pay39, k0_pay40, k0_pay41, k0_pay42, k0_pay43, k0_pay44, k0_pay45, k0_pay46, k0_pay47, k0_pay48]
  exact seenF_eq (logSig a) t s

/-- The backward mask of head 3. -/
theorem maskB3 : k0_pay47 (F := Ideal) k0_pay2 (k0_pay42 rows cols) (k0_pay44 a) (k0_pay45 a) (ix2 t s) = seenB (logSig a) t s := by
  pointwise [k0_pay2, k0_pay3, k0_pay37, k0_pay38, k0_pay39, k0_pay40, k0_pay41, k0_pay42, k0_pay43, k0_pay44, k0_pay45, k0_pay46, k0_pay47, k0_pay48]
  exact seenB_eq (logSig a) t s

/-- The forward decay of the keys of head 3. -/
theorem lateF3 : k0_pay41 (F := Ideal) k0_pay3 k0_pay38 a (ix2 s 0) = decay (logSig a) (255 - s) := by
  pointwise [k0_pay2, k0_pay3, k0_pay37, k0_pay38, k0_pay39, k0_pay40, k0_pay41, k0_pay42, k0_pay43, k0_pay44, k0_pay45, k0_pay46, k0_pay47, k0_pay48]
  exact lateF_eq (logSig a) s

/-- The backward decay of the keys of head 3. -/
theorem lateB3 : k0_pay48 (F := Ideal) k0_pay3 (k0_pay44 a) (k0_pay45 a) (ix2 s 0) = decay (logSig a) s := by
  pointwise [k0_pay2, k0_pay3, k0_pay37, k0_pay38, k0_pay39, k0_pay40, k0_pay41, k0_pay42, k0_pay43, k0_pay44, k0_pay45, k0_pay46, k0_pay47, k0_pay48]
  exact lateB_eq (logSig a) s

end Decays

section Heads
variable (a b : EReal) (Q K : FVec Ideal S256x128 .f32) (V Z O P : FVec Ideal S256x256 .f32)
  (MF MB : FVec Ideal S256x256 .f32) (KF KB : FVec Ideal S256x1 .f32)

/-- Head 0: the forward half of the stacked product. -/
theorem outF0 (t j : Fin 256) : k0_pay58 (F := Ideal) (k0_pay49 MF MB (k0_pay4 (F := Ideal) Q) (k0_pay5 (F := Ideal) K) V) (ix2 t j)
    = outp (fun t s => MF (ix2 t s)) (fun t d => Q (ix2 t d)) (fun s d => K (ix2 s d) * kscale) (fun s j => V (ix2 s j)) t j := by
  pointwise [k0_pay57, k0_pay58, k0_pay59, k0_pay60, k0_pay49, k0_pay4, k0_pay5, outp]

/-- Head 0: the backward half of the stacked product. -/
theorem outB0 (t j : Fin 256) : k0_pay60 (F := Ideal) (k0_pay49 MF MB (k0_pay4 (F := Ideal) Q) (k0_pay5 (F := Ideal) K) V) (ix2 t j)
    = outp (fun t s => MB (ix2 t s)) (fun t d => Q (ix2 t d)) (fun s d => K (ix2 s d) * kscale) (fun s j => V (ix2 s j)) t j := by
  pointwise [k0_pay57, k0_pay58, k0_pay59, k0_pay60, k0_pay49, k0_pay4, k0_pay5, outp]

/-- Head 0: the gated row. -/
theorem gate0 (t j : Fin 256) : k0_pay79 (F := Ideal) (O) (P) Z (ix2 t j)
    = gated (fun j => O (ix2 t j) + P (ix2 t j)) (fun j => Z (ix2 t j)) j := by
  pointwise [k0_pay79, gated]

/-- Head 0: the forward state. -/
theorem stF0 (d : Fin 128) (j : Fin 256) : k0_pay74 (F := Ideal) (k0_pay57 (k0_pay53 KF KB (k0_pay5 (F := Ideal) K) V)) (ix6 0 0 0 0 d j)
    = stat (fun s => KF (ix2 s 0)) (fun s d => K (ix2 s d) * kscale) (fun s j => V (ix2 s j)) d j := by
  pointwise [k0_pay57, k0_pay58, k0_pay59, k0_pay60, k0_pay74, k0_pay75, k0_pay53, k0_pay5, stat]

/-- Head 0: the backward state. -/
theorem stB0 (d : Fin 128) (j : Fin 256) : k0_pay75 (F := Ideal) (k0_pay59 (k0_pay53 KF KB (k0_pay5 (F := Ideal) K) V)) (ix6 0 0 0 0 d j)
    = stat (fun s => KB (ix2 s 0)) (fun s d => K (ix2 s d) * kscale) (fun s j => V (ix2 s j)) d j := by
  pointwise [k0_pay57, k0_pay58, k0_pay59, k0_pay60, k0_pay74, k0_pay75, k0_pay53, k0_pay5, stat]

/-- Head 0: the row the kernel stores, from the loaded blocks and the two decay words. -/
theorem row0 (t j : Fin 256) : k0_pay79 (F := Ideal) (k0_pay58 (F := Ideal) (k0_pay49 (k0_pay9 (F := Ideal) k0_pay2 k0_pay6 (k0_pay7 a) (FloatOps.ofBits FTy.f32 0#32)) (k0_pay12 (F := Ideal) rows cols k0_pay2 b) (k0_pay4 (F := Ideal) Q) (k0_pay5 (F := Ideal) K) V)) (k0_pay60 (F := Ideal) (k0_pay49 (k0_pay9 (F := Ideal) k0_pay2 k0_pay6 (k0_pay7 a) (FloatOps.ofBits FTy.f32 0#32)) (k0_pay12 (F := Ideal) rows cols k0_pay2 b) (k0_pay4 (F := Ideal) Q) (k0_pay5 (F := Ideal) K) V)) Z (ix2 t j)
    = gated (fun j => outp (seenF (logSig a)) (fun t d => Q (ix2 t d)) (fun s d => K (ix2 s d) * kscale) (fun s j => V (ix2 s j)) t j
        + outp (seenB (logSig b)) (fun t d => Q (ix2 t d)) (fun s d => K (ix2 s d) * kscale) (fun s j => V (ix2 s j)) t j)
      (fun j => Z (ix2 t j)) j := by
  rw [gate0]
  simp only [outF0, outB0, maskF0, maskB0]

/-- Head 0: the forward state the kernel stores. -/
theorem stateF0 (d : Fin 128) (j : Fin 256) : k0_pay74 (F := Ideal) (k0_pay57 (k0_pay53 (k0_pay10 (F := Ideal) k0_pay3 (k0_pay7 a) (FloatOps.ofBits FTy.f32 0#32)) (k0_pay13 (F := Ideal) k0_pay3 b) (k0_pay5 (F := Ideal) K) V)) (ix6 0 0 0 0 d j)
    = stat (fun s => decay (logSig a) (255 - s)) (fun s d => K (ix2 s d) * kscale) (fun s j => V (ix2 s j)) d j := by
  rw [stF0]
  simp only [lateF0]

/-- Head 0: the backward state the kernel stores. -/
theorem stateB0 (d : Fin 128) (j : Fin 256) : k0_pay75 (F := Ideal) (k0_pay59 (k0_pay53 (k0_pay10 (F := Ideal) k0_pay3 (k0_pay7 a) (FloatOps.ofBits FTy.f32 0#32)) (k0_pay13 (F := Ideal) k0_pay3 b) (k0_pay5 (F := Ideal) K) V)) (ix6 0 0 0 0 d j)
    = stat (fun s => decay (logSig b) s) (fun s d => K (ix2 s d) * kscale) (fun s j => V (ix2 s j)) d j := by
  rw [stB0]
  simp only [lateB0]

/-- Head 1: the forward half of the stacked product. -/
theorem outF1 (t j : Fin 256) : k0_pay62 (F := Ideal) (k0_pay50 MF MB (k0_pay14 (F := Ideal) Q) (k0_pay15 (F := Ideal) K) V) (ix2 t j)
    = outp (fun t s => MF (ix2 t s)) (fun t d => Q (ix2 t d)) (fun s d => K (ix2 s d) * kscale) (fun s j => V (ix2 s j)) t j := by
  pointwise [k0_pay61, k0_pay62, k0_pay63, k0_pay64, k0_pay50, k0_pay14, k0_pay15, outp]

/-- Head 1: the backward half of the stacked product. -/
theorem outB1 (t j : Fin 256) : k0_pay64 (F := Ideal) (k0_pay50 MF MB (k0_pay14 (F := Ideal) Q) (k0_pay15 (F := Ideal) K) V) (ix2 t j)
    = outp (fun t s => MB (ix2 t s)) (fun t d => Q (ix2 t d)) (fun s d => K (ix2 s d) * kscale) (fun s j => V (ix2 s j)) t j := by
  pointwise [k0_pay61, k0_pay62, k0_pay63, k0_pay64, k0_pay50, k0_pay14, k0_pay15, outp]

/-- Head 1: the gated row. -/
theorem gate1 (t j : Fin 256) : k0_pay85 (F := Ideal) (k0_pay84 (O) (P)) Z (ix2 t j)
    = gated (fun j => O (ix2 t j) + P (ix2 t j)) (fun j => Z (ix2 t j)) j := by
  pointwise [k0_pay84, k0_pay85, gated]

/-- Head 1: the forward state. -/
theorem stF1 (d : Fin 128) (j : Fin 256) : k0_pay80 (F := Ideal) (k0_pay61 KF KB (k0_pay15 (F := Ideal) K) V) (ix6 0 0 0 0 d j)
    = stat (fun s => KF (ix2 s 0)) (fun s d => K (ix2 s d) * kscale) (fun s j => V (ix2 s j)) d j := by
  pointwise [k0_pay61, k0_pay62, k0_pay63, k0_pay64, k0_pay80, k0_pay81, k0_pay54, k0_pay15, stat]

/-- Head 1: the backward state. -/
theorem stB1 (d : Fin 128) (j : Fin 256) : k0_pay81 (F := Ideal) (k0_pay63 KF KB (k0_pay15 (F := Ideal) K) V) (ix6 0 0 0 0 d j)
    = stat (fun s => KB (ix2 s 0)) (fun s d => K (ix2 s d) * kscale) (fun s j => V (ix2 s j)) d j := by
  pointwise [k0_pay61, k0_pay62, k0_pay63, k0_pay64, k0_pay80, k0_pay81, k0_pay54, k0_pay15, stat]

/-- Head 1: the row the kernel stores, from the loaded blocks and the two decay words. -/
theorem row1 (t j : Fin 256) : k0_pay85 (F := Ideal) (k0_pay84 (k0_pay62 (F := Ideal) (k0_pay50 (k0_pay17 (F := Ideal) rows cols k0_pay2 a) (k0_pay22 (F := Ideal) rows cols k0_pay2 b) (k0_pay14 (F := Ideal) Q) (k0_pay15 (F := Ideal) K) V)) (k0_pay64 (F := Ideal) (k0_pay50 (k0_pay17 (F := Ideal) rows cols k0_pay2 a) (k0_pay22 (F := Ideal) rows cols k0_pay2 b) (k0_pay14 (F := Ideal) Q) (k0_pay15 (F := Ideal) K) V))) Z (ix2 t j)
    = gated (fun j => outp (seenF (logSig a)) (fun t d => Q (ix2 t d)) (fun s d => K (ix2 s d) * kscale) (fun s j => V (ix2 s j)) t j
        + outp (seenB (logSig b)) (fun t d => Q (ix2 t d)) (fun s d => K (ix2 s d) * kscale) (fun s j => V (ix2 s j)) t j)
      (fun j => Z (ix2 t j)) j := by
  rw [gate1]
  simp only [outF1, outB1, maskF1, maskB1]

/-- Head 1: the forward state the kernel stores. -/
theorem stateF1 (d : Fin 128) (j : Fin 256) : k0_pay80 (F := Ideal) (k0_pay61 (k0_pay20 (F := Ideal) (k0_pay18 k0_pay3) (k0_pay19 a)) (k0_pay23 (F := Ideal) k0_pay3 b) (k0_pay15 (F := Ideal) K) V) (ix6 0 0 0 0 d j)
    = stat (fun s => decay (logSig a) (255 - s)) (fun s d => K (ix2 s d) * kscale) (fun s j => V (ix2 s j)) d j := by
  rw [stF1]
  simp only [lateF1]

/-- Head 1: the backward state the kernel stores. -/
theorem stateB1 (d : Fin 128) (j : Fin 256) : k0_pay81 (F := Ideal) (k0_pay63 (k0_pay20 (F := Ideal) (k0_pay18 k0_pay3) (k0_pay19 a)) (k0_pay23 (F := Ideal) k0_pay3 b) (k0_pay15 (F := Ideal) K) V) (ix6 0 0 0 0 d j)
    = stat (fun s => decay (logSig b) s) (fun s d => K (ix2 s d) * kscale) (fun s j => V (ix2 s j)) d j := by
  rw [stB1]
  simp only [lateB1]

/-- Head 2: the forward half of the stacked product. -/
theorem outF2 (t j : Fin 256) : k0_pay67 (F := Ideal) (k0_pay65 (k0_pay51 MF MB (k0_pay24 (F := Ideal) Q) (k0_pay25 (F := Ideal) K (FloatOps.ofBits FTy.f32 1035273459#32)) V)) (ix2 t j)
    = outp (fun t s => MF (ix2 t s)) (fun t d => Q (ix2 t d)) (fun s d => K (ix2 s d) * kscale) (fun s j => V (ix2 s j)) t j := by
  pointwise [k0_pay65, k0_pay66, k0_pay67, k0_pay68, k0_pay69, k0_pay51, k0_pay24, k0_pay25, outp]

/-- Head 2: the backward half of the stacked product. -/
theorem outB2 (t j : Fin 256) : k0_pay69 (F := Ideal) (k0_pay51 MF MB (k0_pay24 (F := Ideal) Q) (k0_pay25 (F := Ideal) K (FloatOps.ofBits FTy.f32 1035273459#32)) V) (ix2 t j)
    = outp (fun t s => MB (ix2 t s)) (fun t d => Q (ix2 t d)) (fun s d => K (ix2 s d) * kscale) (fun s j => V (ix2 s j)) t j := by
  pointwise [k0_pay65, k0_pay66, k0_pay67, k0_pay68, k0_pay69, k0_pay51, k0_pay24, k0_pay25, outp]

/-- Head 2: the gated row. -/
theorem gate2 (t j : Fin 256) : k0_pay91 (F := Ideal) (O) (P) Z (ix2 t j)
    = gated (fun j => O (ix2 t j) + P (ix2 t j)) (fun j => Z (ix2 t j)) j := by
  pointwise [k0_pay91, gated]

/-- Head 2: the forward state. -/
theorem stF2 (d : Fin 128) (j : Fin 256) : k0_pay86 (F := Ideal) (k0_pay66 (k0_pay55 KF KB (k0_pay25 (F := Ideal) K (FloatOps.ofBits FTy.f32 1035273459#32)) V)) (ix6 0 0 0 0 d j)
    = stat (fun s => KF (ix2 s 0)) (fun s d => K (ix2 s d) * kscale) (fun s j => V (ix2 s j)) d j := by
  pointwise [k0_pay65, k0_pay66, k0_pay67, k0_pay68, k0_pay69, k0_pay86, k0_pay87, k0_pay55, k0_pay25, stat]

/-- Head 2: the backward state. -/
theorem stB2 (d : Fin 128) (j : Fin 256) : k0_pay87 (F := Ideal) (k0_pay68 (k0_pay55 KF KB (k0_pay25 (F := Ideal) K (FloatOps.ofBits FTy.f32 1035273459#32)) V)) (ix6 0 0 0 0 d j)
    = stat (fun s => KB (ix2 s 0)) (fun s d => K (ix2 s d) * kscale) (fun s j => V (ix2 s j)) d j := by
  pointwise [k0_pay65, k0_pay66, k0_pay67, k0_pay68, k0_pay69, k0_pay86, k0_pay87, k0_pay55, k0_pay25, stat]

/-- Head 2: the row the kernel stores, from the loaded blocks and the two decay words. -/
theorem row2 (t j : Fin 256) : k0_pay91 (F := Ideal) (k0_pay67 (F := Ideal) (k0_pay65 (k0_pay51 (k0_pay27 (F := Ideal) rows cols k0_pay2 a) (k0_pay33 (F := Ideal) k0_pay2 (k0_pay29 rows cols) k0_pay30 (k0_pay31 b)) (k0_pay24 (F := Ideal) Q) (k0_pay25 (F := Ideal) K (FloatOps.ofBits FTy.f32 1035273459#32)) V))) (k0_pay69 (F := Ideal) (k0_pay51 (k0_pay27 (F := Ideal) rows cols k0_pay2 a) (k0_pay33 (F := Ideal) k0_pay2 (k0_pay29 rows cols) k0_pay30 (k0_pay31 b)) (k0_pay24 (F := Ideal) Q) (k0_pay25 (F := Ideal) K (FloatOps.ofBits FTy.f32 1035273459#32)) V)) Z (ix2 t j)
    = gated (fun j => outp (seenF (logSig a)) (fun t d => Q (ix2 t d)) (fun s d => K (ix2 s d) * kscale) (fun s j => V (ix2 s j)) t j
        + outp (seenB (logSig b)) (fun t d => Q (ix2 t d)) (fun s d => K (ix2 s d) * kscale) (fun s j => V (ix2 s j)) t j)
      (fun j => Z (ix2 t j)) j := by
  rw [gate2]
  simp only [outF2, outB2, maskF2, maskB2]

/-- Head 2: the forward state the kernel stores. -/
theorem stateF2 (d : Fin 128) (j : Fin 256) : k0_pay86 (F := Ideal) (k0_pay66 (k0_pay55 (k0_pay28 (F := Ideal) k0_pay3 a) (k0_pay34 (F := Ideal) k0_pay3 k0_pay30 (k0_pay31 b)) (k0_pay25 (F := Ideal) K (FloatOps.ofBits FTy.f32 1035273459#32)) V)) (ix6 0 0 0 0 d j)
    = stat (fun s => decay (logSig a) (255 - s)) (fun s d => K (ix2 s d) * kscale) (fun s j => V (ix2 s j)) d j := by
  rw [stF2]
  simp only [lateF2]

/-- Head 2: the backward state the kernel stores. -/
theorem stateB2 (d : Fin 128) (j : Fin 256) : k0_pay87 (F := Ideal) (k0_pay68 (k0_pay55 (k0_pay28 (F := Ideal) k0_pay3 a) (k0_pay34 (F := Ideal) k0_pay3 k0_pay30 (k0_pay31 b)) (k0_pay25 (F := Ideal) K (FloatOps.ofBits FTy.f32 1035273459#32)) V)) (ix6 0 0 0 0 d j)
    = stat (fun s => decay (logSig b) s) (fun s d => K (ix2 s d) * kscale) (fun s j => V (ix2 s j)) d j := by
  rw [stB2]
  simp only [lateB2]

/-- Head 3: the forward half of the stacked product. -/
theorem outF3 (t j : Fin 256) : k0_pay71 (F := Ideal) (k0_pay52 MF MB (k0_pay35 (F := Ideal) Q) (k0_pay36 (F := Ideal) K) V) (ix2 t j)
    = outp (fun t s => MF (ix2 t s)) (fun t d => Q (ix2 t d)) (fun s d => K (ix2 s d) * kscale) (fun s j => V (ix2 s j)) t j := by
  pointwise [k0_pay70, k0_pay71, k0_pay72, k0_pay73, k0_pay52, k0_pay35, k0_pay36, outp]

/-- Head 3: the backward half of the stacked product. -/
theorem outB3 (t j : Fin 256) : k0_pay73 (F := Ideal) (k0_pay52 MF MB (k0_pay35 (F := Ideal) Q) (k0_pay36 (F := Ideal) K) V) (ix2 t j)
    = outp (fun t s => MB (ix2 t s)) (fun t d => Q (ix2 t d)) (fun s d => K (ix2 s d) * kscale) (fun s j => V (ix2 s j)) t j := by
  pointwise [k0_pay70, k0_pay71, k0_pay72, k0_pay73, k0_pay52, k0_pay35, k0_pay36, outp]

/-- Head 3: the gated row. -/
theorem gate3 (t j : Fin 256) : k0_pay1 (F := Ideal) (k0_pay96 (O) (P)) Z (k0_pay97 Z) (ix2 t j)
    = gated (fun j => O (ix2 t j) + P (ix2 t j)) (fun j => Z (ix2 t j)) j := by
  pointwise [k0_pay1, k0_pay96, k0_pay97, gated]

/-- Head 3: the forward state. -/
theorem stF3 (d : Fin 128) (j : Fin 256) : k0_pay92 (F := Ideal) (k0_pay70 (k0_pay56 KF KB (k0_pay36 (F := Ideal) K) V)) (ix6 0 0 0 0 d j)
    = stat (fun s => KF (ix2 s 0)) (fun s d => K (ix2 s d) * kscale) (fun s j => V (ix2 s j)) d j := by
  pointwise [k0_pay70, k0_pay71, k0_pay72, k0_pay73, k0_pay92, k0_pay93, k0_pay56, k0_pay36, stat]

/-- Head 3: the backward state. -/
theorem stB3 (d : Fin 128) (j : Fin 256) : k0_pay93 (F := Ideal) (k0_pay72 (k0_pay56 KF KB (k0_pay36 (F := Ideal) K) V)) (ix6 0 0 0 0 d j)
    = stat (fun s => KB (ix2 s 0)) (fun s d => K (ix2 s d) * kscale) (fun s j => V (ix2 s j)) d j := by
  pointwise [k0_pay70, k0_pay71, k0_pay72, k0_pay73, k0_pay92, k0_pay93, k0_pay56, k0_pay36, stat]

/-- Head 3: the row the kernel stores, from the loaded blocks and the two decay words. -/
theorem row3 (t j : Fin 256) : k0_pay1 (F := Ideal) (k0_pay96 (k0_pay71 (F := Ideal) (k0_pay52 (k0_pay40 (F := Ideal) k0_pay2 (k0_pay37 rows cols) k0_pay38 a) (k0_pay47 (F := Ideal) k0_pay2 (k0_pay42 rows cols) (k0_pay44 b) (k0_pay45 b)) (k0_pay35 (F := Ideal) Q) (k0_pay36 (F := Ideal) K) V)) (k0_pay73 (F := Ideal) (k0_pay52 (k0_pay40 (F := Ideal) k0_pay2 (k0_pay37 rows cols) k0_pay38 a) (k0_pay47 (F := Ideal) k0_pay2 (k0_pay42 rows cols) (k0_pay44 b) (k0_pay45 b)) (k0_pay35 (F := Ideal) Q) (k0_pay36 (F := Ideal) K) V))) Z (k0_pay97 Z) (ix2 t j)
    = gated (fun j => outp (seenF (logSig a)) (fun t d => Q (ix2 t d)) (fun s d => K (ix2 s d) * kscale) (fun s j => V (ix2 s j)) t j
        + outp (seenB (logSig b)) (fun t d => Q (ix2 t d)) (fun s d => K (ix2 s d) * kscale) (fun s j => V (ix2 s j)) t j)
      (fun j => Z (ix2 t j)) j := by
  rw [gate3]
  simp only [outF3, outB3, maskF3, maskB3]

/-- Head 3: the forward state the kernel stores. -/
theorem stateF3 (d : Fin 128) (j : Fin 256) : k0_pay92 (F := Ideal) (k0_pay70 (k0_pay56 (k0_pay41 (F := Ideal) k0_pay3 k0_pay38 a) (k0_pay48 (F := Ideal) k0_pay3 (k0_pay44 b) (k0_pay45 b)) (k0_pay36 (F := Ideal) K) V)) (ix6 0 0 0 0 d j)
    = stat (fun s => decay (logSig a) (255 - s)) (fun s d => K (ix2 s d) * kscale) (fun s j => V (ix2 s j)) d j := by
  rw [stF3]
  simp only [lateF3]

/-- Head 3: the backward state the kernel stores. -/
theorem stateB3 (d : Fin 128) (j : Fin 256) : k0_pay93 (F := Ideal) (k0_pay72 (k0_pay56 (k0_pay41 (F := Ideal) k0_pay3 k0_pay38 a) (k0_pay48 (F := Ideal) k0_pay3 (k0_pay44 b) (k0_pay45 b)) (k0_pay36 (F := Ideal) K) V)) (ix6 0 0 0 0 d j)
    = stat (fun s => decay (logSig b) s) (fun s d => K (ix2 s d) * kscale) (fun s j => V (ix2 s j)) d j := by
  rw [stB3]
  simp only [lateB3]

end Heads
end Cert.KernelIdeal.Block
end
-- ==== Proof.Arrays.lean ====
module
public import proofs.«01_k».proof.Proof.Gen.KernelIdeal.Value
public import proofs.«01_k».proof.Proof.Block
public import Idealize.ShloMosaic.Lib.Pipeline.ValueKit
public import Idealize.ShloMosaic.Lib.Pipeline.ReadBack
/-! What the kernel's two result arrays hold after the run. -/
@[expose] public section
set_option maxRecDepth 16384
noncomputable section
open Idealize.ShloMosaic Idealize.ShloMosaic.TcCoe Idealize.SL.Sem
open Idealize.ShloMosaic.Pipeline (Dat)
namespace Cert.KernelIdeal.Arrays
open Cert.KernelIdeal Cert.KernelIdeal.Gen Cert.KernelIdeal.Block Cert.Retention
variable (m : (ℓ : Loc nD τ sig) → Buf (Elt Ideal) ℓ)

/-- The block of each window at a grid point, and the place of the decay words. -/
theorem idx : ∀ t : Fin cfg0.N, win0_0.index t = ![t.val, 0] ∧ win0_1.index t = ![t.val, 1] ∧ win0_2.index t = ![t.val, 1]
    ∧ win0_3.index t = ![t.val, 2] ∧ win0_4.index t = ![0] ∧ win0_5.index t = ![t.val, 0] ∧ win0_6.index t = ![t.val, 0, 0, 0, 0, 0] :=
  (by decide +kernel : ∀ t : Fin grid0.N, _)

set_option maxHeartbeats 3200000 in
/-- The first result array holds the gated rows. -/
theorem arr5 (c : Dev nD) : (dats m 0 c).arrAt 5 cfg0.N
    = resY (m ((c : Thread nD τ).loc main_arg0)) (m ((c : Thread nD τ).loc main_arg1)) := by
  refine (dats m 0 c).arrAt_eq_of_covers 5 _ (by decide +kernel) fun t hf y => ?_
  blk_simp
  rw [after0_5]
  unfold outsAt0
  frame_open
  simp (disch := decide) only [↓ View.readCov_skip, ↓ View.readCov_cons_toLoadRect, ↓ View.readCov_fill]
  frame_out
  have hN : t.val < 32 := lt_of_lt_of_eq t.isLt N_0
  canon_tiles x h
  · idx_vars x
    refine (row3 _ _ _ _ _ _ _ _).trans (resY_point _ _ _ ⟨t, hN⟩ 3 _ _ ?_ ?_ _ _ _ _ _ _ ?_ ?_ ?_ ?_ ?_ ?_)
    · blk_simp [idx t]
      show _ = 256 * (t : ℕ) + _
      omega
    · blk_simp [idx t]
      show _ = 256 * 3 + _
      omega
    · intro t' d; unfold qOf; pointwise; blk_point [iblk, V, idx t]
    · intro t' d; unfold kOf; pointwise; refine Ideal.mul_congr ?_ rfl; blk_point [iblk, V, idx t]
    · intro t' d; unfold vOf; pointwise; blk_point [iblk, V, idx t]
    · intro d; unfold zOf; pointwise; blk_point [iblk, V, idx t]
    · pointwise [k0_off1]; blk_point [iblk, V, idx t]
    · pointwise [k0_off1]; blk_point [iblk, V, idx t]
  · idx_vars x
    refine (row2 _ _ _ _ _ _ _ _).trans (resY_point _ _ _ ⟨t, hN⟩ 2 _ _ ?_ ?_ _ _ _ _ _ _ ?_ ?_ ?_ ?_ ?_ ?_)
    · blk_simp [idx t]
      show _ = 256 * (t : ℕ) + _
      omega
    · blk_simp [idx t]
      show _ = 256 * 2 + _
      omega
    · intro t' d; unfold qOf; pointwise; blk_point [iblk, V, idx t]
    · intro t' d; unfold kOf; pointwise; refine Ideal.mul_congr ?_ rfl; blk_point [iblk, V, idx t]
    · intro t' d; unfold vOf; pointwise; blk_point [iblk, V, idx t]
    · intro d; unfold zOf; pointwise; blk_point [iblk, V, idx t]
    · pointwise [k0_off1]; blk_point [iblk, V, idx t]
    · pointwise [k0_off1]; blk_point [iblk, V, idx t]
  · idx_vars x
    refine (row1 _ _ _ _ _ _ _ _).trans (resY_point _ _ _ ⟨t, hN⟩ 1 _ _ ?_ ?_ _ _ _ _ _ _ ?_ ?_ ?_ ?_ ?_ ?_)
    · blk_simp [idx t]
      show _ = 256 * (t : ℕ) + _
      omega
    · blk_simp [idx t]
      show _ = 256 * 1 + _
      omega
    · intro t' d; unfold qOf; pointwise; blk_point [iblk, V, idx t]
    · intro t' d; unfold kOf; pointwise; refine Ideal.mul_congr ?_ rfl; blk_point [iblk, V, idx t]
    · intro t' d; unfold vOf; pointwise; blk_point [iblk, V, idx t]
    · intro d; unfold zOf; pointwise; blk_point [iblk, V, idx t]
    · pointwise [k0_off1]; blk_point [iblk, V, idx t]
    · pointwise [k0_off1]; blk_point [iblk, V, idx t]
  · idx_vars x
    refine (row0 _ _ _ _ _ _ _ _).trans (resY_point _ _ _ ⟨t, hN⟩ 0 _ _ ?_ ?_ _ _ _ _ _ _ ?_ ?_ ?_ ?_ ?_ ?_)
    · blk_simp [idx t]
      show _ = 256 * (t : ℕ) + _
      omega
    · blk_simp [idx t]
      show _ = 256 * 0 + _
      omega
    · intro t' d; unfold qOf; pointwise; blk_point [iblk, V, idx t]
    · intro t' d; unfold kOf; pointwise; refine Ideal.mul_congr ?_ rfl; blk_point [iblk, V, idx t]
    · intro t' d; unfold vOf; pointwise; blk_point [iblk, V, idx t]
    · intro d; unfold zOf; pointwise; blk_point [iblk, V, idx t]
    · pointwise [k0_off1]; blk_point [iblk, V, idx t]
    · pointwise [k0_off1]; blk_point [iblk, V, idx t]

set_option maxHeartbeats 3200000 in
/-- The second result array holds the states. -/
theorem arr6 (c : Dev nD) : (dats m 0 c).arrAt 6 cfg0.N
    = resS (m ((c : Thread nD τ).loc main_arg0)) (m ((c : Thread nD τ).loc main_arg1)) := by
  refine (dats m 0 c).arrAt_eq_of_covers 6 _ (by decide +kernel) fun t hf y => ?_
  blk_simp
  rw [after0_6]
  unfold outsAt0
  frame_open
  simp (disch := decide) only [↓ View.readCov_skip, ↓ View.readCov_cons_toLoadRect, ↓ View.readCov_fill]
  frame_out
  have hN : t.val < 32 := lt_of_lt_of_eq t.isLt N_0
  canon_tiles x h
  · refine Eq.trans ?_ (resS_zero _ _ _ ?_)
    · pointwise [k0_pay95]
    · blk_simp [idx t]
      omega
  · refine Eq.trans ?_ (resS_zero _ _ _ ?_)
    · pointwise [k0_pay94]
    · blk_simp [idx t]
      omega
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (stateB3 _ _ _ _ _ _).trans (resS_point _ _ _ ⟨t, hN⟩ 1 3 _ _ ?_ ?_ ?_ ?_ ?_ ?_ _ _ _ ?_ ?_ ?_)
    · blk_simp [idx t]
    · blk_simp [idx t]
      exact h1
    · blk_simp [idx t]
      exact h2
    · blk_simp [idx t]
      exact h3
    · blk_simp [idx t]
      exact h4
    · blk_simp [idx t]
      exact h5
    · intro t' d; unfold kOf; pointwise; refine Ideal.mul_congr ?_ rfl; blk_point [iblk, V, idx t]
    · intro t' d; unfold vOf; pointwise; blk_point [iblk, V, idx t]
    · intro s
      refine congrArg₂ decay (congrArg logSig ?_) rfl
      pointwise [k0_off1]; blk_point [iblk, V, idx t]
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (stateF3 _ _ _ _ _ _).trans (resS_point _ _ _ ⟨t, hN⟩ 0 3 _ _ ?_ ?_ ?_ ?_ ?_ ?_ _ _ _ ?_ ?_ ?_)
    · blk_simp [idx t]
    · blk_simp [idx t]
      exact h1
    · blk_simp [idx t]
      exact h2
    · blk_simp [idx t]
      exact h3
    · blk_simp [idx t]
      exact h4
    · blk_simp [idx t]
      exact h5
    · intro t' d; unfold kOf; pointwise; refine Ideal.mul_congr ?_ rfl; blk_point [iblk, V, idx t]
    · intro t' d; unfold vOf; pointwise; blk_point [iblk, V, idx t]
    · intro s
      refine congrArg₂ decay (congrArg logSig ?_) rfl
      pointwise [k0_off1]; blk_point [iblk, V, idx t]
  · refine Eq.trans ?_ (resS_zero _ _ _ ?_)
    · pointwise [k0_pay90, k0_pay89]
    · blk_simp [idx t]
      omega
  · refine Eq.trans ?_ (resS_zero _ _ _ ?_)
    · pointwise [k0_pay88]
    · blk_simp [idx t]
      omega
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (stateB2 _ _ _ _ _ _).trans (resS_point _ _ _ ⟨t, hN⟩ 1 2 _ _ ?_ ?_ ?_ ?_ ?_ ?_ _ _ _ ?_ ?_ ?_)
    · blk_simp [idx t]
    · blk_simp [idx t]
      exact h1
    · blk_simp [idx t]
      exact h2
    · blk_simp [idx t]
      exact h3
    · blk_simp [idx t]
      exact h4
    · blk_simp [idx t]
      exact h5
    · intro t' d; unfold kOf; pointwise; refine Ideal.mul_congr ?_ rfl; blk_point [iblk, V, idx t]
    · intro t' d; unfold vOf; pointwise; blk_point [iblk, V, idx t]
    · intro s
      refine congrArg₂ decay (congrArg logSig ?_) rfl
      pointwise [k0_off1]; blk_point [iblk, V, idx t]
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (stateF2 _ _ _ _ _ _).trans (resS_point _ _ _ ⟨t, hN⟩ 0 2 _ _ ?_ ?_ ?_ ?_ ?_ ?_ _ _ _ ?_ ?_ ?_)
    · blk_simp [idx t]
    · blk_simp [idx t]
      exact h1
    · blk_simp [idx t]
      exact h2
    · blk_simp [idx t]
      exact h3
    · blk_simp [idx t]
      exact h4
    · blk_simp [idx t]
      exact h5
    · intro t' d; unfold kOf; pointwise; refine Ideal.mul_congr ?_ rfl; blk_point [iblk, V, idx t]
    · intro t' d; unfold vOf; pointwise; blk_point [iblk, V, idx t]
    · intro s
      refine congrArg₂ decay (congrArg logSig ?_) rfl
      pointwise [k0_off1]; blk_point [iblk, V, idx t]
  · refine Eq.trans ?_ (resS_zero _ _ _ ?_)
    · pointwise [k0_pay83]
    · blk_simp [idx t]
      omega
  · refine Eq.trans ?_ (resS_zero _ _ _ ?_)
    · pointwise [k0_pay82]
    · blk_simp [idx t]
      omega
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (stateB1 _ _ _ _ _ _).trans (resS_point _ _ _ ⟨t, hN⟩ 1 1 _ _ ?_ ?_ ?_ ?_ ?_ ?_ _ _ _ ?_ ?_ ?_)
    · blk_simp [idx t]
    · blk_simp [idx t]
      exact h1
    · blk_simp [idx t]
      exact h2
    · blk_simp [idx t]
      exact h3
    · blk_simp [idx t]
      exact h4
    · blk_simp [idx t]
      exact h5
    · intro t' d; unfold kOf; pointwise; refine Ideal.mul_congr ?_ rfl; blk_point [iblk, V, idx t]
    · intro t' d; unfold vOf; pointwise; blk_point [iblk, V, idx t]
    · intro s
      refine congrArg₂ decay (congrArg logSig ?_) rfl
      pointwise [k0_off1]; blk_point [iblk, V, idx t]
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (stateF1 _ _ _ _ _ _).trans (resS_point _ _ _ ⟨t, hN⟩ 0 1 _ _ ?_ ?_ ?_ ?_ ?_ ?_ _ _ _ ?_ ?_ ?_)
    · blk_simp [idx t]
    · blk_simp [idx t]
      exact h1
    · blk_simp [idx t]
      exact h2
    · blk_simp [idx t]
      exact h3
    · blk_simp [idx t]
      exact h4
    · blk_simp [idx t]
      exact h5
    · intro t' d; unfold kOf; pointwise; refine Ideal.mul_congr ?_ rfl; blk_point [iblk, V, idx t]
    · intro t' d; unfold vOf; pointwise; blk_point [iblk, V, idx t]
    · intro s
      refine congrArg₂ decay (congrArg logSig ?_) rfl
      pointwise [k0_off1]; blk_point [iblk, V, idx t]
  · refine Eq.trans ?_ (resS_zero _ _ _ ?_)
    · pointwise [k0_pay78]
    · blk_simp [idx t]
      omega
  · refine Eq.trans ?_ (resS_zero _ _ _ ?_)
    · pointwise [k0_pay77, k0_pay76]
    · blk_simp [idx t]
      omega
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (stateB0 _ _ _ _ _ _).trans (resS_point _ _ _ ⟨t, hN⟩ 1 0 _ _ ?_ ?_ ?_ ?_ ?_ ?_ _ _ _ ?_ ?_ ?_)
    · blk_simp [idx t]
    · blk_simp [idx t]
      exact h1
    · blk_simp [idx t]
      exact h2
    · blk_simp [idx t]
      exact h3
    · blk_simp [idx t]
      exact h4
    · blk_simp [idx t]
      exact h5
    · intro t' d; unfold kOf; pointwise; refine Ideal.mul_congr ?_ rfl; blk_point [iblk, V, idx t]
    · intro t' d; unfold vOf; pointwise; blk_point [iblk, V, idx t]
    · intro s
      refine congrArg₂ decay (congrArg logSig ?_) rfl
      pointwise [k0_off1]; blk_point [iblk, V, idx t]
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (stateF0 _ _ _ _ _ _).trans (resS_point _ _ _ ⟨t, hN⟩ 0 0 _ _ ?_ ?_ ?_ ?_ ?_ ?_ _ _ _ ?_ ?_ ?_)
    · blk_simp [idx t]
    · blk_simp [idx t]
      exact h1
    · blk_simp [idx t]
      exact h2
    · blk_simp [idx t]
      exact h3
    · blk_simp [idx t]
      exact h4
    · blk_simp [idx t]
      exact h5
    · intro t' d; unfold kOf; pointwise; refine Ideal.mul_congr ?_ rfl; blk_point [iblk, V, idx t]
    · intro t' d; unfold vOf; pointwise; blk_point [iblk, V, idx t]
    · intro s
      refine congrArg₂ decay (congrArg logSig ?_) rfl
      pointwise [k0_off1]; blk_point [iblk, V, idx t]
end Cert.KernelIdeal.Arrays
end
-- ==== Proof.Runs.lean ====
module
public import proofs.«01_k».proof.Defs
public import proofs.«01_k».proof.Proof.Gen.ReferenceIdeal.Run
public import proofs.«01_k».proof.Proof.Equation
public import proofs.«01_k».proof.Proof.Arrays
public import proofs.«01_k».proof.Proof.Gen.KernelIdeal.Value
public import Idealize.ShloMosaic.Lib.Claim
/-! The two idealized programs run, and under the precondition their results are the specification's arrays. -/
@[expose] public section
set_option maxRecDepth 16384
noncomputable section
open Idealize.ShloMosaic Idealize.ShloMosaic.TcCoe Idealize.SL.Sem
namespace Cert.Retention

/-- The reference runs, its arguments end unchanged and every semaphore counter is zero. -/
theorem ref_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2.2, sem_eq_zero_of_no_sems (by decide) r.2⟩)
    (Cert.ReferenceIdeal.Value.run (F := Ideal) m ρ)

/-- The idealized kernel and the idealized reference end with the same two arrays. -/
theorem algebraic : Cert.algebraic_KernelIdeal_ReferenceIdeal_pre_finite_qv
    (hKernelIdeal := Cert.KernelIdeal.Gen.facts) (hReferenceIdeal := Cert.ReferenceIdeal.Gen.facts)
    (hPre_finite_qv := Cert.Pre_finite_qv.Gen.facts) := by
  intro m ρ m' ρ' hpre hagree
  refine ⟨fun c => resY (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => resS (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Arrays.arr5 m c), (h c).2.1.trans (Cert.KernelIdeal.Arrays.arr6 m c), (h c).2.2⟩)
      (Cert.KernelIdeal.Value.run_blocks (F := Ideal) m ρ)
  · refine (θ_run Cert.ReferenceIdeal.defs _ _).mono (fun r h c => ?_) (Cert.ReferenceIdeal.Value.run (F := Ideal) m' ρ')
    have hX := Cert.ReferenceIdeal.Stages.real_of_pre _ _ (hpre c)
    refine ⟨((h c).1.trans (Cert.ReferenceIdeal.Read.val_main_v179_eq _)).trans ?_,
      ((h c).2.1.trans (Cert.ReferenceIdeal.Read.val_main_v183_eq _)).trans ?_, (h c).2.2⟩
    · show Cert.ReferenceIdeal.Read.val_main_v179 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = _
      rw [(hagree c).1, (hagree c).2]
      exact Cert.ReferenceIdeal.Stages.y_eq _ _ hX
    · show Cert.ReferenceIdeal.Read.val_main_v183 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = _
      rw [(hagree c).1, (hagree c).2]
      exact Cert.ReferenceIdeal.Stages.s_eq _ _ hX

end Cert.Retention
end
-- ==== Proof.OutSpec.lean ====
module
public import Idealize.ShloMosaic.Lib.Pointwise
/-! The output projection of a layer: two branches times the weights, the row divided by its root mean square, gated and
added to the input; and the branch that the state space recurrence ends in. -/
@[expose] public section
set_option maxRecDepth 16384
noncomputable section
open Idealize.ShloMosaic
namespace Cert.Outputs

/-- Entry `n` of a row of two branches times the weights. -/
def acc (ya yb : Fin 1024 → EReal) (W : (⟨2, ![2048, 1024]⟩ : Shape).Idx → EReal) (n : Fin 1024) : EReal :=
  (∑ j : Fin 1024, ya j * W (ix2 ⟨j.val, by omega⟩ n)) + ∑ j : Fin 1024, yb j * W (ix2 ⟨1024 + j.val, by omega⟩ n)

/-- The input plus the gated row, the row `A` divided by its root mean square and scaled. -/
def finish (x : EReal) (A : Fin 1024 → EReal) (gate g : EReal) (n : Fin 1024) : EReal :=
  x + gate * (A n * Ideal.rsqrt (Ideal.div (∑ e : Fin 1024, A e * A e) (Ideal.ofBits .f32 0x44800000#32) + Ideal.ofBits .f32 0x358637BD#32) * g)

/-- The smooth rectifier in its form with the hyperbolic tangent. -/
def gelu (y : EReal) : EReal :=
  Ideal.ofBits .f32 0x3F000000#32 * y * (1 + Ideal.tanh (Ideal.ofBits .f32 0x3F4C422A#32 * (y + Ideal.ofBits .f32 0x3D372713#32 * (y * y * y))))

/-- The logistic function. -/
def sigm (x : EReal) : EReal := Ideal.div 1 (1 + Ideal.exp (0 - x))

/-- Entry `d` of the branch: the rectified row times the gates that it gives itself, times the gate `z`. -/
def branch (y z : Fin 1024 → EReal) (WG : (⟨2, ![1024, 1024]⟩ : Shape).Idx → EReal) (d : Fin 1024) : EReal :=
  gelu (y d) * sigm (∑ e : Fin 1024, gelu (y e) * WG (ix2 e d)) * (z d * sigm (z d))

/-- The output of recurrence and direct path at row `a`, read from arrays that hold the position within a window of 256 as the row
and the windows side by side. -/
def mixed (Y U : (⟨2, ![256, 32768]⟩ : Shape).Idx → EReal) (D : Fin 1024 → EReal) (a : Fin 8192) (d : Fin 1024) : EReal :=
  Y (ix2 ⟨a.val % 256, Nat.mod_lt _ (by decide)⟩ ⟨a.val / 256 * 1024 + d.val, by omega⟩)
    + D d * U (ix2 ⟨a.val % 256, Nat.mod_lt _ (by decide)⟩ ⟨a.val / 256 * 1024 + d.val, by omega⟩)

/-- The output projection of two branches that are given. -/
def resCd (YA YB : (⟨2, ![8192, 1024]⟩ : Shape).Idx → EReal) (W : (⟨2, ![2048, 1024]⟩ : Shape).Idx → EReal)
    (X : (⟨2, ![8192, 1024]⟩ : Shape).Idx → EReal) (gate g : Fin 1024 → EReal) : (⟨2, ![8192, 1024]⟩ : Shape).Idx → EReal := fun i =>
  finish (X (ix2 (i 0) (i 1))) (acc (fun j => YA (ix2 (i 0) j)) (fun j => YB (ix2 (i 0) j)) W) (gate (i 1)) (g (i 1)) (i 1)

/-- The output projection of a batch of two sequences of 1024 rows, each with its own gate. -/
def resSmp (YA YB : (⟨2, ![2048, 1024]⟩ : Shape).Idx → EReal) (W : (⟨2, ![2048, 1024]⟩ : Shape).Idx → EReal)
    (X : (⟨2, ![2048, 1024]⟩ : Shape).Idx → EReal) (gate : Fin 2 → Fin 1024 → EReal) (g : Fin 1024 → EReal) :
    (⟨2, ![2048, 1024]⟩ : Shape).Idx → EReal := fun i =>
  finish (X (ix2 (i 0) (i 1))) (acc (fun j => YA (ix2 (i 0) j)) (fun j => YB (ix2 (i 0) j)) W)
    (gate ⟨(i 0 : ℕ) / 1024, by have h : (i 0 : ℕ) < 2048 := (i 0).isLt; omega⟩ (i 1)) (g (i 1)) (i 1)

/-- The output projection of which the first branch is still to be gated. -/
def resAb (Y U : (⟨2, ![256, 32768]⟩ : Shape).Idx → EReal) (Z : (⟨2, ![8192, 4096]⟩ : Shape).Idx → EReal) (D : Fin 1024 → EReal)
    (WG : (⟨2, ![1024, 1024]⟩ : Shape).Idx → EReal) (YB : (⟨2, ![8192, 1024]⟩ : Shape).Idx → EReal)
    (W : (⟨2, ![2048, 1024]⟩ : Shape).Idx → EReal) (X : (⟨2, ![8192, 1024]⟩ : Shape).Idx → EReal) (gate g : Fin 1024 → EReal) :
    (⟨2, ![8192, 1024]⟩ : Shape).Idx → EReal := fun i =>
  finish (X (ix2 (i 0) (i 1)))
    (acc (branch (mixed Y U D (i 0)) (fun d => Z (ix2 (i 0) ⟨d.val, by omega⟩)) WG) (fun j => YB (ix2 (i 0) j)) W) (gate (i 1)) (g (i 1)) (i 1)

end Cert.Outputs
end
-- ==== Proof.ModulSpec.lean ====
module
public import proofs.«01_k».proof.Proof.OutSpec
/-! The modulation rows of every layer, as plain sums over the extended reals. Both programs are shown to compute these. -/
@[expose] public section
set_option maxRecDepth 16384
noncomputable section
open Idealize.ShloMosaic
namespace Cert.Conditions
open Cert.Outputs (sigm)

variable (P : (⟨1, ![1024]⟩ : Shape).Idx → EReal) (S : (⟨2, ![2, 1024]⟩ : Shape).Idx → EReal)
  (W : (⟨3, ![4, 1024, 3072]⟩ : Shape).Idx → EReal) (B : (⟨2, ![4, 3072]⟩ : Shape).Idx → EReal)

/-- The eight conditions: that of the prompt batch, those of the two samples, and zeros. -/
def cnd (b : Fin 8) (d : Fin 1024) : EReal :=
  if (b : ℕ) = 0 then P (ix1 d) else if h : (b : ℕ) < 3 then S (ix2 ⟨(b : ℕ) - 1, by omega⟩ d) else 0

/-- A modulation entry of layer `l` for condition rows `x`, from its weights and bias. -/
def entry (x : Fin 8 → Fin 1024 → EReal) (y : Fin 4 → Fin 3072 → EReal) (l : Fin 4) (b : Fin 8) (j : Fin 3072) : EReal :=
  (∑ d, x b d * sigm (x b d) * W (ix3 l d j)) + y l j

/-- The modulation rows of all layers and conditions. -/
def rows (i : (⟨3, ![4, 8, 3072]⟩ : Shape).Idx) : EReal :=
  entry W (cnd P S) (fun l j => B (ix2 l j)) (i 0) (i 1) (i 2)
end Cert.Conditions
end
-- ==== Proof.ModulArrays.lean ====
module
public import proofs.«01_k».proof.Proof.Gen.ModulIdeal.Value
public import proofs.«01_k».proof.Proof.ModulSpec
public import Idealize.ShloMosaic.Lib.Pipeline.ValueKit
public import Idealize.ShloMosaic.Lib.Pipeline.ReadBack
/-! What the result array of the modulation holds, over the operands of its call. -/
@[expose] public section
set_option maxRecDepth 16384
noncomputable section
open Idealize.ShloMosaic Idealize.ShloMosaic.TcCoe Idealize.SL.Sem
open Idealize.ShloMosaic.Pipeline (Dat)
namespace Cert.ModulIdeal.Arrays
open Cert.ModulIdeal Cert.ModulIdeal.Gen Cert.Conditions
open Cert.Outputs (sigm)
variable (m : (ℓ : Loc nD τ sig) → Buf (Elt Ideal) ℓ)

/-- The block of each window at a grid point. -/
theorem idx : ∀ t : Fin cfg0.N, win0_0.index t = ![0, 0] ∧ win0_1.index t = ![t.val / 3, 0, t.val % 3]
    ∧ win0_2.index t = ![t.val / 3, 0, t.val % 3] ∧ win0_3.index t = ![t.val / 3, 0, t.val % 3] :=
  (by decide +kernel : ∀ t : Fin grid0.N, _)

set_option maxHeartbeats 3200000 in
/-- The result array. -/
theorem arr3 (c : Dev nD) : (dats m 0 c).arrAt 3 cfg0.N
    = fun i : S4x8x3072.Idx => entry (V m c main_arg2) (fun b d => (V m c main_v4 : S8x1024.Idx → EReal) (ix2 b d))
        (fun l j => (V m c main_v5 : S4x1x3072.Idx → EReal) (ix3 l 0 j)) (i 0) (i 1) (i 2) := by
  refine (dats m 0 c).arrAt_eq_of_covers 3 _ (by decide +kernel) fun t hf y => ?_
  blk_simp
  rw [after0_3]
  canon_tiles x h
  idx_vars x
  unfold entry sigm
  pointwise [k0_pay1]
  blk_point [iblk, idx t]
end Cert.ModulIdeal.Arrays
end
-- ==== Proof.Modulation.lean ====
module
public import Idealize.ShloMosaic.Lib.Pipeline.ValueKit
public import Idealize.ShloMosaic.Lib.Routing.OpsPair
/-! Reading the modulation rows: for each condition three rows, to the second of which a row is added, and rows taken in another order. -/
@[expose] public section
set_option maxRecDepth 16384
noncomputable section
open Idealize.ShloMosaic Idealize.ShloMosaic.TcCoe
namespace Cert.Modulation

/-- A fold of which no step changes the value leaves it as it is. -/
theorem fold_none {α ι : Type} (l : List ι) (p : ι → Prop) [DecidablePred p] (g : α → ι → α) (hl : ∀ n ∈ l, ¬ p n) (a : α) :
    l.foldl (fun a n => if p n then g a n else a) a = a := by
  induction l generalizing a with
  | nil => rfl
  | cons n l ih =>
    rw [List.foldl_cons, if_neg (hl n List.mem_cons_self)]
    exact ih (fun k hk => hl k (List.mem_cons_of_mem _ hk)) a

/-- A fold of which one step alone changes the value is that step. -/
theorem fold_one {α ι : Type} (l : List ι) (hn : l.Nodup) (p : ι → Prop) [DecidablePred p] (g : α → ι → α) (k : ι) (hk : k ∈ l)
    (hp : ∀ n ∈ l, p n ↔ n = k) (a : α) :
    l.foldl (fun a n => if p n then g a n else a) a = g a k := by
  induction l generalizing a with
  | nil => exact absurd hk List.not_mem_nil
  | cons n l ih =>
    rw [List.foldl_cons]
    obtain ⟨hnl, hn'⟩ := List.nodup_cons.1 hn
    by_cases e : n = k
    · rw [if_pos ((hp n List.mem_cons_self).2 e), ← e]
      refine fold_none l p g (fun q hq hpq => hnl ?_) _
      rw [e, ← (hp q (List.mem_cons_of_mem _ hq)).1 hpq]
      exact hq
    · rw [if_neg fun h => e ((hp n List.mem_cons_self).1 h)]
      refine ih hn' ?_ (fun q hq => hp q (List.mem_cons_of_mem _ hq)) a
      rcases List.mem_cons.1 hk with h | h
      · exact absurd h.symm e
      · exact h

/-- Where an entry of the added row lands. -/
theorem lands {n : ℕ} (h : ScatterDims.WF ⟨3, ![n, 3, 1024]⟩ ⟨1, ![1]⟩ ⟨2, ![n, 1024]⟩ [0, 1] [1] [1] 0) (idx : IVec ⟨1, ![1]⟩ 32)
    (hidx : ∀ k, idx k = 1#32) (a b : Fin n) (k : Fin 1024) (r : Fin 3) (d : Fin 1024) :
    (⟨[0, 1], [1], [1], 0, h⟩ : ScatterDims ⟨3, ![n, 3, 1024]⟩ ⟨1, ![1]⟩ ⟨2, ![n, 1024]⟩).resultIdx? (ix2 a k) idx = some (ix3 b r d)
      ↔ r = 1 ∧ a = b ∧ k = d := by
  rw [Routing.resultIdx?_eq_some]
  have s0 : (⟨[0, 1], [1], [1], 0, h⟩ : ScatterDims ⟨3, ![n, 3, 1024]⟩ ⟨1, ![1]⟩ ⟨2, ![n, 1024]⟩).start (ix2 a k) idx 0 = 0 := rfl
  have s2 : (⟨[0, 1], [1], [1], 0, h⟩ : ScatterDims ⟨3, ![n, 3, 1024]⟩ ⟨1, ![1]⟩ ⟨2, ![n, 1024]⟩).start (ix2 a k) idx 2 = 0 := rfl
  have s1 : (⟨[0, 1], [1], [1], 0, h⟩ : ScatterDims ⟨3, ![n, 3, 1024]⟩ ⟨1, ![1]⟩ ⟨2, ![n, 1024]⟩).start (ix2 a k) idx 1 = 1 := by
    unfold ScatterDims.start
    rw [dif_pos (List.mem_singleton.2 rfl), hidx]
    rfl
  have w0 : (⟨[0, 1], [1], [1], 0, h⟩ : ScatterDims ⟨3, ![n, 3, 1024]⟩ ⟨1, ![1]⟩ ⟨2, ![n, 1024]⟩).window (ix2 a k) 0 = a.val := rfl
  have w1 : (⟨[0, 1], [1], [1], 0, h⟩ : ScatterDims ⟨3, ![n, 3, 1024]⟩ ⟨1, ![1]⟩ ⟨2, ![n, 1024]⟩).window (ix2 a k) 1 = 0 := rfl
  have w2 : (⟨[0, 1], [1], [1], 0, h⟩ : ScatterDims ⟨3, ![n, 3, 1024]⟩ ⟨1, ![1]⟩ ⟨2, ![n, 1024]⟩).window (ix2 a k) 2 = k.val := rfl
  constructor
  · intro q
    have q0 := q 0
    have q1 := q 1
    rw [s0, w0] at q0
    have q2 := q 2
    rw [s1, w1] at q1
    rw [s2, w2] at q2
    have e0 : ((0 : ℤ) + (a.val : ℤ)) = (b.val : ℤ) := q0
    have e1 : ((1 : ℤ) + ((0 : ℕ) : ℤ)) = (r.val : ℤ) := q1
    have e2 : ((0 : ℤ) + (k.val : ℤ)) = (d.val : ℤ) := q2
    exact ⟨Fin.ext (by show r.val = 1; omega), Fin.ext (by omega), Fin.ext (by omega)⟩
  · rintro ⟨rfl, rfl, rfl⟩ x
    match x with
    | ⟨0, _⟩ => exact (congrArg₂ (fun (u : ℤ) (v : ℕ) => u + (v : ℤ)) s0 w0).trans (zero_add _)
    | ⟨1, _⟩ => exact (congrArg₂ (fun (u : ℤ) (v : ℕ) => u + (v : ℤ)) s1 w1).trans rfl
    | ⟨2, _⟩ => exact (congrArg₂ (fun (u : ℤ) (v : ℕ) => u + (v : ℤ)) s2 w2).trans (zero_add _)

/-- Three rows of which the second had a row added. -/
theorem add_row {α : Type} {n : ℕ} (h : ScatterDims.WF ⟨3, ![n, 3, 1024]⟩ ⟨1, ![1]⟩ ⟨2, ![n, 1024]⟩ [0, 1] [1] [1] 0) (f : α → α → α)
    (x : (⟨3, ![n, 3, 1024]⟩ : Shape).Idx → α) (idx : IVec ⟨1, ![1]⟩ 32) (hidx : ∀ k, idx k = 1#32)
    (upd : (⟨2, ![n, 1024]⟩ : Shape).Idx → α) (b : Fin n) (r : Fin 3) (d : Fin 1024) :
    Host.scatter (⟨[0, 1], [1], [1], 0, h⟩ : ScatterDims ⟨3, ![n, 3, 1024]⟩ ⟨1, ![1]⟩ ⟨2, ![n, 1024]⟩) f x idx upd (ix3 b r d)
      = if r = 1 then f (x (ix3 b 1 d)) (upd (ix2 b d)) else x (ix3 b r d) := by
  rw [Routing.scatter_at]
  have key : ∀ j : (⟨2, ![n, 1024]⟩ : Shape).Idx,
      ((⟨[0, 1], [1], [1], 0, h⟩ : ScatterDims ⟨3, ![n, 3, 1024]⟩ ⟨1, ![1]⟩ ⟨2, ![n, 1024]⟩).resultIdx? j idx = some (ix3 b r d)
        ↔ r = 1 ∧ j = ix2 b d) := by
    intro j
    obtain ⟨j0, j1, rfl⟩ : ∃ (j0 : Fin n) (j1 : Fin 1024), j = ix2 j0 j1 := ⟨j 0, j 1, funext fun x => match x with
      | ⟨0, _⟩ => rfl
      | ⟨1, _⟩ => rfl⟩
    rw [lands h idx hidx]
    refine and_congr_right fun _ => ⟨fun e => by rw [e.1, e.2], fun e => ⟨congrFun e 0, congrFun e 1⟩⟩
  by_cases hr : r = 1
  · subst hr
    rw [if_pos rfl]
    refine (fold_one _ (List.nodup_finRange _) _ _ ((⟨2, ![n, 1024]⟩ : Shape).rowMajor (ix2 b d)) (List.mem_finRange _) (fun k _ => ?_) _).trans ?_
    · rw [key]
      constructor
      · rintro ⟨_, e⟩
        rw [← e, Equiv.apply_symm_apply]
      · rintro rfl
        exact ⟨rfl, Equiv.symm_apply_apply _ _⟩
    · rw [Equiv.symm_apply_apply]
  · rw [if_neg hr]
    exact fold_none _ _ _ (fun n _ e => hr ((key _).1 e).1) _

/-- Rows taken in the order that a list of row numbers gives. -/
theorem take_row {α : Type} {n : ℕ} (h : GatherDims.WF ⟨3, ![n, 3, 1024]⟩ ⟨2, ![3, 1]⟩ ⟨3, ![n, 3, 1024]⟩ [0, 2] [1] [] [1] [] 1 ![n, 1, 1024])
    (x : (⟨3, ![n, 3, 1024]⟩ : Shape).Idx → α) (idx : IVec ⟨2, ![3, 1]⟩ 32) (r q : Fin 3) (hidx : idx (ix2 r 0) = BitVec.ofNat 32 q.val) (b : Fin n) (d : Fin 1024) :
    Host.gather (⟨[0, 2], [1], [], [], [1], 1, ![n, 1, 1024], h⟩ : GatherDims ⟨3, ![n, 3, 1024]⟩ ⟨2, ![3, 1]⟩ ⟨3, ![n, 3, 1024]⟩) x idx (ix3 b r d)
      = x (ix3 b q d) := by
  unfold Host.gather
  refine congrArg x ?_
  funext a
  match a with
  | ⟨0, _⟩ =>
    refine Fin.ext ?_
    show (0 + 0 + b.val : ℕ) = b.val
    omega
  | ⟨1, _⟩ =>
    refine Fin.ext ?_
    refine Eq.trans (b := min (idx (ix2 r 0)).toInt.toNat 2) ?_ ?_
    · refine congrArg (fun e => min (idx e).toInt.toNat 2) ?_
      funext e
      match e with
      | ⟨0, _⟩ => rfl
      | ⟨1, _⟩ => exact Subsingleton.elim (α := Fin 1) _ _
    · rw [hidx]
      revert q
      exact fun q _ => (by decide : ∀ q : Fin 3, min (BitVec.ofNat 32 q.val).toInt.toNat 2 = q.val) q
  | ⟨2, _⟩ =>
    refine Fin.ext ?_
    show (0 + 0 + d.val : ℕ) = d.val
    omega

end Cert.Modulation
end
-- ==== Proof.ModulOperands.lean ====
module
public import proofs.«01_k».proof.Proof.Gen.ModulIdeal.Value
public import proofs.«01_k».proof.Proof.Modulation
public import proofs.«01_k».proof.Proof.ModulSpec
public import Idealize.ShloMosaic.Lib.Pipeline.ReadBack
/-! What the operands of the modulation's call hold. -/
@[expose] public section
set_option maxRecDepth 16384
noncomputable section
open Idealize.ShloMosaic Idealize.ShloMosaic.TcCoe Idealize.SL.Sem
open Idealize.ShloMosaic.Pipeline (Dat)
namespace Cert.ModulIdeal.Operands
open Cert.ModulIdeal Cert.ModulIdeal.Gen Cert.Modulation Cert.Conditions

section
variable {α : Type} {s si u : Shape} (e : ScatterDims s si u) (x : s.Idx → α) (idx : IVec si 32) (upd : u.Idx → α) (p : s.Idx)

/-- An entry on which exactly one update lands holds that update. -/
theorem set_hit (k : u.Idx) (h : ∀ j, e.resultIdx? j idx = some p ↔ j = k) : Host.scatter e (fun _ b => b) x idx upd p = upd k := by
  rw [Routing.scatter_at]
  refine (fold_one _ (List.nodup_finRange _) _ _ (u.rowMajor k) (List.mem_finRange _) (fun n _ => ?_) _).trans ?_
  · rw [h]
    exact ⟨fun e => by rw [← e, Equiv.apply_symm_apply], fun e => by rw [e, Equiv.symm_apply_apply]⟩
  · rw [Equiv.symm_apply_apply]

/-- An entry on which no update lands keeps its value. -/
theorem set_miss (h : ∀ j, ¬ e.resultIdx? j idx = some p) : Host.scatter e (fun _ b => b) x idx upd p = x p := by
  rw [Routing.scatter_at]
  exact fold_none _ _ _ (fun n _ => h _) _
end

/-- Where an entry of the row lands that is written to row 0. -/
theorem lands_row (idx : IVec S1 32) (hidx : ∀ k, idx k = 0#32) (k : Fin 1024) (b : Fin 8) (d : Fin 1024) :
    scatter_S8x1024_S1_S1024_0_0_0_0.resultIdx? (ix1 k) idx = some (ix2 b d) ↔ (b : ℕ) = 0 ∧ k = d := by
  rw [Routing.resultIdx?_eq_some]
  have s0 : scatter_S8x1024_S1_S1024_0_0_0_0.start (ix1 k) idx 0 = 0 := by
    unfold ScatterDims.start
    rw [dif_pos (by decide), hidx]
    rfl
  have s1 : scatter_S8x1024_S1_S1024_0_0_0_0.start (ix1 k) idx 1 = 0 := rfl
  have w0 : scatter_S8x1024_S1_S1024_0_0_0_0.window (ix1 k) 0 = 0 := rfl
  have w1 : scatter_S8x1024_S1_S1024_0_0_0_0.window (ix1 k) 1 = k.val := rfl
  constructor
  · intro q
    have q0 := q 0
    have q1 := q 1
    rw [s0, w0] at q0
    rw [s1, w1] at q1
    have e0 : ((0 : ℤ) + ((0 : ℕ) : ℤ)) = (b.val : ℤ) := q0
    have e1 : ((0 : ℤ) + (k.val : ℤ)) = (d.val : ℤ) := q1
    exact ⟨by omega, Fin.ext (by omega)⟩
  · rintro ⟨hb, rfl⟩ x
    match x with
    | ⟨0, _⟩ => exact (congrArg₂ (fun (u : ℤ) (v : ℕ) => u + (v : ℤ)) s0 w0).trans (by show (0 : ℤ) + ((0 : ℕ) : ℤ) = (b.val : ℤ); omega)
    | ⟨1, _⟩ => exact (congrArg₂ (fun (u : ℤ) (v : ℕ) => u + (v : ℤ)) s1 w1).trans (zero_add _)

/-- Where an entry of the two rows lands that are written from row 1 on. -/
theorem lands_rows (idx : IVec S1 32) (hidx : ∀ k, idx k = 1#32) (a : Fin 2) (k : Fin 1024) (b : Fin 8) (d : Fin 1024) :
    scatter_S8x1024_S1_S2x1024_01_n_0_0.resultIdx? (ix2 a k) idx = some (ix2 b d) ↔ (b : ℕ) = a + 1 ∧ k = d := by
  rw [Routing.resultIdx?_eq_some]
  have s0 : scatter_S8x1024_S1_S2x1024_01_n_0_0.start (ix2 a k) idx 0 = 1 := by
    unfold ScatterDims.start
    rw [dif_pos (by decide), hidx]
    rfl
  have s1 : scatter_S8x1024_S1_S2x1024_01_n_0_0.start (ix2 a k) idx 1 = 0 := rfl
  have w0 : scatter_S8x1024_S1_S2x1024_01_n_0_0.window (ix2 a k) 0 = a.val := rfl
  have w1 : scatter_S8x1024_S1_S2x1024_01_n_0_0.window (ix2 a k) 1 = k.val := rfl
  constructor
  · intro q
    have q0 := q 0
    have q1 := q 1
    rw [s0, w0] at q0
    rw [s1, w1] at q1
    have e0 : ((1 : ℤ) + (a.val : ℤ)) = (b.val : ℤ) := q0
    have e1 : ((0 : ℤ) + (k.val : ℤ)) = (d.val : ℤ) := q1
    exact ⟨by omega, Fin.ext (by omega)⟩
  · rintro ⟨hb, rfl⟩ x
    match x with
    | ⟨0, _⟩ => exact (congrArg₂ (fun (u : ℤ) (v : ℕ) => u + (v : ℤ)) s0 w0).trans (by show (1 : ℤ) + (a.val : ℤ) = (b.val : ℤ); omega)
    | ⟨1, _⟩ => exact (congrArg₂ (fun (u : ℤ) (v : ℕ) => u + (v : ℤ)) s1 w1).trans (zero_add _)

variable (m : (ℓ : Loc nD τ sig) → Buf (Elt Ideal) ℓ)

/-- The conditions, as computed. -/
theorem cond_term (c : Dev nD) : V m c main_v4
    = Host.scatter scatter_S8x1024_S1_S2x1024_01_n_0_0 (fun _ b => b)
        (Host.scatter scatter_S8x1024_S1_S1024_0_0_0_0 (fun _ b => b)
          (broadcastInDim S8x1024 ![] bcast_S_S8x1024 (constant (F := Ideal) S_ .f32 0x00000000#32))
          (broadcastInDim S1 ![] bcast_S_S1 (constantI S_ 32 0#32)) (m ((c : Thread nD τ).loc main_arg0)))
        (broadcastInDim S1 ![] bcast_S_S1 (constantI S_ 32 1#32)) (m ((c : Thread nD τ).loc main_arg1)) := by
  unfold V
  simp only [hostOps0, List.flatten_cons, List.flatten_nil, List.append_nil, List.cons_append, List.nil_append]
  after_results
  try rfl

/-- The bias with a unit axis, as computed. -/
theorem bias_term (c : Dev nD) : V m c main_v5
    = shapeCast S4x1x3072 (m ((c : Thread nD τ).loc main_arg3)) shapeCasts_S4x3072_S4x1x3072 := by
  unfold V
  simp only [hostOps0, List.flatten_cons, List.flatten_nil, List.append_nil, List.cons_append, List.nil_append]
  after_results
  try rfl

/-- The conditions that the call reads. -/
theorem cond_at (c : Dev nD) (b : Fin 8) (d : Fin 1024) : (V m c main_v4 : S8x1024.Idx → EReal) (ix2 b d)
    = cnd (m ((c : Thread nD τ).loc main_arg0)) (m ((c : Thread nD τ).loc main_arg1)) b d := by
  rw [cond_term]
  unfold cnd
  have two : ∀ j : S2x1024.Idx, ∃ (a : Fin 2) (k : Fin 1024), j = ix2 a k := fun j => ⟨j 0, j 1, funext fun x => match x with
    | ⟨0, _⟩ => rfl
    | ⟨1, _⟩ => rfl⟩
  have one : ∀ j : S1024.Idx, ∃ k : Fin 1024, j = ix1 k := fun j => ⟨j 0, funext fun x => match x with
    | ⟨0, _⟩ => rfl⟩
  by_cases h : 0 < (b : ℕ) ∧ (b : ℕ) < 3
  · rw [if_neg (by omega), dif_pos h.2]
    refine set_hit _ _ _ _ _ (ix2 ⟨(b : ℕ) - 1, by omega⟩ d) fun j => ?_
    obtain ⟨a, k, rfl⟩ := two j
    refine (lands_rows _ (fun _ => rfl) a k b d).trans ?_
    constructor
    · rintro ⟨hb, rfl⟩
      exact congrArg (fun a => ix2 a k) (Fin.ext (by show (a : ℕ) = (b : ℕ) - 1; omega))
    · intro e
      have e0 : a = ⟨(b : ℕ) - 1, by omega⟩ := congrFun e 0
      have e1 : k = d := congrFun e 1
      exact ⟨by rw [e0]; show (b : ℕ) = (b : ℕ) - 1 + 1; omega, e1⟩
  · rw [set_miss _ _ _ _ _ fun j => by
      obtain ⟨a, k, rfl⟩ := two j
      refine (not_congr (lands_rows _ (fun _ => rfl) a k b d)).2 fun e => ?_
      have := e.1
      have := a.isLt
      omega]
    by_cases h0 : (b : ℕ) = 0
    · rw [if_pos h0]
      refine set_hit _ _ _ _ _ (ix1 d) fun j => ?_
      obtain ⟨k, rfl⟩ := one j
      refine (lands_row _ (fun _ => rfl) k b d).trans ?_
      exact ⟨fun e => by rw [e.2], fun e => ⟨h0, congrFun e 0⟩⟩
    · rw [if_neg h0, dif_neg (by omega), set_miss _ _ _ _ _ fun j => by
        obtain ⟨k, rfl⟩ := one j
        exact (not_congr (lands_row _ (fun _ => rfl) k b d)).2 fun e => h0 e.1]
      pointwise

/-- The bias that the call reads. -/
theorem bias_at (c : Dev nD) (l : Fin 4) (j : Fin 3072) : (V m c main_v5 : S4x1x3072.Idx → EReal) (ix3 l 0 j)
    = (m ((c : Thread nD τ).loc main_arg3) : S4x3072.Idx → EReal) (ix2 l j) := by
  rw [bias_term]
  pointwise
end Cert.ModulIdeal.Operands
end
-- ==== Proof.ModulRef.lean ====
module
public import proofs.«01_k».proof.Proof.Gen.ModulRefIdeal.Read
public import proofs.«01_k».proof.Proof.ModulSpec
public import Idealize.ShloMosaic.Lib.Pointwise
/-! What the reference of the modulation computes. -/
@[expose] public section
set_option maxRecDepth 16384
noncomputable section
open Idealize.ShloMosaic Idealize.ShloMosaic.TcCoe Idealize.SL.Sem
namespace Cert.ModulRefIdeal.Stages
open Cert.ModulRefIdeal Cert.ModulRefIdeal.Gen Cert.ModulRefIdeal.Read Cert.Conditions
open Cert.Outputs (sigm)
variable (P : FVec Ideal S1024 .f32) (S : FVec Ideal S2x1024 .f32) (W : FVec Ideal S4x1024x3072 .f32) (B : FVec Ideal S4x3072 .f32)

/-- The conditions. -/
theorem cond_at (b : Fin 8) (d : Fin 1024) : val_main_v2 (F := Ideal) P S (ix2 b d) = cnd P S b d := by
  unfold cnd
  pointwise [val_main_v2, val_main_v0, val_main_v1, val_main_cst]
  by_cases h0 : (b : ℕ) = 0
  · rw [dif_pos (by omega), if_pos h0]
  · rw [dif_neg (by omega), if_neg h0]
    by_cases h1 : (b : ℕ) < 3
    · rw [dif_pos (by omega), dif_pos h1]
    · rw [dif_neg (by omega), dif_neg h1]

/-- The activated conditions of layer 0. -/
theorem act0 (b : Fin 8) (d : Fin 1024) : val_main_v3 (F := Ideal) P S (ix2 b d) = cnd P S b d * sigm (cnd P S b d) := by
  unfold sigm
  pointwise [val_main_v3, val_main_call0_v5, val_main_call0_v4, val_main_call0_v3, val_main_call0_v2, val_main_call0_v1, val_main_call0_v0, val_main_call0_cst, val_main_call0_cst_0]
  rw [zero_sub]
  simp only [cond_at]

/-- The activated conditions of layer 1. -/
theorem act1 (b : Fin 8) (d : Fin 1024) : val_main_v12 (F := Ideal) P S (ix2 b d) = cnd P S b d * sigm (cnd P S b d) := act0 P S b d

/-- The activated conditions of layer 2. -/
theorem act2 (b : Fin 8) (d : Fin 1024) : val_main_v21 (F := Ideal) P S (ix2 b d) = cnd P S b d * sigm (cnd P S b d) := act0 P S b d

/-- The activated conditions of layer 3. -/
theorem act3 (b : Fin 8) (d : Fin 1024) : val_main_v30 (F := Ideal) P S (ix2 b d) = cnd P S b d * sigm (cnd P S b d) := act0 P S b d

/-- The modulation of layer 0. -/
theorem layer0 (b : Fin 8) (j : Fin 3072) : val_main_v11 (F := Ideal) P S W B (ix2 b j)
    = entry W (cnd P S) (fun l j => B (ix2 l j)) 0 b j := by
  unfold entry
  pointwise [val_main_v11, val_main_v10, val_main_v9, val_main_v8, val_main_v7, val_main_v6, val_main_v5, val_main_v4]
  simp only [act0]

/-- The modulation of layer 1. -/
theorem layer1 (b : Fin 8) (j : Fin 3072) : val_main_v20 (F := Ideal) P S W B (ix2 b j)
    = entry W (cnd P S) (fun l j => B (ix2 l j)) 1 b j := by
  unfold entry
  pointwise [val_main_v20, val_main_v19, val_main_v18, val_main_v17, val_main_v16, val_main_v15, val_main_v14, val_main_v13]
  simp only [act1]

/-- The modulation of layer 2. -/
theorem layer2 (b : Fin 8) (j : Fin 3072) : val_main_v29 (F := Ideal) P S W B (ix2 b j)
    = entry W (cnd P S) (fun l j => B (ix2 l j)) 2 b j := by
  unfold entry
  pointwise [val_main_v29, val_main_v28, val_main_v27, val_main_v26, val_main_v25, val_main_v24, val_main_v23, val_main_v22]
  simp only [act2]

/-- The modulation of layer 3. -/
theorem layer3 (b : Fin 8) (j : Fin 3072) : val_main_v38 (F := Ideal) P S W B (ix2 b j)
    = entry W (cnd P S) (fun l j => B (ix2 l j)) 3 b j := by
  unfold entry
  pointwise [val_main_v38, val_main_v37, val_main_v36, val_main_v35, val_main_v34, val_main_v33, val_main_v32, val_main_v31]
  simp only [act3]

/-- The result of the reference. -/
theorem res_eq : val_main_v43 (F := Ideal) P S W B = rows P S W B := by
  funext i
  idx_vars i
  show _ = entry W (cnd P S) (fun l j => B (ix2 l j)) i0 i1 i2
  pointwise [val_main_v43, val_main_v42, val_main_v41, val_main_v40, val_main_v39]
  match i0 with
  | ⟨0, _⟩ => exact layer0 P S W B i1 i2
  | ⟨1, _⟩ => exact layer1 P S W B i1 i2
  | ⟨2, _⟩ => exact layer2 P S W B i1 i2
  | ⟨3, _⟩ => exact layer3 P S W B i1 i2
end Cert.ModulRefIdeal.Stages
end
-- ==== Proof.ModulRuns.lean ====
module
public import proofs.«01_k».proof.Defs
public import proofs.«01_k».proof.Proof.Gen.ModulRefIdeal.Run
public import proofs.«01_k».proof.Proof.Gen.ModulIdeal.Value
public import proofs.«01_k».proof.Proof.ModulArrays
public import proofs.«01_k».proof.Proof.ModulOperands
public import proofs.«01_k».proof.Proof.ModulRef
public import Idealize.ShloMosaic.Lib.Claim
/-! The modulation rows: both idealized programs run and end with the same array. -/
@[expose] public section
set_option maxRecDepth 16384
noncomputable section
open Idealize.ShloMosaic Idealize.ShloMosaic.TcCoe Idealize.SL.Sem
namespace Cert.ModulRuns
open Cert.Conditions

section
open Cert.ModulIdeal Cert.ModulIdeal.Gen
variable (m : (ℓ : Loc nD τ sig) → Buf (Elt Ideal) ℓ)

/-- The result array of the kernel. -/
theorem out0 (c : Dev nD) : (dats m 0 c).arrAt 3 cfg0.N
    = rows (m ((c : Thread nD τ).loc main_arg0)) (m ((c : Thread nD τ).loc main_arg1)) (m ((c : Thread nD τ).loc main_arg2)) (m ((c : Thread nD τ).loc main_arg3)) := by
  refine (Arrays.arr3 m c).trans ?_
  funext i
  show entry _ _ _ (i 0) (i 1) (i 2) = entry _ _ _ (i 0) (i 1) (i 2)
  simp only [Operands.cond_at m c, Operands.bias_at m c, V_main_arg2 m c]
end

/-- The reference runs, its arguments end unchanged and every semaphore counter is zero. -/
theorem ref_frame (m : (ℓ : Loc Cert.ModulRefIdeal.nD Cert.ModulRefIdeal.τ Cert.ModulRefIdeal.sig) → Buf (Elt Ideal) ℓ) (ρ : Dev Cert.ModulRefIdeal.nD → PrngReg) :
    θ_run (Cert.ModulRefIdeal.defs (F := Ideal)) (onTc (τ := Cert.ModulRefIdeal.τ) (Cert.ModulRefIdeal.main (F := Ideal))) ⟨m, fun _ => 0, ρ⟩
      (fun r => (∀ c : Dev Cert.ModulRefIdeal.nD, r.2.mem ((c.tc : Thread Cert.ModulRefIdeal.nD Cert.ModulRefIdeal.τ).loc Cert.ModulRefIdeal.main_arg0) = m ((c.tc : Thread Cert.ModulRefIdeal.nD Cert.ModulRefIdeal.τ).loc Cert.ModulRefIdeal.main_arg0) ∧ r.2.mem ((c.tc : Thread Cert.ModulRefIdeal.nD Cert.ModulRefIdeal.τ).loc Cert.ModulRefIdeal.main_arg1) = m ((c.tc : Thread Cert.ModulRefIdeal.nD Cert.ModulRefIdeal.τ).loc Cert.ModulRefIdeal.main_arg1) ∧ r.2.mem ((c.tc : Thread Cert.ModulRefIdeal.nD Cert.ModulRefIdeal.τ).loc Cert.ModulRefIdeal.main_arg2) = m ((c.tc : Thread Cert.ModulRefIdeal.nD Cert.ModulRefIdeal.τ).loc Cert.ModulRefIdeal.main_arg2) ∧ r.2.mem ((c.tc : Thread Cert.ModulRefIdeal.nD Cert.ModulRefIdeal.τ).loc Cert.ModulRefIdeal.main_arg3) = m ((c.tc : Thread Cert.ModulRefIdeal.nD Cert.ModulRefIdeal.τ).loc Cert.ModulRefIdeal.main_arg3)) ∧ r.2.sem = fun _ => 0) :=
  (θ_run Cert.ModulRefIdeal.defs _ _).mono (fun r h => ⟨fun c => (h c).2, sem_eq_zero_of_no_sems (by decide) r.2⟩)
    (Cert.ModulRefIdeal.Value.run (F := Ideal) m ρ)

/-- The idealized kernel and the idealized reference end with the same array. -/
theorem algebraic : Cert.algebraic_ModulIdeal_ModulRefIdeal (hModulIdeal := Cert.ModulIdeal.Gen.facts) (hModulRefIdeal := Cert.ModulRefIdeal.Gen.facts) := by
  intro m ρ m' ρ' _ hagree
  refine ⟨fun c => rows (m ((c.tc : Thread Cert.ModulIdeal.nD Cert.ModulIdeal.τ).loc Cert.ModulIdeal.main_arg0)) (m ((c.tc : Thread Cert.ModulIdeal.nD Cert.ModulIdeal.τ).loc Cert.ModulIdeal.main_arg1)) (m ((c.tc : Thread Cert.ModulIdeal.nD Cert.ModulIdeal.τ).loc Cert.ModulIdeal.main_arg2)) (m ((c.tc : Thread Cert.ModulIdeal.nD Cert.ModulIdeal.τ).loc Cert.ModulIdeal.main_arg3)), ?_, ?_⟩
  · exact (θ_run Cert.ModulIdeal.defs _ _).mono (fun r h c => ⟨(h c).1.trans (out0 m c), (h c).2⟩)
      (Cert.ModulIdeal.Value.run_blocks (F := Ideal) m ρ)
  · refine (θ_run Cert.ModulRefIdeal.defs _ _).mono (fun r h c => ?_) (Cert.ModulRefIdeal.Value.run (F := Ideal) m' ρ')
    refine ⟨((h c).1.trans (Cert.ModulRefIdeal.Read.val_main_v43_eq _ _)).trans ?_, (h c).2⟩
    show Cert.ModulRefIdeal.Read.val_main_v43 (F := Ideal) (m' ((c.tc : Thread Cert.ModulRefIdeal.nD Cert.ModulRefIdeal.τ).loc Cert.ModulRefIdeal.main_arg0)) (m' ((c.tc : Thread Cert.ModulRefIdeal.nD Cert.ModulRefIdeal.τ).loc Cert.ModulRefIdeal.main_arg1)) (m' ((c.tc : Thread Cert.ModulRefIdeal.nD Cert.ModulRefIdeal.τ).loc Cert.ModulRefIdeal.main_arg2)) (m' ((c.tc : Thread Cert.ModulRefIdeal.nD Cert.ModulRefIdeal.τ).loc Cert.ModulRefIdeal.main_arg3)) = _
    rw [(hagree c).1, (hagree c).2.1, (hagree c).2.2.1, (hagree c).2.2.2]
    exact Cert.ModulRefIdeal.Stages.res_eq _ _ _ _

end Cert.ModulRuns
end
-- ==== Proof.MlstmSpec.lean ====
module
public import proofs.«01_k».proof.Proof.Spec
/-! The matrix memory of one window of 256 positions and one head, with exponential input gates and a running-maximum
stabiliser, as plain sums and maxima over the extended reals. Both programs are shown to compute these. -/
@[expose] public section
set_option maxRecDepth 16384
noncomputable section
open Idealize.ShloMosaic
namespace Cert.Memory
open Cert.Retention (logSig)

/-- Position `t` sees position `s`: the earlier ones in direction 0, the later ones in direction 1. -/
abbrev seen (r : Fin 2) (t s : Fin 256) : Prop := if (r : ℕ) = 0 then (s : ℕ) ≤ t else (t : ℕ) ≤ s

section Gates
variable (r : Fin 2) (i l : Fin 256 → EReal)

/-- The sum of the logarithmic forget gates up to position `t`. -/
def acc (t : Fin 256) : EReal := ∑ s, if seen r t s then l s else 0
/-- The logarithmic weight with which position `s` enters, relative to the start of the sequence. -/
def level (s : Fin 256) : EReal := i s - acc r l s
/-- The weight of `s` as `t` sees it. -/
def shown (t s : Fin 256) : EReal := if seen r t s then level r i l s else ⊥
/-- The largest weight up to position `t`, and at least zero. -/
def peak (t : Fin 256) : EReal := max 0 (Finset.univ.sup (shown r i l t))
/-- The largest weight of all positions, and at least zero. -/
def peakAll : EReal := max 0 (Finset.univ.sup (level r i l))
/-- The stabilised weight with which `t` sees `s`. -/
def weight (t s : Fin 256) : EReal := Ideal.exp (shown r i l t s - peak r i l t)
/-- The lower bound of the normaliser at `t`. -/
def least (t : Fin 256) : EReal := Ideal.exp (0 - acc r l t - peak r i l t)
/-- The stabilised weight of position `s` in the final state. -/
def enter (s : Fin 256) : EReal := Ideal.exp (level r i l s - peakAll r i l)
/-- The final stabiliser. -/
def stab : EReal := (∑ s, l s) + peakAll r i l
end Gates

section Products
variable (E : Fin 256 → Fin 256 → EReal) (W L : Fin 256 → EReal) (q k : Fin 256 → Fin 128 → EReal)
  (v : Fin 256 → Fin 256 → EReal)

/-- The normaliser of a row: the sum of its weighted scores, at least the bound `L`. -/
def normal (t : Fin 256) : EReal :=
  max (max (∑ s, (∑ d, q t d * k s d) * E t s) (-(∑ s, (∑ d, q t d * k s d) * E t s))) (L t)
/-- The output of one direction. -/
def hidden (t j : Fin 256) : EReal := Ideal.div (∑ s, (∑ d, q t d * k s d) * E t s * v s j) (normal E L q k t)
/-- The state of one direction. -/
def mat (d : Fin 128) (j : Fin 256) : EReal := ∑ s, k s d * W s * v s j
/-- The normaliser's state of one direction. -/
def vec (d : Fin 128) : EReal := ∑ s, k s d * W s
end Products

/-- A row over its root mean square, scaled, then gated by the sigmoid of `o` and the sigmoid-weighted `z`. -/
def out (h g o z : Fin 256 → EReal) (j : Fin 256) : EReal :=
  Ideal.div 1 (1 + Ideal.exp (0 - o j))
    * (h j * Ideal.rsqrt (Ideal.div (∑ i, h i * h i) (Ideal.ofBits .f32 0x43800000#32) + Ideal.ofBits .f32 0x358637BD#32) * g j)
    * (z j * Ideal.div 1 (1 + Ideal.exp (0 - z j)))

/-! The window `n` and the head `h` of the projected arrays. -/

/-- The projected layer input, of which columns 1024 to 4095 are read: queries, keys, values and output gates. -/
abbrev Main : Type := (⟨2, ![8192, 4096]⟩ : Shape).Idx → EReal
/-- The second projection, which gates the result. -/
abbrev Zs : Type := (⟨2, ![8192, 1024]⟩ : Shape).Idx → EReal
/-- The gates: eight rows of input gates, eight of forget gates. -/
abbrev Gates : Type := (⟨2, ![16, 8192]⟩ : Shape).Idx → EReal
/-- The bias of a gate, per direction and head. -/
abbrev Bias : Type := (⟨2, ![2, 4]⟩ : Shape).Idx → EReal
/-- The scale of the normalised rows. -/
abbrev Norm : Type := (⟨1, ![1024]⟩ : Shape).Idx → EReal
/-- The scale of the keys, `128 ^ (-1/2)` rounded. -/
abbrev kscale : EReal := Ideal.ofBits .f32 0x3DB504F3#32

section Window
variable (X : Main) (Z : Zs) (G : Gates) (bi bf : Bias) (N : Norm) (n : Fin 32) (r : Fin 2) (h : Fin 4)

/-- The queries. -/
def qOf (t : Fin 256) (d : Fin 128) : EReal :=
  X (ix2 (⟨256 * n + t, by omega⟩ : Fin 8192) (⟨1024 + (128 * h + d), by omega⟩ : Fin 4096))
/-- The scaled keys. -/
def kOf (t : Fin 256) (d : Fin 128) : EReal :=
  X (ix2 (⟨256 * n + t, by omega⟩ : Fin 8192) (⟨1536 + (128 * h + d), by omega⟩ : Fin 4096)) * kscale
/-- The values. -/
def vOf (t j : Fin 256) : EReal :=
  X (ix2 (⟨256 * n + t, by omega⟩ : Fin 8192) (⟨2048 + (256 * h + j), by omega⟩ : Fin 4096))
/-- The output gates. -/
def oOf (t j : Fin 256) : EReal :=
  X (ix2 (⟨256 * n + t, by omega⟩ : Fin 8192) (⟨3072 + (256 * h + j), by omega⟩ : Fin 4096))
/-- The gates of the result. -/
def zOf (t j : Fin 256) : EReal :=
  Z (ix2 (⟨256 * n + t, by omega⟩ : Fin 8192) (⟨256 * h + j, by omega⟩ : Fin 1024))
/-- The scale of a column. -/
def gOf (j : Fin 256) : EReal := N (ix1 (⟨256 * h + j, by omega⟩ : Fin 1024))
/-- The input gates. -/
def iOf (t : Fin 256) : EReal :=
  G (ix2 (⟨4 * r + h, by omega⟩ : Fin 16) (⟨256 * n + t, by omega⟩ : Fin 8192)) + bi (ix2 r h)
/-- The logarithmic forget gates. -/
def lOf (t : Fin 256) : EReal :=
  logSig (G (ix2 (⟨8 + (4 * r + h), by omega⟩ : Fin 16) (⟨256 * n + t, by omega⟩ : Fin 8192)) + bf (ix2 r h))

/-- The output of one direction. -/
def hidOf (t j : Fin 256) : EReal :=
  hidden (weight r (iOf G bi n r h) (lOf G bf n r h)) (least r (iOf G bi n r h) (lOf G bf n r h))
    (qOf X n h) (kOf X n h) (vOf X n h) t j
/-- The gated row. -/
def rowOf (t j : Fin 256) : EReal :=
  out (fun j => hidOf X G bi bf n 0 h t j + hidOf X G bi bf n 1 h t j) (gOf N h) (oOf X n h t) (zOf Z n h t) j
end Window

section Results
variable (X : Main) (Z : Zs) (G : Gates) (bi bf : Bias) (N : Norm)

/-- The first result: the gated rows. -/
def resY (i : (⟨2, ![8192, 1024]⟩ : Shape).Idx) : EReal :=
  rowOf X Z G bi bf N ⟨(i 0 : ℕ) / 256, by have h : (i 0 : ℕ) < 8192 := (i 0).isLt; omega⟩
      ⟨(i 1 : ℕ) / 256, by have h : (i 1 : ℕ) < 1024 := (i 1).isLt; omega⟩ ⟨(i 0 : ℕ) % 256, by omega⟩
    ⟨(i 1 : ℕ) % 256, by omega⟩
/-- The second result: the states of the two directions in the first slot, zeros in the second. -/
def resC (i : (⟨6, ![32, 2, 2, 4, 128, 256]⟩ : Shape).Idx) : EReal :=
  if (i 1 : ℕ) = 0 then
    mat (enter (i 2) (iOf G bi (i 0) (i 2) (i 3)) (lOf G bf (i 0) (i 2) (i 3))) (kOf X (i 0) (i 3)) (vOf X (i 0) (i 3)) (i 4) (i 5)
  else 0
/-- The third result: the normalisers' states. -/
def resN (i : (⟨5, ![32, 2, 4, 1, 128]⟩ : Shape).Idx) : EReal :=
  vec (enter (i 1) (iOf G bi (i 0) (i 1) (i 2)) (lOf G bf (i 0) (i 1) (i 2))) (kOf X (i 0) (i 2)) (i 4)
/-- The fourth result: the stabilisers, once per lane. -/
def resM (i : (⟨5, ![32, 2, 4, 1, 128]⟩ : Shape).Idx) : EReal :=
  stab (i 1) (iOf G bi (i 0) (i 1) (i 2)) (lOf G bf (i 0) (i 1) (i 2))

/-- `resY` at the index of window `n`, head `h`, position `t` and column `j`. -/
theorem resY_at (i : (⟨2, ![8192, 1024]⟩ : Shape).Idx) (n : Fin 32) (h : Fin 4) (t j : Fin 256)
    (h0 : (i 0 : ℕ) = 256 * n + t) (h1 : (i 1 : ℕ) = 256 * h + j) : resY X Z G bi bf N i = rowOf X Z G bi bf N n h t j := by
  have e0 : (⟨(i 0 : ℕ) / 256, by have h : (i 0 : ℕ) < 8192 := (i 0).isLt; omega⟩ : Fin 32) = n := Fin.ext (by show _ / 256 = _; omega)
  have e1 : (⟨(i 1 : ℕ) / 256, by have h : (i 1 : ℕ) < 1024 := (i 1).isLt; omega⟩ : Fin 4) = h := Fin.ext (by show _ / 256 = _; omega)
  have e2 : (⟨(i 0 : ℕ) % 256, by omega⟩ : Fin 256) = t := Fin.ext (by show _ % 256 = _; omega)
  have e3 : (⟨(i 1 : ℕ) % 256, by omega⟩ : Fin 256) = j := Fin.ext (by show _ % 256 = _; omega)
  unfold resY
  rw [e0, e1, e2, e3]

/-- The gated row from any blocks that hold the window's arrays. -/
theorem resY_point (i : (⟨2, ![8192, 1024]⟩ : Shape).Idx) (n : Fin 32) (h : Fin 4) (t j : Fin 256)
    (h0 : (i 0 : ℕ) = 256 * n + t) (h1 : (i 1 : ℕ) = 256 * h + j)
    (q k : Fin 256 → Fin 128 → EReal) (v : Fin 256 → Fin 256 → EReal) (g o z i0 f0 i1 f1 : Fin 256 → EReal)
    (hq : ∀ t d, q t d = qOf X n h t d) (hk : ∀ t d, k t d = kOf X n h t d) (hv : ∀ t d, v t d = vOf X n h t d)
    (hg : ∀ j, g j = gOf N h j) (ho : ∀ j, o j = oOf X n h t j) (hz : ∀ j, z j = zOf Z n h t j)
    (hi0 : ∀ t, i0 t = iOf G bi n 0 h t) (hf0 : ∀ t, logSig (f0 t) = lOf G bf n 0 h t)
    (hi1 : ∀ t, i1 t = iOf G bi n 1 h t) (hf1 : ∀ t, logSig (f1 t) = lOf G bf n 1 h t) :
    out (fun j => hidden (weight 0 i0 (fun t => logSig (f0 t))) (least 0 i0 (fun t => logSig (f0 t))) q k v t j
      + hidden (weight 1 i1 (fun t => logSig (f1 t))) (least 1 i1 (fun t => logSig (f1 t))) q k v t j) g o z j
      = resY X Z G bi bf N i := by
  rw [resY_at X Z G bi bf N i n h t j h0 h1]
  obtain rfl : q = qOf X n h := funext fun t => funext fun d => hq t d
  obtain rfl : k = kOf X n h := funext fun t => funext fun d => hk t d
  obtain rfl : v = vOf X n h := funext fun t => funext fun d => hv t d
  obtain rfl : g = gOf N h := funext hg
  obtain rfl : o = oOf X n h t := funext ho
  obtain rfl : z = zOf Z n h t := funext hz
  obtain rfl : i0 = _ := funext hi0
  obtain rfl : i1 = _ := funext hi1
  rw [show (fun t => logSig (f0 t)) = lOf G bf n 0 h from funext hf0, show (fun t => logSig (f1 t)) = lOf G bf n 1 h from funext hf1]
  rfl

/-- The state from any blocks that hold the window's arrays. -/
theorem resC_point (i : (⟨6, ![32, 2, 2, 4, 128, 256]⟩ : Shape).Idx) (n : Fin 32) (r : Fin 2) (h : Fin 4)
    (d : Fin 128) (j : Fin 256) (h0 : (i 0 : ℕ) = n) (h1 : (i 1 : ℕ) = 0) (h2 : (i 2 : ℕ) = r) (h3 : (i 3 : ℕ) = h)
    (h4 : (i 4 : ℕ) = d) (h5 : (i 5 : ℕ) = j) (k : Fin 256 → Fin 128 → EReal) (v : Fin 256 → Fin 256 → EReal)
    (i0 f0 : Fin 256 → EReal)
    (hk : ∀ t d, k t d = kOf X n h t d) (hv : ∀ t d, v t d = vOf X n h t d)
    (hi : ∀ t, i0 t = iOf G bi n r h t) (hf : ∀ t, logSig (f0 t) = lOf G bf n r h t) :
    mat (enter r i0 (fun t => logSig (f0 t))) k v d j = resC X G bi bf i := by
  obtain rfl : n = i 0 := Fin.ext h0.symm
  obtain rfl : r = i 2 := Fin.ext h2.symm
  obtain rfl : h = i 3 := Fin.ext h3.symm
  obtain rfl : d = i 4 := Fin.ext h4.symm
  obtain rfl : j = i 5 := Fin.ext h5.symm
  obtain rfl : k = kOf X (i 0) (i 3) := funext fun t => funext fun d => hk t d
  obtain rfl : v = vOf X (i 0) (i 3) := funext fun t => funext fun d => hv t d
  obtain rfl : i0 = _ := funext hi
  rw [show (fun t => logSig (f0 t)) = _ from funext hf]
  unfold resC
  rw [if_pos h1]

/-- The second slot holds zeros. -/
theorem resC_zero (i : (⟨6, ![32, 2, 2, 4, 128, 256]⟩ : Shape).Idx) (h1 : (i 1 : ℕ) ≠ 0) : 0 = resC X G bi bf i := by
  unfold resC
  rw [if_neg h1]

/-- The normaliser's state from any blocks that hold the window's arrays. -/
theorem resN_point (i : (⟨5, ![32, 2, 4, 1, 128]⟩ : Shape).Idx) (n : Fin 32) (r : Fin 2) (h : Fin 4)
    (d : Fin 128) (h0 : (i 0 : ℕ) = n) (h1 : (i 1 : ℕ) = r) (h2 : (i 2 : ℕ) = h)
    (h4 : (i 4 : ℕ) = d) (k : Fin 256 → Fin 128 → EReal) (i0 f0 : Fin 256 → EReal)
    (hk : ∀ t d, k t d = kOf X n h t d)
    (hi : ∀ t, i0 t = iOf G bi n r h t) (hf : ∀ t, logSig (f0 t) = lOf G bf n r h t) :
    vec (enter r i0 (fun t => logSig (f0 t))) k d = resN X G bi bf i := by
  obtain rfl : n = i 0 := Fin.ext h0.symm
  obtain rfl : r = i 1 := Fin.ext h1.symm
  obtain rfl : h = i 2 := Fin.ext h2.symm
  obtain rfl : d = i 4 := Fin.ext h4.symm
  obtain rfl : k = kOf X (i 0) (i 2) := funext fun t => funext fun d => hk t d
  obtain rfl : i0 = _ := funext hi
  rw [show (fun t => logSig (f0 t)) = _ from funext hf]
  rfl

/-- The stabiliser from any blocks that hold the window's gates. -/
theorem resM_point (i : (⟨5, ![32, 2, 4, 1, 128]⟩ : Shape).Idx) (n : Fin 32) (r : Fin 2) (h : Fin 4)
    (h0 : (i 0 : ℕ) = n) (h1 : (i 1 : ℕ) = r) (h2 : (i 2 : ℕ) = h) (i0 f0 : Fin 256 → EReal)
    (hi : ∀ t, i0 t = iOf G bi n r h t) (hf : ∀ t, logSig (f0 t) = lOf G bf n r h t) :
    stab r i0 (fun t => logSig (f0 t)) = resM G bi bf i := by
  obtain rfl : n = i 0 := Fin.ext h0.symm
  obtain rfl : r = i 1 := Fin.ext h1.symm
  obtain rfl : h = i 2 := Fin.ext h2.symm
  obtain rfl : i0 = _ := funext hi
  rw [show (fun t => logSig (f0 t)) = _ from funext hf]
  rfl
end Results
end Cert.Memory
end
-- ==== Proof.MlstmReal.lean ====
module
public import proofs.«01_k».proof.Proof.MlstmSpec
public import proofs.«01_k».proof.Proof.Collapse
/-! The running maximum and the stabilised sums of the matrix memory. The logarithmic forget gates,
the queries and the values are numbers; input gates and keys may be infinite. -/
@[expose] public section
set_option maxRecDepth 16384
noncomputable section
open Idealize.ShloMosaic
namespace Cert.Memory
open Cert.Retention (coe_sum exp_coe)
open Cert.Collapse (col act col_sum col_mul col_mul' act_act act_sum zero_act exp_sub exp_trans term_ne_top sum_ne_top act_ne_top)

section Weights
variable (i : ℕ → EReal) (l : ℕ → ℝ) (q : ℕ → Fin 128 → ℝ) (k : ℕ → Fin 128 → EReal) (w : ℕ → ℝ)

/-- The sum of the first `n` logarithmic forget gates. -/
def accR (n : ℕ) : ℝ := ∑ x ∈ Finset.range n, l x
/-- The logarithmic weight of a position relative to the start. -/
def lev (s : ℕ) : EReal := i s - (accR l (s + 1) : EReal)
/-- The largest weight of the first `n` positions, and at least zero. -/
def top : ℕ → EReal
  | 0 => 0
  | n + 1 => max (top n) (lev i l n)
/-- The weight of position `s` relative to the largest one of the first `n` positions, a number. -/
def wt (n s : ℕ) : ℝ := (Ideal.exp (lev i l s - top i l n)).toReal
/-- The factor by which the weights relative to the first `n` positions become those relative to the first `m`. -/
def dec (n m : ℕ) : ℝ := (Ideal.exp (top i l n - top i l m)).toReal
/-- The weight with which `t` sees `s`. -/
def wR (t s : ℕ) : ℝ := if s ≤ t then wt i l (t + 1) s else 0
/-- The sum of the first `n` positions with the weights `w`, stabilised by the maximum over them. -/
def st (n : ℕ) (d : Fin 128) : EReal := ∑ s ∈ Finset.range n, k s d * (wt i l n s : EReal) * (w s : EReal)
/-- The sum of the positions that `t` sees, with the infinities taken for one. -/
def outC (t : ℕ) : WithTop ℝ := ∑ s ∈ Finset.range 256, ∑ d, act (w s * wR i l t s * q t d) (col (k s d))

theorem top_nonneg (n : ℕ) : 0 ≤ top i l n := by
  induction n with
  | zero => exact le_rfl
  | succ n ih => exact le_max_of_le_left ih

theorem top_mono (n m : ℕ) : top i l n ≤ top i l (n + m) := by
  induction m with
  | zero => exact le_rfl
  | succ m ih => exact le_max_of_le_left ih

theorem lev_le (n s : ℕ) (h : s < n) : lev i l s ≤ top i l n := by
  obtain ⟨e, rfl⟩ := Nat.exists_eq_add_of_lt h
  exact (le_max_right _ _).trans ((top_mono i l (s + 1) e).trans (le_of_eq (congrArg (top i l) (by omega))))

theorem wt_coe (n s : ℕ) (h : s < n) : Ideal.exp (lev i l s - top i l n) = (wt i l n s : EReal) :=
  (exp_sub _ _ (lev_le i l n s h) (top_nonneg i l n)).1

theorem dec_coe (n m : ℕ) : Ideal.exp (top i l n - top i l (n + m)) = (dec i l n (n + m) : EReal) :=
  (exp_sub _ _ (top_mono i l n m) (top_nonneg i l _)).1

theorem dec_nonneg (n m : ℕ) : 0 ≤ dec i l n (n + m) :=
  (exp_sub _ _ (top_mono i l n m) (top_nonneg i l _)).2

theorem wt_step (n m s : ℕ) (h : s < n) : wt i l (n + m) s = dec i l n (n + m) * wt i l n s := by
  have e := exp_trans _ _ _ (lev_le i l n s h) (top_mono i l n m) (top_nonneg i l n)
  rw [wt_coe i l n s h, wt_coe i l (n + m) s (by omega), dec_coe, ← EReal.coe_mul] at e
  exact EReal.coe_injective e

/-- An upper bound of a maximum over `n + m` positions bounds the maximum over `n` and each of the `m` further ones. -/
theorem top_le_iff (a : ℝ) (n m : ℕ) (y : EReal) :
    (a : EReal) + top i l (n + m) ≤ y ↔ (a : EReal) + top i l n ≤ y ∧ ∀ s < m, (a : EReal) + lev i l (n + s) ≤ y := by
  induction m with
  | zero => simp
  | succ m ih =>
    have e : (a : EReal) + top i l (n + (m + 1)) = max ((a : EReal) + top i l (n + m)) ((a : EReal) + lev i l (n + m)) := by
      rw [← add_assoc, top]
      exact Monotone.map_max (f := fun x : EReal => (a : EReal) + x) fun x y h => add_le_add le_rfl h
    rw [e, max_le_iff, ih, and_assoc]
    refine and_congr_right fun _ => ⟨fun h s hs => ?_, fun h => ⟨fun s hs => h s (by omega), h m (by omega)⟩⟩
    rcases Nat.lt_succ_iff_lt_or_eq.mp hs with h' | rfl
    · exact h.1 s h'
    · exact h.2

/-- The maximum over `n` positions and over the first `m` of a family of further ones. -/
theorem max_sup (N : ℕ) (a : ℝ) (n m : ℕ) (hm : m ≤ N) (b : EReal) (f : Fin N → EReal)
    (hb : b = (a : EReal) + top i l n)
    (hf : ∀ s : Fin N, f s = if (s : ℕ) < m then (a : EReal) + lev i l (n + s) else ⊥) :
    max b (Finset.univ.sup f) = (a : EReal) + top i l (n + m) := by
  refine eq_of_forall_ge_iff fun y => ?_
  rw [top_le_iff, max_le_iff, Finset.sup_le_iff, hb]
  refine and_congr_right fun _ => ⟨fun h s hs => ?_, fun h s _ => ?_⟩
  · have := h ⟨s, by omega⟩ (Finset.mem_univ _)
    rwa [hf, if_pos hs] at this
  · rw [hf]
    by_cases hs : (s : ℕ) < m
    · rw [if_pos hs]; exact h s hs
    · rw [if_neg hs]; exact bot_le

/-- The stabilised sum over 64 further positions. -/
theorem st_step (n : ℕ) (d : Fin 128) :
    st i l k w (n + 64) d = (dec i l n (n + 64) : EReal) * st i l k w n d
      + ∑ s ∈ Finset.range 64, (wt i l (n + 64) (n + s) : EReal) * k (n + s) d * (w (n + s) : EReal) := by
  unfold st
  rw [Finset.sum_range_add, Cert.Collapse.mul_sum _ (dec_nonneg i l n 64)]
  refine congrArg₂ (· + ·) (Finset.sum_congr rfl fun s hs => ?_) (Finset.sum_congr rfl fun s _ => by rw [mul_comm (k _ _)])
  rw [wt_step i l n 64 s (Finset.mem_range.mp hs), EReal.coe_mul, mul_left_comm, mul_assoc, mul_assoc]

/-- The stabilised sum with the infinities taken for one. -/
theorem col_st (n : ℕ) (d : Fin 128) :
    col (st i l k w n d) = ∑ s ∈ Finset.range n, act (w s * wt i l n s) (col (k s d)) := by
  unfold st
  rw [col_sum]
  refine Finset.sum_congr rfl fun s _ => ?_
  rw [col_mul', col_mul', act_act]

/-- The sum that position `n + t` sees, from the stabilised sum over `n` positions and the 64 positions from `n` on. -/
theorem outC_split (n t : ℕ) (ht : t < 64) (hn : n + 64 ≤ 256) :
    outC i l q k w (n + t)
      = (∑ s ∈ Finset.range 64, ∑ d, act (w (n + s) * wR i l (n + t) (n + s) * q (n + t) d) (col (k (n + s) d)))
        + act (dec i l n (n + t + 1)) (∑ d, act (q (n + t) d) (col (st i l k w n d))) := by
  unfold outC
  obtain ⟨e, he⟩ : ∃ e, 256 = n + 64 + e := ⟨256 - (n + 64), by omega⟩
  rw [he, Finset.sum_range_add, Finset.sum_range_add]
  have h3 : ∑ x ∈ Finset.range e, ∑ d, act (w (n + 64 + x) * wR i l (n + t) (n + 64 + x) * q (n + t) d) (col (k (n + 64 + x) d)) = 0 := by
    refine Finset.sum_eq_zero fun x _ => Finset.sum_eq_zero fun d _ => ?_
    rw [wR, if_neg (by omega), mul_zero, zero_mul, zero_act]
  rw [h3, add_zero, add_comm]
  refine congrArg₂ (· + ·) rfl ?_
  simp only [col_st, act_sum, act_act]
  rw [Finset.sum_comm]
  refine Finset.sum_congr rfl fun d _ => Finset.sum_congr rfl fun s hs => ?_
  have := Finset.mem_range.mp hs
  rw [wR, if_pos (by omega), show n + t + 1 = n + (t + 1) by ring, wt_step i l n (t + 1) s this]
  congr 1
  ring

/-- Where the sum without weights is no infinity the sum with real weights is none. -/
theorem outC_ne_top (t : ℕ) (h : outC i l q k (fun _ => 1) t ≠ ⊤) : outC i l q k w t ≠ ⊤ := by
  refine sum_ne_top _ _ fun s hs => sum_ne_top _ _ fun d hd => ?_
  have e := act_ne_top (w s) _ (term_ne_top _ _ (term_ne_top _ _ h s hs) d hd)
  rwa [act_act, one_mul, ← mul_assoc] at e
end Weights

/-! ### One chunk of 64 positions, from the state before it -/

section Step
open Cert.Retention (at64)
variable (i l : Fin 256 → EReal) (q k : Fin 256 → Fin 128 → EReal) (v : Fin 256 → Fin 256 → EReal) (c : Fin 4)

/-- The sum of the logarithmic forget gates from the chunk's start to its position `t`. -/
def cAcc (t : Fin 64) : EReal := ∑ s : Fin 64, if (s : ℕ) ≤ t then l (at64 c s) else 0
/-- The logarithmic weight with which `t` sees `s`. -/
def cLog (t s : Fin 64) : EReal := if (s : ℕ) ≤ t then cAcc l c t - cAcc l c s + i (at64 c s) else ⊥
/-- The logarithmic weight of position `s` at the chunk's end. -/
def cLast (s : Fin 64) : EReal := cAcc l c 63 - cAcc l c s + i (at64 c s)
variable (M : EReal)
/-- The stabiliser of row `t`. -/
def cRow (t : Fin 64) : EReal := max (cAcc l c t + M) (Finset.univ.sup (cLog i l c t))
/-- The stabilised weight with which `t` sees `s`. -/
def cW (t s : Fin 64) : EReal := Ideal.exp (cLog i l c t s - cRow i l c M t)
/-- The stabilised weight with which `t` sees the state. -/
def cInt (t : Fin 64) : EReal := Ideal.exp (cAcc l c t + M - cRow i l c M t)
/-- The stabiliser after the chunk. -/
def cMax : EReal := max (cAcc l c 63 + M) (Finset.univ.sup (cLast i l c))
/-- The stabilised weight of position `s` in the state. -/
def cEnt (s : Fin 64) : EReal := Ideal.exp (cLast i l c s - cMax i l c M)
/-- The decay of the state. -/
def cDec : EReal := Ideal.exp (cAcc l c 63 + M - cMax i l c M)
/-- The state after the chunk. -/
def cMat (C : Fin 128 → Fin 256 → EReal) (d : Fin 128) (j : Fin 256) : EReal :=
  cDec i l c M * C d j + ∑ s : Fin 64, cEnt i l c M s * k (at64 c s) d * v (at64 c s) j
/-- The normaliser's state after the chunk. -/
def cVec (N : Fin 128 → EReal) (d : Fin 128) : EReal :=
  cDec i l c M * N d + ∑ s : Fin 64, cEnt i l c M s * k (at64 c s) d
/-- The numerator of the output. -/
def cNum (C : Fin 128 → Fin 256 → EReal) (t : Fin 64) (j : Fin 256) : EReal :=
  (∑ s : Fin 64, (∑ d, q (at64 c t) d * k (at64 c s) d) * cW i l c M t s * v (at64 c s) j)
    + cInt i l c M t * ∑ d, q (at64 c t) d * C d j
/-- The sum of the weighted scores. -/
def cDen (N : Fin 128 → EReal) (t : Fin 64) : EReal :=
  (∑ s : Fin 64, (∑ d, q (at64 c t) d * k (at64 c s) d) * cW i l c M t s)
    + cInt i l c M t * ∑ d, q (at64 c t) d * N d
/-- The output. -/
def cOut (C : Fin 128 → Fin 256 → EReal) (N : Fin 128 → EReal) (t : Fin 64) (j : Fin 256) : EReal :=
  Ideal.div (cNum i l q k v c M C t j)
    (max (max (cDen i l q k c M N t) (-cDen i l q k c M N t)) (Ideal.exp (-cRow i l c M t)))

/-- The stabiliser before chunk `n`. -/
def befM : ℕ → EReal
  | 0 => 0
  | n + 1 => cMax i l (Fin.ofNat 4 n) (befM n)
/-- The state before chunk `n`. -/
def befC : ℕ → Fin 128 → Fin 256 → EReal
  | 0 => fun _ _ => 0
  | n + 1 => cMat i l k v (Fin.ofNat 4 n) (befM i l n) (befC n)
/-- The normaliser's state before chunk `n`. -/
def befN : ℕ → Fin 128 → EReal
  | 0 => fun _ => 0
  | n + 1 => cVec i l k (Fin.ofNat 4 n) (befM i l n) (befN n)
end Step
end Cert.Memory
end
-- ==== Proof.MlstmScan.lean ====
module
public import proofs.«01_k».proof.Proof.MlstmReal
/-! Where the logarithmic forget gates, the queries and the values are numbers, the recurrence over chunks of 64 positions computes the sums over the window of 256. -/
@[expose] public section
set_option maxRecDepth 16384
noncomputable section
open Idealize.ShloMosaic
namespace Cert.Memory
open Cert.Retention (coe_sum exp_coe at64)
open Cert.Collapse (col act col_sum col_add col_mul col_mul' act_act act_sum eq_of_col top_cases shift div_top)

section Lift
variable (i l : Fin 256 → EReal) (q k : Fin 256 → Fin 128 → EReal) (v : Fin 256 → Fin 256 → EReal)
  (i' : ℕ → EReal) (l' : ℕ → ℝ) (q' : ℕ → Fin 128 → ℝ) (k' : ℕ → Fin 128 → EReal) (v' : ℕ → Fin 256 → ℝ)
  (hi : ∀ t : Fin 256, i t = i' t) (hl : ∀ t, l t = (l' t : EReal))
  (hq : ∀ t d, q t d = (q' t d : EReal)) (hk : ∀ (t : Fin 256) d, k t d = k' t d) (hv : ∀ t d, v t d = (v' t d : EReal))

/-- A sum over the first positions among `N`. -/
theorem sum_if_le (N : ℕ) (f : Fin N → EReal) (g : ℕ → ℝ) (hf : ∀ s, f s = (g s : EReal)) (t : ℕ) (ht : t < N) :
    (∑ s : Fin N, if (s : ℕ) ≤ t then f s else 0) = ((∑ s ∈ Finset.range (t + 1), g s : ℝ) : EReal) := by
  have e : ∀ s : Fin N, (if (s : ℕ) ≤ t then f s else 0) = (((if (s : ℕ) ≤ t then g s else 0 : ℝ)) : EReal) := by
    intro s
    by_cases h : (s : ℕ) ≤ t
    · rw [if_pos h, if_pos h, hf]
    · rw [if_neg h, if_neg h]; rfl
  rw [Finset.sum_congr rfl fun s _ => e s, ← coe_sum]
  congr 1
  rw [← Finset.sum_range (fun s => if s ≤ t then g s else 0), ← Finset.sum_filter]
  refine Finset.sum_congr (Finset.ext fun s => ?_) fun _ _ => rfl
  simp only [Finset.mem_filter, Finset.mem_range]
  omega

include hl in
theorem acc_coe (t : Fin 256) : acc 0 l t = (accR l' (t + 1) : EReal) :=
  sum_if_le 256 l l' hl t t.isLt

include hi hl in
theorem level_coe (s : Fin 256) : level 0 i l s = lev i' l' s := by
  rw [level, acc_coe l l' hl, hi]; rfl

include hi hl in
theorem shown_coe (t s : Fin 256) : shown 0 i l t s = if (s : ℕ) < t + 1 then ((0 : ℝ) : EReal) + lev i' l' (0 + s) else ⊥ := by
  unfold shown
  rw [level_coe i l i' l' hi hl, EReal.coe_zero, zero_add, zero_add]
  by_cases h : (s : ℕ) ≤ t
  · rw [if_pos (show seen 0 t s from h), if_pos (by omega)]
  · rw [if_neg (show ¬ seen 0 t s from h), if_neg (by omega)]

include hi hl in
theorem peak_coe (t : Fin 256) : peak 0 i l t = top i' l' (t + 1) := by
  have e := max_sup i' l' 256 0 0 (t + 1) (by omega) 0 (shown 0 i l t) (by simp [top]) (shown_coe i l i' l' hi hl t)
  rw [zero_add, EReal.coe_zero, zero_add] at e
  exact e

include hi hl in
theorem peakAll_coe : peakAll 0 i l = top i' l' 256 := by
  have e := max_sup i' l' 256 0 0 256 le_rfl 0 (level 0 i l) (by simp [top])
    (fun s => by rw [if_pos s.isLt, EReal.coe_zero, zero_add, zero_add]; exact level_coe i l i' l' hi hl s)
  rw [zero_add, EReal.coe_zero, zero_add] at e
  exact e

include hi hl in
theorem weight_coe (t s : Fin 256) : weight 0 i l t s = (wR i' l' t s : EReal) := by
  rw [weight, shown_coe i l i' l' hi hl, peak_coe i l i' l' hi hl, wR, EReal.coe_zero, zero_add, zero_add]
  by_cases h : (s : ℕ) ≤ t
  · rw [if_pos (by omega), if_pos h, wt_coe i' l' _ _ (by omega)]
  · rw [if_neg (by omega), if_neg h, EReal.bot_sub]; rfl

include hi hl in
theorem least_coe (t : Fin 256) :
    least 0 i l t = Ideal.exp (-((accR l' (t + 1) : EReal) + top i' l' (t + 1))) := by
  rw [least, acc_coe l l' hl, peak_coe i l i' l' hi hl, zero_sub,
    EReal.neg_add (Or.inl (EReal.coe_ne_bot _)) (Or.inl (EReal.coe_ne_top _))]

include hi hl in
theorem enter_coe (s : Fin 256) : enter 0 i l s = (wt i' l' 256 s : EReal) := by
  rw [enter, level_coe i l i' l' hi hl, peakAll_coe i l i' l' hi hl, wt_coe i' l' _ _ s.isLt]

include hi hl in
theorem stab_coe : stab 0 i l = (accR l' 256 : EReal) + top i' l' 256 := by
  rw [stab, peakAll_coe i l i' l' hi hl, accR, Finset.sum_range, coe_sum]
  simp only [hl]

/-! The chunk's own numbers. -/

theorem at_val (c : Fin 4) (t : Fin 64) : ((at64 c t : Fin 256) : ℕ) = 64 * c + t := rfl

include hl in
theorem cAcc_coe (c : Fin 4) (t : Fin 64) :
    cAcc l c t = ((accR l' (64 * c + t + 1) - accR l' (64 * c) : ℝ) : EReal) := by
  unfold cAcc
  rw [sum_if_le 64 (fun s => l (at64 c s)) (fun s => l' (64 * c + s)) (fun s => hl _) t t.isLt]
  congr 1
  unfold accR
  rw [add_assoc, Finset.sum_range_add l' (64 * c), add_sub_cancel_left]

/-- A weight relative to the chunk's start is one relative to the window's start. -/
theorem regroup (a b z : ℝ) (x : EReal) : ((a - z : ℝ) : EReal) - ((b - z : ℝ) : EReal) + x = (a : EReal) + (x - (b : EReal)) := by
  rw [← EReal.coe_sub, show a - z - (b - z) = a - b by ring]
  induction x using EReal.rec with
  | bot => rw [EReal.add_bot, EReal.bot_sub, EReal.add_bot]
  | top => rw [EReal.coe_add_top, EReal.top_sub_coe, EReal.coe_add_top]
  | coe x =>
    rw [← EReal.coe_add, ← EReal.coe_sub, ← EReal.coe_add]
    congr 1
    ring

/-- The carried stabiliser, moved to the chunk's position. -/
theorem carry (a b : ℝ) (x : EReal) : ((a - b : ℝ) : EReal) + ((b : EReal) + x) = (a : EReal) + x := by
  rw [← add_assoc, ← EReal.coe_add, sub_add_cancel]

include hi hl in
theorem cLog_coe (c : Fin 4) (t s : Fin 64) :
    cLog i l c t s = if (s : ℕ) < t + 1 then (accR l' (64 * c + t + 1) : EReal) + lev i' l' (64 * c + s) else ⊥ := by
  unfold cLog
  by_cases h : (s : ℕ) ≤ t
  · rw [if_pos h, if_pos (by omega), cAcc_coe l l' hl, cAcc_coe l l' hl, hi, at_val, regroup]
    rfl
  · rw [if_neg h, if_neg (by omega)]

include hi hl in
theorem cLast_coe (c : Fin 4) (s : Fin 64) :
    cLast i l c s = (accR l' (64 * c + 64) : EReal) + lev i' l' (64 * c + s) := by
  unfold cLast
  rw [cAcc_coe l l' hl, cAcc_coe l l' hl, hi, at_val, regroup]
  rfl

variable (c : Fin 4) (M : EReal) (hM : M = (accR l' (64 * c) : EReal) + top i' l' (64 * c))

include hi hl hM in
theorem cRow_coe (t : Fin 64) :
    cRow i l c M t = (accR l' (64 * c + t + 1) : EReal) + top i' l' (64 * c + t + 1) := by
  refine max_sup i' l' 64 (accR l' (64 * c + t + 1)) (64 * c) (t + 1) (by omega) _ _ ?_ (cLog_coe i l i' l' hi hl c t)
  rw [cAcc_coe l l' hl, hM, carry]

include hi hl hM in
theorem cMax_coe : cMax i l c M = (accR l' (64 * c + 64) : EReal) + top i' l' (64 * c + 64) := by
  refine max_sup i' l' 64 (accR l' (64 * c + 64)) (64 * c) 64 le_rfl _ _ ?_
    (fun s => by rw [if_pos s.isLt]; exact cLast_coe i l i' l' hi hl c s)
  rw [cAcc_coe l l' hl, hM, carry, show 64 * (c : ℕ) + ((63 : Fin 64) : ℕ) + 1 = 64 * c + 64 from rfl]

include hi hl hM in
theorem cW_coe (t s : Fin 64) : cW i l c M t s = (wR i' l' (64 * c + t) (64 * c + s) : EReal) := by
  rw [cW, cLog_coe i l i' l' hi hl, cRow_coe i l i' l' hi hl c M hM, wR]
  by_cases h : (s : ℕ) ≤ t
  · rw [if_pos (by omega), if_pos (by omega), shift, wt_coe i' l' _ _ (by omega)]
  · rw [if_neg (by omega), if_neg (by omega), EReal.bot_sub]; rfl

include hi hl hM in
theorem cInt_coe (t : Fin 64) : cInt i l c M t = (dec i' l' (64 * c) (64 * c + t + 1) : EReal) := by
  rw [cInt, cRow_coe i l i' l' hi hl c M hM, cAcc_coe l l' hl, hM, carry, shift]
  exact dec_coe i' l' (64 * c) (t + 1)

include hi hl hM in
theorem cEnt_coe (s : Fin 64) : cEnt i l c M s = (wt i' l' (64 * c + 64) (64 * c + s) : EReal) := by
  rw [cEnt, cLast_coe i l i' l' hi hl, cMax_coe i l i' l' hi hl c M hM, shift, wt_coe i' l' _ _ (by omega)]

include hi hl hM in
theorem cDec_coe : cDec i l c M = (dec i' l' (64 * c) (64 * c + 64) : EReal) := by
  rw [cDec, cMax_coe i l i' l' hi hl c M hM, cAcc_coe l l' hl, hM, carry,
    show 64 * (c : ℕ) + ((63 : Fin 64) : ℕ) + 1 = 64 * c + 64 from rfl, shift]
  exact dec_coe i' l' (64 * c) 64

omit hM in
include hi hl in
theorem befM_coe (n : ℕ) (hn : n ≤ 4) : befM i l n = (accR l' (64 * n) : EReal) + top i' l' (64 * n) := by
  induction n with
  | zero => simp [befM, accR, top]
  | succ n ih =>
    have e : ((Fin.ofNat 4 n : Fin 4) : ℕ) = n := by simp [Fin.ofNat]; omega
    rw [befM, cMax_coe i l i' l' hi hl _ _ (by rw [e]; exact ih (by omega)), e, show 64 * (n + 1) = 64 * n + 64 by ring]

omit hM in
include hi hl hk hv in
theorem befC_coe (n : ℕ) (hn : n ≤ 4) (d : Fin 128) (j : Fin 256) :
    befC i l k v n d j = st i' l' k' (fun s => v' s j) (64 * n) d := by
  induction n generalizing d j with
  | zero => simp [befC, st]
  | succ n ih =>
    have e : ((Fin.ofNat 4 n : Fin 4) : ℕ) = n := by simp [Fin.ofNat]; omega
    have hM : befM i l n = (accR l' (64 * (Fin.ofNat 4 n : Fin 4)) : EReal) + top i' l' (64 * (Fin.ofNat 4 n : Fin 4)) := by
      rw [e]; exact befM_coe i l i' l' hi hl n (by omega)
    rw [befC, cMat, ih (by omega), show 64 * (n + 1) = 64 * n + 64 by ring, st_step]
    simp only [cDec_coe i l i' l' hi hl _ _ hM, cEnt_coe i l i' l' hi hl _ _ hM, hk, hv, at_val, e]
    rw [Finset.sum_range]

omit hM in
include hi hl hk in
theorem befN_coe (n : ℕ) (hn : n ≤ 4) (d : Fin 128) :
    befN i l k n d = st i' l' k' (fun _ => 1) (64 * n) d := by
  induction n generalizing d with
  | zero => simp [befN, st]
  | succ n ih =>
    have e : ((Fin.ofNat 4 n : Fin 4) : ℕ) = n := by simp [Fin.ofNat]; omega
    have hM : befM i l n = (accR l' (64 * (Fin.ofNat 4 n : Fin 4)) : EReal) + top i' l' (64 * (Fin.ofNat 4 n : Fin 4)) := by
      rw [e]; exact befM_coe i l i' l' hi hl n (by omega)
    rw [befN, cVec, ih (by omega), show 64 * (n + 1) = 64 * n + 64 by ring, st_step]
    simp only [cDec_coe i l i' l' hi hl _ _ hM, cEnt_coe i l i' l' hi hl _ _ hM, hk, at_val, e, EReal.coe_one, mul_one]
    rw [Finset.sum_range]

omit hM in
include hi hl hq hk hv in
/-- The numerator of a chunk's output from the state before it. -/
theorem cNum_col (t : Fin 64) (j : Fin 256) :
    col (cNum i l q k v c (befM i l c) (befC i l k v c) t j) = outC i' l' q' k' (fun s => v' s j) (64 * c + t) := by
  have hM := befM_coe i l i' l' hi hl c (by omega)
  rw [outC_split i' l' q' k' _ _ _ t.isLt (by omega), Finset.sum_range]
  unfold cNum
  simp only [cW_coe i l i' l' hi hl c _ hM, cInt_coe i l i' l' hi hl c _ hM, befC_coe i l k v i' l' k' v' hi hl hk hv c (by omega),
    hq, hk, hv, at_val, col_add, col_sum, col_mul, col_mul', act_act, act_sum]
  simp only [mul_assoc]

omit hM in
include hi hl hq hk in
/-- The sum of a chunk's weighted scores from the state before it. -/
theorem cDen_col (t : Fin 64) :
    col (cDen i l q k c (befM i l c) (befN i l k c) t) = outC i' l' q' k' (fun _ => 1) (64 * c + t) := by
  have hM := befM_coe i l i' l' hi hl c (by omega)
  rw [outC_split i' l' q' k' _ _ _ t.isLt (by omega), Finset.sum_range]
  unfold cDen
  simp only [cW_coe i l i' l' hi hl c _ hM, cInt_coe i l i' l' hi hl c _ hM, befN_coe i l k i' l' k' hi hl hk c (by omega),
    hq, hk, at_val, col_add, col_sum, col_mul, col_mul', act_act, act_sum, one_mul]

omit hM in
include hi hl hq hk hv in
/-- Chunk by chunk is all at once: the outputs. -/
theorem cOut_coe (t : Fin 64) (j : Fin 256) :
    cOut i l q k v c (befM i l c) (befC i l k v c) (befN i l k c) t j
      = hidden (weight 0 i l) (least 0 i l) q k v (at64 c t) j := by
  have hM := befM_coe i l i' l' hi hl c (by omega)
  have e1 : col (∑ s, (∑ d, q (at64 c t) d * k s d) * weight 0 i l (at64 c t) s * v s j)
      = outC i' l' q' k' (fun s => v' s j) (64 * c + t) := by
    unfold outC
    rw [Finset.sum_range]
    simp only [weight_coe i l i' l' hi hl, hq, hk, hv, at_val, col_sum, col_mul, col_mul', act_act, act_sum]
    simp only [mul_assoc]
  have e2 : col (∑ s, (∑ d, q (at64 c t) d * k s d) * weight 0 i l (at64 c t) s)
      = outC i' l' q' k' (fun _ => 1) (64 * c + t) := by
    unfold outC
    rw [Finset.sum_range]
    simp only [weight_coe i l i' l' hi hl, hq, hk, at_val, col_sum, col_mul, col_mul', act_act, act_sum, one_mul]
  have f1 := cNum_col i l q k v i' l' q' k' v' hi hl hq hk hv c t j
  have f2 := cDen_col i l q k i' l' q' k' hi hl hq hk c t
  have big : ∀ x y : EReal, col x = ⊤ → max (max x (-x)) y = ⊤ := by
    intro x y h
    rcases top_cases x h with rfl | rfl <;> simp
  rw [cOut, hidden, normal]
  by_cases h : outC i' l' q' k' (fun _ => 1) (64 * c + t) = ⊤
  · rw [big _ _ (f2.trans h), big _ _ (e2.trans h), div_top, div_top]
  · have g1 := eq_of_col _ _ (f1.trans e1.symm) (f1 ▸ outC_ne_top i' l' q' k' _ _ h)
    have g2 := eq_of_col _ _ (f2.trans e2.symm) (f2 ▸ h)
    rw [g1, g2, cRow_coe i l i' l' hi hl c _ hM, least_coe i l i' l' hi hl, at_val]

omit hM in
include hi hl in
/-- Chunk by chunk is all at once: the last stabiliser. -/
theorem befM_four : befM i l 4 = stab 0 i l := by
  rw [befM_coe i l i' l' hi hl 4 le_rfl, stab_coe i l i' l' hi hl]

omit hM in
include hi hl hk hv in
/-- Chunk by chunk is all at once: the last state. -/
theorem befC_four (d : Fin 128) (j : Fin 256) : befC i l k v 4 d j = mat (enter 0 i l) k v d j := by
  rw [befC_coe i l k v i' l' k' v' hi hl hk hv 4 le_rfl, mat, st, Finset.sum_range]
  simp only [enter_coe i l i' l' hi hl, hk, hv]

omit hM in
include hi hl hk in
/-- Chunk by chunk is all at once: the normaliser's last state. -/
theorem befN_four (d : Fin 128) : befN i l k 4 d = vec (enter 0 i l) k d := by
  rw [befN_coe i l k i' l' k' hi hl hk 4 le_rfl, vec, st, Finset.sum_range]
  simp only [enter_coe i l i' l' hi hl, hk, EReal.coe_one, mul_one]
end Lift
end Cert.Memory
end
-- ==== Proof.MlstmTurn.lean ====
module
public import proofs.«01_k».proof.Proof.MlstmScan
/-! The second direction is the first one over the reversed window; both directions chunk by chunk. -/
@[expose] public section
set_option maxRecDepth 16384
noncomputable section
open Idealize.ShloMosaic
namespace Cert.Memory
open Cert.Retention (at64 lift_real)

section Turn
variable (i l : Fin 256 → EReal) (q k : Fin 256 → Fin 128 → EReal) (v : Fin 256 → Fin 256 → EReal)

theorem sum_rev (f : Fin 256 → EReal) : ∑ s : Fin 256, f s.rev = ∑ s, f s := Equiv.sum_comp Fin.revPerm f

theorem sup_rev (f : Fin 256 → EReal) : (Finset.univ.sup fun s : Fin 256 => f s.rev) = Finset.univ.sup f := by
  rw [Finset.sup_univ_eq_iSup, Finset.sup_univ_eq_iSup]
  exact Equiv.iSup_comp Fin.revPerm

theorem seen_rev (t s : Fin 256) : seen 0 t.rev s.rev ↔ seen 1 t s := by
  show (s.rev : ℕ) ≤ t.rev ↔ (t : ℕ) ≤ s
  rw [Fin.val_rev, Fin.val_rev]
  omega

theorem acc_rev (t : Fin 256) : acc 0 (fun t => l t.rev) t.rev = acc 1 l t := by
  refine (sum_rev _).symm.trans (Finset.sum_congr rfl fun s _ => ?_)
  simp only [Fin.rev_rev]
  exact if_congr (seen_rev t s) rfl rfl

theorem level_rev (s : Fin 256) : level 0 (fun t => i t.rev) (fun t => l t.rev) s.rev = level 1 i l s := by
  unfold level
  simp only [acc_rev, Fin.rev_rev]

theorem shown_rev (t s : Fin 256) :
    shown 0 (fun t => i t.rev) (fun t => l t.rev) t.rev s.rev = shown 1 i l t s := by
  unfold shown
  rw [level_rev]
  exact if_congr (seen_rev t s) rfl rfl

theorem peak_rev (t : Fin 256) : peak 0 (fun t => i t.rev) (fun t => l t.rev) t.rev = peak 1 i l t := by
  unfold peak
  refine congrArg (max 0) ((sup_rev _).symm.trans ?_)
  simp only [shown_rev]

theorem peakAll_rev : peakAll 0 (fun t => i t.rev) (fun t => l t.rev) = peakAll 1 i l := by
  unfold peakAll
  refine congrArg (max 0) ((sup_rev _).symm.trans ?_)
  simp only [level_rev]

theorem weight_rev (t s : Fin 256) :
    weight 0 (fun t => i t.rev) (fun t => l t.rev) t.rev s.rev = weight 1 i l t s := by
  unfold weight
  rw [shown_rev, peak_rev]

theorem least_rev (t : Fin 256) : least 0 (fun t => i t.rev) (fun t => l t.rev) t.rev = least 1 i l t := by
  unfold least
  rw [acc_rev, peak_rev]

theorem enter_rev (s : Fin 256) : enter 0 (fun t => i t.rev) (fun t => l t.rev) s.rev = enter 1 i l s := by
  unfold enter
  rw [level_rev, peakAll_rev]

theorem stab_rev : stab 0 (fun t => i t.rev) (fun t => l t.rev) = stab 1 i l := by
  unfold stab
  rw [peakAll_rev]
  exact congrArg (· + _) (sum_rev l)

/-- The outputs of the second direction. -/
theorem hidden_rev (t j : Fin 256) :
    hidden (weight 0 (fun t => i t.rev) (fun t => l t.rev)) (least 0 (fun t => i t.rev) (fun t => l t.rev))
      (fun t => q t.rev) (fun t => k t.rev) (fun t => v t.rev) t.rev j
      = hidden (weight 1 i l) (least 1 i l) q k v t j := by
  have e : ∀ u : Fin 256 → EReal,
      (∑ s, (∑ d, q t.rev.rev d * k s.rev d) * weight 0 (fun t => i t.rev) (fun t => l t.rev) t.rev s * u s.rev)
        = ∑ s, (∑ d, q t d * k s d) * weight 1 i l t s * u s := by
    intro u
    refine (sum_rev _).symm.trans (Finset.sum_congr rfl fun s _ => ?_)
    simp only [weight_rev, Fin.rev_rev]
  have e1 := e (fun _ => 1)
  simp only [mul_one] at e1
  unfold hidden normal
  simp only [least_rev]
  rw [e1, e fun s => v s j]

/-- The state of the second direction. -/
theorem mat_rev (d : Fin 128) (j : Fin 256) :
    mat (enter 0 (fun t => i t.rev) (fun t => l t.rev)) (fun t => k t.rev) (fun t => v t.rev) d j = mat (enter 1 i l) k v d j := by
  refine (sum_rev _).symm.trans (Finset.sum_congr rfl fun s _ => ?_)
  simp only [enter_rev, Fin.rev_rev]

/-- The normaliser's state of the second direction. -/
theorem vec_rev (d : Fin 128) :
    vec (enter 0 (fun t => i t.rev) (fun t => l t.rev)) (fun t => k t.rev) d = vec (enter 1 i l) k d := by
  refine (sum_rev _).symm.trans (Finset.sum_congr rfl fun s _ => ?_)
  simp only [enter_rev, Fin.rev_rev]
end Turn

/-- The position that direction `r` visits at its step `t`. -/
def visit (r : Fin 2) (t : Fin 256) : Fin 256 := if (r : ℕ) = 0 then t else t.rev

theorem visit_visit (r : Fin 2) (t : Fin 256) : visit r (visit r t) = t := by
  unfold visit
  by_cases h : (r : ℕ) = 0
  · rw [if_pos h, if_pos h]
  · rw [if_neg h, if_neg h, Fin.rev_rev]

section Both
variable (r : Fin 2) (i l : Fin 256 → EReal) (q k : Fin 256 → Fin 128 → EReal) (v : Fin 256 → Fin 256 → EReal)
  (hl : ∀ t, ∃ x : ℝ, l t = x) (hq : ∀ t d, ∃ x : ℝ, q t d = x) (hv : ∀ t d, ∃ x : ℝ, v t d = x)

/-- A sequence of real numbers among the extended reals, continued beyond its range. -/
theorem lift_seq (f : Fin 256 → EReal) (hf : ∀ t, ∃ x : ℝ, f t = x) : ∃ f' : ℕ → ℝ, ∀ t, f t = (f' t : EReal) := by
  obtain ⟨g, hg⟩ := lift_real (fun t (_ : Unit) => f t) (fun t _ => hf t)
  exact ⟨fun n => g n (), fun t => hg t ()⟩

/-- A sequence continued beyond its range. -/
theorem extend {β : Type} (f : Fin 256 → β) (b : β) : ∃ f' : ℕ → β, ∀ t : Fin 256, f t = f' t :=
  ⟨fun n => if h : n < 256 then f ⟨n, h⟩ else b, fun t => by simp⟩

include hl hq hv in
/-- The outputs of direction `r`, chunk by chunk in its own order. -/
theorem out_both (c : Fin 4) (t : Fin 64) (j : Fin 256) :
    cOut (fun t => i (visit r t)) (fun t => l (visit r t)) (fun t => q (visit r t)) (fun t => k (visit r t)) (fun t => v (visit r t)) c
      (befM (fun t => i (visit r t)) (fun t => l (visit r t)) c)
      (befC (fun t => i (visit r t)) (fun t => l (visit r t)) (fun t => k (visit r t)) (fun t => v (visit r t)) c)
      (befN (fun t => i (visit r t)) (fun t => l (visit r t)) (fun t => k (visit r t)) c) t j
      = hidden (weight r i l) (least r i l) q k v (visit r (at64 c t)) j := by
  obtain ⟨i', hi'⟩ := extend (fun t => i (visit r t)) 0
  obtain ⟨l', hl'⟩ := lift_seq _ (fun t => hl (visit r t))
  obtain ⟨q', hq'⟩ := lift_real _ (fun t d => hq (visit r t) d)
  obtain ⟨k', hk⟩ := extend (fun t => k (visit r t)) fun _ => 0
  have hk' := fun t d => congrFun (hk t) d
  obtain ⟨v', hv'⟩ := lift_real _ (fun t d => hv (visit r t) d)
  rw [cOut_coe _ _ _ _ _ i' l' q' k' v' hi' hl' hq' hk' hv']
  match r with
  | 0 => rfl
  | 1 =>
    have e := hidden_rev i l q k v (at64 c t).rev j
    rw [Fin.rev_rev] at e
    exact e

include hl in
/-- The last stabiliser of direction `r`. -/
theorem stab_both : befM (fun t => i (visit r t)) (fun t => l (visit r t)) 4 = stab r i l := by
  obtain ⟨i', hi'⟩ := extend (fun t => i (visit r t)) 0
  obtain ⟨l', hl'⟩ := lift_seq _ (fun t => hl (visit r t))
  rw [befM_four _ _ i' l' hi' hl']
  match r with
  | 0 => rfl
  | 1 => exact stab_rev i l

include hl hv in
/-- The last state of direction `r`. -/
theorem mat_both (d : Fin 128) (j : Fin 256) :
    befC (fun t => i (visit r t)) (fun t => l (visit r t)) (fun t => k (visit r t)) (fun t => v (visit r t)) 4 d j
      = mat (enter r i l) k v d j := by
  obtain ⟨i', hi'⟩ := extend (fun t => i (visit r t)) 0
  obtain ⟨l', hl'⟩ := lift_seq _ (fun t => hl (visit r t))
  obtain ⟨k', hk⟩ := extend (fun t => k (visit r t)) fun _ => 0
  have hk' := fun t d => congrFun (hk t) d
  obtain ⟨v', hv'⟩ := lift_real _ (fun t d => hv (visit r t) d)
  rw [befC_four _ _ _ _ i' l' k' v' hi' hl' hk' hv']
  match r with
  | 0 => rfl
  | 1 => exact mat_rev i l k v d j

include hl in
/-- The normaliser's last state of direction `r`. -/
theorem vec_both (d : Fin 128) :
    befN (fun t => i (visit r t)) (fun t => l (visit r t)) (fun t => k (visit r t)) 4 d = vec (enter r i l) k d := by
  obtain ⟨i', hi'⟩ := extend (fun t => i (visit r t)) 0
  obtain ⟨l', hl'⟩ := lift_seq _ (fun t => hl (visit r t))
  obtain ⟨k', hk⟩ := extend (fun t => k (visit r t)) fun _ => 0
  have hk' := fun t d => congrFun (hk t) d
  rw [befN_four _ _ _ i' l' k' hi' hl' hk']
  match r with
  | 0 => rfl
  | 1 => exact vec_rev i l k d
end Both
end Cert.Memory
end
-- ==== Proof.MlstmRefInputs.lean ====
module
public import proofs.«01_k».proof.Proof.Gen.MlstmRefIdeal.Read
public import proofs.«01_k».proof.Proof.MlstmTurn
public import proofs.«01_k».proof.Proof.RefInputs
/-! What the reference reads: queries, keys, values and gates in the order of each direction, and the causal mask. -/
@[expose] public section
set_option maxRecDepth 16384
noncomputable section
open Idealize.ShloMosaic Idealize.ShloMosaic.TcCoe Idealize.SL.Sem
namespace Cert.MlstmRefIdeal.Stages
open Cert.MlstmRefIdeal Cert.MlstmRefIdeal.Gen Cert.MlstmRefIdeal.Read Cert.Memory
open Cert.Retention (logSig)
variable (X : FVec Ideal S8192x4096 .f32) (G : FVec Ideal S16x8192 .f32) (bi bf : FVec Ideal S2x4 .f32)

/-- The queries of one window and head in the order of direction `r`. -/
def qIn (n : Fin 32) (r : Fin 2) (h : Fin 4) : Fin 256 → Fin 128 → EReal := fun t => qOf X n h (visit r t)
/-- The keys of one window and head in the order of direction `r`. -/
def kIn (n : Fin 32) (r : Fin 2) (h : Fin 4) : Fin 256 → Fin 128 → EReal := fun t => kOf X n h (visit r t)
/-- The values of one window and head in the order of direction `r`. -/
def vIn (n : Fin 32) (r : Fin 2) (h : Fin 4) : Fin 256 → Fin 256 → EReal := fun t => vOf X n h (visit r t)
/-- The input gates of one window and head in the order of direction `r`. -/
def iIn (n : Fin 32) (r : Fin 2) (h : Fin 4) : Fin 256 → EReal := fun t => iOf G bi n r h (visit r t)
/-- The logarithmic forget gates of one window and head in the order of direction `r`. -/
def lIn (n : Fin 32) (r : Fin 2) (h : Fin 4) : Fin 256 → EReal := fun t => lOf G bf n r h (visit r t)

theorem q_plain (n : Fin 32) (h : Fin 4) (t : Fin 256) (d : Fin 128) :
    val_main_v5 (F := Ideal) X (ix4 n h t d) = qOf X n h t d := by
  pointwise [val_main_v5, val_main_v4, val_main_v0]
  unfold qOf
  congr 2 <;> exact Fin.ext (by simp only []; omega)

theorem k_plain (n : Fin 32) (h : Fin 4) (t : Fin 256) (d : Fin 128) :
    val_main_v9 (F := Ideal) X (ix4 n h t d) = kOf X n h t d := by
  pointwise [val_main_v9, val_main_v8, val_main_cst, val_main_v7, val_main_v6, val_main_v1]
  unfold kOf
  refine congrArg (· * _) ?_
  congr 2 <;> exact Fin.ext (by simp only []; omega)

theorem v_plain (n : Fin 32) (h : Fin 4) (t : Fin 256) (j : Fin 256) :
    val_main_v11 (F := Ideal) X (ix4 n h t j) = vOf X n h t j := by
  pointwise [val_main_v11, val_main_v10, val_main_v2]
  unfold vOf
  congr 2 <;> exact Fin.ext (by simp only []; omega)

theorem i_plain (n : Fin 32) (r : Fin 2) (h : Fin 4) (t : Fin 256) :
    val_main_v20 (F := Ideal) G bi (ix4 n r h t) = iOf G bi n r h t := by
  pointwise [val_main_v20, val_main_v19, val_main_v18, val_main_v15, val_main_v14, val_main_v12]
  unfold iOf
  refine congrArg (· + _) ?_
  congr 2 <;> exact Fin.ext (by simp only []; omega)

theorem f_plain (n : Fin 32) (r : Fin 2) (h : Fin 4) (t : Fin 256) :
    val_main_v23 (F := Ideal) G bf (ix4 n r h t)
      = G (ix2 (⟨8 + (4 * r + h), by omega⟩ : Fin 16) (⟨256 * n + t, by omega⟩ : Fin 8192)) + bf (ix2 r h) := by
  pointwise [val_main_v23, val_main_v22, val_main_v21, val_main_v17, val_main_v16, val_main_v13]
  refine congrArg (· + _) ?_
  congr 2 <;> exact Fin.ext (by simp only []; omega)

theorem l_plain (n : Fin 32) (r : Fin 2) (h : Fin 4) (t : Fin 256) :
    val_main_v24 (F := Ideal) G bf (ix4 n r h t) = lOf G bf n r h t := by
  unfold lOf
  rw [← f_plain G bf n r h t]
  generalize hx : val_main_v23 (F := Ideal) G bf (ix4 n r h t) = x
  pointwise [val_main_v24, val_main_call0_v1, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v0]
  rw [hx, if_neg (fun e => e rfl)]
  show -(max (-x) 0 + Ideal.log (1 + Ideal.exp (-max (-x) (- -x)))) = _
  unfold logSig
  simp only [zero_sub, sub_zero]

/-- The queries in the order of direction `r`. -/
theorem q_at (n : Fin 32) (r : Fin 2) (h : Fin 4) (t : Fin 256) (d : Fin 128) :
    val_main_v28 (F := Ideal) X (ix5 n r h t d) = qIn X n r h t d := by
  pointwise [val_main_v28, val_main_v27, val_main_v26, val_main_v25]
  unfold qIn visit
  by_cases hr : (r : ℕ) < 1
  · rw [dif_pos hr, if_pos (by omega)]
    exact q_plain X n h t d
  · rw [dif_neg hr, if_neg (by omega), ← q_plain]
    exact congrArg _ (congrArg (fun t => ix4 n h t d) (Fin.ext (by simp)))

/-- The scaled keys in the order of direction `r`. -/
theorem k_at (n : Fin 32) (r : Fin 2) (h : Fin 4) (t : Fin 256) (d : Fin 128) :
    val_main_v32 (F := Ideal) X (ix5 n r h t d) = kIn X n r h t d := by
  pointwise [val_main_v32, val_main_v31, val_main_v30, val_main_v29]
  unfold kIn visit
  by_cases hr : (r : ℕ) < 1
  · rw [dif_pos hr, if_pos (by omega)]
    exact k_plain X n h t d
  · rw [dif_neg hr, if_neg (by omega), ← k_plain]
    exact congrArg _ (congrArg (fun t => ix4 n h t d) (Fin.ext (by simp)))

/-- The values in the order of direction `r`. -/
theorem v_at (n : Fin 32) (r : Fin 2) (h : Fin 4) (t : Fin 256) (d : Fin 256) :
    val_main_v36 (F := Ideal) X (ix5 n r h t d) = vIn X n r h t d := by
  pointwise [val_main_v36, val_main_v35, val_main_v34, val_main_v33]
  unfold vIn visit
  by_cases hr : (r : ℕ) < 1
  · rw [dif_pos hr, if_pos (by omega)]
    exact v_plain X n h t d
  · rw [dif_neg hr, if_neg (by omega), ← v_plain]
    exact congrArg _ (congrArg (fun t => ix4 n h t d) (Fin.ext (by simp)))

/-- The input gates in the order of direction `r`. -/
theorem i_at (n : Fin 32) (r : Fin 2) (h : Fin 4) (t : Fin 256) :
    val_main_v44 (F := Ideal) G bi (ix4 n r h t) = iIn G bi n r h t := by
  pointwise [val_main_v44, val_main_v43, val_main_v42, val_main_v41, val_main_v40, val_main_v39, val_main_v38, val_main_v37]
  unfold iIn visit
  by_cases hr : (r : ℕ) < 1
  · obtain rfl : r = 0 := Fin.ext (by simp; omega)
    rw [dif_pos hr, if_pos (show ((0 : Fin 2) : ℕ) = 0 from rfl)]
    exact i_plain G bi n 0 h t
  · obtain rfl : r = 1 := Fin.ext (by simp; omega)
    rw [dif_neg hr, if_neg (by decide), ← i_plain]
    exact congrArg _ (congrArg (fun t => ix4 n 1 h t) (Fin.ext (by simp)))

/-- The logarithmic forget gates in the order of direction `r`. -/
theorem l_at (n : Fin 32) (r : Fin 2) (h : Fin 4) (t : Fin 256) :
    val_main_v52 (F := Ideal) G bf (ix4 n r h t) = lIn G bf n r h t := by
  pointwise [val_main_v52, val_main_v51, val_main_v50, val_main_v49, val_main_v48, val_main_v47, val_main_v46, val_main_v45]
  unfold lIn visit
  by_cases hr : (r : ℕ) < 1
  · obtain rfl : r = 0 := Fin.ext (by simp; omega)
    rw [dif_pos hr, if_pos (show ((0 : Fin 2) : ℕ) = 0 from rfl)]
    exact l_plain G bf n 0 h t
  · obtain rfl : r = 1 := Fin.ext (by simp; omega)
    rw [dif_neg hr, if_neg (by decide), ← l_plain]
    exact congrArg _ (congrArg (fun t => ix4 n 1 h t) (Fin.ext (by simp)))

/-- A choice by the causal mask of a chunk. -/
theorem mask_at {α : Type} (t s : Fin 64) (x y : α) :
    Scalar.select (val_main_v54 (F := Ideal) (ix2 t s)) x y = if (s : ℕ) ≤ t then x else y := by
  have ht := t.isLt
  have hs := s.isLt
  pointwise [val_main_v54, val_main_v53, val_main_c, val_main_call6_v0, val_main_call6_c, val_main_call6_v1, val_main_call6_v2, val_main_call6_v3, val_main_call6_v4, val_main_call6_c_0, val_main_call6_v5]
  rw [show IntOp.addi (BitVec.ofNat 32 (t : ℕ)) 0#32 = BitVec.ofNat 32 (t : ℕ) from BitVec.add_zero _]
  simp (disch := word_cmp_side) only [hlo_ix]
  by_cases h : (s : ℕ) ≤ t
  · rw [if_pos h, if_pos h]; rfl
  · rw [if_neg h, if_neg h]; rfl

end Cert.MlstmRefIdeal.Stages
end
-- ==== Proof.MlstmRefChunk0.lean ====
module
public import proofs.«01_k».proof.Proof.Gen.MlstmRefIdeal.Read
public import proofs.«01_k».proof.Proof.MlstmRefInputs
/-! What the reference computes for chunk 0. -/
@[expose] public section
set_option maxRecDepth 16384
noncomputable section
open Idealize.ShloMosaic Idealize.ShloMosaic.TcCoe Idealize.SL.Sem
namespace Cert.MlstmRefIdeal.Stages
open Cert.MlstmRefIdeal Cert.MlstmRefIdeal.Gen Cert.MlstmRefIdeal.Read Cert.Memory
open Cert.Retention (at64)
variable (X : FVec Ideal S8192x4096 .f32) (G : FVec Ideal S16x8192 .f32) (bi bf : FVec Ideal S2x4 .f32)
variable (n : Fin 32) (r : Fin 2) (h : Fin 4)

theorem first_chunk (l : Fin 64) (p : (l : ℕ) < 256) : (⟨l, p⟩ : Fin 256) = at64 0 l :=
  Fin.ext (by simp [at64])

theorem ofBits_bot : Ideal.ofBits .f32 0xFF800000#32 = ⊥ := by simp [Ideal.ofBits, Ideal.ieee]

/-- The stabiliser before the first chunk. -/
theorem m0 : val_main_v57 (F := Ideal) (ix3 n r h) = befM (iIn G bi n r h) (lIn G bf n r h) 0 := by
  pointwise [val_main_v57, val_main_cst_2]
  rfl

/-- The state before the first chunk. -/
theorem c0 (d : Fin 128) (j : Fin 256) : val_main_v55 (F := Ideal) (ix5 n r h d j) = befC (iIn G bi n r h) (lIn G bf n r h) (kIn X n r h) (vIn X n r h) 0 d j := by
  pointwise [val_main_v55, val_main_cst_0]
  rfl

/-- The normaliser's state before the first chunk. -/
theorem n0 (d : Fin 128) : val_main_v56 (F := Ideal) (ix4 n r h d) = befN (iIn G bi n r h) (lIn G bf n r h) (kIn X n r h) 0 d := by
  pointwise [val_main_v56, val_main_cst_1]
  rfl

/-- The sums of the logarithmic forget gates in chunk 0. -/
theorem acc0 (t : Fin 64) : val_main_v65 (F := Ideal) G bf (ix4 n r h t) = cAcc (lIn G bf n r h) 0 t := by
  pointwise [val_main_v65, val_main_v64, val_main_v63, val_main_v62, val_main_call7_v0, val_main_call7_v1, val_main_call7_v2, val_main_call7_v3, val_main_cst_3, val_main_cst_4]
  simp only [mask_at, l_at, first_chunk]
  refine Finset.sum_congr rfl fun s _ => ?_
  by_cases e : (s : ℕ) ≤ t
  · rw [if_pos e, if_pos e]
  · rw [if_neg e, if_neg e]
    exact Ideal.ofBits_zero_f32

/-- The logarithmic weights in chunk 0. -/
theorem log0 (t s : Fin 64) : val_main_v74 (F := Ideal) G bi bf (ix5 n r h t s) = cLog (iIn G bi n r h) (lIn G bf n r h) 0 t s := by
  pointwise [val_main_v74, val_main_v73, val_main_v72, val_main_v71, val_main_v70, val_main_v69, val_main_v68, val_main_v67, val_main_v66, val_main_v61, val_main_call8_v0, val_main_call8_v1, val_main_call8_v2, val_main_cst_5]
  simp only [mask_at, i_at, acc0, first_chunk]
  unfold cLog
  by_cases e : (s : ℕ) ≤ t
  · rw [if_pos e, if_pos e]
  · rw [if_neg e, if_neg e]
    exact ofBits_bot

/-- The stabiliser of a row in chunk 0. -/
theorem row0 (t : Fin 64) : val_main_v79 (F := Ideal) G bi bf (ix4 n r h t) = cRow (iIn G bi n r h) (lIn G bf n r h) 0 (befM (iIn G bi n r h) (lIn G bf n r h) 0) t := by
  pointwise [val_main_v79, val_main_v78, val_main_v77, val_main_v76, val_main_v75, val_main_cst_6]
  simp only [log0, acc0, m0 G bi bf, ofBits_bot]
  rfl

/-- The weights in chunk 0. -/
theorem w0 (t s : Fin 64) : val_main_v84 (F := Ideal) G bi bf (ix5 n r h t s) = cW (iIn G bi n r h) (lIn G bf n r h) 0 (befM (iIn G bi n r h) (lIn G bf n r h) 0) t s := by
  pointwise [val_main_v84, val_main_v83, val_main_v82, val_main_v81]
  simp only [log0, row0]
  rfl

/-- The weight of the state in a row of chunk 0. -/
theorem int0 (t : Fin 64) : val_main_v87 (F := Ideal) G bi bf (ix4 n r h t) = cInt (iIn G bi n r h) (lIn G bf n r h) 0 (befM (iIn G bi n r h) (lIn G bf n r h) 0) t := by
  pointwise [val_main_v87, val_main_v86, val_main_v77, val_main_v76, val_main_v75]
  simp only [acc0, row0, m0 G bi bf]
  rfl

/-- The weighted scores of chunk 0. -/
theorem score0 (t s : Fin 64) : val_main_v85 (F := Ideal) X G bi bf (ix5 n r h t s)
    = (∑ d, qIn X n r h (at64 0 t) d * kIn X n r h (at64 0 s) d) * cW (iIn G bi n r h) (lIn G bf n r h) 0 (befM (iIn G bi n r h) (lIn G bf n r h) 0) t s := by
  pointwise [val_main_v85, val_main_v80, val_main_v59, val_main_v58]
  simp only [w0, q_at, k_at, first_chunk]

/-- The outputs of chunk 0. -/
theorem out0 (t : Fin 64) (j : Fin 256) : val_main_v104 (F := Ideal) X G bi bf (ix5 n r h t j)
    = cOut (iIn G bi n r h) (lIn G bf n r h) (qIn X n r h) (kIn X n r h) (vIn X n r h) 0 (befM (iIn G bi n r h) (lIn G bf n r h) 0) (befC (iIn G bi n r h) (lIn G bf n r h) (kIn X n r h) (vIn X n r h) 0) (befN (iIn G bi n r h) (lIn G bf n r h) (kIn X n r h) 0) t j := by
  pointwise [val_main_v104, val_main_v103, val_main_v102, val_main_v101, val_main_v100, val_main_v99, val_main_v98, val_main_v97, val_main_v96, val_main_v95, val_main_v94, val_main_v93, val_main_v92, val_main_v91, val_main_v90, val_main_v89, val_main_v88, val_main_v60, val_main_v58, val_main_cst_7]
  simp only [score0, int0, row0, q_at, v_at, c0 X G bi bf, n0 X G bi bf, first_chunk]
  rfl

/-- The logarithmic weights at the end of chunk 0. -/
theorem last0 (s : Fin 64) : val_main_v110 (F := Ideal) G bi bf (ix4 n r h s) = cLast (iIn G bi n r h) (lIn G bf n r h) 0 s := by
  pointwise [val_main_v110, val_main_v109, val_main_v108, val_main_v107, val_main_v106, val_main_v105, val_main_v61]
  simp only [acc0, i_at, first_chunk]
  rfl

/-- The stabiliser after chunk 0. -/
theorem m1 : val_main_v113 (F := Ideal) G bi bf (ix3 n r h) = befM (iIn G bi n r h) (lIn G bf n r h) 1 := by
  pointwise [val_main_v113, val_main_v112, val_main_v111, val_main_v106, val_main_v105, val_main_cst_8]
  simp only [last0, acc0, m0 G bi bf, ofBits_bot]
  rfl

/-- The weights of the positions of chunk 0 in the state. -/
theorem ent0 (s : Fin 64) : val_main_v117 (F := Ideal) G bi bf (ix4 n r h s) = cEnt (iIn G bi n r h) (lIn G bf n r h) 0 (befM (iIn G bi n r h) (lIn G bf n r h) 0) s := by
  pointwise [val_main_v117, val_main_v116, val_main_v115, val_main_v114]
  simp only [last0, m1]
  rfl

/-- The decay of the state over chunk 0. -/
theorem dec0 : val_main_v120 (F := Ideal) G bi bf (ix3 n r h) = cDec (iIn G bi n r h) (lIn G bf n r h) 0 (befM (iIn G bi n r h) (lIn G bf n r h) 0) := by
  pointwise [val_main_v120, val_main_v119, val_main_v118, val_main_v106, val_main_v105]
  simp only [acc0, m1, m0 G bi bf]
  rfl

/-- The weighted keys of chunk 0. -/
theorem key0 (s : Fin 64) (d : Fin 128) : val_main_v123 (F := Ideal) X G bi bf (ix5 n r h s d)
    = cEnt (iIn G bi n r h) (lIn G bf n r h) 0 (befM (iIn G bi n r h) (lIn G bf n r h) 0) s * kIn X n r h (at64 0 s) d := by
  pointwise [val_main_v123, val_main_v122, val_main_v121, val_main_v59]
  simp only [ent0, k_at, first_chunk]

/-- The state after chunk 0. -/
theorem c1 (d : Fin 128) (j : Fin 256) : val_main_v128 (F := Ideal) X G bi bf (ix5 n r h d j)
    = befC (iIn G bi n r h) (lIn G bf n r h) (kIn X n r h) (vIn X n r h) 1 d j := by
  pointwise [val_main_v128, val_main_v127, val_main_v126, val_main_v125, val_main_v124, val_main_v60]
  simp only [key0, dec0, v_at, c0 X G bi bf, first_chunk]
  rfl

/-- The normaliser's state after chunk 0. -/
theorem n1 (d : Fin 128) : val_main_v133 (F := Ideal) X G bi bf (ix4 n r h d) = befN (iIn G bi n r h) (lIn G bf n r h) (kIn X n r h) 1 d := by
  pointwise [val_main_v133, val_main_v132, val_main_v131, val_main_v130, val_main_v129, val_main_cst_9]
  simp only [key0, dec0, n0 X G bi bf]
  rfl

end Cert.MlstmRefIdeal.Stages
end
-- ==== Proof.MlstmRefChunk1.lean ====
module
public import proofs.«01_k».proof.Proof.Gen.MlstmRefIdeal.Read
public import proofs.«01_k».proof.Proof.MlstmRefChunk0
/-! What the reference computes for chunk 1. -/
@[expose] public section
set_option maxRecDepth 16384
noncomputable section
open Idealize.ShloMosaic Idealize.ShloMosaic.TcCoe Idealize.SL.Sem
namespace Cert.MlstmRefIdeal.Stages
open Cert.MlstmRefIdeal Cert.MlstmRefIdeal.Gen Cert.MlstmRefIdeal.Read Cert.Memory
open Cert.Retention (at64)
variable (X : FVec Ideal S8192x4096 .f32) (G : FVec Ideal S16x8192 .f32) (bi bf : FVec Ideal S2x4 .f32)
variable (n : Fin 32) (r : Fin 2) (h : Fin 4)

/-- The sums of the logarithmic forget gates in chunk 1. -/
theorem acc1 (t : Fin 64) : val_main_v141 (F := Ideal) G bf (ix4 n r h t) = cAcc (lIn G bf n r h) 1 t := by
  pointwise [val_main_v141, val_main_v140, val_main_v139, val_main_v138, val_main_call9_v0, val_main_call9_v1, val_main_call9_v2, val_main_call9_v3, val_main_cst_10, val_main_cst_11]
  simp only [mask_at, l_at]
  refine Finset.sum_congr rfl fun s _ => ?_
  by_cases e : (s : ℕ) ≤ t
  · rw [if_pos e, if_pos e]; rfl
  · rw [if_neg e, if_neg e]
    exact Ideal.ofBits_zero_f32

/-- The logarithmic weights in chunk 1. -/
theorem log1 (t s : Fin 64) : val_main_v150 (F := Ideal) G bi bf (ix5 n r h t s) = cLog (iIn G bi n r h) (lIn G bf n r h) 1 t s := by
  pointwise [val_main_v150, val_main_v149, val_main_v148, val_main_v147, val_main_v146, val_main_v145, val_main_v144, val_main_v143, val_main_v142, val_main_v137, val_main_call10_v0, val_main_call10_v1, val_main_call10_v2, val_main_cst_12]
  simp only [mask_at, i_at, acc1]
  unfold cLog
  by_cases e : (s : ℕ) ≤ t
  · rw [if_pos e, if_pos e]; rfl
  · rw [if_neg e, if_neg e]
    exact ofBits_bot

/-- The stabiliser of a row in chunk 1. -/
theorem row1 (t : Fin 64) : val_main_v155 (F := Ideal) G bi bf (ix4 n r h t) = cRow (iIn G bi n r h) (lIn G bf n r h) 1 (befM (iIn G bi n r h) (lIn G bf n r h) 1) t := by
  pointwise [val_main_v155, val_main_v154, val_main_v153, val_main_v152, val_main_v151, val_main_cst_13]
  simp only [log1, acc1, m1 G bi bf, ofBits_bot]
  rfl

/-- The weights in chunk 1. -/
theorem w1 (t s : Fin 64) : val_main_v160 (F := Ideal) G bi bf (ix5 n r h t s) = cW (iIn G bi n r h) (lIn G bf n r h) 1 (befM (iIn G bi n r h) (lIn G bf n r h) 1) t s := by
  pointwise [val_main_v160, val_main_v159, val_main_v158, val_main_v157]
  simp only [log1, row1]
  rfl

/-- The weight of the state in a row of chunk 1. -/
theorem int1 (t : Fin 64) : val_main_v163 (F := Ideal) G bi bf (ix4 n r h t) = cInt (iIn G bi n r h) (lIn G bf n r h) 1 (befM (iIn G bi n r h) (lIn G bf n r h) 1) t := by
  pointwise [val_main_v163, val_main_v162, val_main_v153, val_main_v152, val_main_v151]
  simp only [acc1, row1, m1 G bi bf]
  rfl

/-- The weighted scores of chunk 1. -/
theorem score1 (t s : Fin 64) : val_main_v161 (F := Ideal) X G bi bf (ix5 n r h t s)
    = (∑ d, qIn X n r h (at64 1 t) d * kIn X n r h (at64 1 s) d) * cW (iIn G bi n r h) (lIn G bf n r h) 1 (befM (iIn G bi n r h) (lIn G bf n r h) 1) t s := by
  pointwise [val_main_v161, val_main_v156, val_main_v135, val_main_v134]
  simp only [w1, q_at, k_at]
  rfl

/-- The outputs of chunk 1. -/
theorem out1 (t : Fin 64) (j : Fin 256) : val_main_v180 (F := Ideal) X G bi bf (ix5 n r h t j)
    = cOut (iIn G bi n r h) (lIn G bf n r h) (qIn X n r h) (kIn X n r h) (vIn X n r h) 1 (befM (iIn G bi n r h) (lIn G bf n r h) 1) (befC (iIn G bi n r h) (lIn G bf n r h) (kIn X n r h) (vIn X n r h) 1) (befN (iIn G bi n r h) (lIn G bf n r h) (kIn X n r h) 1) t j := by
  pointwise [val_main_v180, val_main_v179, val_main_v178, val_main_v177, val_main_v176, val_main_v175, val_main_v174, val_main_v173, val_main_v172, val_main_v171, val_main_v170, val_main_v169, val_main_v168, val_main_v167, val_main_v166, val_main_v165, val_main_v164, val_main_v136, val_main_v134, val_main_cst_14]
  simp only [score1, int1, row1, q_at, v_at, c1 X G bi bf, n1 X G bi bf]
  rfl

/-- The logarithmic weights at the end of chunk 1. -/
theorem last1 (s : Fin 64) : val_main_v186 (F := Ideal) G bi bf (ix4 n r h s) = cLast (iIn G bi n r h) (lIn G bf n r h) 1 s := by
  pointwise [val_main_v186, val_main_v185, val_main_v184, val_main_v183, val_main_v182, val_main_v181, val_main_v137]
  simp only [acc1, i_at]
  rfl

/-- The stabiliser after chunk 1. -/
theorem m2 : val_main_v189 (F := Ideal) G bi bf (ix3 n r h) = befM (iIn G bi n r h) (lIn G bf n r h) 2 := by
  pointwise [val_main_v189, val_main_v188, val_main_v187, val_main_v182, val_main_v181, val_main_cst_15]
  simp only [last1, acc1, m1 G bi bf, ofBits_bot]
  rfl

/-- The weights of the positions of chunk 1 in the state. -/
theorem ent1 (s : Fin 64) : val_main_v193 (F := Ideal) G bi bf (ix4 n r h s) = cEnt (iIn G bi n r h) (lIn G bf n r h) 1 (befM (iIn G bi n r h) (lIn G bf n r h) 1) s := by
  pointwise [val_main_v193, val_main_v192, val_main_v191, val_main_v190]
  simp only [last1, m2]
  rfl

/-- The decay of the state over chunk 1. -/
theorem dec1 : val_main_v196 (F := Ideal) G bi bf (ix3 n r h) = cDec (iIn G bi n r h) (lIn G bf n r h) 1 (befM (iIn G bi n r h) (lIn G bf n r h) 1) := by
  pointwise [val_main_v196, val_main_v195, val_main_v194, val_main_v182, val_main_v181]
  simp only [acc1, m2, m1 G bi bf]
  rfl

/-- The weighted keys of chunk 1. -/
theorem key1 (s : Fin 64) (d : Fin 128) : val_main_v199 (F := Ideal) X G bi bf (ix5 n r h s d)
    = cEnt (iIn G bi n r h) (lIn G bf n r h) 1 (befM (iIn G bi n r h) (lIn G bf n r h) 1) s * kIn X n r h (at64 1 s) d := by
  pointwise [val_main_v199, val_main_v198, val_main_v197, val_main_v135]
  simp only [ent1, k_at]
  rfl

/-- The state after chunk 1. -/
theorem c2 (d : Fin 128) (j : Fin 256) : val_main_v204 (F := Ideal) X G bi bf (ix5 n r h d j)
    = befC (iIn G bi n r h) (lIn G bf n r h) (kIn X n r h) (vIn X n r h) 2 d j := by
  pointwise [val_main_v204, val_main_v203, val_main_v202, val_main_v201, val_main_v200, val_main_v136]
  simp only [key1, dec1, v_at, c1 X G bi bf]
  rfl

/-- The normaliser's state after chunk 1. -/
theorem n2 (d : Fin 128) : val_main_v209 (F := Ideal) X G bi bf (ix4 n r h d) = befN (iIn G bi n r h) (lIn G bf n r h) (kIn X n r h) 2 d := by
  pointwise [val_main_v209, val_main_v208, val_main_v207, val_main_v206, val_main_v205, val_main_cst_16]
  simp only [key1, dec1, n1 X G bi bf]
  rfl

end Cert.MlstmRefIdeal.Stages
end
-- ==== Proof.MlstmRefChunk2.lean ====
module
public import proofs.«01_k».proof.Proof.Gen.MlstmRefIdeal.Read
public import proofs.«01_k».proof.Proof.MlstmRefChunk1
/-! What the reference computes for chunk 2. -/
@[expose] public section
set_option maxRecDepth 16384
noncomputable section
open Idealize.ShloMosaic Idealize.ShloMosaic.TcCoe Idealize.SL.Sem
namespace Cert.MlstmRefIdeal.Stages
open Cert.MlstmRefIdeal Cert.MlstmRefIdeal.Gen Cert.MlstmRefIdeal.Read Cert.Memory
open Cert.Retention (at64)
variable (X : FVec Ideal S8192x4096 .f32) (G : FVec Ideal S16x8192 .f32) (bi bf : FVec Ideal S2x4 .f32)
variable (n : Fin 32) (r : Fin 2) (h : Fin 4)

/-- The sums of the logarithmic forget gates in chunk 2. -/
theorem acc2 (t : Fin 64) : val_main_v217 (F := Ideal) G bf (ix4 n r h t) = cAcc (lIn G bf n r h) 2 t := by
  pointwise [val_main_v217, val_main_v216, val_main_v215, val_main_v214, val_main_call11_v0, val_main_call11_v1, val_main_call11_v2, val_main_call11_v3, val_main_cst_17, val_main_cst_18]
  simp only [mask_at, l_at]
  refine Finset.sum_congr rfl fun s _ => ?_
  by_cases e : (s : ℕ) ≤ t
  · rw [if_pos e, if_pos e]; rfl
  · rw [if_neg e, if_neg e]
    exact Ideal.ofBits_zero_f32

/-- The logarithmic weights in chunk 2. -/
theorem log2 (t s : Fin 64) : val_main_v226 (F := Ideal) G bi bf (ix5 n r h t s) = cLog (iIn G bi n r h) (lIn G bf n r h) 2 t s := by
  pointwise [val_main_v226, val_main_v225, val_main_v224, val_main_v223, val_main_v222, val_main_v221, val_main_v220, val_main_v219, val_main_v218, val_main_v213, val_main_call12_v0, val_main_call12_v1, val_main_call12_v2, val_main_cst_19]
  simp only [mask_at, i_at, acc2]
  unfold cLog
  by_cases e : (s : ℕ) ≤ t
  · rw [if_pos e, if_pos e]; rfl
  · rw [if_neg e, if_neg e]
    exact ofBits_bot

/-- The stabiliser of a row in chunk 2. -/
theorem row2 (t : Fin 64) : val_main_v231 (F := Ideal) G bi bf (ix4 n r h t) = cRow (iIn G bi n r h) (lIn G bf n r h) 2 (befM (iIn G bi n r h) (lIn G bf n r h) 2) t := by
  pointwise [val_main_v231, val_main_v230, val_main_v229, val_main_v228, val_main_v227, val_main_cst_20]
  simp only [log2, acc2, m2 G bi bf, ofBits_bot]
  rfl

/-- The weights in chunk 2. -/
theorem w2 (t s : Fin 64) : val_main_v236 (F := Ideal) G bi bf (ix5 n r h t s) = cW (iIn G bi n r h) (lIn G bf n r h) 2 (befM (iIn G bi n r h) (lIn G bf n r h) 2) t s := by
  pointwise [val_main_v236, val_main_v235, val_main_v234, val_main_v233]
  simp only [log2, row2]
  rfl

/-- The weight of the state in a row of chunk 2. -/
theorem int2 (t : Fin 64) : val_main_v239 (F := Ideal) G bi bf (ix4 n r h t) = cInt (iIn G bi n r h) (lIn G bf n r h) 2 (befM (iIn G bi n r h) (lIn G bf n r h) 2) t := by
  pointwise [val_main_v239, val_main_v238, val_main_v229, val_main_v228, val_main_v227]
  simp only [acc2, row2, m2 G bi bf]
  rfl

/-- The weighted scores of chunk 2. -/
theorem score2 (t s : Fin 64) : val_main_v237 (F := Ideal) X G bi bf (ix5 n r h t s)
    = (∑ d, qIn X n r h (at64 2 t) d * kIn X n r h (at64 2 s) d) * cW (iIn G bi n r h) (lIn G bf n r h) 2 (befM (iIn G bi n r h) (lIn G bf n r h) 2) t s := by
  pointwise [val_main_v237, val_main_v232, val_main_v211, val_main_v210]
  simp only [w2, q_at, k_at]
  rfl

/-- The outputs of chunk 2. -/
theorem out2 (t : Fin 64) (j : Fin 256) : val_main_v256 (F := Ideal) X G bi bf (ix5 n r h t j)
    = cOut (iIn G bi n r h) (lIn G bf n r h) (qIn X n r h) (kIn X n r h) (vIn X n r h) 2 (befM (iIn G bi n r h) (lIn G bf n r h) 2) (befC (iIn G bi n r h) (lIn G bf n r h) (kIn X n r h) (vIn X n r h) 2) (befN (iIn G bi n r h) (lIn G bf n r h) (kIn X n r h) 2) t j := by
  pointwise [val_main_v256, val_main_v255, val_main_v254, val_main_v253, val_main_v252, val_main_v251, val_main_v250, val_main_v249, val_main_v248, val_main_v247, val_main_v246, val_main_v245, val_main_v244, val_main_v243, val_main_v242, val_main_v241, val_main_v240, val_main_v212, val_main_v210, val_main_cst_21]
  simp only [score2, int2, row2, q_at, v_at, c2 X G bi bf, n2 X G bi bf]
  rfl

/-- The logarithmic weights at the end of chunk 2. -/
theorem last2 (s : Fin 64) : val_main_v262 (F := Ideal) G bi bf (ix4 n r h s) = cLast (iIn G bi n r h) (lIn G bf n r h) 2 s := by
  pointwise [val_main_v262, val_main_v261, val_main_v260, val_main_v259, val_main_v258, val_main_v257, val_main_v213]
  simp only [acc2, i_at]
  rfl

/-- The stabiliser after chunk 2. -/
theorem m3 : val_main_v265 (F := Ideal) G bi bf (ix3 n r h) = befM (iIn G bi n r h) (lIn G bf n r h) 3 := by
  pointwise [val_main_v265, val_main_v264, val_main_v263, val_main_v258, val_main_v257, val_main_cst_22]
  simp only [last2, acc2, m2 G bi bf, ofBits_bot]
  rfl

/-- The weights of the positions of chunk 2 in the state. -/
theorem ent2 (s : Fin 64) : val_main_v269 (F := Ideal) G bi bf (ix4 n r h s) = cEnt (iIn G bi n r h) (lIn G bf n r h) 2 (befM (iIn G bi n r h) (lIn G bf n r h) 2) s := by
  pointwise [val_main_v269, val_main_v268, val_main_v267, val_main_v266]
  simp only [last2, m3]
  rfl

/-- The decay of the state over chunk 2. -/
theorem dec2 : val_main_v272 (F := Ideal) G bi bf (ix3 n r h) = cDec (iIn G bi n r h) (lIn G bf n r h) 2 (befM (iIn G bi n r h) (lIn G bf n r h) 2) := by
  pointwise [val_main_v272, val_main_v271, val_main_v270, val_main_v258, val_main_v257]
  simp only [acc2, m3, m2 G bi bf]
  rfl

/-- The weighted keys of chunk 2. -/
theorem key2 (s : Fin 64) (d : Fin 128) : val_main_v275 (F := Ideal) X G bi bf (ix5 n r h s d)
    = cEnt (iIn G bi n r h) (lIn G bf n r h) 2 (befM (iIn G bi n r h) (lIn G bf n r h) 2) s * kIn X n r h (at64 2 s) d := by
  pointwise [val_main_v275, val_main_v274, val_main_v273, val_main_v211]
  simp only [ent2, k_at]
  rfl

/-- The state after chunk 2. -/
theorem c3 (d : Fin 128) (j : Fin 256) : val_main_v280 (F := Ideal) X G bi bf (ix5 n r h d j)
    = befC (iIn G bi n r h) (lIn G bf n r h) (kIn X n r h) (vIn X n r h) 3 d j := by
  pointwise [val_main_v280, val_main_v279, val_main_v278, val_main_v277, val_main_v276, val_main_v212]
  simp only [key2, dec2, v_at, c2 X G bi bf]
  rfl

/-- The normaliser's state after chunk 2. -/
theorem n3 (d : Fin 128) : val_main_v285 (F := Ideal) X G bi bf (ix4 n r h d) = befN (iIn G bi n r h) (lIn G bf n r h) (kIn X n r h) 3 d := by
  pointwise [val_main_v285, val_main_v284, val_main_v283, val_main_v282, val_main_v281, val_main_cst_23]
  simp only [key2, dec2, n2 X G bi bf]
  rfl

end Cert.MlstmRefIdeal.Stages
end
-- ==== Proof.MlstmRefChunk3.lean ====
module
public import proofs.«01_k».proof.Proof.Gen.MlstmRefIdeal.Read
public import proofs.«01_k».proof.Proof.MlstmRefChunk2
/-! What the reference computes for chunk 3. -/
@[expose] public section
set_option maxRecDepth 16384
noncomputable section
open Idealize.ShloMosaic Idealize.ShloMosaic.TcCoe Idealize.SL.Sem
namespace Cert.MlstmRefIdeal.Stages
open Cert.MlstmRefIdeal Cert.MlstmRefIdeal.Gen Cert.MlstmRefIdeal.Read Cert.Memory
open Cert.Retention (at64)
variable (X : FVec Ideal S8192x4096 .f32) (G : FVec Ideal S16x8192 .f32) (bi bf : FVec Ideal S2x4 .f32)
variable (n : Fin 32) (r : Fin 2) (h : Fin 4)

/-- The sums of the logarithmic forget gates in chunk 3. -/
theorem acc3 (t : Fin 64) : val_main_v293 (F := Ideal) G bf (ix4 n r h t) = cAcc (lIn G bf n r h) 3 t := by
  pointwise [val_main_v293, val_main_v292, val_main_v291, val_main_v290, val_main_call13_v0, val_main_call13_v1, val_main_call13_v2, val_main_call13_v3, val_main_cst_24, val_main_cst_25]
  simp only [mask_at, l_at]
  refine Finset.sum_congr rfl fun s _ => ?_
  by_cases e : (s : ℕ) ≤ t
  · rw [if_pos e, if_pos e]; rfl
  · rw [if_neg e, if_neg e]
    exact Ideal.ofBits_zero_f32

/-- The logarithmic weights in chunk 3. -/
theorem log3 (t s : Fin 64) : val_main_v302 (F := Ideal) G bi bf (ix5 n r h t s) = cLog (iIn G bi n r h) (lIn G bf n r h) 3 t s := by
  pointwise [val_main_v302, val_main_v301, val_main_v300, val_main_v299, val_main_v298, val_main_v297, val_main_v296, val_main_v295, val_main_v294, val_main_v289, val_main_call14_v0, val_main_call14_v1, val_main_call14_v2, val_main_cst_26]
  simp only [mask_at, i_at, acc3]
  unfold cLog
  by_cases e : (s : ℕ) ≤ t
  · rw [if_pos e, if_pos e]; rfl
  · rw [if_neg e, if_neg e]
    exact ofBits_bot

/-- The stabiliser of a row in chunk 3. -/
theorem row3 (t : Fin 64) : val_main_v307 (F := Ideal) G bi bf (ix4 n r h t) = cRow (iIn G bi n r h) (lIn G bf n r h) 3 (befM (iIn G bi n r h) (lIn G bf n r h) 3) t := by
  pointwise [val_main_v307, val_main_v306, val_main_v305, val_main_v304, val_main_v303, val_main_cst_27]
  simp only [log3, acc3, m3 G bi bf, ofBits_bot]
  rfl

/-- The weights in chunk 3. -/
theorem w3 (t s : Fin 64) : val_main_v312 (F := Ideal) G bi bf (ix5 n r h t s) = cW (iIn G bi n r h) (lIn G bf n r h) 3 (befM (iIn G bi n r h) (lIn G bf n r h) 3) t s := by
  pointwise [val_main_v312, val_main_v311, val_main_v310, val_main_v309]
  simp only [log3, row3]
  rfl

/-- The weight of the state in a row of chunk 3. -/
theorem int3 (t : Fin 64) : val_main_v315 (F := Ideal) G bi bf (ix4 n r h t) = cInt (iIn G bi n r h) (lIn G bf n r h) 3 (befM (iIn G bi n r h) (lIn G bf n r h) 3) t := by
  pointwise [val_main_v315, val_main_v314, val_main_v305, val_main_v304, val_main_v303]
  simp only [acc3, row3, m3 G bi bf]
  rfl

/-- The weighted scores of chunk 3. -/
theorem score3 (t s : Fin 64) : val_main_v313 (F := Ideal) X G bi bf (ix5 n r h t s)
    = (∑ d, qIn X n r h (at64 3 t) d * kIn X n r h (at64 3 s) d) * cW (iIn G bi n r h) (lIn G bf n r h) 3 (befM (iIn G bi n r h) (lIn G bf n r h) 3) t s := by
  pointwise [val_main_v313, val_main_v308, val_main_v287, val_main_v286]
  simp only [w3, q_at, k_at]
  rfl

/-- The outputs of chunk 3. -/
theorem out3 (t : Fin 64) (j : Fin 256) : val_main_v332 (F := Ideal) X G bi bf (ix5 n r h t j)
    = cOut (iIn G bi n r h) (lIn G bf n r h) (qIn X n r h) (kIn X n r h) (vIn X n r h) 3 (befM (iIn G bi n r h) (lIn G bf n r h) 3) (befC (iIn G bi n r h) (lIn G bf n r h) (kIn X n r h) (vIn X n r h) 3) (befN (iIn G bi n r h) (lIn G bf n r h) (kIn X n r h) 3) t j := by
  pointwise [val_main_v332, val_main_v331, val_main_v330, val_main_v329, val_main_v328, val_main_v327, val_main_v326, val_main_v325, val_main_v324, val_main_v323, val_main_v322, val_main_v321, val_main_v320, val_main_v319, val_main_v318, val_main_v317, val_main_v316, val_main_v288, val_main_v286, val_main_cst_28]
  simp only [score3, int3, row3, q_at, v_at, c3 X G bi bf, n3 X G bi bf]
  rfl

/-- The logarithmic weights at the end of chunk 3. -/
theorem last3 (s : Fin 64) : val_main_v338 (F := Ideal) G bi bf (ix4 n r h s) = cLast (iIn G bi n r h) (lIn G bf n r h) 3 s := by
  pointwise [val_main_v338, val_main_v337, val_main_v336, val_main_v335, val_main_v334, val_main_v333, val_main_v289]
  simp only [acc3, i_at]
  rfl

/-- The stabiliser after chunk 3. -/
theorem m4 : val_main_v341 (F := Ideal) G bi bf (ix3 n r h) = befM (iIn G bi n r h) (lIn G bf n r h) 4 := by
  pointwise [val_main_v341, val_main_v340, val_main_v339, val_main_v334, val_main_v333, val_main_cst_29]
  simp only [last3, acc3, m3 G bi bf, ofBits_bot]
  rfl

/-- The weights of the positions of chunk 3 in the state. -/
theorem ent3 (s : Fin 64) : val_main_v345 (F := Ideal) G bi bf (ix4 n r h s) = cEnt (iIn G bi n r h) (lIn G bf n r h) 3 (befM (iIn G bi n r h) (lIn G bf n r h) 3) s := by
  pointwise [val_main_v345, val_main_v344, val_main_v343, val_main_v342]
  simp only [last3, m4]
  rfl

/-- The decay of the state over chunk 3. -/
theorem dec3 : val_main_v348 (F := Ideal) G bi bf (ix3 n r h) = cDec (iIn G bi n r h) (lIn G bf n r h) 3 (befM (iIn G bi n r h) (lIn G bf n r h) 3) := by
  pointwise [val_main_v348, val_main_v347, val_main_v346, val_main_v334, val_main_v333]
  simp only [acc3, m4, m3 G bi bf]
  rfl

/-- The weighted keys of chunk 3. -/
theorem key3 (s : Fin 64) (d : Fin 128) : val_main_v351 (F := Ideal) X G bi bf (ix5 n r h s d)
    = cEnt (iIn G bi n r h) (lIn G bf n r h) 3 (befM (iIn G bi n r h) (lIn G bf n r h) 3) s * kIn X n r h (at64 3 s) d := by
  pointwise [val_main_v351, val_main_v350, val_main_v349, val_main_v287]
  simp only [ent3, k_at]
  rfl

/-- The state after chunk 3. -/
theorem c4 (d : Fin 128) (j : Fin 256) : val_main_v356 (F := Ideal) X G bi bf (ix5 n r h d j)
    = befC (iIn G bi n r h) (lIn G bf n r h) (kIn X n r h) (vIn X n r h) 4 d j := by
  pointwise [val_main_v356, val_main_v355, val_main_v354, val_main_v353, val_main_v352, val_main_v288]
  simp only [key3, dec3, v_at, c3 X G bi bf]
  rfl

/-- The normaliser's state after chunk 3. -/
theorem n4 (d : Fin 128) : val_main_v361 (F := Ideal) X G bi bf (ix4 n r h d) = befN (iIn G bi n r h) (lIn G bf n r h) (kIn X n r h) 4 d := by
  pointwise [val_main_v361, val_main_v360, val_main_v359, val_main_v358, val_main_v357, val_main_cst_30]
  simp only [key3, dec3, n3 X G bi bf]
  rfl

end Cert.MlstmRefIdeal.Stages
end
-- ==== Proof.MlstmRefTail.lean ====
module
public import proofs.«01_k».proof.Proof.Gen.MlstmRefIdeal.Read
public import proofs.«01_k».proof.Proof.MlstmSpec
/-! How the reference forms its four results from the chunks' outputs and states. -/
@[expose] public section
set_option maxRecDepth 16384
noncomputable section
open Idealize.ShloMosaic Idealize.ShloMosaic.TcCoe Idealize.SL.Sem
namespace Cert.MlstmRefIdeal.Stages
open Cert.MlstmRefIdeal Cert.MlstmRefIdeal.Gen Cert.MlstmRefIdeal.Read Cert.Memory
variable (X : FVec Ideal S8192x4096 .f32) (Z : FVec Ideal S8192x1024 .f32) (G : FVec Ideal S16x8192 .f32)
  (bi bf : FVec Ideal S2x4 .f32) (N : FVec Ideal S1024 .f32)

/-- The normalised outputs of one head. -/
theorem norm_at (n : Fin 32) (t : Fin 256) (h : Fin 4) (j : Fin 256) :
    val_main_v379 (F := Ideal) X G bi bf (ix4 n t h j)
      = val_main_v368 (F := Ideal) X G bi bf (ix4 n h t j) * Ideal.rsqrt (Ideal.div
          (∑ i, val_main_v368 (F := Ideal) X G bi bf (ix4 n h t i) * val_main_v368 (F := Ideal) X G bi bf (ix4 n h t i))
          (Ideal.ofBits .f32 0x43800000#32) + Ideal.ofBits .f32 0x358637BD#32) := by
  pointwise [val_main_v379, val_main_v378, val_main_v377, val_main_v376, val_main_v375, val_main_v374, val_main_v373, val_main_v372, val_main_v371, val_main_v370, val_main_v369, val_main_cst_31, val_main_cst_32, val_main_cst_33]

/-- The gate of the result. -/
theorem silu_at (a : Fin 8192) (b : Fin 1024) :
    val_main_v391 (F := Ideal) Z (ix2 a b) = Z (ix2 a b) * Ideal.div 1 (1 + Ideal.exp (0 - Z (ix2 a b))) := by
  pointwise [val_main_v391, val_main_call16_v5, val_main_call16_v4, val_main_call16_cst_0, val_main_call16_v3, val_main_call16_cst, val_main_call16_v2, val_main_call16_v1, val_main_call16_v0]
  simp only [zero_sub]

/-- The output gate. -/
theorem gate_at (a : Fin 8192) (b : Fin 1024) :
    val_main_v389 (F := Ideal) X (ix2 a b)
      = Ideal.div 1 (1 + Ideal.exp (0 - X (ix2 a ⟨3072 + (b : ℕ), by omega⟩))) := by
  pointwise [val_main_v389, val_main_v388, val_main_v387, val_main_v386, val_main_v385, val_main_v384, val_main_cst_34, val_main_cst_35, val_main_v3]
  simp only [zero_sub]

/-- The first result at a row and a column, by window, head, position and place in the head. -/
theorem y_at (a : Fin 8192) (b : Fin 1024) :
    val_main_v393 (F := Ideal) X Z G bi bf N (ix2 a b)
      = val_main_v389 (F := Ideal) X (ix2 a b)
        * (val_main_v379 (F := Ideal) X G bi bf (ix4 ⟨(a : ℕ) / 256, by omega⟩ ⟨(a : ℕ) % 256, by omega⟩ ⟨(b : ℕ) / 256, by omega⟩ ⟨(b : ℕ) % 256, by omega⟩)
          * N (ix1 b))
        * val_main_v391 (F := Ideal) Z (ix2 a b) := by
  pointwise [val_main_v393, val_main_v392, val_main_v390, val_main_v383, val_main_v382, val_main_v381, val_main_v380]

/-- The second result: the last states in the first slot, zeros in the second. -/
theorem c_at (n : Fin 32) (s r : Fin 2) (h : Fin 4) (d : Fin 128) (j : Fin 256) :
    val_main_v397 (F := Ideal) X G bi bf (ix6 n s r h d j)
      = if (s : ℕ) = 0 then val_main_v356 (F := Ideal) X G bi bf (ix5 n r h d j) else 0 := by
  pointwise [val_main_v397, val_main_v396, val_main_v395, val_main_v394, val_main_cst_36]
  by_cases e : (s : ℕ) < 1
  · rw [dif_pos e, if_pos (by omega)]
  · rw [dif_neg e, if_neg (by omega)]

/-- The third result: the normalisers' last states. -/
theorem n_at (n : Fin 32) (r : Fin 2) (h : Fin 4) (u : Fin 1) (d : Fin 128) :
    val_main_v398 (F := Ideal) X G bi bf (ix5 n r h u d) = val_main_v361 (F := Ideal) X G bi bf (ix4 n r h d) := by
  pointwise [val_main_v398]

/-- The fourth result: the last stabilisers. -/
theorem m_at (n : Fin 32) (r : Fin 2) (h : Fin 4) (u : Fin 1) (d : Fin 128) :
    val_main_v400 (F := Ideal) G bi bf (ix5 n r h u d) = val_main_v341 (F := Ideal) G bi bf (ix3 n r h) := by
  pointwise [val_main_v400, val_main_v399]

end Cert.MlstmRefIdeal.Stages
end
-- ==== Proof.MlstmPre.lean ====
module
public import proofs.«01_k».proof.Proof.Gen.Pre_finite_qv_forget
public import proofs.«01_k».proof.Proof.Equation
public import proofs.«01_k».proof.Defs
/-! The precondition of the matrix memory, read: queries and values are real numbers, no forget gate is minus infinity. -/
@[expose] public section
set_option maxRecDepth 16384
noncomputable section
open Idealize.ShloMosaic Idealize.ShloMosaic.TcCoe Idealize.SL.Sem
namespace Cert.MlstmRefIdeal.Stages
open Cert.Pre_finite_qv_forget Cert.Pre_finite_qv_forget.Facts
open Cert.ReferenceIdeal.Stages (real_of_bit)
variable (X : FVec Ideal S8192x4096 .f32) (Z : FVec Ideal S8192x1024 .f32) (G : FVec Ideal S16x8192 .f32)
  (bi bf : FVec Ideal S2x4 .f32) (N : FVec Ideal S1024 .f32)

theorem at_same {A B : ℕ} {α : Type} (f : (⟨2, ![A, B]⟩ : Shape).Idx → α) {a a' : Fin A} {b b' : Fin B}
    (ha : (a' : ℕ) = a) (hb : (b' : ℕ) = b) : f (ix2 a' b') = f (ix2 a b) := by
  rw [Fin.ext ha, Fin.ext hb]

/-- What is above minus infinity is not minus infinity. -/
theorem ne_bot_of_bit (x : EReal) (e : BitVec.ofBool (decide (Ideal.ofBits .f32 0xFF800000#32 < x)) = 1#1) : x ≠ ⊥ := by
  have ht : Ideal.ofBits .f32 0xFF800000#32 = ⊥ := by simp [Ideal.ofBits, Ideal.ieee]
  rintro rfl
  rw [ht, decide_eq_false (lt_irrefl _)] at e
  exact absurd e (by decide)

/-- The queries, tested. -/
def testQ : IVec S4194304 1 :=
  shapeCast S4194304 (cmpf .olt (Host.absf ((extractStridedSlice S8192x512 ![0, 1024] · slices_S8192x4096_S8192x512_0_1024) X : FVec Ideal S8192x512 .f32))
    (broadcastInDim S8192x512 ![] bcast_S_S8192x512 (constant (F := Ideal) S_ .f32 0x7F800000#32))) shapeCasts_S8192x512_S4194304

/-- The values, tested. -/
def testV : IVec S8388608 1 :=
  shapeCast S8388608 (cmpf .olt (Host.absf ((extractStridedSlice S8192x1024 ![0, 2048] · slices_S8192x4096_S8192x1024_0_2048) X : FVec Ideal S8192x1024 .f32))
    (broadcastInDim S8192x1024 ![] bcast_S_S8192x1024 (constant (F := Ideal) S_ .f32 0x7F800000#32))) shapeCasts_S8192x1024_S8388608

/-- The forget gates, tested. -/
def testG : IVec S65536 1 :=
  shapeCast S65536 (cmpf .ogt ((extractStridedSlice S8x8192 ![8, 0] · slices_S16x8192_S8x8192_8_0) G : FVec Ideal S8x8192 .f32)
    (broadcastInDim S8x8192 ![] bcast_S_S8x8192 (constant (F := Ideal) S_ .f32 0xFF800000#32))) shapeCasts_S8x8192_S65536

/-- Their biases, tested. -/
def testB : IVec S8 1 :=
  shapeCast S8 (cmpf .ogt bf (broadcastInDim S2x4 ![] bcast_S_S2x4 (constant (F := Ideal) S_ .f32 0xFF800000#32))) shapeCasts_S2x4_S8

/-- Four tests end to end. -/
def joined (a : IVec S4194304 1) (b : IVec S8388608 1) (c : IVec S65536 1) (d : IVec S8 1) : IVec S12648456 1 :=
  concatenate S12648456 0 [⟨S4194304, a⟩, ⟨S8388608, b⟩, ⟨S65536, c⟩, ⟨S8, d⟩] concatenates_S4194304_S8388608_S65536_S8_S12648456_d0

theorem fn_joined : fn (F := Ideal) X Z G bi bf N = joined (testQ X) (testV X) (testG G) (testB bf) := rfl

/-- What stands at each place of the four tests. -/
theorem joined_at (a : IVec S4194304 1) (b : IVec S8388608 1) (c : IVec S65536 1) (d : IVec S8 1)
    (h : joined a b c d = fun _ => 1#1) :
    (∀ i : Fin 4194304, a (ix1 i) = 1#1) ∧ (∀ i : Fin 8388608, b (ix1 i) = 1#1) ∧ (∀ i : Fin 65536, c (ix1 i) = 1#1) ∧
      ∀ i : Fin 8, d (ix1 i) = 1#1 := by
  have e : ∀ k : Fin 12648456, joined a b c d (ix1 k) = 1#1 := fun k => congrFun h _
  pointwise [joined] at e
  refine ⟨fun i => ?_, fun i => ?_, fun i => ?_, fun i => ?_⟩
  · obtain ⟨k, hk⟩ : ∃ k : Fin 12648456, (k : ℕ) = i := ⟨⟨i, by omega⟩, rfl⟩
    have := e k
    rw [dif_pos (by omega)] at this
    exact (congrArg (fun j => a (ix1 j)) (Fin.ext (by show (i : ℕ) = k; omega))).trans this
  · obtain ⟨k, hk⟩ : ∃ k : Fin 12648456, (k : ℕ) = 4194304 + i := ⟨⟨4194304 + i, by omega⟩, rfl⟩
    have := e k
    rw [dif_neg (by omega), dif_pos (by omega)] at this
    exact (congrArg (fun j => b (ix1 j)) (Fin.ext (by show (i : ℕ) = k - 4194304; omega))).trans this
  · obtain ⟨k, hk⟩ : ∃ k : Fin 12648456, (k : ℕ) = 4194304 + 8388608 + i := ⟨⟨4194304 + 8388608 + i, by omega⟩, rfl⟩
    have := e k
    rw [dif_neg (by omega), dif_neg (by omega), dif_pos (by omega)] at this
    exact (congrArg (fun j => c (ix1 j)) (Fin.ext (by show (i : ℕ) = k - 4194304 - 8388608; omega))).trans this
  · obtain ⟨k, hk⟩ : ∃ k : Fin 12648456, (k : ℕ) = 4194304 + 8388608 + 65536 + i := ⟨⟨4194304 + 8388608 + 65536 + i, by omega⟩, rfl⟩
    have := e k
    rw [dif_neg (by omega), dif_neg (by omega), dif_neg (by omega)] at this
    exact (congrArg (fun j => d (ix1 j)) (Fin.ext (by show (i : ℕ) = k - 4194304 - 8388608 - 65536; omega))).trans this

variable (h : fn (F := Ideal) X Z G bi bf N = fun _ => 1#1)
include h

/-- Queries are real. -/
theorem pre_q (a : Fin 8192) (b : Fin 4096) (hb : 1024 ≤ (b : ℕ)) (hb' : (b : ℕ) < 1536) : ∃ x : ℝ, X (ix2 a b) = x := by
  have ha := a.isLt
  obtain ⟨k, hk⟩ : ∃ k : Fin 4194304, (k : ℕ) = 512 * a + (b - 1024) := ⟨⟨512 * a + (b - 1024), by omega⟩, rfl⟩
  have e := (joined_at _ _ _ _ ((fn_joined X Z G bi bf N).symm.trans h)).1 k
  pointwise [testQ] at e
  obtain ⟨y, hy⟩ := real_of_bit _ e
  exact ⟨y, (at_same X (by show (a : ℕ) = _ / 512; omega) (by show (b : ℕ) = 1024 + _ % 512; omega)).trans hy⟩

/-- Values are real. -/
theorem pre_v (a : Fin 8192) (b : Fin 4096) (hb : 2048 ≤ (b : ℕ)) (hb' : (b : ℕ) < 3072) : ∃ x : ℝ, X (ix2 a b) = x := by
  have ha := a.isLt
  obtain ⟨k, hk⟩ : ∃ k : Fin 8388608, (k : ℕ) = (1024 * a + (b - 2048)) := ⟨⟨(1024 * a + (b - 2048)), by omega⟩, rfl⟩
  have e := (joined_at _ _ _ _ ((fn_joined X Z G bi bf N).symm.trans h)).2.1 k
  pointwise [testV] at e
  obtain ⟨y, hy⟩ := real_of_bit _ e
  exact ⟨y, (at_same X (by show (a : ℕ) = _ / 1024; omega) (by show (b : ℕ) = 2048 + _ % 1024; omega)).trans hy⟩

/-- No forget gate is minus infinity. -/
theorem pre_g (a : Fin 16) (b : Fin 8192) (ha' : 8 ≤ (a : ℕ)) : G (ix2 a b) ≠ ⊥ := by
  have ha := a.isLt
  have hb := b.isLt
  obtain ⟨k, hk⟩ : ∃ k : Fin 65536, (k : ℕ) = (8192 * (a - 8) + b) := ⟨⟨(8192 * (a - 8) + b), by omega⟩, rfl⟩
  have e := (joined_at _ _ _ _ ((fn_joined X Z G bi bf N).symm.trans h)).2.2.1 k
  pointwise [testG] at e
  have hn := ne_bot_of_bit _ e
  exact fun hh => hn (Eq.trans (Eq.symm (at_same G (by show (a : ℕ) = 8 + _ / 8192; omega) (by show (b : ℕ) = _ % 8192; omega))) hh)

/-- No bias of the forget gates is minus infinity. -/
theorem pre_bf (a : Fin 2) (b : Fin 4) : bf (ix2 a b) ≠ ⊥ := by
  have ha := a.isLt
  have hb := b.isLt
  obtain ⟨k, hk⟩ : ∃ k : Fin 8, (k : ℕ) = (4 * a + b) := ⟨⟨(4 * a + b), by omega⟩, rfl⟩
  have e := (joined_at _ _ _ _ ((fn_joined X Z G bi bf N).symm.trans h)).2.2.2 k
  pointwise [testB] at e
  have hn := ne_bot_of_bit _ e
  exact fun hh => hn (Eq.trans (Eq.symm (at_same bf (by show (a : ℕ) = _ / 4; omega) (by show (b : ℕ) = _ % 4; omega))) hh)

end Cert.MlstmRefIdeal.Stages
end
-- ==== Proof.MlstmInReal.lean ====
module
public import proofs.«01_k».proof.Proof.MlstmPre
public import proofs.«01_k».proof.Proof.MlstmSpec
public import proofs.«01_k».proof.Proof.Chunks
/-! Under the precondition the queries, values and logarithmic forget gates of a window and head are real numbers. -/
@[expose] public section
set_option maxRecDepth 16384
noncomputable section
open Idealize.ShloMosaic Idealize.ShloMosaic.TcCoe Idealize.SL.Sem
namespace Cert.MlstmRefIdeal.Stages
open Cert.Pre_finite_qv_forget Cert.Memory
open Cert.Retention (logSig exp_coe)
variable (X : FVec Ideal S8192x4096 .f32) (Z : FVec Ideal S8192x1024 .f32) (G : FVec Ideal S16x8192 .f32)
  (bi bf : FVec Ideal S2x4 .f32) (N : FVec Ideal S1024 .f32)

/-- The logarithm of the sigmoid of a real number is real. -/
theorem logSig_real (x : ℝ) : ∃ y : ℝ, logSig (x : EReal) = y := by
  obtain ⟨z, hz, hz'⟩ : ∃ z : ℝ, (1 + Ideal.exp (0 - max (0 - (x : EReal)) (-(0 - (x : EReal)))) : EReal) = z ∧ 0 < z := by
    refine ⟨1 + Real.exp (-max (-x) (- -x)), ?_, by positivity⟩
    rw [zero_sub, zero_sub, ← EReal.coe_neg, ← EReal.coe_neg, ← EReal.coe_strictMono.monotone.map_max, ← EReal.coe_neg, exp_coe,
      EReal.coe_add]
    rfl
  have hl : Ideal.log ((z : ℝ) : EReal) = (Real.log z : EReal) := by
    show (if z ≤ 0 then (⊥ : EReal) else (Real.log z : EReal)) = _
    rw [if_neg (by linarith)]
  refine ⟨-(max (-x) 0 + Real.log z), ?_⟩
  unfold logSig
  rw [hz, hl, zero_sub, zero_sub, ← EReal.coe_neg, ← EReal.coe_zero, ← EReal.coe_strictMono.monotone.map_max, ← EReal.coe_add, ← EReal.coe_neg]

/-- The logarithm of the sigmoid of anything but minus infinity is real. -/
theorem logSig_forget (x : EReal) (hx : x ≠ ⊥) : ∃ y : ℝ, logSig x = y := by
  induction x using EReal.rec with
  | bot => exact absurd rfl hx
  | coe x => exact logSig_real x
  | top =>
    have hl : Ideal.log (1 : EReal) = 0 := by
      show (if (1 : ℝ) ≤ 0 then (⊥ : EReal) else (Real.log 1 : EReal)) = _
      rw [if_neg (by norm_num), Real.log_one, EReal.coe_zero]
    have he : Ideal.exp ⊥ = 0 := rfl
    refine ⟨0, ?_⟩
    unfold logSig
    simp [hl, he]

variable (hp : fn (F := Ideal) X Z G bi bf N = fun _ => 1#1) (n : Fin 32) (r : Fin 2) (h : Fin 4) (t : Fin 256)
include hp

theorem q_real (d : Fin 128) : ∃ x : ℝ, qOf X n h t d = x :=
  pre_q X Z G bi bf N hp _ _ (by simp) (by simp; omega)

theorem v_real (j : Fin 256) : ∃ x : ℝ, vOf X n h t j = x :=
  pre_v X Z G bi bf N hp _ _ (by simp) (by simp; omega)

theorem l_real : ∃ x : ℝ, lOf G bf n r h t = x := by
  have hg := pre_g X Z G bi bf N hp ⟨8 + (4 * r + h), by omega⟩ ⟨256 * n + t, by omega⟩ (by simp)
  have hb := pre_bf X Z G bi bf N hp r h
  exact logSig_forget _ fun e => (EReal.add_eq_bot_iff.1 e).elim hg hb

end Cert.MlstmRefIdeal.Stages
end
-- ==== Proof.MlstmEquation.lean ====
module
public import proofs.«01_k».proof.Proof.MlstmRefChunk3
public import proofs.«01_k».proof.Proof.MlstmRefTail
public import proofs.«01_k».proof.Proof.MlstmInReal
/-! The four results of the reference are the arrays of the specification, where queries and values are finite and no forget gate is minus infinity. -/
@[expose] public section
set_option maxRecDepth 16384
noncomputable section
open Idealize.ShloMosaic Idealize.ShloMosaic.TcCoe Idealize.SL.Sem
namespace Cert.MlstmRefIdeal.Stages
open Cert.MlstmRefIdeal Cert.MlstmRefIdeal.Gen Cert.MlstmRefIdeal.Read Cert.Memory
open Cert.Retention (at64)
variable (X : FVec Ideal S8192x4096 .f32) (Z : FVec Ideal S8192x1024 .f32) (G : FVec Ideal S16x8192 .f32)
  (bi bf : FVec Ideal S2x4 .f32) (N : FVec Ideal S1024 .f32)

variable (hp : Cert.Pre_finite_qv_forget.fn (F := Ideal) X Z G bi bf N = fun _ => 1#1)
include hp

/-- The outputs of direction `r`, in its own order. -/
theorem scan_at (n : Fin 32) (r : Fin 2) (h : Fin 4) (t : Fin 256) (j : Fin 256) :
    val_main_v362 (F := Ideal) X G bi bf (ix5 n r h t j) = hidOf X G bi bf n r h (visit r t) j := by
  have key : ∀ (c : Fin 4) (l : Fin 64), at64 c l = t →
      cOut (iIn G bi n r h) (lIn G bf n r h) (qIn X n r h) (kIn X n r h) (vIn X n r h) c
        (befM (iIn G bi n r h) (lIn G bf n r h) c) (befC (iIn G bi n r h) (lIn G bf n r h) (kIn X n r h) (vIn X n r h) c)
        (befN (iIn G bi n r h) (lIn G bf n r h) (kIn X n r h) c) l j
      = hidOf X G bi bf n r h (visit r t) j := by
    intro c l e
    rw [← e]
    exact out_both r (iOf G bi n r h) (lOf G bf n r h) (qOf X n h) (kOf X n h) (vOf X n h)
      (l_real X Z G bi bf N hp n r h) (q_real X Z G bi bf N hp n h) (v_real X Z G bi bf N hp n h) c l j
  pointwise [val_main_v362]
  by_cases h1 : (t : ℕ) < 64
  · rw [dif_pos h1, out0]
    exact key 0 _ (Fin.ext (by simp [at64]))
  rw [dif_neg h1]
  by_cases h2 : (t : ℕ) - 64 < 64
  · rw [dif_pos h2, out1]
    exact key 1 _ (Fin.ext (by simp [at64]; omega))
  rw [dif_neg h2]
  by_cases h3 : (t : ℕ) - 64 - 64 < 64
  · rw [dif_pos h3, out2]
    exact key 2 _ (Fin.ext (by simp [at64]; omega))
  rw [dif_neg h3, out3]
  exact key 3 _ (Fin.ext (by simp [at64]; omega))

/-- Both directions together. -/
theorem both_at (n : Fin 32) (h : Fin 4) (t : Fin 256) (j : Fin 256) :
    val_main_v368 (F := Ideal) X G bi bf (ix4 n h t j) = hidOf X G bi bf n 0 h t j + hidOf X G bi bf n 1 h t j := by
  pointwise [val_main_v368, val_main_v367, val_main_v366, val_main_v365, val_main_v364, val_main_v363]
  show val_main_v362 (F := Ideal) X G bi bf (ix5 n 0 h t j) + val_main_v362 (F := Ideal) X G bi bf (ix5 n 1 h t.rev j) = _
  rw [scan_at X Z G bi bf N hp, scan_at X Z G bi bf N hp]
  have e0 : visit 0 t = t := rfl
  have e1 : visit 1 t.rev = t := Fin.rev_rev t
  rw [e0, e1]

/-- The first result of the reference. -/
theorem y_eq : val_main_v393 (F := Ideal) X Z G bi bf N = resY X Z G bi bf N := by
  funext i
  idx_vars i
  rw [y_at, norm_at, gate_at, silu_at]
  simp only [both_at X Z G bi bf N hp]
  have e1 : X (ix2 i0 ⟨3072 + (i1 : ℕ), by omega⟩) = oOf X ⟨(i0 : ℕ) / 256, by omega⟩ ⟨(i1 : ℕ) / 256, by omega⟩ ⟨(i0 : ℕ) % 256, by omega⟩ ⟨(i1 : ℕ) % 256, by omega⟩ :=
    at_same X (by show 256 * ((i0 : ℕ) / 256) + (i0 : ℕ) % 256 = i0; omega) (by show 3072 + (256 * ((i1 : ℕ) / 256) + (i1 : ℕ) % 256) = 3072 + (i1 : ℕ); omega) |>.symm
  have e2 : Z (ix2 i0 i1) = zOf Z ⟨(i0 : ℕ) / 256, by omega⟩ ⟨(i1 : ℕ) / 256, by omega⟩ ⟨(i0 : ℕ) % 256, by omega⟩ ⟨(i1 : ℕ) % 256, by omega⟩ :=
    at_same Z (by show 256 * ((i0 : ℕ) / 256) + (i0 : ℕ) % 256 = i0; omega) (by show 256 * ((i1 : ℕ) / 256) + (i1 : ℕ) % 256 = (i1 : ℕ); omega) |>.symm
  have e3 : N (ix1 i1) = gOf N ⟨(i1 : ℕ) / 256, by omega⟩ ⟨(i1 : ℕ) % 256, by omega⟩ :=
    congrArg N (congrArg ix1 (Fin.ext (by show (i1 : ℕ) = 256 * ((i1 : ℕ) / 256) + (i1 : ℕ) % 256; omega)))
  rw [e1, e2, e3]
  rfl

/-- The second result of the reference. -/
theorem c_eq : val_main_v397 (F := Ideal) X G bi bf = resC X G bi bf := by
  funext i
  idx_vars i
  rw [c_at, c4]
  have e := mat_both i2 (iOf G bi i0 i2 i3) (lOf G bf i0 i2 i3) (kOf X i0 i3) (vOf X i0 i3)
      (l_real X Z G bi bf N hp i0 i2 i3) (v_real X Z G bi bf N hp i0 i3) i4 i5
  show (if (i1 : ℕ) = 0 then _ else 0) = if (i1 : ℕ) = 0 then _ else 0
  by_cases h : (i1 : ℕ) = 0
  · rw [if_pos h, if_pos h]
    exact e
  · rw [if_neg h, if_neg h]

/-- The third result of the reference. -/
theorem n_eq : val_main_v398 (F := Ideal) X G bi bf = resN X G bi bf := by
  funext i
  idx_vars i
  rw [n_at, n4]
  exact vec_both i1 (iOf G bi i0 i1 i2) (lOf G bf i0 i1 i2) (kOf X i0 i2)
      (l_real X Z G bi bf N hp i0 i1 i2) i4

/-- The fourth result of the reference. -/
theorem m_eq : val_main_v400 (F := Ideal) G bi bf = resM G bi bf := by
  funext i
  idx_vars i
  rw [m_at, m4]
  exact stab_both i1 (iOf G bi i0 i1 i2) (lOf G bf i0 i1 i2)
      (l_real X Z G bi bf N hp i0 i1 i2)

end Cert.MlstmRefIdeal.Stages
end
-- ==== Proof.MlstmBlock.lean ====
module
public import proofs.«01_k».proof.Proof.Gen.MlstmIdeal.Skeleton
public import proofs.«01_k».proof.Proof.MlstmSpec
public import Idealize.ShloMosaic.Lib.WordCmp
/-! What one grid step of the matrix memory computes, head by head, read at an index. -/
@[expose] public section
set_option maxRecDepth 16384
noncomputable section
open Idealize.ShloMosaic Idealize.ShloMosaic.TcCoe Idealize.SL.Sem
namespace Cert.MlstmIdeal.Block
open Cert.MlstmIdeal Cert.MlstmIdeal.Gen Cert.Memory
open Cert.Retention (logSig)

theorem sel_eq {α : Type} (t s : Fin 256) (x y : α) :
    Scalar.select (IntOp.cmpi CmpIPredicate.eq (BitVec.ofNat 32 ↑t) (BitVec.ofNat 32 ↑s)) x y = if t = s then x else y := by
  have ht := t.isLt
  have hs := s.isLt
  simp (disch := word_cmp_side) only [hlo_ix]
  by_cases h : (t : ℕ) = s <;> simp [h, Fin.ext_iff]

theorem sel_sle {α : Type} (t s : Fin 256) (x y : α) :
    Scalar.select (IntOp.cmpi CmpIPredicate.sle (BitVec.ofNat 32 ↑t) (BitVec.ofNat 32 ↑s)) x y = if (t : ℕ) ≤ s then x else y := by
  have ht := t.isLt
  have hs := s.isLt
  simp (disch := word_cmp_side) only [hlo_ix]

theorem sel_sge {α : Type} (t s : Fin 256) (x y : α) :
    Scalar.select (IntOp.cmpi CmpIPredicate.sge (BitVec.ofNat 32 ↑t) (BitVec.ofNat 32 ↑s)) x y = if (s : ℕ) ≤ t then x else y := by
  have ht := t.isLt
  have hs := s.isLt
  simp (disch := word_cmp_side) only [hlo_ix]

variable (Gi Gf : Vec Ideal S1x1x1x256 .f32) (ai af : Ideal .f32) (t s : Fin 256)

variable (Gi Gf : Vec Ideal S1x1x1x256 .f32) (ai af : Ideal .f32) (t s : Fin 256) (d : Fin 128)

/-- The weights of head 0, direction 0. -/
theorem weight00 : k0_pay21 (F := Ideal) k0_pay2 k0_pay3 k0_pay4 k0_pay11 (k0_pay12 Gi ai) (k0_pay13 Gf af) (ix2 t s)
    = weight 0 (fun s => Gi (ix4 0 0 0 s) + ai) (fun s => logSig (Gf (ix4 0 0 0 s) + af)) t s := by
  pointwise [k0_pay2, k0_pay3, k0_pay4, k0_pay11, k0_pay12, k0_pay13, k0_pay17, k0_pay18, k0_pay19, k0_pay21]
  simp only [sel_eq, sel_sle, sel_sge, Finset.sum_ite_eq, Finset.sum_ite_eq', Finset.mem_univ, if_true]
  rfl

/-- The lower bound of the normaliser of head 0, direction 0. -/
theorem least00 : k0_pay22 (F := Ideal) k0_pay2 k0_pay3 k0_pay4 k0_pay11 (k0_pay12 Gi ai) (k0_pay13 Gf af) (ix2 t 0)
    = least 0 (fun s => Gi (ix4 0 0 0 s) + ai) (fun s => logSig (Gf (ix4 0 0 0 s) + af)) t := by
  pointwise [k0_pay2, k0_pay3, k0_pay4, k0_pay11, k0_pay12, k0_pay13, k0_pay16, k0_pay17, k0_pay18, k0_pay19, k0_pay22]
  simp only [sel_eq, sel_sle, sel_sge, Finset.sum_ite_eq, Finset.sum_ite_eq', Finset.mem_univ, if_true]
  rfl

/-- The weights of the final state of head 0, direction 0. -/
theorem enter00 : k0_pay23 (F := Ideal) k0_pay2 k0_pay3 k0_pay4 k0_pay11 (k0_pay12 Gi ai) (k0_pay13 Gf af) (k0_pay14 Gi ai) k0_pay15 (ix2 s 0)
    = enter 0 (fun s => Gi (ix4 0 0 0 s) + ai) (fun s => logSig (Gf (ix4 0 0 0 s) + af)) s := by
  pointwise [k0_pay2, k0_pay3, k0_pay4, k0_pay11, k0_pay12, k0_pay13, k0_pay14, k0_pay15, k0_pay16, k0_pay17, k0_pay20, k0_pay23]
  simp only [sel_eq, sel_sle, sel_sge, Finset.sum_ite_eq, Finset.sum_ite_eq', Finset.mem_univ, if_true]
  rfl

/-- The stabiliser of head 0, direction 0. -/
theorem stab00 : k0_pay184 (F := Ideal) (k0_pay24 k0_pay2 k0_pay4 k0_pay11 (k0_pay12 Gi ai) (k0_pay13 Gf af)) (ix5 0 0 0 0 d)
    = stab 0 (fun s => Gi (ix4 0 0 0 s) + ai) (fun s => logSig (Gf (ix4 0 0 0 s) + af))  := by
  pointwise [k0_pay2, k0_pay4, k0_pay11, k0_pay12, k0_pay13, k0_pay17, k0_pay20, k0_pay24, k0_pay184]
  simp only [sel_eq, sel_sle, sel_sge, Finset.sum_ite_eq, Finset.sum_ite_eq', Finset.mem_univ, if_true]
  rfl

/-- The weights of head 0, direction 1. -/
theorem weight01 : k0_pay34 (F := Ideal) k0_pay5 k0_pay6 k0_pay11 (k0_pay25 Gi ai) (k0_pay28 k0_pay2 Gf af) (ix2 t s)
    = weight 1 (fun s => Gi (ix4 0 0 0 s) + ai) (fun s => logSig (Gf (ix4 0 0 0 s) + af)) t s := by
  pointwise [k0_pay2, k0_pay5, k0_pay6, k0_pay11, k0_pay25, k0_pay26, k0_pay28, k0_pay30, k0_pay31, k0_pay32, k0_pay34]
  simp only [sel_eq, sel_sle, sel_sge, Finset.sum_ite_eq, Finset.sum_ite_eq', Finset.mem_univ, if_true]
  rfl

/-- The lower bound of the normaliser of head 0, direction 1. -/
theorem least01 : k0_pay35 (F := Ideal) k0_pay5 k0_pay6 k0_pay11 (k0_pay25 Gi ai) (k0_pay26 Gf af) (k0_pay28 k0_pay2 Gf af) (ix2 t 0)
    = least 1 (fun s => Gi (ix4 0 0 0 s) + ai) (fun s => logSig (Gf (ix4 0 0 0 s) + af)) t := by
  pointwise [k0_pay2, k0_pay5, k0_pay6, k0_pay11, k0_pay25, k0_pay26, k0_pay28, k0_pay29, k0_pay30, k0_pay31, k0_pay32, k0_pay35]
  simp only [sel_eq, sel_sle, sel_sge, Finset.sum_ite_eq, Finset.sum_ite_eq', Finset.mem_univ, if_true]
  rfl

/-- The weights of the final state of head 0, direction 1. -/
theorem enter01 : k0_pay36 (F := Ideal) k0_pay5 k0_pay6 k0_pay11 (k0_pay25 Gi ai) (k0_pay26 Gf af) (k0_pay27 k0_pay2 Gi ai) (k0_pay28 k0_pay2 Gf af) (ix2 s 0)
    = enter 1 (fun s => Gi (ix4 0 0 0 s) + ai) (fun s => logSig (Gf (ix4 0 0 0 s) + af)) s := by
  pointwise [k0_pay2, k0_pay5, k0_pay6, k0_pay11, k0_pay25, k0_pay26, k0_pay27, k0_pay28, k0_pay29, k0_pay30, k0_pay33, k0_pay36]
  simp only [sel_eq, sel_sle, sel_sge, Finset.sum_ite_eq, Finset.sum_ite_eq', Finset.mem_univ, if_true]
  rfl

/-- The stabiliser of head 0, direction 1. -/
theorem stab01 : k0_pay186 (F := Ideal) (k0_pay37 k0_pay6 k0_pay11 (k0_pay25 Gi ai) (k0_pay26 Gf af) (k0_pay28 k0_pay2 Gf af)) (ix5 0 0 0 0 d)
    = stab 1 (fun s => Gi (ix4 0 0 0 s) + ai) (fun s => logSig (Gf (ix4 0 0 0 s) + af))  := by
  pointwise [k0_pay2, k0_pay6, k0_pay11, k0_pay25, k0_pay26, k0_pay28, k0_pay30, k0_pay33, k0_pay37, k0_pay186]
  simp only [sel_eq, sel_sle, sel_sge, Finset.sum_ite_eq, Finset.sum_ite_eq', Finset.mem_univ, if_true]
  rfl

/-- The weights of head 1, direction 0. -/
theorem weight10 : k0_pay48 (F := Ideal) k0_pay3 k0_pay4 k0_pay11 (k0_pay39 (k0_pay38 Gi) ai) (k0_pay42 k0_pay2 Gf af) (ix2 t s)
    = weight 0 (fun s => Gi (ix4 0 0 0 s) + ai) (fun s => logSig (Gf (ix4 0 0 0 s) + af)) t s := by
  pointwise [k0_pay2, k0_pay3, k0_pay4, k0_pay11, k0_pay38, k0_pay39, k0_pay40, k0_pay42, k0_pay44, k0_pay45, k0_pay46, k0_pay48]
  simp only [sel_eq, sel_sle, sel_sge, Finset.sum_ite_eq, Finset.sum_ite_eq', Finset.mem_univ, if_true]
  rfl

/-- The lower bound of the normaliser of head 1, direction 0. -/
theorem least10 : k0_pay49 (F := Ideal) k0_pay3 k0_pay4 k0_pay11 (k0_pay39 (k0_pay38 Gi) ai) (k0_pay42 k0_pay2 Gf af) (k0_pay43 k0_pay3 Gf af) (ix2 t 0)
    = least 0 (fun s => Gi (ix4 0 0 0 s) + ai) (fun s => logSig (Gf (ix4 0 0 0 s) + af)) t := by
  pointwise [k0_pay2, k0_pay3, k0_pay4, k0_pay11, k0_pay38, k0_pay39, k0_pay40, k0_pay42, k0_pay43, k0_pay44, k0_pay45, k0_pay46, k0_pay49]
  simp only [sel_eq, sel_sle, sel_sge, Finset.sum_ite_eq, Finset.sum_ite_eq', Finset.mem_univ, if_true]
  rfl

/-- The weights of the final state of head 1, direction 0. -/
theorem enter10 : k0_pay50 (F := Ideal) k0_pay4 k0_pay11 (k0_pay39 (k0_pay38 Gi) ai) (k0_pay41 k0_pay2 (k0_pay38 Gi) ai) (k0_pay42 k0_pay2 Gf af) (k0_pay43 k0_pay3 Gf af) (ix2 s 0)
    = enter 0 (fun s => Gi (ix4 0 0 0 s) + ai) (fun s => logSig (Gf (ix4 0 0 0 s) + af)) s := by
  pointwise [k0_pay2, k0_pay3, k0_pay4, k0_pay11, k0_pay38, k0_pay39, k0_pay40, k0_pay41, k0_pay42, k0_pay43, k0_pay44, k0_pay47, k0_pay50]
  simp only [sel_eq, sel_sle, sel_sge, Finset.sum_ite_eq, Finset.sum_ite_eq', Finset.mem_univ, if_true]
  rfl

/-- The stabiliser of head 1, direction 0. -/
theorem stab10 : k0_pay192 (F := Ideal) (k0_pay51 k0_pay4 k0_pay11 (k0_pay39 (k0_pay38 Gi) ai) (k0_pay40 Gf af) (k0_pay42 k0_pay2 Gf af)) (ix5 0 0 0 0 d)
    = stab 0 (fun s => Gi (ix4 0 0 0 s) + ai) (fun s => logSig (Gf (ix4 0 0 0 s) + af))  := by
  pointwise [k0_pay2, k0_pay4, k0_pay11, k0_pay38, k0_pay39, k0_pay40, k0_pay42, k0_pay44, k0_pay47, k0_pay51, k0_pay192]
  simp only [sel_eq, sel_sle, sel_sge, Finset.sum_ite_eq, Finset.sum_ite_eq', Finset.mem_univ, if_true]
  rfl

/-- The weights of head 1, direction 1. -/
theorem weight11 : k0_pay61 (F := Ideal) k0_pay5 k0_pay11 (k0_pay56 k0_pay2 k0_pay6 (k0_pay52 Gi ai) (k0_pay53 Gf) af) (ix2 t s)
    = weight 1 (fun s => Gi (ix4 0 0 0 s) + ai) (fun s => logSig (Gf (ix4 0 0 0 s) + af)) t s := by
  pointwise [k0_pay2, k0_pay5, k0_pay6, k0_pay11, k0_pay52, k0_pay53, k0_pay54, k0_pay56, k0_pay58, k0_pay59, k0_pay61]
  simp only [sel_eq, sel_sle, sel_sge, Finset.sum_ite_eq, Finset.sum_ite_eq', Finset.mem_univ, if_true]
  rfl

/-- The lower bound of the normaliser of head 1, direction 1. -/
theorem least11 : k0_pay62 (F := Ideal) k0_pay5 k0_pay11 (k0_pay55 k0_pay5 (k0_pay53 Gf) af) (k0_pay56 k0_pay2 k0_pay6 (k0_pay52 Gi ai) (k0_pay53 Gf) af) (ix2 t 0)
    = least 1 (fun s => Gi (ix4 0 0 0 s) + ai) (fun s => logSig (Gf (ix4 0 0 0 s) + af)) t := by
  pointwise [k0_pay2, k0_pay5, k0_pay6, k0_pay11, k0_pay52, k0_pay53, k0_pay54, k0_pay55, k0_pay56, k0_pay58, k0_pay59, k0_pay62]
  simp only [sel_eq, sel_sle, sel_sge, Finset.sum_ite_eq, Finset.sum_ite_eq', Finset.mem_univ, if_true]
  rfl

/-- The weights of the final state of head 1, direction 1. -/
theorem enter11 : k0_pay63 (F := Ideal) k0_pay11 (k0_pay56 k0_pay2 k0_pay6 (k0_pay52 Gi ai) (k0_pay53 Gf) af) (k0_pay57 k0_pay2 k0_pay5 (k0_pay52 Gi ai) (k0_pay53 Gf) af) (ix2 s 0)
    = enter 1 (fun s => Gi (ix4 0 0 0 s) + ai) (fun s => logSig (Gf (ix4 0 0 0 s) + af)) s := by
  pointwise [k0_pay2, k0_pay5, k0_pay6, k0_pay11, k0_pay52, k0_pay53, k0_pay54, k0_pay55, k0_pay56, k0_pay57, k0_pay60, k0_pay63]
  simp only [sel_eq, sel_sle, sel_sge, Finset.sum_ite_eq, Finset.sum_ite_eq', Finset.mem_univ, if_true]
  rfl

/-- The stabiliser of head 1, direction 1. -/
theorem stab11 : k0_pay194 (F := Ideal) (k0_pay64 k0_pay11 (k0_pay54 (k0_pay53 Gf) af) (k0_pay56 k0_pay2 k0_pay6 (k0_pay52 Gi ai) (k0_pay53 Gf) af)) (ix5 0 0 0 0 d)
    = stab 1 (fun s => Gi (ix4 0 0 0 s) + ai) (fun s => logSig (Gf (ix4 0 0 0 s) + af))  := by
  pointwise [k0_pay2, k0_pay6, k0_pay11, k0_pay52, k0_pay53, k0_pay54, k0_pay56, k0_pay60, k0_pay64, k0_pay194]
  simp only [sel_eq, sel_sle, sel_sge, Finset.sum_ite_eq, Finset.sum_ite_eq', Finset.mem_univ, if_true]
  rfl

/-- The weights of head 2, direction 0. -/
theorem weight20 : k0_pay74 (F := Ideal) (k0_pay71 k0_pay2 k0_pay3 k0_pay4 (k0_pay65 Gi ai) (k0_pay66 Gf af)) (k0_pay72 k0_pay2 k0_pay3 k0_pay4 k0_pay11 (k0_pay65 Gi ai) (k0_pay66 Gf af)) (ix2 t s)
    = weight 0 (fun s => Gi (ix4 0 0 0 s) + ai) (fun s => logSig (Gf (ix4 0 0 0 s) + af)) t s := by
  pointwise [k0_pay2, k0_pay3, k0_pay4, k0_pay11, k0_pay65, k0_pay66, k0_pay67, k0_pay69, k0_pay71, k0_pay72, k0_pay74]
  simp only [sel_eq, sel_sle, sel_sge, Finset.sum_ite_eq, Finset.sum_ite_eq', Finset.mem_univ, if_true]
  rfl

/-- The lower bound of the normaliser of head 2, direction 0. -/
theorem least20 : k0_pay75 (F := Ideal) (k0_pay68 k0_pay3 (k0_pay66 Gf af)) (k0_pay72 k0_pay2 k0_pay3 k0_pay4 k0_pay11 (k0_pay65 Gi ai) (k0_pay66 Gf af)) (ix2 t 0)
    = least 0 (fun s => Gi (ix4 0 0 0 s) + ai) (fun s => logSig (Gf (ix4 0 0 0 s) + af)) t := by
  pointwise [k0_pay2, k0_pay3, k0_pay4, k0_pay11, k0_pay65, k0_pay66, k0_pay67, k0_pay68, k0_pay69, k0_pay71, k0_pay72, k0_pay75]
  simp only [sel_eq, sel_sle, sel_sge, Finset.sum_ite_eq, Finset.sum_ite_eq', Finset.mem_univ, if_true]
  rfl

/-- The weights of the final state of head 2, direction 0. -/
theorem enter20 : k0_pay76 (F := Ideal) k0_pay11 (k0_pay69 k0_pay2 k0_pay4 (k0_pay65 Gi ai) (k0_pay66 Gf af)) (k0_pay70 k0_pay2 k0_pay3 (k0_pay65 Gi ai) (k0_pay66 Gf af)) (ix2 s 0)
    = enter 0 (fun s => Gi (ix4 0 0 0 s) + ai) (fun s => logSig (Gf (ix4 0 0 0 s) + af)) s := by
  pointwise [k0_pay2, k0_pay3, k0_pay4, k0_pay11, k0_pay65, k0_pay66, k0_pay67, k0_pay68, k0_pay69, k0_pay70, k0_pay73, k0_pay76]
  simp only [sel_eq, sel_sle, sel_sge, Finset.sum_ite_eq, Finset.sum_ite_eq', Finset.mem_univ, if_true]
  rfl

/-- The stabiliser of head 2, direction 0. -/
theorem stab20 : k0_pay201 (F := Ideal) (k0_pay77 k0_pay11 (k0_pay67 (k0_pay66 Gf af)) (k0_pay69 k0_pay2 k0_pay4 (k0_pay65 Gi ai) (k0_pay66 Gf af))) (ix5 0 0 0 0 d)
    = stab 0 (fun s => Gi (ix4 0 0 0 s) + ai) (fun s => logSig (Gf (ix4 0 0 0 s) + af))  := by
  pointwise [k0_pay2, k0_pay4, k0_pay11, k0_pay65, k0_pay66, k0_pay67, k0_pay69, k0_pay73, k0_pay77, k0_pay201]
  simp only [sel_eq, sel_sle, sel_sge, Finset.sum_ite_eq, Finset.sum_ite_eq', Finset.mem_univ, if_true]
  rfl

/-- The weights of head 2, direction 1. -/
theorem weight21 : k0_pay91 (F := Ideal) k0_pay2 k0_pay5 k0_pay6 k0_pay11 (k0_pay78 Gi ai) (k0_pay80 Gf af) (k0_pay81 Gf af) k0_pay82 (ix2 t s)
    = weight 1 (fun s => Gi (ix4 0 0 0 s) + ai) (fun s => logSig (Gf (ix4 0 0 0 s) + af)) t s := by
  pointwise [k0_pay2, k0_pay5, k0_pay6, k0_pay11, k0_pay78, k0_pay79, k0_pay80, k0_pay81, k0_pay82, k0_pay83, k0_pay85, k0_pay87, k0_pay88, k0_pay91]
  simp only [sel_eq, sel_sle, sel_sge, Finset.sum_ite_eq, Finset.sum_ite_eq', Finset.mem_univ, if_true]
  rfl

/-- The lower bound of the normaliser of head 2, direction 1. -/
theorem least21 : k0_pay92 (F := Ideal) (k0_pay84 k0_pay5 (k0_pay80 Gf af) (k0_pay81 Gf af) k0_pay82) (k0_pay88 k0_pay2 k0_pay5 k0_pay6 k0_pay11 (k0_pay78 Gi ai) (k0_pay80 Gf af) (k0_pay81 Gf af) k0_pay82) (ix2 t 0)
    = least 1 (fun s => Gi (ix4 0 0 0 s) + ai) (fun s => logSig (Gf (ix4 0 0 0 s) + af)) t := by
  pointwise [k0_pay2, k0_pay5, k0_pay6, k0_pay11, k0_pay78, k0_pay79, k0_pay80, k0_pay81, k0_pay82, k0_pay83, k0_pay84, k0_pay85, k0_pay87, k0_pay88, k0_pay92]
  simp only [sel_eq, sel_sle, sel_sge, Finset.sum_ite_eq, Finset.sum_ite_eq', Finset.mem_univ, if_true]
  rfl

/-- The weights of the final state of head 2, direction 1. -/
theorem enter21 : k0_pay93 (F := Ideal) (k0_pay86 k0_pay2 k0_pay5 (k0_pay78 Gi ai) (k0_pay80 Gf af) (k0_pay81 Gf af) k0_pay82) (k0_pay89 k0_pay2 k0_pay6 k0_pay11 (k0_pay78 Gi ai) (k0_pay80 Gf af) (k0_pay81 Gf af) k0_pay82) (ix2 s 0)
    = enter 1 (fun s => Gi (ix4 0 0 0 s) + ai) (fun s => logSig (Gf (ix4 0 0 0 s) + af)) s := by
  pointwise [k0_pay2, k0_pay5, k0_pay6, k0_pay11, k0_pay78, k0_pay79, k0_pay80, k0_pay81, k0_pay82, k0_pay83, k0_pay84, k0_pay85, k0_pay86, k0_pay89, k0_pay93]
  simp only [sel_eq, sel_sle, sel_sge, Finset.sum_ite_eq, Finset.sum_ite_eq', Finset.mem_univ, if_true]
  rfl

/-- The stabiliser of head 2, direction 1. -/
theorem stab21 : k0_pay203 (F := Ideal) (k0_pay94 (k0_pay89 k0_pay2 k0_pay6 k0_pay11 (k0_pay78 Gi ai) (k0_pay80 Gf af) (k0_pay81 Gf af) k0_pay82) (k0_pay90 (k0_pay80 Gf af) (k0_pay81 Gf af) k0_pay82)) (ix5 0 0 0 0 d)
    = stab 1 (fun s => Gi (ix4 0 0 0 s) + ai) (fun s => logSig (Gf (ix4 0 0 0 s) + af))  := by
  pointwise [k0_pay2, k0_pay6, k0_pay11, k0_pay78, k0_pay79, k0_pay80, k0_pay81, k0_pay82, k0_pay83, k0_pay85, k0_pay89, k0_pay90, k0_pay94, k0_pay203]
  simp only [sel_eq, sel_sle, sel_sge, Finset.sum_ite_eq, Finset.sum_ite_eq', Finset.mem_univ, if_true]
  rfl

/-- The weights of head 3, direction 0. -/
theorem weight30 : k0_pay104 (F := Ideal) k0_pay2 k0_pay3 k0_pay4 k0_pay11 (k0_pay95 Gi ai) (k0_pay96 Gf af) (ix2 t s)
    = weight 0 (fun s => Gi (ix4 0 0 0 s) + ai) (fun s => logSig (Gf (ix4 0 0 0 s) + af)) t s := by
  pointwise [k0_pay2, k0_pay3, k0_pay4, k0_pay11, k0_pay95, k0_pay96, k0_pay100, k0_pay101, k0_pay102, k0_pay104]
  simp only [sel_eq, sel_sle, sel_sge, Finset.sum_ite_eq, Finset.sum_ite_eq', Finset.mem_univ, if_true]
  rfl

/-- The lower bound of the normaliser of head 3, direction 0. -/
theorem least30 : k0_pay105 (F := Ideal) k0_pay2 k0_pay3 k0_pay4 k0_pay11 (k0_pay95 Gi ai) (k0_pay96 Gf af) (ix2 t 0)
    = least 0 (fun s => Gi (ix4 0 0 0 s) + ai) (fun s => logSig (Gf (ix4 0 0 0 s) + af)) t := by
  pointwise [k0_pay2, k0_pay3, k0_pay4, k0_pay11, k0_pay95, k0_pay96, k0_pay99, k0_pay100, k0_pay101, k0_pay102, k0_pay105]
  simp only [sel_eq, sel_sle, sel_sge, Finset.sum_ite_eq, Finset.sum_ite_eq', Finset.mem_univ, if_true]
  rfl

/-- The weights of the final state of head 3, direction 0. -/
theorem enter30 : k0_pay106 (F := Ideal) k0_pay2 k0_pay3 k0_pay4 k0_pay11 (k0_pay95 Gi ai) (k0_pay96 Gf af) (k0_pay97 Gi ai) k0_pay98 (ix2 s 0)
    = enter 0 (fun s => Gi (ix4 0 0 0 s) + ai) (fun s => logSig (Gf (ix4 0 0 0 s) + af)) s := by
  pointwise [k0_pay2, k0_pay3, k0_pay4, k0_pay11, k0_pay95, k0_pay96, k0_pay97, k0_pay98, k0_pay99, k0_pay100, k0_pay103, k0_pay106]
  simp only [sel_eq, sel_sle, sel_sge, Finset.sum_ite_eq, Finset.sum_ite_eq', Finset.mem_univ, if_true]
  rfl

/-- The stabiliser of head 3, direction 0. -/
theorem stab30 : k0_pay209 (F := Ideal) (k0_pay107 k0_pay2 k0_pay4 k0_pay11 (k0_pay95 Gi ai) (k0_pay96 Gf af)) (ix5 0 0 0 0 d)
    = stab 0 (fun s => Gi (ix4 0 0 0 s) + ai) (fun s => logSig (Gf (ix4 0 0 0 s) + af))  := by
  pointwise [k0_pay2, k0_pay4, k0_pay11, k0_pay95, k0_pay96, k0_pay100, k0_pay103, k0_pay107, k0_pay209]
  simp only [sel_eq, sel_sle, sel_sge, Finset.sum_ite_eq, Finset.sum_ite_eq', Finset.mem_univ, if_true]
  rfl

/-- The weights of head 3, direction 1. -/
theorem weight31 : k0_pay117 (F := Ideal) k0_pay5 k0_pay6 k0_pay11 (k0_pay108 Gi ai) (k0_pay111 k0_pay2 Gf af) (ix2 t s)
    = weight 1 (fun s => Gi (ix4 0 0 0 s) + ai) (fun s => logSig (Gf (ix4 0 0 0 s) + af)) t s := by
  pointwise [k0_pay2, k0_pay5, k0_pay6, k0_pay11, k0_pay108, k0_pay109, k0_pay111, k0_pay113, k0_pay114, k0_pay115, k0_pay117]
  simp only [sel_eq, sel_sle, sel_sge, Finset.sum_ite_eq, Finset.sum_ite_eq', Finset.mem_univ, if_true]
  rfl

/-- The lower bound of the normaliser of head 3, direction 1. -/
theorem least31 : k0_pay118 (F := Ideal) k0_pay5 k0_pay6 k0_pay11 (k0_pay108 Gi ai) (k0_pay109 Gf af) (k0_pay111 k0_pay2 Gf af) (ix2 t 0)
    = least 1 (fun s => Gi (ix4 0 0 0 s) + ai) (fun s => logSig (Gf (ix4 0 0 0 s) + af)) t := by
  pointwise [k0_pay2, k0_pay5, k0_pay6, k0_pay11, k0_pay108, k0_pay109, k0_pay111, k0_pay112, k0_pay113, k0_pay114, k0_pay115, k0_pay118]
  simp only [sel_eq, sel_sle, sel_sge, Finset.sum_ite_eq, Finset.sum_ite_eq', Finset.mem_univ, if_true]
  rfl

/-- The weights of the final state of head 3, direction 1. -/
theorem enter31 : k0_pay119 (F := Ideal) k0_pay5 k0_pay6 k0_pay11 (k0_pay108 Gi ai) (k0_pay109 Gf af) (k0_pay110 k0_pay2 Gi ai) (k0_pay111 k0_pay2 Gf af) (ix2 s 0)
    = enter 1 (fun s => Gi (ix4 0 0 0 s) + ai) (fun s => logSig (Gf (ix4 0 0 0 s) + af)) s := by
  pointwise [k0_pay2, k0_pay5, k0_pay6, k0_pay11, k0_pay108, k0_pay109, k0_pay110, k0_pay111, k0_pay112, k0_pay113, k0_pay116, k0_pay119]
  simp only [sel_eq, sel_sle, sel_sge, Finset.sum_ite_eq, Finset.sum_ite_eq', Finset.mem_univ, if_true]
  rfl

/-- The stabiliser of head 3, direction 1. -/
theorem stab31 : k0_pay212 (F := Ideal) (k0_pay211 (k0_pay120 k0_pay6 k0_pay11 (k0_pay108 Gi ai) (k0_pay109 Gf af) (k0_pay111 k0_pay2 Gf af))) (ix5 0 0 0 0 d)
    = stab 1 (fun s => Gi (ix4 0 0 0 s) + ai) (fun s => logSig (Gf (ix4 0 0 0 s) + af))  := by
  pointwise [k0_pay2, k0_pay6, k0_pay11, k0_pay108, k0_pay109, k0_pay111, k0_pay113, k0_pay116, k0_pay120, k0_pay211, k0_pay212]
  simp only [sel_eq, sel_sle, sel_sge, Finset.sum_ite_eq, Finset.sum_ite_eq', Finset.mem_univ, if_true]
  rfl

variable (Q K : Vec Ideal S256x128 .f32) (V O Z : Vec Ideal S256x256 .f32) (NG : Vec Ideal S1x256 .f32)
  (E0 E1 : Vec Ideal S256x256 .f32) (L0 L1 W0 W1 : Vec Ideal S256x1 .f32) (j : Fin 256)

/-- The gated row of head 0, from the weights and bounds of its two directions. -/
theorem row0 : k0_pay215 (F := Ideal) (k0_pay213 (k0_pay152 L0 (k0_pay127 E0 (k0_pay121 Q (k0_pay7 K))) (k0_pay135 V E0 E1 (k0_pay121 Q (k0_pay7 K)))) (k0_pay155 L1 (k0_pay128 E1 (k0_pay121 Q (k0_pay7 K))) (k0_pay135 V E0 E1 (k0_pay121 Q (k0_pay7 K)))) NG O) Z (k0_pay214 Z) (FloatOps.ofBits FTy.f32 1065353216#32) (ix2 t j)
    = out (fun j => hidden (fun t s => E0 (ix2 t s)) (fun t => L0 (ix2 t 0)) (fun t d => Q (ix2 t d)) (fun t d => K (ix2 t d) * kscale) (fun t d => V (ix2 t d)) t j
      + hidden (fun t s => E1 (ix2 t s)) (fun t => L1 (ix2 t 0)) (fun t d => Q (ix2 t d)) (fun t d => K (ix2 t d) * kscale) (fun t d => V (ix2 t d)) t j)
      (fun j => NG (ix2 0 j)) (fun j => O (ix2 t j)) (fun j => Z (ix2 t j)) j := by
  pointwise [k0_pay7, k0_pay121, k0_pay127, k0_pay128, k0_pay135, k0_pay152, k0_pay155, k0_pay213, k0_pay214, k0_pay215]
  rfl

/-- The gated row of head 1, from the weights and bounds of its two directions. -/
theorem row1 : k0_pay218 (F := Ideal) (k0_pay216 (k0_pay158 L0 (k0_pay129 E0 (k0_pay122 Q (k0_pay8 K))) (k0_pay136 V E0 E1 (k0_pay122 Q (k0_pay8 K)))) (k0_pay161 L1 (k0_pay130 E1 (k0_pay122 Q (k0_pay8 K))) (k0_pay136 V E0 E1 (k0_pay122 Q (k0_pay8 K)))) NG O) Z (k0_pay217 Z) (FloatOps.ofBits FTy.f32 1065353216#32) (ix2 t j)
    = out (fun j => hidden (fun t s => E0 (ix2 t s)) (fun t => L0 (ix2 t 0)) (fun t d => Q (ix2 t d)) (fun t d => K (ix2 t d) * kscale) (fun t d => V (ix2 t d)) t j
      + hidden (fun t s => E1 (ix2 t s)) (fun t => L1 (ix2 t 0)) (fun t d => Q (ix2 t d)) (fun t d => K (ix2 t d) * kscale) (fun t d => V (ix2 t d)) t j)
      (fun j => NG (ix2 0 j)) (fun j => O (ix2 t j)) (fun j => Z (ix2 t j)) j := by
  pointwise [k0_pay8, k0_pay122, k0_pay129, k0_pay130, k0_pay136, k0_pay158, k0_pay161, k0_pay216, k0_pay217, k0_pay218]
  rfl

/-- The gated row of head 2, from the weights and bounds of its two directions. -/
theorem row2 : k0_pay221 (F := Ideal) (k0_pay219 (k0_pay164 L0 (k0_pay131 E0 (k0_pay123 Q) (k0_pay124 (k0_pay9 K)) (constant S256x256 FTy.f32 0#32)) (k0_pay137 V E0 E1 (k0_pay123 Q) (k0_pay124 (k0_pay9 K)) (constant S256x256 FTy.f32 0#32))) (k0_pay167 L1 (k0_pay132 E1 (k0_pay123 Q) (k0_pay124 (k0_pay9 K)) (constant S256x256 FTy.f32 0#32)) (k0_pay137 V E0 E1 (k0_pay123 Q) (k0_pay124 (k0_pay9 K)) (constant S256x256 FTy.f32 0#32))) NG O) Z (k0_pay220 Z) (FloatOps.ofBits FTy.f32 1065353216#32) (ix2 t j)
    = out (fun j => hidden (fun t s => E0 (ix2 t s)) (fun t => L0 (ix2 t 0)) (fun t d => Q (ix2 t d)) (fun t d => K (ix2 t d) * kscale) (fun t d => V (ix2 t d)) t j
      + hidden (fun t s => E1 (ix2 t s)) (fun t => L1 (ix2 t 0)) (fun t d => Q (ix2 t d)) (fun t d => K (ix2 t d) * kscale) (fun t d => V (ix2 t d)) t j)
      (fun j => NG (ix2 0 j)) (fun j => O (ix2 t j)) (fun j => Z (ix2 t j)) j := by
  pointwise [k0_pay9, k0_pay123, k0_pay124, k0_pay125, k0_pay131, k0_pay132, k0_pay137, k0_pay164, k0_pay167, k0_pay219, k0_pay220, k0_pay221]
  rfl

/-- The gated row of head 3, from the weights and bounds of its two directions. -/
theorem row3 : k0_pay1 (F := Ideal) (k0_pay222 (k0_pay172 L0 (k0_pay170 (k0_pay138 Q (k0_pay10 K) V E0 E1)) (k0_pay171 (k0_pay133 Q (k0_pay10 K) E0))) (k0_pay175 L1 (k0_pay134 Q (k0_pay10 K) E1) (k0_pay138 Q (k0_pay10 K) V E0 E1)) NG O) Z (k0_pay223 Z) (FloatOps.ofBits FTy.f32 1065353216#32) (ix2 t j)
    = out (fun j => hidden (fun t s => E0 (ix2 t s)) (fun t => L0 (ix2 t 0)) (fun t d => Q (ix2 t d)) (fun t d => K (ix2 t d) * kscale) (fun t d => V (ix2 t d)) t j
      + hidden (fun t s => E1 (ix2 t s)) (fun t => L1 (ix2 t 0)) (fun t d => Q (ix2 t d)) (fun t d => K (ix2 t d) * kscale) (fun t d => V (ix2 t d)) t j)
      (fun j => NG (ix2 0 j)) (fun j => O (ix2 t j)) (fun j => Z (ix2 t j)) j := by
  pointwise [k0_pay1, k0_pay10, k0_pay126, k0_pay133, k0_pay134, k0_pay138, k0_pay170, k0_pay171, k0_pay172, k0_pay175, k0_pay222, k0_pay223]
  rfl

/-- The state of head 0, direction 0, from the weights of the final state. -/
theorem mat00 : k0_pay178 (F := Ideal) (k0_pay153 (k0_pay147 (k0_pay7 K) V W0 W1)) (ix6 0 0 0 0 d j)
    = mat (fun s => W0 (ix2 s 0)) (fun t d => K (ix2 t d) * kscale) (fun t d => V (ix2 t d)) d j := by
  pointwise [k0_pay7, k0_pay139, k0_pay140, k0_pay147, k0_pay153, k0_pay178]
  rfl

/-- The normaliser's state of head 0, direction 0, from the weights of the final state. -/
theorem vec00 : k0_pay183 (F := Ideal) (k0_pay154 (k0_pay139 (k0_pay7 K) W0)) (ix5 0 0 0 0 d)
    = vec (fun s => W0 (ix2 s 0)) (fun t d => K (ix2 t d) * kscale) d := by
  pointwise [k0_pay7, k0_pay139, k0_pay154, k0_pay183]
  rfl

/-- The state of head 0, direction 1, from the weights of the final state. -/
theorem mat01 : k0_pay179 (F := Ideal) (k0_pay156 (k0_pay147 (k0_pay7 K) V W0 W1)) (ix6 0 0 0 0 d j)
    = mat (fun s => W1 (ix2 s 0)) (fun t d => K (ix2 t d) * kscale) (fun t d => V (ix2 t d)) d j := by
  pointwise [k0_pay7, k0_pay139, k0_pay140, k0_pay147, k0_pay156, k0_pay179]
  rfl

/-- The normaliser's state of head 0, direction 1, from the weights of the final state. -/
theorem vec01 : k0_pay185 (F := Ideal) (k0_pay157 (k0_pay140 (k0_pay7 K) W0)) (ix5 0 0 0 0 d)
    = vec (fun s => W0 (ix2 s 0)) (fun t d => K (ix2 t d) * kscale) d := by
  pointwise [k0_pay7, k0_pay140, k0_pay157, k0_pay185]
  rfl

/-- The state of head 1, direction 0, from the weights of the final state. -/
theorem mat10 : k0_pay187 (F := Ideal) (k0_pay159 (k0_pay148 (k0_pay8 K) V W0 W1)) (ix6 0 0 0 0 d j)
    = mat (fun s => W0 (ix2 s 0)) (fun t d => K (ix2 t d) * kscale) (fun t d => V (ix2 t d)) d j := by
  pointwise [k0_pay8, k0_pay141, k0_pay142, k0_pay148, k0_pay159, k0_pay187]
  rfl

/-- The normaliser's state of head 1, direction 0, from the weights of the final state. -/
theorem vec10 : k0_pay191 (F := Ideal) (k0_pay160 (k0_pay141 (k0_pay8 K) W0)) (ix5 0 0 0 0 d)
    = vec (fun s => W0 (ix2 s 0)) (fun t d => K (ix2 t d) * kscale) d := by
  pointwise [k0_pay8, k0_pay141, k0_pay160, k0_pay191]
  rfl

/-- The state of head 1, direction 1, from the weights of the final state. -/
theorem mat11 : k0_pay188 (F := Ideal) (k0_pay162 (k0_pay148 (k0_pay8 K) V W0 W1)) (ix6 0 0 0 0 d j)
    = mat (fun s => W1 (ix2 s 0)) (fun t d => K (ix2 t d) * kscale) (fun t d => V (ix2 t d)) d j := by
  pointwise [k0_pay8, k0_pay141, k0_pay142, k0_pay148, k0_pay162, k0_pay188]
  rfl

/-- The normaliser's state of head 1, direction 1, from the weights of the final state. -/
theorem vec11 : k0_pay193 (F := Ideal) (k0_pay163 (k0_pay142 (k0_pay8 K) W0)) (ix5 0 0 0 0 d)
    = vec (fun s => W0 (ix2 s 0)) (fun t d => K (ix2 t d) * kscale) d := by
  pointwise [k0_pay8, k0_pay142, k0_pay163, k0_pay193]
  rfl

/-- The state of head 2, direction 0, from the weights of the final state. -/
theorem mat20 : k0_pay195 (F := Ideal) (k0_pay165 (k0_pay150 V (k0_pay149 (k0_pay9 K) W0 W1))) (ix6 0 0 0 0 d j)
    = mat (fun s => W0 (ix2 s 0)) (fun t d => K (ix2 t d) * kscale) (fun t d => V (ix2 t d)) d j := by
  pointwise [k0_pay9, k0_pay143, k0_pay144, k0_pay149, k0_pay150, k0_pay165, k0_pay195]
  rfl

/-- The normaliser's state of head 2, direction 0, from the weights of the final state. -/
theorem vec20 : k0_pay200 (F := Ideal) (k0_pay166 (k0_pay143 (k0_pay9 K) W0)) (ix5 0 0 0 0 d)
    = vec (fun s => W0 (ix2 s 0)) (fun t d => K (ix2 t d) * kscale) d := by
  pointwise [k0_pay9, k0_pay143, k0_pay166, k0_pay200]
  rfl

/-- The state of head 2, direction 1, from the weights of the final state. -/
theorem mat21 : k0_pay196 (F := Ideal) (k0_pay168 (k0_pay150 V (k0_pay149 (k0_pay9 K) W0 W1))) (ix6 0 0 0 0 d j)
    = mat (fun s => W1 (ix2 s 0)) (fun t d => K (ix2 t d) * kscale) (fun t d => V (ix2 t d)) d j := by
  pointwise [k0_pay9, k0_pay143, k0_pay144, k0_pay149, k0_pay150, k0_pay168, k0_pay196]
  rfl

/-- The normaliser's state of head 2, direction 1, from the weights of the final state. -/
theorem vec21 : k0_pay202 (F := Ideal) (k0_pay169 (k0_pay144 (k0_pay9 K) W0)) (ix5 0 0 0 0 d)
    = vec (fun s => W0 (ix2 s 0)) (fun t d => K (ix2 t d) * kscale) d := by
  pointwise [k0_pay9, k0_pay144, k0_pay169, k0_pay202]
  rfl

/-- The state of head 3, direction 0, from the weights of the final state. -/
theorem mat30 : k0_pay204 (F := Ideal) (k0_pay173 (k0_pay151 V (k0_pay145 (k0_pay10 K) W0) (k0_pay146 (k0_pay10 K) W1))) (ix6 0 0 0 0 d j)
    = mat (fun s => W0 (ix2 s 0)) (fun t d => K (ix2 t d) * kscale) (fun t d => V (ix2 t d)) d j := by
  pointwise [k0_pay10, k0_pay145, k0_pay146, k0_pay151, k0_pay173, k0_pay204]
  rfl

/-- The normaliser's state of head 3, direction 0, from the weights of the final state. -/
theorem vec30 : k0_pay208 (F := Ideal) (k0_pay174 (k0_pay145 (k0_pay10 K) W0)) (ix5 0 0 0 0 d)
    = vec (fun s => W0 (ix2 s 0)) (fun t d => K (ix2 t d) * kscale) d := by
  pointwise [k0_pay10, k0_pay145, k0_pay174, k0_pay208]
  rfl

/-- The state of head 3, direction 1, from the weights of the final state. -/
theorem mat31 : k0_pay205 (F := Ideal) (k0_pay176 (k0_pay151 V (k0_pay145 (k0_pay10 K) W0) (k0_pay146 (k0_pay10 K) W1))) (ix6 0 0 0 0 d j)
    = mat (fun s => W1 (ix2 s 0)) (fun t d => K (ix2 t d) * kscale) (fun t d => V (ix2 t d)) d j := by
  pointwise [k0_pay10, k0_pay145, k0_pay146, k0_pay151, k0_pay176, k0_pay205]
  rfl

/-- The normaliser's state of head 3, direction 1, from the weights of the final state. -/
theorem vec31 : k0_pay210 (F := Ideal) (k0_pay177 (k0_pay146 (k0_pay10 K) W0)) (ix5 0 0 0 0 d)
    = vec (fun s => W0 (ix2 s 0)) (fun t d => K (ix2 t d) * kscale) d := by
  pointwise [k0_pay10, k0_pay146, k0_pay177, k0_pay210]
  rfl

end Cert.MlstmIdeal.Block
end
-- ==== Proof.MlstmOperands.lean ====
module
public import proofs.«01_k».proof.Proof.Gen.MlstmIdeal.Value
public import proofs.«01_k».proof.Proof.MlstmSpec
public import Idealize.ShloMosaic.Lib.Pipeline.ReadBack
/-! What the operands of the call of the matrix memory hold. -/
@[expose] public section
set_option maxRecDepth 16384
noncomputable section
open Idealize.ShloMosaic Idealize.ShloMosaic.TcCoe Idealize.SL.Sem
namespace Cert.MlstmIdeal.Operands
open Cert.MlstmIdeal Cert.MlstmIdeal.Gen Cert.Memory
open Cert.Retention (logSig)
variable (m : (ℓ : Loc nD τ sig) → Buf (Elt Ideal) ℓ) (c : Dev nD)

/-- The scale of the normalised rows, as computed. -/
theorem norm_term : V m c main_v0 = broadcastInDim S1x1024 ![1] bcast_S1024_S1x1024_1 (m ((c : Thread nD τ).loc main_arg5)) := by
  unfold V
  simp only [hostOps0, List.flatten_cons, List.flatten_nil, List.append_nil, List.cons_append, List.nil_append]
  after_results
  try rfl

/-- The gates, as computed. -/
theorem gate_term : V m c main_v1 = shapeCast S16x32x1x256 (m ((c : Thread nD τ).loc main_arg2)) shapeCasts_S16x8192_S16x32x1x256 := by
  unfold V
  simp only [hostOps0, List.flatten_cons, List.flatten_nil, List.append_nil, List.cons_append, List.nil_append]
  after_results
  try rfl

/-- The biases of the input gates, as computed. -/
theorem bi_term : V m c main_v2 = shapeCast S8 (m ((c : Thread nD τ).loc main_arg3)) shapeCasts_S2x4_S8 := by
  unfold V
  simp only [hostOps0, List.flatten_cons, List.flatten_nil, List.append_nil, List.cons_append, List.nil_append]
  after_results
  try rfl

/-- The biases of the forget gates, as computed. -/
theorem bf_term : V m c main_v3 = shapeCast S8 (m ((c : Thread nD τ).loc main_arg4)) shapeCasts_S2x4_S8 := by
  unfold V
  simp only [hostOps0, List.flatten_cons, List.flatten_nil, List.append_nil, List.cons_append, List.nil_append]
  after_results
  try rfl

/-- The scale of a column. -/
theorem norm (h : Fin 4) (j : Fin 256) : (V m c main_v0 : S1x1024.Idx → EReal) (ix2 0 ⟨256 * h + j, by omega⟩)
    = gOf (m ((c : Thread nD τ).loc main_arg5)) h j := by
  rw [norm_term]
  unfold gOf
  pointwise

/-- A gate. -/
theorem gate (a : Fin 16) (n : Fin 32) (t : Fin 256) : (V m c main_v1 : S16x32x1x256.Idx → EReal) (ix4 a n 0 t)
    = (m ((c : Thread nD τ).loc main_arg2) : S16x8192.Idx → EReal) (ix2 a ⟨256 * n + t, by omega⟩) := by
  rw [gate_term]
  pointwise
  exact congrArg (m ((c : Thread nD τ).loc main_arg2)) (congrArg (ix2 a) (Fin.ext (by show (n : ℕ) * 256 + t = 256 * n + t; omega)))

/-- The gates as the call holds them. -/
def gates (c : Dev nD) : S16x32x1x256.Idx → EReal := V m c main_v1
/-- The biases of the input gates as the call holds them. -/
def biasI (c : Dev nD) : S8.Idx → EReal := V m c main_v2
/-- The biases of the forget gates as the call holds them. -/
def biasF (c : Dev nD) : S8.Idx → EReal := V m c main_v3

/-- The input gate of a position. -/
theorem input (n : Fin 32) (r : Fin 2) (h : Fin 4) (t : Fin 256) :
    gates m c (ix4 ⟨4 * r + h, by omega⟩ n 0 t) + biasI m c (ix1 ⟨4 * r + h, by omega⟩)
      = iOf (m ((c : Thread nD τ).loc main_arg2)) (m ((c : Thread nD τ).loc main_arg3)) n r h t := by
  unfold gates biasI iOf
  rw [gate, bi_term]
  refine Ideal.add_congr rfl ?_
  pointwise

/-- The logarithmic forget gate of a position. -/
theorem forget (n : Fin 32) (r : Fin 2) (h : Fin 4) (t : Fin 256) :
    logSig (gates m c (ix4 ⟨8 + (4 * r + h), by omega⟩ n 0 t) + biasF m c (ix1 ⟨4 * r + h, by omega⟩))
      = lOf (m ((c : Thread nD τ).loc main_arg2)) (m ((c : Thread nD τ).loc main_arg4)) n r h t := by
  unfold gates biasF lOf
  rw [gate, bf_term]
  refine congrArg logSig (Ideal.add_congr rfl ?_)
  pointwise
end Cert.MlstmIdeal.Operands
end
-- ==== Proof.MlstmIdx.lean ====
module
public import proofs.«01_k».proof.Proof.MlstmBlock
public import proofs.«01_k».proof.Proof.MlstmOperands
public import Idealize.ShloMosaic.Lib.Pipeline.ValueKit
public import Idealize.ShloMosaic.Lib.Pipeline.ReadBack
/-! Which block of each operand a grid step of the matrix memory sees. -/
@[expose] public section
set_option maxRecDepth 16384
noncomputable section
open Idealize.ShloMosaic Idealize.ShloMosaic.TcCoe Idealize.SL.Sem
open Idealize.ShloMosaic.Pipeline (Dat)
namespace Cert.MlstmIdeal.Arrays
open Cert.MlstmIdeal Cert.MlstmIdeal.Gen Cert.MlstmIdeal.Block Cert.MlstmIdeal.Operands Cert.Memory
variable (m : (ℓ : Loc nD τ sig) → Buf (Elt Ideal) ℓ)

/-- The block of each window at a grid point. -/
theorem idx : ∀ t : Fin cfg0.N, win0_0.index t = ![t.val, 2] ∧ win0_1.index t = ![t.val, 3] ∧ win0_2.index t = ![t.val, 2]
    ∧ win0_3.index t = ![t.val, 3] ∧ win0_4.index t = ![t.val, 0] ∧ win0_5.index t = ![0, t.val, 0, 0] ∧ win0_6.index t = ![1, t.val, 0, 0]
    ∧ win0_7.index t = ![2, t.val, 0, 0] ∧ win0_8.index t = ![3, t.val, 0, 0] ∧ win0_9.index t = ![0] ∧ win0_10.index t = ![0]
    ∧ win0_11.index t = ![0, 0] ∧ win0_12.index t = ![t.val, 0] ∧ win0_13.index t = ![t.val, 0, 0, 0, 0, 0]
    ∧ win0_14.index t = ![t.val, 0, 0, 0, 0] ∧ win0_15.index t = ![t.val, 0, 0, 0, 0] :=
  (by decide +kernel : ∀ t : Fin grid0.N, _)
end Cert.MlstmIdeal.Arrays
end
-- ==== Proof.MlstmRows.lean ====
module
public import proofs.«01_k».proof.Proof.MlstmBlock
public import proofs.«01_k».proof.Proof.MlstmOperands
public import proofs.«01_k».proof.Proof.MlstmIdx
public import Idealize.ShloMosaic.Lib.Pipeline.ValueKit
public import Idealize.ShloMosaic.Lib.Pipeline.ReadBack
/-! What the first result array of the matrix memory holds after the run. -/
@[expose] public section
set_option maxRecDepth 16384
noncomputable section
open Idealize.ShloMosaic Idealize.ShloMosaic.TcCoe Idealize.SL.Sem
open Idealize.ShloMosaic.Pipeline (Dat)
namespace Cert.MlstmIdeal.Arrays
open Cert.MlstmIdeal Cert.MlstmIdeal.Gen Cert.MlstmIdeal.Block Cert.MlstmIdeal.Operands Cert.Memory
variable (m : (ℓ : Loc nD τ sig) → Buf (Elt Ideal) ℓ)

set_option maxHeartbeats 6400000 in
/-- The first result array holds the gated rows. -/
theorem arr12 (c : Dev nD) : (dats m 0 c).arrAt 12 cfg0.N
    = resY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 12 _ (by decide +kernel) fun t hf y => ?_
  blk_simp
  rw [after0_12]
  unfold outsAt0
  frame_open
  simp (disch := decide) only [↓ View.readCov_skip, ↓ View.readCov_cons_toLoadRect, ↓ View.readCov_fill]
  frame_out
  have hN : t.val < 32 := lt_of_lt_of_eq t.isLt N_0
  canon_tiles x h
  · idx_vars x
    refine (row3 _ _ _ _ _ _ _ _ _ _ _ _).trans ?_
    simp only [weight30, weight31, least30, least31]
    refine resY_point _ _ _ _ _ _ _ ⟨t, hN⟩ 3 _ _ ?_ ?_ _ _ _ _ _ _ _ _ _ _ ?_ ?_ ?_ ?_ ?_ ?_ ?_ ?_ ?_ ?_
    · blk_simp [idx t]
      show _ = 256 * (t : ℕ) + _
      omega
    · blk_simp [idx t]
      show _ = 256 * 3 + _
      omega
    · intro t' d; unfold qOf; pointwise; blk_point [iblk, V, idx t]
    · intro t' d; unfold kOf; pointwise; refine Ideal.mul_congr ?_ rfl; blk_point [iblk, V, idx t]
    · intro t' d; unfold vOf; pointwise; blk_point [iblk, V, idx t]
    · intro d; refine Eq.trans ?_ (norm m c _ _); pointwise; blk_point [iblk, idx t]
    · intro d; unfold oOf; pointwise; blk_point [iblk, V, idx t]
    · intro d; unfold zOf; pointwise; blk_point [iblk, V, idx t]
    · intro t'; refine Eq.trans ?_ (input m c ⟨t, hN⟩ 0 3 t'); pointwise; refine Ideal.add_congr ?_ ?_
      · unfold gates; blk_point [iblk, idx t]
      · unfold biasI; pointwise [k0_off1]; blk_point [iblk, idx t]
    · intro t'; refine Eq.trans ?_ (forget m c ⟨t, hN⟩ 0 3 t'); pointwise; refine congrArg Cert.Retention.logSig (Ideal.add_congr ?_ ?_)
      · unfold gates; blk_point [iblk, idx t]
      · unfold biasF; pointwise [k0_off1]; blk_point [iblk, idx t]
    · intro t'; refine Eq.trans ?_ (input m c ⟨t, hN⟩ 1 3 t'); pointwise; refine Ideal.add_congr ?_ ?_
      · unfold gates; blk_point [iblk, idx t]
      · unfold biasI; pointwise [k0_off1]; blk_point [iblk, idx t]
    · intro t'; refine Eq.trans ?_ (forget m c ⟨t, hN⟩ 1 3 t'); pointwise; refine congrArg Cert.Retention.logSig (Ideal.add_congr ?_ ?_)
      · unfold gates; blk_point [iblk, idx t]
      · unfold biasF; pointwise [k0_off1]; blk_point [iblk, idx t]
  · idx_vars x
    refine (row2 _ _ _ _ _ _ _ _ _ _ _ _).trans ?_
    simp only [weight20, weight21, least20, least21]
    refine resY_point _ _ _ _ _ _ _ ⟨t, hN⟩ 2 _ _ ?_ ?_ _ _ _ _ _ _ _ _ _ _ ?_ ?_ ?_ ?_ ?_ ?_ ?_ ?_ ?_ ?_
    · blk_simp [idx t]
      show _ = 256 * (t : ℕ) + _
      omega
    · blk_simp [idx t]
      show _ = 256 * 2 + _
      omega
    · intro t' d; unfold qOf; pointwise; blk_point [iblk, V, idx t]
    · intro t' d; unfold kOf; pointwise; refine Ideal.mul_congr ?_ rfl; blk_point [iblk, V, idx t]
    · intro t' d; unfold vOf; pointwise; blk_point [iblk, V, idx t]
    · intro d; refine Eq.trans ?_ (norm m c _ _); pointwise; blk_point [iblk, idx t]
    · intro d; unfold oOf; pointwise; blk_point [iblk, V, idx t]
    · intro d; unfold zOf; pointwise; blk_point [iblk, V, idx t]
    · intro t'; refine Eq.trans ?_ (input m c ⟨t, hN⟩ 0 2 t'); pointwise; refine Ideal.add_congr ?_ ?_
      · unfold gates; blk_point [iblk, idx t]
      · unfold biasI; pointwise [k0_off1]; blk_point [iblk, idx t]
    · intro t'; refine Eq.trans ?_ (forget m c ⟨t, hN⟩ 0 2 t'); pointwise; refine congrArg Cert.Retention.logSig (Ideal.add_congr ?_ ?_)
      · unfold gates; blk_point [iblk, idx t]
      · unfold biasF; pointwise [k0_off1]; blk_point [iblk, idx t]
    · intro t'; refine Eq.trans ?_ (input m c ⟨t, hN⟩ 1 2 t'); pointwise; refine Ideal.add_congr ?_ ?_
      · unfold gates; blk_point [iblk, idx t]
      · unfold biasI; pointwise [k0_off1]; blk_point [iblk, idx t]
    · intro t'; refine Eq.trans ?_ (forget m c ⟨t, hN⟩ 1 2 t'); pointwise; refine congrArg Cert.Retention.logSig (Ideal.add_congr ?_ ?_)
      · unfold gates; blk_point [iblk, idx t]
      · unfold biasF; pointwise [k0_off1]; blk_point [iblk, idx t]
  · idx_vars x
    refine (row1 _ _ _ _ _ _ _ _ _ _ _ _).trans ?_
    simp only [weight10, weight11, least10, least11]
    refine resY_point _ _ _ _ _ _ _ ⟨t, hN⟩ 1 _ _ ?_ ?_ _ _ _ _ _ _ _ _ _ _ ?_ ?_ ?_ ?_ ?_ ?_ ?_ ?_ ?_ ?_
    · blk_simp [idx t]
      show _ = 256 * (t : ℕ) + _
      omega
    · blk_simp [idx t]
      show _ = 256 * 1 + _
      omega
    · intro t' d; unfold qOf; pointwise; blk_point [iblk, V, idx t]
    · intro t' d; unfold kOf; pointwise; refine Ideal.mul_congr ?_ rfl; blk_point [iblk, V, idx t]
    · intro t' d; unfold vOf; pointwise; blk_point [iblk, V, idx t]
    · intro d; refine Eq.trans ?_ (norm m c _ _); pointwise; blk_point [iblk, idx t]
    · intro d; unfold oOf; pointwise; blk_point [iblk, V, idx t]
    · intro d; unfold zOf; pointwise; blk_point [iblk, V, idx t]
    · intro t'; refine Eq.trans ?_ (input m c ⟨t, hN⟩ 0 1 t'); pointwise; refine Ideal.add_congr ?_ ?_
      · unfold gates; blk_point [iblk, idx t]
      · unfold biasI; pointwise [k0_off1]; blk_point [iblk, idx t]
    · intro t'; refine Eq.trans ?_ (forget m c ⟨t, hN⟩ 0 1 t'); pointwise; refine congrArg Cert.Retention.logSig (Ideal.add_congr ?_ ?_)
      · unfold gates; blk_point [iblk, idx t]
      · unfold biasF; pointwise [k0_off1]; blk_point [iblk, idx t]
    · intro t'; refine Eq.trans ?_ (input m c ⟨t, hN⟩ 1 1 t'); pointwise; refine Ideal.add_congr ?_ ?_
      · unfold gates; blk_point [iblk, idx t]
      · unfold biasI; pointwise [k0_off1]; blk_point [iblk, idx t]
    · intro t'; refine Eq.trans ?_ (forget m c ⟨t, hN⟩ 1 1 t'); pointwise; refine congrArg Cert.Retention.logSig (Ideal.add_congr ?_ ?_)
      · unfold gates; blk_point [iblk, idx t]
      · unfold biasF; pointwise [k0_off1]; blk_point [iblk, idx t]
  · idx_vars x
    refine (row0 _ _ _ _ _ _ _ _ _ _ _ _).trans ?_
    simp only [weight00, weight01, least00, least01]
    refine resY_point _ _ _ _ _ _ _ ⟨t, hN⟩ 0 _ _ ?_ ?_ _ _ _ _ _ _ _ _ _ _ ?_ ?_ ?_ ?_ ?_ ?_ ?_ ?_ ?_ ?_
    · blk_simp [idx t]
      show _ = 256 * (t : ℕ) + _
      omega
    · blk_simp [idx t]
      show _ = 256 * 0 + _
      omega
    · intro t' d; unfold qOf; pointwise; blk_point [iblk, V, idx t]
    · intro t' d; unfold kOf; pointwise; refine Ideal.mul_congr ?_ rfl; blk_point [iblk, V, idx t]
    · intro t' d; unfold vOf; pointwise; blk_point [iblk, V, idx t]
    · intro d; refine Eq.trans ?_ (norm m c _ _); pointwise; blk_point [iblk, idx t]
    · intro d; unfold oOf; pointwise; blk_point [iblk, V, idx t]
    · intro d; unfold zOf; pointwise; blk_point [iblk, V, idx t]
    · intro t'; refine Eq.trans ?_ (input m c ⟨t, hN⟩ 0 0 t'); pointwise; refine Ideal.add_congr ?_ ?_
      · unfold gates; blk_point [iblk, idx t]
      · unfold biasI; pointwise [k0_off1]; blk_point [iblk, idx t]
    · intro t'; refine Eq.trans ?_ (forget m c ⟨t, hN⟩ 0 0 t'); pointwise; refine congrArg Cert.Retention.logSig (Ideal.add_congr ?_ ?_)
      · unfold gates; blk_point [iblk, idx t]
      · unfold biasF; pointwise [k0_off1]; blk_point [iblk, idx t]
    · intro t'; refine Eq.trans ?_ (input m c ⟨t, hN⟩ 1 0 t'); pointwise; refine Ideal.add_congr ?_ ?_
      · unfold gates; blk_point [iblk, idx t]
      · unfold biasI; pointwise [k0_off1]; blk_point [iblk, idx t]
    · intro t'; refine Eq.trans ?_ (forget m c ⟨t, hN⟩ 1 0 t'); pointwise; refine congrArg Cert.Retention.logSig (Ideal.add_congr ?_ ?_)
      · unfold gates; blk_point [iblk, idx t]
      · unfold biasF; pointwise [k0_off1]; blk_point [iblk, idx t]
end Cert.MlstmIdeal.Arrays
end
-- ==== Proof.MlstmMats.lean ====
module
public import proofs.«01_k».proof.Proof.MlstmBlock
public import proofs.«01_k».proof.Proof.MlstmOperands
public import proofs.«01_k».proof.Proof.MlstmIdx
public import Idealize.ShloMosaic.Lib.Pipeline.ValueKit
public import Idealize.ShloMosaic.Lib.Pipeline.ReadBack
/-! What the second result array of the matrix memory holds after the run. -/
@[expose] public section
set_option maxRecDepth 16384
noncomputable section
open Idealize.ShloMosaic Idealize.ShloMosaic.TcCoe Idealize.SL.Sem
open Idealize.ShloMosaic.Pipeline (Dat)
namespace Cert.MlstmIdeal.Arrays
open Cert.MlstmIdeal Cert.MlstmIdeal.Gen Cert.MlstmIdeal.Block Cert.MlstmIdeal.Operands Cert.Memory
variable (m : (ℓ : Loc nD τ sig) → Buf (Elt Ideal) ℓ)

set_option maxHeartbeats 6400000 in
/-- The second result array holds the states. -/
theorem arr13 (c : Dev nD) : (dats m 0 c).arrAt 13 cfg0.N
    = resC (m ((c : Thread nD τ).loc main_arg0)) (m ((c : Thread nD τ).loc main_arg2)) (m ((c : Thread nD τ).loc main_arg3)) (m ((c : Thread nD τ).loc main_arg4)) := by
  refine (dats m 0 c).arrAt_eq_of_covers 13 _ (by decide +kernel) fun t hf y => ?_
  blk_simp
  rw [after0_13]
  unfold outsAt0
  frame_open
  simp (disch := decide) only [↓ View.readCov_skip, ↓ View.readCov_cons_toLoadRect, ↓ View.readCov_fill]
  frame_out
  have hN : t.val < 32 := lt_of_lt_of_eq t.isLt N_0
  canon_tiles x h
  · refine Eq.trans ?_ (resC_zero _ _ _ _ _ ?_)
    · pointwise [k0_pay207]
    · blk_simp [idx t]
      omega
  · refine Eq.trans ?_ (resC_zero _ _ _ _ _ ?_)
    · pointwise [k0_pay206]
    · blk_simp [idx t]
      omega
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (mat31 _ _ _ _ _ _).trans ?_
    simp only [enter31]
    refine resC_point _ _ _ _ _ ⟨t, hN⟩ 1 3 _ _ ?_ ?_ ?_ ?_ ?_ ?_ _ _ _ _ ?_ ?_ ?_ ?_
    · blk_simp [idx t]
      try exact h0
    · blk_simp [idx t]
      try exact h1
    · blk_simp [idx t]
      try exact h2
    · blk_simp [idx t]
      try exact h3
    · blk_simp [idx t]
      try exact h4
    · blk_simp [idx t]
      try exact h5
    · intro t' d; unfold kOf; pointwise; refine Ideal.mul_congr ?_ rfl; blk_point [iblk, V, idx t]
    · intro t' d; unfold vOf; pointwise; blk_point [iblk, V, idx t]
    · intro t'; refine Eq.trans ?_ (input m c ⟨t, hN⟩ 1 3 t'); pointwise; refine Ideal.add_congr ?_ ?_
      · unfold gates; blk_point [iblk, idx t]
      · unfold biasI; pointwise [k0_off1]; blk_point [iblk, idx t]
    · intro t'; refine Eq.trans ?_ (forget m c ⟨t, hN⟩ 1 3 t'); pointwise; refine congrArg Cert.Retention.logSig (Ideal.add_congr ?_ ?_)
      · unfold gates; blk_point [iblk, idx t]
      · unfold biasF; pointwise [k0_off1]; blk_point [iblk, idx t]
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (mat30 _ _ _ _ _ _).trans ?_
    simp only [enter30]
    refine resC_point _ _ _ _ _ ⟨t, hN⟩ 0 3 _ _ ?_ ?_ ?_ ?_ ?_ ?_ _ _ _ _ ?_ ?_ ?_ ?_
    · blk_simp [idx t]
      try exact h0
    · blk_simp [idx t]
      try exact h1
    · blk_simp [idx t]
      try exact h2
    · blk_simp [idx t]
      try exact h3
    · blk_simp [idx t]
      try exact h4
    · blk_simp [idx t]
      try exact h5
    · intro t' d; unfold kOf; pointwise; refine Ideal.mul_congr ?_ rfl; blk_point [iblk, V, idx t]
    · intro t' d; unfold vOf; pointwise; blk_point [iblk, V, idx t]
    · intro t'; refine Eq.trans ?_ (input m c ⟨t, hN⟩ 0 3 t'); pointwise; refine Ideal.add_congr ?_ ?_
      · unfold gates; blk_point [iblk, idx t]
      · unfold biasI; pointwise [k0_off1]; blk_point [iblk, idx t]
    · intro t'; refine Eq.trans ?_ (forget m c ⟨t, hN⟩ 0 3 t'); pointwise; refine congrArg Cert.Retention.logSig (Ideal.add_congr ?_ ?_)
      · unfold gates; blk_point [iblk, idx t]
      · unfold biasF; pointwise [k0_off1]; blk_point [iblk, idx t]
  · refine Eq.trans ?_ (resC_zero _ _ _ _ _ ?_)
    · pointwise [k0_pay199, k0_pay198]
    · blk_simp [idx t]
      omega
  · refine Eq.trans ?_ (resC_zero _ _ _ _ _ ?_)
    · pointwise [k0_pay197]
    · blk_simp [idx t]
      omega
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (mat21 _ _ _ _ _ _).trans ?_
    simp only [enter21]
    refine resC_point _ _ _ _ _ ⟨t, hN⟩ 1 2 _ _ ?_ ?_ ?_ ?_ ?_ ?_ _ _ _ _ ?_ ?_ ?_ ?_
    · blk_simp [idx t]
      try exact h0
    · blk_simp [idx t]
      try exact h1
    · blk_simp [idx t]
      try exact h2
    · blk_simp [idx t]
      try exact h3
    · blk_simp [idx t]
      try exact h4
    · blk_simp [idx t]
      try exact h5
    · intro t' d; unfold kOf; pointwise; refine Ideal.mul_congr ?_ rfl; blk_point [iblk, V, idx t]
    · intro t' d; unfold vOf; pointwise; blk_point [iblk, V, idx t]
    · intro t'; refine Eq.trans ?_ (input m c ⟨t, hN⟩ 1 2 t'); pointwise; refine Ideal.add_congr ?_ ?_
      · unfold gates; blk_point [iblk, idx t]
      · unfold biasI; pointwise [k0_off1]; blk_point [iblk, idx t]
    · intro t'; refine Eq.trans ?_ (forget m c ⟨t, hN⟩ 1 2 t'); pointwise; refine congrArg Cert.Retention.logSig (Ideal.add_congr ?_ ?_)
      · unfold gates; blk_point [iblk, idx t]
      · unfold biasF; pointwise [k0_off1]; blk_point [iblk, idx t]
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (mat20 _ _ _ _ _ _).trans ?_
    simp only [enter20]
    refine resC_point _ _ _ _ _ ⟨t, hN⟩ 0 2 _ _ ?_ ?_ ?_ ?_ ?_ ?_ _ _ _ _ ?_ ?_ ?_ ?_
    · blk_simp [idx t]
      try exact h0
    · blk_simp [idx t]
      try exact h1
    · blk_simp [idx t]
      try exact h2
    · blk_simp [idx t]
      try exact h3
    · blk_simp [idx t]
      try exact h4
    · blk_simp [idx t]
      try exact h5
    · intro t' d; unfold kOf; pointwise; refine Ideal.mul_congr ?_ rfl; blk_point [iblk, V, idx t]
    · intro t' d; unfold vOf; pointwise; blk_point [iblk, V, idx t]
    · intro t'; refine Eq.trans ?_ (input m c ⟨t, hN⟩ 0 2 t'); pointwise; refine Ideal.add_congr ?_ ?_
      · unfold gates; blk_point [iblk, idx t]
      · unfold biasI; pointwise [k0_off1]; blk_point [iblk, idx t]
    · intro t'; refine Eq.trans ?_ (forget m c ⟨t, hN⟩ 0 2 t'); pointwise; refine congrArg Cert.Retention.logSig (Ideal.add_congr ?_ ?_)
      · unfold gates; blk_point [iblk, idx t]
      · unfold biasF; pointwise [k0_off1]; blk_point [iblk, idx t]
  · refine Eq.trans ?_ (resC_zero _ _ _ _ _ ?_)
    · pointwise [k0_pay190]
    · blk_simp [idx t]
      omega
  · refine Eq.trans ?_ (resC_zero _ _ _ _ _ ?_)
    · pointwise [k0_pay189]
    · blk_simp [idx t]
      omega
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (mat11 _ _ _ _ _ _).trans ?_
    simp only [enter11]
    refine resC_point _ _ _ _ _ ⟨t, hN⟩ 1 1 _ _ ?_ ?_ ?_ ?_ ?_ ?_ _ _ _ _ ?_ ?_ ?_ ?_
    · blk_simp [idx t]
      try exact h0
    · blk_simp [idx t]
      try exact h1
    · blk_simp [idx t]
      try exact h2
    · blk_simp [idx t]
      try exact h3
    · blk_simp [idx t]
      try exact h4
    · blk_simp [idx t]
      try exact h5
    · intro t' d; unfold kOf; pointwise; refine Ideal.mul_congr ?_ rfl; blk_point [iblk, V, idx t]
    · intro t' d; unfold vOf; pointwise; blk_point [iblk, V, idx t]
    · intro t'; refine Eq.trans ?_ (input m c ⟨t, hN⟩ 1 1 t'); pointwise; refine Ideal.add_congr ?_ ?_
      · unfold gates; blk_point [iblk, idx t]
      · unfold biasI; pointwise [k0_off1]; blk_point [iblk, idx t]
    · intro t'; refine Eq.trans ?_ (forget m c ⟨t, hN⟩ 1 1 t'); pointwise; refine congrArg Cert.Retention.logSig (Ideal.add_congr ?_ ?_)
      · unfold gates; blk_point [iblk, idx t]
      · unfold biasF; pointwise [k0_off1]; blk_point [iblk, idx t]
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (mat10 _ _ _ _ _ _).trans ?_
    simp only [enter10]
    refine resC_point _ _ _ _ _ ⟨t, hN⟩ 0 1 _ _ ?_ ?_ ?_ ?_ ?_ ?_ _ _ _ _ ?_ ?_ ?_ ?_
    · blk_simp [idx t]
      try exact h0
    · blk_simp [idx t]
      try exact h1
    · blk_simp [idx t]
      try exact h2
    · blk_simp [idx t]
      try exact h3
    · blk_simp [idx t]
      try exact h4
    · blk_simp [idx t]
      try exact h5
    · intro t' d; unfold kOf; pointwise; refine Ideal.mul_congr ?_ rfl; blk_point [iblk, V, idx t]
    · intro t' d; unfold vOf; pointwise; blk_point [iblk, V, idx t]
    · intro t'; refine Eq.trans ?_ (input m c ⟨t, hN⟩ 0 1 t'); pointwise; refine Ideal.add_congr ?_ ?_
      · unfold gates; blk_point [iblk, idx t]
      · unfold biasI; pointwise [k0_off1]; blk_point [iblk, idx t]
    · intro t'; refine Eq.trans ?_ (forget m c ⟨t, hN⟩ 0 1 t'); pointwise; refine congrArg Cert.Retention.logSig (Ideal.add_congr ?_ ?_)
      · unfold gates; blk_point [iblk, idx t]
      · unfold biasF; pointwise [k0_off1]; blk_point [iblk, idx t]
  · refine Eq.trans ?_ (resC_zero _ _ _ _ _ ?_)
    · pointwise [k0_pay182]
    · blk_simp [idx t]
      omega
  · refine Eq.trans ?_ (resC_zero _ _ _ _ _ ?_)
    · pointwise [k0_pay181, k0_pay180]
    · blk_simp [idx t]
      omega
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (mat01 _ _ _ _ _ _).trans ?_
    simp only [enter01]
    refine resC_point _ _ _ _ _ ⟨t, hN⟩ 1 0 _ _ ?_ ?_ ?_ ?_ ?_ ?_ _ _ _ _ ?_ ?_ ?_ ?_
    · blk_simp [idx t]
      try exact h0
    · blk_simp [idx t]
      try exact h1
    · blk_simp [idx t]
      try exact h2
    · blk_simp [idx t]
      try exact h3
    · blk_simp [idx t]
      try exact h4
    · blk_simp [idx t]
      try exact h5
    · intro t' d; unfold kOf; pointwise; refine Ideal.mul_congr ?_ rfl; blk_point [iblk, V, idx t]
    · intro t' d; unfold vOf; pointwise; blk_point [iblk, V, idx t]
    · intro t'; refine Eq.trans ?_ (input m c ⟨t, hN⟩ 1 0 t'); pointwise; refine Ideal.add_congr ?_ ?_
      · unfold gates; blk_point [iblk, idx t]
      · unfold biasI; pointwise [k0_off1]; blk_point [iblk, idx t]
    · intro t'; refine Eq.trans ?_ (forget m c ⟨t, hN⟩ 1 0 t'); pointwise; refine congrArg Cert.Retention.logSig (Ideal.add_congr ?_ ?_)
      · unfold gates; blk_point [iblk, idx t]
      · unfold biasF; pointwise [k0_off1]; blk_point [iblk, idx t]
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (mat00 _ _ _ _ _ _).trans ?_
    simp only [enter00]
    refine resC_point _ _ _ _ _ ⟨t, hN⟩ 0 0 _ _ ?_ ?_ ?_ ?_ ?_ ?_ _ _ _ _ ?_ ?_ ?_ ?_
    · blk_simp [idx t]
      try exact h0
    · blk_simp [idx t]
      try exact h1
    · blk_simp [idx t]
      try exact h2
    · blk_simp [idx t]
      try exact h3
    · blk_simp [idx t]
      try exact h4
    · blk_simp [idx t]
      try exact h5
    · intro t' d; unfold kOf; pointwise; refine Ideal.mul_congr ?_ rfl; blk_point [iblk, V, idx t]
    · intro t' d; unfold vOf; pointwise; blk_point [iblk, V, idx t]
    · intro t'; refine Eq.trans ?_ (input m c ⟨t, hN⟩ 0 0 t'); pointwise; refine Ideal.add_congr ?_ ?_
      · unfold gates; blk_point [iblk, idx t]
      · unfold biasI; pointwise [k0_off1]; blk_point [iblk, idx t]
    · intro t'; refine Eq.trans ?_ (forget m c ⟨t, hN⟩ 0 0 t'); pointwise; refine congrArg Cert.Retention.logSig (Ideal.add_congr ?_ ?_)
      · unfold gates; blk_point [iblk, idx t]
      · unfold biasF; pointwise [k0_off1]; blk_point [iblk, idx t]
end Cert.MlstmIdeal.Arrays
end
-- ==== Proof.MlstmVecs.lean ====
module
public import proofs.«01_k».proof.Proof.MlstmBlock
public import proofs.«01_k».proof.Proof.MlstmOperands
public import proofs.«01_k».proof.Proof.MlstmIdx
public import Idealize.ShloMosaic.Lib.Pipeline.ValueKit
public import Idealize.ShloMosaic.Lib.Pipeline.ReadBack
/-! What the third and fourth result arrays of the matrix memory hold after the run. -/
@[expose] public section
set_option maxRecDepth 16384
noncomputable section
open Idealize.ShloMosaic Idealize.ShloMosaic.TcCoe Idealize.SL.Sem
open Idealize.ShloMosaic.Pipeline (Dat)
namespace Cert.MlstmIdeal.Arrays
open Cert.MlstmIdeal Cert.MlstmIdeal.Gen Cert.MlstmIdeal.Block Cert.MlstmIdeal.Operands Cert.Memory
variable (m : (ℓ : Loc nD τ sig) → Buf (Elt Ideal) ℓ)

set_option maxHeartbeats 6400000 in
/-- The third result array holds the states of the normalisers. -/
theorem arr14 (c : Dev nD) : (dats m 0 c).arrAt 14 cfg0.N
    = resN (m ((c : Thread nD τ).loc main_arg0)) (m ((c : Thread nD τ).loc main_arg2)) (m ((c : Thread nD τ).loc main_arg3)) (m ((c : Thread nD τ).loc main_arg4)) := by
  refine (dats m 0 c).arrAt_eq_of_covers 14 _ (by decide +kernel) fun t hf y => ?_
  blk_simp
  rw [after0_14]
  unfold outsAt0
  frame_open
  simp (disch := decide) only [↓ View.readCov_skip, ↓ View.readCov_cons_toLoadRect, ↓ View.readCov_fill]
  frame_out
  have hN : t.val < 32 := lt_of_lt_of_eq t.isLt N_0
  canon_tiles x h
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (vec31 _ _ _).trans ?_
    simp only [enter31]
    refine resN_point _ _ _ _ _ ⟨t, hN⟩ 1 3 _ ?_ ?_ ?_ ?_ _ _ _ ?_ ?_ ?_
    · blk_simp [idx t]
      try exact h0
    · blk_simp [idx t]
      try exact h1
    · blk_simp [idx t]
      try exact h2
    · blk_simp [idx t]
      try exact h4
    · intro t' d; unfold kOf; pointwise; refine Ideal.mul_congr ?_ rfl; blk_point [iblk, V, idx t]
    · intro t'; refine Eq.trans ?_ (input m c ⟨t, hN⟩ 1 3 t'); pointwise; refine Ideal.add_congr ?_ ?_
      · unfold gates; blk_point [iblk, idx t]
      · unfold biasI; pointwise [k0_off1]; blk_point [iblk, idx t]
    · intro t'; refine Eq.trans ?_ (forget m c ⟨t, hN⟩ 1 3 t'); pointwise; refine congrArg Cert.Retention.logSig (Ideal.add_congr ?_ ?_)
      · unfold gates; blk_point [iblk, idx t]
      · unfold biasF; pointwise [k0_off1]; blk_point [iblk, idx t]
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (vec30 _ _ _).trans ?_
    simp only [enter30]
    refine resN_point _ _ _ _ _ ⟨t, hN⟩ 0 3 _ ?_ ?_ ?_ ?_ _ _ _ ?_ ?_ ?_
    · blk_simp [idx t]
      try exact h0
    · blk_simp [idx t]
      try exact h1
    · blk_simp [idx t]
      try exact h2
    · blk_simp [idx t]
      try exact h4
    · intro t' d; unfold kOf; pointwise; refine Ideal.mul_congr ?_ rfl; blk_point [iblk, V, idx t]
    · intro t'; refine Eq.trans ?_ (input m c ⟨t, hN⟩ 0 3 t'); pointwise; refine Ideal.add_congr ?_ ?_
      · unfold gates; blk_point [iblk, idx t]
      · unfold biasI; pointwise [k0_off1]; blk_point [iblk, idx t]
    · intro t'; refine Eq.trans ?_ (forget m c ⟨t, hN⟩ 0 3 t'); pointwise; refine congrArg Cert.Retention.logSig (Ideal.add_congr ?_ ?_)
      · unfold gates; blk_point [iblk, idx t]
      · unfold biasF; pointwise [k0_off1]; blk_point [iblk, idx t]
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (vec21 _ _ _).trans ?_
    simp only [enter21]
    refine resN_point _ _ _ _ _ ⟨t, hN⟩ 1 2 _ ?_ ?_ ?_ ?_ _ _ _ ?_ ?_ ?_
    · blk_simp [idx t]
      try exact h0
    · blk_simp [idx t]
      try exact h1
    · blk_simp [idx t]
      try exact h2
    · blk_simp [idx t]
      try exact h4
    · intro t' d; unfold kOf; pointwise; refine Ideal.mul_congr ?_ rfl; blk_point [iblk, V, idx t]
    · intro t'; refine Eq.trans ?_ (input m c ⟨t, hN⟩ 1 2 t'); pointwise; refine Ideal.add_congr ?_ ?_
      · unfold gates; blk_point [iblk, idx t]
      · unfold biasI; pointwise [k0_off1]; blk_point [iblk, idx t]
    · intro t'; refine Eq.trans ?_ (forget m c ⟨t, hN⟩ 1 2 t'); pointwise; refine congrArg Cert.Retention.logSig (Ideal.add_congr ?_ ?_)
      · unfold gates; blk_point [iblk, idx t]
      · unfold biasF; pointwise [k0_off1]; blk_point [iblk, idx t]
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (vec20 _ _ _).trans ?_
    simp only [enter20]
    refine resN_point _ _ _ _ _ ⟨t, hN⟩ 0 2 _ ?_ ?_ ?_ ?_ _ _ _ ?_ ?_ ?_
    · blk_simp [idx t]
      try exact h0
    · blk_simp [idx t]
      try exact h1
    · blk_simp [idx t]
      try exact h2
    · blk_simp [idx t]
      try exact h4
    · intro t' d; unfold kOf; pointwise; refine Ideal.mul_congr ?_ rfl; blk_point [iblk, V, idx t]
    · intro t'; refine Eq.trans ?_ (input m c ⟨t, hN⟩ 0 2 t'); pointwise; refine Ideal.add_congr ?_ ?_
      · unfold gates; blk_point [iblk, idx t]
      · unfold biasI; pointwise [k0_off1]; blk_point [iblk, idx t]
    · intro t'; refine Eq.trans ?_ (forget m c ⟨t, hN⟩ 0 2 t'); pointwise; refine congrArg Cert.Retention.logSig (Ideal.add_congr ?_ ?_)
      · unfold gates; blk_point [iblk, idx t]
      · unfold biasF; pointwise [k0_off1]; blk_point [iblk, idx t]
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (vec11 _ _ _).trans ?_
    simp only [enter11]
    refine resN_point _ _ _ _ _ ⟨t, hN⟩ 1 1 _ ?_ ?_ ?_ ?_ _ _ _ ?_ ?_ ?_
    · blk_simp [idx t]
      try exact h0
    · blk_simp [idx t]
      try exact h1
    · blk_simp [idx t]
      try exact h2
    · blk_simp [idx t]
      try exact h4
    · intro t' d; unfold kOf; pointwise; refine Ideal.mul_congr ?_ rfl; blk_point [iblk, V, idx t]
    · intro t'; refine Eq.trans ?_ (input m c ⟨t, hN⟩ 1 1 t'); pointwise; refine Ideal.add_congr ?_ ?_
      · unfold gates; blk_point [iblk, idx t]
      · unfold biasI; pointwise [k0_off1]; blk_point [iblk, idx t]
    · intro t'; refine Eq.trans ?_ (forget m c ⟨t, hN⟩ 1 1 t'); pointwise; refine congrArg Cert.Retention.logSig (Ideal.add_congr ?_ ?_)
      · unfold gates; blk_point [iblk, idx t]
      · unfold biasF; pointwise [k0_off1]; blk_point [iblk, idx t]
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (vec10 _ _ _).trans ?_
    simp only [enter10]
    refine resN_point _ _ _ _ _ ⟨t, hN⟩ 0 1 _ ?_ ?_ ?_ ?_ _ _ _ ?_ ?_ ?_
    · blk_simp [idx t]
      try exact h0
    · blk_simp [idx t]
      try exact h1
    · blk_simp [idx t]
      try exact h2
    · blk_simp [idx t]
      try exact h4
    · intro t' d; unfold kOf; pointwise; refine Ideal.mul_congr ?_ rfl; blk_point [iblk, V, idx t]
    · intro t'; refine Eq.trans ?_ (input m c ⟨t, hN⟩ 0 1 t'); pointwise; refine Ideal.add_congr ?_ ?_
      · unfold gates; blk_point [iblk, idx t]
      · unfold biasI; pointwise [k0_off1]; blk_point [iblk, idx t]
    · intro t'; refine Eq.trans ?_ (forget m c ⟨t, hN⟩ 0 1 t'); pointwise; refine congrArg Cert.Retention.logSig (Ideal.add_congr ?_ ?_)
      · unfold gates; blk_point [iblk, idx t]
      · unfold biasF; pointwise [k0_off1]; blk_point [iblk, idx t]
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (vec01 _ _ _).trans ?_
    simp only [enter01]
    refine resN_point _ _ _ _ _ ⟨t, hN⟩ 1 0 _ ?_ ?_ ?_ ?_ _ _ _ ?_ ?_ ?_
    · blk_simp [idx t]
      try exact h0
    · blk_simp [idx t]
      try exact h1
    · blk_simp [idx t]
      try exact h2
    · blk_simp [idx t]
      try exact h4
    · intro t' d; unfold kOf; pointwise; refine Ideal.mul_congr ?_ rfl; blk_point [iblk, V, idx t]
    · intro t'; refine Eq.trans ?_ (input m c ⟨t, hN⟩ 1 0 t'); pointwise; refine Ideal.add_congr ?_ ?_
      · unfold gates; blk_point [iblk, idx t]
      · unfold biasI; pointwise [k0_off1]; blk_point [iblk, idx t]
    · intro t'; refine Eq.trans ?_ (forget m c ⟨t, hN⟩ 1 0 t'); pointwise; refine congrArg Cert.Retention.logSig (Ideal.add_congr ?_ ?_)
      · unfold gates; blk_point [iblk, idx t]
      · unfold biasF; pointwise [k0_off1]; blk_point [iblk, idx t]
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (vec00 _ _ _).trans ?_
    simp only [enter00]
    refine resN_point _ _ _ _ _ ⟨t, hN⟩ 0 0 _ ?_ ?_ ?_ ?_ _ _ _ ?_ ?_ ?_
    · blk_simp [idx t]
      try exact h0
    · blk_simp [idx t]
      try exact h1
    · blk_simp [idx t]
      try exact h2
    · blk_simp [idx t]
      try exact h4
    · intro t' d; unfold kOf; pointwise; refine Ideal.mul_congr ?_ rfl; blk_point [iblk, V, idx t]
    · intro t'; refine Eq.trans ?_ (input m c ⟨t, hN⟩ 0 0 t'); pointwise; refine Ideal.add_congr ?_ ?_
      · unfold gates; blk_point [iblk, idx t]
      · unfold biasI; pointwise [k0_off1]; blk_point [iblk, idx t]
    · intro t'; refine Eq.trans ?_ (forget m c ⟨t, hN⟩ 0 0 t'); pointwise; refine congrArg Cert.Retention.logSig (Ideal.add_congr ?_ ?_)
      · unfold gates; blk_point [iblk, idx t]
      · unfold biasF; pointwise [k0_off1]; blk_point [iblk, idx t]

set_option maxHeartbeats 6400000 in
/-- The fourth result array holds the stabilisers. -/
theorem arr15 (c : Dev nD) : (dats m 0 c).arrAt 15 cfg0.N
    = resM (m ((c : Thread nD τ).loc main_arg2)) (m ((c : Thread nD τ).loc main_arg3)) (m ((c : Thread nD τ).loc main_arg4)) := by
  refine (dats m 0 c).arrAt_eq_of_covers 15 _ (by decide +kernel) fun t hf y => ?_
  blk_simp
  rw [after0_15]
  unfold outsAt0
  frame_open
  simp (disch := decide) only [↓ View.readCov_skip, ↓ View.readCov_cons_toLoadRect, ↓ View.readCov_fill]
  frame_out
  have hN : t.val < 32 := lt_of_lt_of_eq t.isLt N_0
  canon_tiles x h
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (stab31 _ _ _ _ _).trans ?_
    refine resM_point _ _ _ _ ⟨t, hN⟩ 1 3 ?_ ?_ ?_ _ _ ?_ ?_
    · blk_simp [idx t]
      try exact h0
    · blk_simp [idx t]
      try exact h1
    · blk_simp [idx t]
      try exact h2
    · intro t'; refine Eq.trans ?_ (input m c ⟨t, hN⟩ 1 3 t'); pointwise; refine Ideal.add_congr ?_ ?_
      · unfold gates; blk_point [iblk, idx t]
      · unfold biasI; pointwise [k0_off1]; blk_point [iblk, idx t]
    · intro t'; refine Eq.trans ?_ (forget m c ⟨t, hN⟩ 1 3 t'); pointwise; refine congrArg Cert.Retention.logSig (Ideal.add_congr ?_ ?_)
      · unfold gates; blk_point [iblk, idx t]
      · unfold biasF; pointwise [k0_off1]; blk_point [iblk, idx t]
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (stab30 _ _ _ _ _).trans ?_
    refine resM_point _ _ _ _ ⟨t, hN⟩ 0 3 ?_ ?_ ?_ _ _ ?_ ?_
    · blk_simp [idx t]
      try exact h0
    · blk_simp [idx t]
      try exact h1
    · blk_simp [idx t]
      try exact h2
    · intro t'; refine Eq.trans ?_ (input m c ⟨t, hN⟩ 0 3 t'); pointwise; refine Ideal.add_congr ?_ ?_
      · unfold gates; blk_point [iblk, idx t]
      · unfold biasI; pointwise [k0_off1]; blk_point [iblk, idx t]
    · intro t'; refine Eq.trans ?_ (forget m c ⟨t, hN⟩ 0 3 t'); pointwise; refine congrArg Cert.Retention.logSig (Ideal.add_congr ?_ ?_)
      · unfold gates; blk_point [iblk, idx t]
      · unfold biasF; pointwise [k0_off1]; blk_point [iblk, idx t]
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (stab21 _ _ _ _ _).trans ?_
    refine resM_point _ _ _ _ ⟨t, hN⟩ 1 2 ?_ ?_ ?_ _ _ ?_ ?_
    · blk_simp [idx t]
      try exact h0
    · blk_simp [idx t]
      try exact h1
    · blk_simp [idx t]
      try exact h2
    · intro t'; refine Eq.trans ?_ (input m c ⟨t, hN⟩ 1 2 t'); pointwise; refine Ideal.add_congr ?_ ?_
      · unfold gates; blk_point [iblk, idx t]
      · unfold biasI; pointwise [k0_off1]; blk_point [iblk, idx t]
    · intro t'; refine Eq.trans ?_ (forget m c ⟨t, hN⟩ 1 2 t'); pointwise; refine congrArg Cert.Retention.logSig (Ideal.add_congr ?_ ?_)
      · unfold gates; blk_point [iblk, idx t]
      · unfold biasF; pointwise [k0_off1]; blk_point [iblk, idx t]
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (stab20 _ _ _ _ _).trans ?_
    refine resM_point _ _ _ _ ⟨t, hN⟩ 0 2 ?_ ?_ ?_ _ _ ?_ ?_
    · blk_simp [idx t]
      try exact h0
    · blk_simp [idx t]
      try exact h1
    · blk_simp [idx t]
      try exact h2
    · intro t'; refine Eq.trans ?_ (input m c ⟨t, hN⟩ 0 2 t'); pointwise; refine Ideal.add_congr ?_ ?_
      · unfold gates; blk_point [iblk, idx t]
      · unfold biasI; pointwise [k0_off1]; blk_point [iblk, idx t]
    · intro t'; refine Eq.trans ?_ (forget m c ⟨t, hN⟩ 0 2 t'); pointwise; refine congrArg Cert.Retention.logSig (Ideal.add_congr ?_ ?_)
      · unfold gates; blk_point [iblk, idx t]
      · unfold biasF; pointwise [k0_off1]; blk_point [iblk, idx t]
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (stab11 _ _ _ _ _).trans ?_
    refine resM_point _ _ _ _ ⟨t, hN⟩ 1 1 ?_ ?_ ?_ _ _ ?_ ?_
    · blk_simp [idx t]
      try exact h0
    · blk_simp [idx t]
      try exact h1
    · blk_simp [idx t]
      try exact h2
    · intro t'; refine Eq.trans ?_ (input m c ⟨t, hN⟩ 1 1 t'); pointwise; refine Ideal.add_congr ?_ ?_
      · unfold gates; blk_point [iblk, idx t]
      · unfold biasI; pointwise [k0_off1]; blk_point [iblk, idx t]
    · intro t'; refine Eq.trans ?_ (forget m c ⟨t, hN⟩ 1 1 t'); pointwise; refine congrArg Cert.Retention.logSig (Ideal.add_congr ?_ ?_)
      · unfold gates; blk_point [iblk, idx t]
      · unfold biasF; pointwise [k0_off1]; blk_point [iblk, idx t]
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (stab10 _ _ _ _ _).trans ?_
    refine resM_point _ _ _ _ ⟨t, hN⟩ 0 1 ?_ ?_ ?_ _ _ ?_ ?_
    · blk_simp [idx t]
      try exact h0
    · blk_simp [idx t]
      try exact h1
    · blk_simp [idx t]
      try exact h2
    · intro t'; refine Eq.trans ?_ (input m c ⟨t, hN⟩ 0 1 t'); pointwise; refine Ideal.add_congr ?_ ?_
      · unfold gates; blk_point [iblk, idx t]
      · unfold biasI; pointwise [k0_off1]; blk_point [iblk, idx t]
    · intro t'; refine Eq.trans ?_ (forget m c ⟨t, hN⟩ 0 1 t'); pointwise; refine congrArg Cert.Retention.logSig (Ideal.add_congr ?_ ?_)
      · unfold gates; blk_point [iblk, idx t]
      · unfold biasF; pointwise [k0_off1]; blk_point [iblk, idx t]
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (stab01 _ _ _ _ _).trans ?_
    refine resM_point _ _ _ _ ⟨t, hN⟩ 1 0 ?_ ?_ ?_ _ _ ?_ ?_
    · blk_simp [idx t]
      try exact h0
    · blk_simp [idx t]
      try exact h1
    · blk_simp [idx t]
      try exact h2
    · intro t'; refine Eq.trans ?_ (input m c ⟨t, hN⟩ 1 0 t'); pointwise; refine Ideal.add_congr ?_ ?_
      · unfold gates; blk_point [iblk, idx t]
      · unfold biasI; pointwise [k0_off1]; blk_point [iblk, idx t]
    · intro t'; refine Eq.trans ?_ (forget m c ⟨t, hN⟩ 1 0 t'); pointwise; refine congrArg Cert.Retention.logSig (Ideal.add_congr ?_ ?_)
      · unfold gates; blk_point [iblk, idx t]
      · unfold biasF; pointwise [k0_off1]; blk_point [iblk, idx t]
  · idx_vars x
    obtain rfl : x0 = 0 := Subsingleton.elim _ _
    obtain rfl : x1 = 0 := Subsingleton.elim _ _
    obtain rfl : x2 = 0 := Subsingleton.elim _ _
    obtain rfl : x3 = 0 := Subsingleton.elim _ _
    refine (stab00 _ _ _ _ _).trans ?_
    refine resM_point _ _ _ _ ⟨t, hN⟩ 0 0 ?_ ?_ ?_ _ _ ?_ ?_
    · blk_simp [idx t]
      try exact h0
    · blk_simp [idx t]
      try exact h1
    · blk_simp [idx t]
      try exact h2
    · intro t'; refine Eq.trans ?_ (input m c ⟨t, hN⟩ 0 0 t'); pointwise; refine Ideal.add_congr ?_ ?_
      · unfold gates; blk_point [iblk, idx t]
      · unfold biasI; pointwise [k0_off1]; blk_point [iblk, idx t]
    · intro t'; refine Eq.trans ?_ (forget m c ⟨t, hN⟩ 0 0 t'); pointwise; refine congrArg Cert.Retention.logSig (Ideal.add_congr ?_ ?_)
      · unfold gates; blk_point [iblk, idx t]
      · unfold biasF; pointwise [k0_off1]; blk_point [iblk, idx t]
end Cert.MlstmIdeal.Arrays
end
-- ==== Proof.MlstmRuns.lean ====
module
public import proofs.«01_k».proof.Defs
public import proofs.«01_k».proof.Proof.Gen.Mlstm
public import proofs.«01_k».proof.Proof.Gen.Mlstm.Frame
public import proofs.«01_k».proof.Proof.Gen.MlstmIdeal
public import proofs.«01_k».proof.Proof.Gen.MlstmIdeal.Frame
public import proofs.«01_k».proof.Proof.Gen.MlstmIdeal.Value
public import proofs.«01_k».proof.Proof.Gen.MlstmRefIdeal.Run
public import proofs.«01_k».proof.Proof.Gen.MlstmRefIdeal.Read
public import proofs.«01_k».proof.Proof.MlstmEquation
public import proofs.«01_k».proof.Proof.MlstmRows
public import proofs.«01_k».proof.Proof.MlstmMats
public import proofs.«01_k».proof.Proof.MlstmVecs
public import Idealize.ShloMosaic.Lib.Claim
/-! The two idealized programs of the matrix memory run, and under the precondition their results are the specification's
arrays. -/
@[expose] public section
set_option maxRecDepth 16384
noncomputable section
open Idealize.ShloMosaic Idealize.ShloMosaic.TcCoe Idealize.SL.Sem
namespace Cert.MlstmRuns

/-- The reference runs, its arguments end unchanged and every semaphore counter is zero. -/
theorem ref_frame (m : (ℓ : Loc Cert.MlstmRefIdeal.nD Cert.MlstmRefIdeal.τ Cert.MlstmRefIdeal.sig) → Buf (Elt Ideal) ℓ)
    (ρ : Dev Cert.MlstmRefIdeal.nD → PrngReg) :
    θ_run (Cert.MlstmRefIdeal.defs (F := Ideal)) (onTc (τ := Cert.MlstmRefIdeal.τ) (Cert.MlstmRefIdeal.main (F := Ideal))) ⟨m, fun _ => 0, ρ⟩
      (fun r => (∀ c : Dev Cert.MlstmRefIdeal.nD,
        r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
        ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
        ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
        ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
        ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4)
        ∧ r.2.mem ((c.tc : Thread Cert.MlstmRefIdeal.nD Cert.MlstmRefIdeal.τ).loc Cert.MlstmRefIdeal.main_arg5) = m ((c.tc : Thread Cert.MlstmRefIdeal.nD Cert.MlstmRefIdeal.τ).loc Cert.MlstmRefIdeal.main_arg5))
        ∧ r.2.sem = fun _ => 0) :=
  (θ_run Cert.MlstmRefIdeal.defs _ _).mono (fun r h => ⟨fun c => (h c).2.2.2.2, sem_eq_zero_of_no_sems (by decide) r.2⟩)
    (Cert.MlstmRefIdeal.Value.run (F := Ideal) m ρ)

/-- The idealized kernel and the idealized reference end with the same four arrays. -/
theorem algebraic : Cert.algebraic_MlstmIdeal_MlstmRefIdeal_pre_finite_qv_forget
    (hMlstmIdeal := Cert.MlstmIdeal.Gen.facts) (hMlstmRefIdeal := Cert.MlstmRefIdeal.Gen.facts)
    (hPre_finite_qv_forget := Cert.Pre_finite_qv_forget.Gen.facts) := by
  intro m ρ m' ρ' hpre hagree
  refine ⟨fun c => Cert.Memory.resY (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)) (m ((c.tc : Thread Cert.MlstmIdeal.nD Cert.MlstmIdeal.τ).loc Cert.MlstmIdeal.main_arg5)),
    fun c => Cert.Memory.resC (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)),
    fun c => Cert.Memory.resN (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)),
    fun c => Cert.Memory.resM (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4)), ?_, ?_⟩
  · exact (θ_run Cert.MlstmIdeal.defs _ _).mono
      (fun r h c => ⟨(h c).1.trans (Cert.MlstmIdeal.Arrays.arr12 m c), (h c).2.1.trans (Cert.MlstmIdeal.Arrays.arr13 m c), (h c).2.2.1.trans (Cert.MlstmIdeal.Arrays.arr14 m c), (h c).2.2.2.1.trans (Cert.MlstmIdeal.Arrays.arr15 m c), (h c).2.2.2.2⟩)
      (Cert.MlstmIdeal.Value.run_blocks (F := Ideal) m ρ)
  · refine (θ_run Cert.MlstmRefIdeal.defs _ _).mono (fun r h c => ?_) (Cert.MlstmRefIdeal.Value.run (F := Ideal) m' ρ')
    refine ⟨((h c).1.trans (Cert.MlstmRefIdeal.Read.val_main_v393_eq _)).trans ?_,
      ((h c).2.1.trans (Cert.MlstmRefIdeal.Read.val_main_v397_eq _)).trans ?_,
      ((h c).2.2.1.trans (Cert.MlstmRefIdeal.Read.val_main_v398_eq _)).trans ?_,
      ((h c).2.2.2.1.trans (Cert.MlstmRefIdeal.Read.val_main_v400_eq _)).trans ?_, (h c).2.2.2.2⟩
    · show Cert.MlstmRefIdeal.Read.val_main_v393 (F := Ideal)
        (m' ((c.tc : Thread Cert.MlstmRefIdeal.nD Cert.MlstmRefIdeal.τ).loc Cert.MlstmRefIdeal.main_arg0))
        (m' ((c.tc : Thread Cert.MlstmRefIdeal.nD Cert.MlstmRefIdeal.τ).loc Cert.MlstmRefIdeal.main_arg1))
        (m' ((c.tc : Thread Cert.MlstmRefIdeal.nD Cert.MlstmRefIdeal.τ).loc Cert.MlstmRefIdeal.main_arg2))
        (m' ((c.tc : Thread Cert.MlstmRefIdeal.nD Cert.MlstmRefIdeal.τ).loc Cert.MlstmRefIdeal.main_arg3))
        (m' ((c.tc : Thread Cert.MlstmRefIdeal.nD Cert.MlstmRefIdeal.τ).loc Cert.MlstmRefIdeal.main_arg4))
        (m' ((c.tc : Thread Cert.MlstmRefIdeal.nD Cert.MlstmRefIdeal.τ).loc Cert.MlstmRefIdeal.main_arg5)) = _
      rw [(hagree c).1, (hagree c).2.1, (hagree c).2.2.1, (hagree c).2.2.2.1, (hagree c).2.2.2.2.1, (hagree c).2.2.2.2.2]
      exact Cert.MlstmRefIdeal.Stages.y_eq _ _ _ _ _ _ (hpre c)
    · show Cert.MlstmRefIdeal.Read.val_main_v397 (F := Ideal)
        (m' ((c.tc : Thread Cert.MlstmRefIdeal.nD Cert.MlstmRefIdeal.τ).loc Cert.MlstmRefIdeal.main_arg0))
        (m' ((c.tc : Thread Cert.MlstmRefIdeal.nD Cert.MlstmRefIdeal.τ).loc Cert.MlstmRefIdeal.main_arg2))
        (m' ((c.tc : Thread Cert.MlstmRefIdeal.nD Cert.MlstmRefIdeal.τ).loc Cert.MlstmRefIdeal.main_arg3))
        (m' ((c.tc : Thread Cert.MlstmRefIdeal.nD Cert.MlstmRefIdeal.τ).loc Cert.MlstmRefIdeal.main_arg4)) = _
      rw [(hagree c).1, (hagree c).2.2.1, (hagree c).2.2.2.1, (hagree c).2.2.2.2.1]
      exact Cert.MlstmRefIdeal.Stages.c_eq _ _ _ _ _ _ (hpre c)
    · show Cert.MlstmRefIdeal.Read.val_main_v398 (F := Ideal)
        (m' ((c.tc : Thread Cert.MlstmRefIdeal.nD Cert.MlstmRefIdeal.τ).loc Cert.MlstmRefIdeal.main_arg0))
        (m' ((c.tc : Thread Cert.MlstmRefIdeal.nD Cert.MlstmRefIdeal.τ).loc Cert.MlstmRefIdeal.main_arg2))
        (m' ((c.tc : Thread Cert.MlstmRefIdeal.nD Cert.MlstmRefIdeal.τ).loc Cert.MlstmRefIdeal.main_arg3))
        (m' ((c.tc : Thread Cert.MlstmRefIdeal.nD Cert.MlstmRefIdeal.τ).loc Cert.MlstmRefIdeal.main_arg4)) = _
      rw [(hagree c).1, (hagree c).2.2.1, (hagree c).2.2.2.1, (hagree c).2.2.2.2.1]
      exact Cert.MlstmRefIdeal.Stages.n_eq _ _ _ _ _ _ (hpre c)
    · show Cert.MlstmRefIdeal.Read.val_main_v400 (F := Ideal)
        (m' ((c.tc : Thread Cert.MlstmRefIdeal.nD Cert.MlstmRefIdeal.τ).loc Cert.MlstmRefIdeal.main_arg2))
        (m' ((c.tc : Thread Cert.MlstmRefIdeal.nD Cert.MlstmRefIdeal.τ).loc Cert.MlstmRefIdeal.main_arg3))
        (m' ((c.tc : Thread Cert.MlstmRefIdeal.nD Cert.MlstmRefIdeal.τ).loc Cert.MlstmRefIdeal.main_arg4)) = _
      rw [(hagree c).2.2.1, (hagree c).2.2.2.1, (hagree c).2.2.2.2.1]
      exact Cert.MlstmRefIdeal.Stages.m_eq _ _ _ _ _ _ (hpre c)

end Cert.MlstmRuns
end
-- ==== Proof.OutSmpArrays.lean ====
module
public import proofs.«01_k».proof.Proof.Gen.OutSmpIdeal.Value
public import proofs.«01_k».proof.Proof.OutSpec
public import Idealize.ShloMosaic.Lib.Pipeline.ValueKit
public import Idealize.ShloMosaic.Lib.Pipeline.ReadBack
/-! What the result array of the output projection of the sample batch holds, over the operands of its call. -/
@[expose] public section
set_option maxRecDepth 16384
noncomputable section
open Idealize.ShloMosaic Idealize.ShloMosaic.TcCoe Idealize.SL.Sem
open Idealize.ShloMosaic.Pipeline (Dat)
namespace Cert.OutSmpIdeal.Arrays
open Cert.OutSmpIdeal Cert.OutSmpIdeal.Gen Cert.Outputs
variable (m : (ℓ : Loc nD τ sig) → Buf (Elt Ideal) ℓ)

/-- The block of each window at a grid point. -/
theorem idx : ∀ t : Fin cfg0.N, win0_0.index t = ![t.val, 0] ∧ win0_1.index t = ![t.val, 0] ∧ win0_2.index t = ![0, 0] ∧ win0_3.index t = ![t.val, 0] ∧ win0_4.index t = ![t.val / 2, 0, 0] ∧ win0_5.index t = ![0, 0] ∧ win0_6.index t = ![t.val, 0] :=
  (by decide +kernel : ∀ t : Fin grid0.N, _)

set_option maxHeartbeats 6400000 in
/-- The result array. -/
theorem arr6 (c : Dev nD) : (dats m 0 c).arrAt 6 cfg0.N
    = resSmp (V m c main_arg0) (V m c main_arg1) (V m c main_v0) (V m c main_arg3)
      (fun b n => (V m c main_v11 : S2x3x1024.Idx → EReal) (ix3 b 2 n)) (fun n => (V m c main_v12 : S1x1024.Idx → EReal) (ix2 0 n)) := by
  refine (dats m 0 c).arrAt_eq_of_covers 6 _ (by decide +kernel) fun t hf y => ?_
  blk_simp
  rw [after0_6]
  canon_tiles x h
  idx_vars x
  unfold resSmp finish acc
  pointwise [k0_pay1]
  blk_point [iblk, idx t]
end Cert.OutSmpIdeal.Arrays
end
-- ==== Proof.OutSmpOperands.lean ====
module
public import proofs.«01_k».proof.Proof.Gen.OutSmpIdeal.Value
public import proofs.«01_k».proof.Proof.Modulation
public import Idealize.ShloMosaic.Lib.Pipeline.ReadBack
/-! What the operands of the call of the output projection of the sample batch hold. -/
@[expose] public section
set_option maxRecDepth 16384
noncomputable section
open Idealize.ShloMosaic Idealize.ShloMosaic.TcCoe Idealize.SL.Sem
namespace Cert.OutSmpIdeal.Operands
open Cert.OutSmpIdeal Cert.OutSmpIdeal.Gen Cert.Modulation
variable (m : (ℓ : Loc nD τ sig) → Buf (Elt Ideal) ℓ)

/-- The weights (`out`) are the argument. -/
theorem out_weights (c : Dev nD) : (V m c main_v0 : S2048x1024.Idx → EReal) = (m ((c : Thread nD τ).loc main_arg2) : S2048x1024.Idx → EReal) := by
  unfold V
  simp only [hostOps0, List.flatten_cons, List.flatten_nil, List.append_nil, List.cons_append, List.nil_append]
  after_results
  try rfl

/-- The argument as a row (`gain`), as computed. -/
theorem gain_term (c : Dev nD) : V m c main_v12
    = broadcastInDim S1x1024 ![1] bcast_S1024_S1x1024_1 (m ((c : Thread nD τ).loc main_arg5)) := by
  unfold V
  simp only [hostOps0, List.flatten_cons, List.flatten_nil, List.append_nil, List.cons_append, List.nil_append]
  after_results
  try rfl

/-- The row (`gain`) is the argument. -/
theorem gain (c : Dev nD) : (fun d => (V m c main_v12 : S1x1024.Idx → EReal) (ix2 0 d)) = fun d => (m ((c : Thread nD τ).loc main_arg5) : S1024.Idx → EReal) (ix1 d) := by
  funext d
  rw [gain_term]
  pointwise

/-- The row numbers 1, 0, 2. -/
def order : IVec S3 32 := fun i => lit0 (S3.rowMajor i)

/-- The modulation rows, as computed. -/
theorem mod_term (c : Dev nD) : V m c main_v11
    = Host.gather gather_S2x3x1024_S3x1_S2x3x1024_02_1_n_n_1_1_211024
        (Host.scatter scatter_S2x3x1024_S1_S2x1024_01_1_1_0 (FloatOps.addf (F := Ideal) (φ := .f32))
          (shapeCast S2x3x1024 (m ((c : Thread nD τ).loc main_arg4)) shapeCasts_S2x3072_S2x3x1024)
          (broadcastInDim S1 ![] bcast_S_S1 (constantI S_ 32 1#32))
          (broadcastInDim S2x1024 ![] bcast_S_S2x1024 (constant (F := Ideal) S_ .f32 0x3F800000#32)))
        (broadcastInDim S3x1 ![0] bcast_S3_S3x1_0 (select (cmpi .slt order (broadcastInDim S3 ![] bcast_S_S3 (constantI S_ 32 0#32)))
          (addi order (broadcastInDim S3 ![] bcast_S_S3 (constantI S_ 32 3#32))) order)) := by
  unfold V
  simp only [hostOps0, List.flatten_cons, List.flatten_nil, List.append_nil, List.cons_append, List.nil_append]
  after_results
  try rfl

/-- The row numbers, where a negative one would count from the end, are 1, 0, 2. -/
theorem order_at (r : Fin 3) : broadcastInDim S3x1 ![0] bcast_S3_S3x1_0 (select (cmpi .slt order (broadcastInDim S3 ![] bcast_S_S3 (constantI S_ 32 0#32)))
    (addi order (broadcastInDim S3 ![] bcast_S_S3 (constantI S_ 32 3#32))) order) (ix2 r 0) = BitVec.ofNat 32 ((![1, 0, 2] : Fin 3 → Fin 3) r).val := by
  match r with
  | ⟨0, _⟩ => rfl
  | ⟨1, _⟩ => rfl
  | ⟨2, _⟩ => rfl

/-- The third modulation row of each condition is its gate. -/
theorem mod_gate (c : Dev nD) : (fun (b : Fin 2) (d : Fin 1024) => (V m c main_v11 : S2x3x1024.Idx → EReal) (ix3 b 2 d))
    = fun b d => (m ((c : Thread nD τ).loc main_arg4) : S2x3072.Idx → EReal) (ix2 b ⟨2048 + d.val, by omega⟩) := by
  funext b d
  rw [mod_term]
  refine (take_row _ _ _ 2 2 (order_at 2) b d).trans ?_
  refine (add_row _ _ _ _ (fun _ => rfl) _ b 2 d).trans ?_
  rw [if_neg (by decide)]
  pointwise
end Cert.OutSmpIdeal.Operands
end
-- ==== Proof.OutSmpRef.lean ====
module
public import proofs.«01_k».proof.Proof.Gen.OutSmpRefIdeal.Read
public import proofs.«01_k».proof.Proof.OutSpec
/-! What the reference of the output projection of the sample batch computes. -/
@[expose] public section
set_option maxRecDepth 16384
noncomputable section
open Idealize.ShloMosaic Idealize.ShloMosaic.TcCoe Idealize.SL.Sem
namespace Cert.OutSmpRefIdeal.Stages
open Cert.OutSmpRefIdeal Cert.OutSmpRefIdeal.Gen Cert.OutSmpRefIdeal.Read Cert.Outputs
variable (YA YB : FVec Ideal S2048x1024 .bf16) (W : FVec Ideal S2048x1024 .f32) (X : FVec Ideal S2048x1024 .f32) (M : FVec Ideal S2x3072 .f32) (G : FVec Ideal S1024 .f32)

/-- Row `t` of sequence `b` among the rows of both sequences. -/
def rowOf (b : Fin 2) (t : Fin 1024) : Fin 2048 := ⟨b * 1024 + t, by omega⟩

/-- The first 1024 columns of the two branches side by side. -/
theorem left_at (b : Fin 2) (t j : Fin 1024) : val_main_v6 (F := Ideal) YA YB (ix3 b t (Fin.castAdd 1024 j)) = YA (ix2 (rowOf b t) j) := by
  unfold val_main_v6
  pointwise [val_main_v4, val_main_v5, val_main_v1, val_main_v2]
  refine (dif_pos j.isLt).trans ?_
  exact congrArg (fun a => YA (ix2 a _)) (Fin.ext (by simp [rowOf]))

/-- The last 1024 columns of the two branches side by side. -/
theorem right_at (b : Fin 2) (t j : Fin 1024) : val_main_v6 (F := Ideal) YA YB (ix3 b t (Fin.natAdd 1024 j)) = YB (ix2 (rowOf b t) j) := by
  unfold val_main_v6
  pointwise [val_main_v4, val_main_v5, val_main_v1, val_main_v2]
  refine (dif_neg (by simp)).trans ?_
  exact congrArg₂ (fun a k => YB (ix2 a k)) (Fin.ext (by simp [rowOf])) (Fin.ext (by simp))

/-- The two branches times the weights. -/
theorem acc_at (b : Fin 2) (t n : Fin 1024) : val_main_v7 (F := Ideal) YA YB W (ix3 b t n)
    = acc (fun j => YA (ix2 (rowOf b t) j)) (fun j => YB (ix2 (rowOf b t) j)) W n := by
  unfold acc
  pointwise [val_main_v7]
  refine (Fin.sum_univ_add (a := 1024) (b := 1024) _).trans ?_
  refine congrArg₂ (· + ·) (Finset.sum_congr rfl fun j _ => ?_) (Finset.sum_congr rfl fun j _ => ?_)
  · exact congrArg₂ (· * ·) (left_at YA YB b t j) rfl
  · exact congrArg₂ (· * ·) (right_at YA YB b t j) rfl

/-- The result before its two sequences are put one below the other. -/
theorem rows_at (b : Fin 2) (t n : Fin 1024) : val_main_v26 (F := Ideal) YA YB W X M G (ix3 b t n)
    = finish (X (ix2 (rowOf b t) n)) (acc (fun j => YA (ix2 (rowOf b t) j)) (fun j => YB (ix2 (rowOf b t) j)) W)
        (M (ix2 b ⟨2048 + n.val, by omega⟩)) (G (ix1 n)) n := by
  unfold finish rowOf
  pointwise [val_main_v0, val_main_v3, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst, val_main_cst_0, val_main_cst_1]
  simp only [acc_at]
  unfold rowOf
  rfl

/-- The result. -/
theorem res_eq : val_main_v27 (F := Ideal) YA YB W X M G
    = resSmp YA YB W X (fun b d => M (ix2 b ⟨2048 + d.val, by omega⟩)) (fun d => G (ix1 d)) := by
  funext i
  idx_vars i
  have e : rowOf ⟨(i0 : ℕ) / 1024, by omega⟩ ⟨(i0 : ℕ) % 1024, by omega⟩ = i0 := Fin.ext (by show (i0 : ℕ) / 1024 * 1024 + (i0 : ℕ) % 1024 = i0; omega)
  pointwise [val_main_v27]
  refine (rows_at YA YB W X M G _ _ _).trans ?_
  rw [e]
  rfl
end Cert.OutSmpRefIdeal.Stages
end
-- ==== Proof.OutSmpRuns.lean ====
module
public import proofs.«01_k».proof.Defs
public import proofs.«01_k».proof.Proof.Gen.OutSmpRefIdeal.Run
public import proofs.«01_k».proof.Proof.Gen.OutSmpIdeal.Value
public import proofs.«01_k».proof.Proof.OutSmpArrays
public import proofs.«01_k».proof.Proof.OutSmpOperands
public import proofs.«01_k».proof.Proof.OutSmpRef
public import Idealize.ShloMosaic.Lib.Claim
/-! The output projection of the sample batch: both idealized programs run and end with the same array. -/
@[expose] public section
set_option maxRecDepth 16384
noncomputable section
open Idealize.ShloMosaic Idealize.ShloMosaic.TcCoe Idealize.SL.Sem
namespace Cert.OutSmpRuns
open Cert.Outputs

section
open Cert.OutSmpIdeal Cert.OutSmpIdeal.Gen
variable (m : (ℓ : Loc nD τ sig) → Buf (Elt Ideal) ℓ)

/-- The result array of the kernel. -/
theorem out0 (c : Dev nD) : (dats m 0 c).arrAt 6 cfg0.N
    = resSmp (m ((c : Thread nD τ).loc main_arg0)) (m ((c : Thread nD τ).loc main_arg1)) (m ((c : Thread nD τ).loc main_arg2)) (m ((c : Thread nD τ).loc main_arg3)) (fun (b : Fin 2) (d : Fin 1024) => (m ((c : Thread nD τ).loc main_arg4) : (⟨2, ![2, 3072]⟩ : Shape).Idx → EReal) (ix2 b ⟨2048 + d.val, by omega⟩)) (fun d : Fin 1024 => (m ((c : Thread nD τ).loc main_arg5) : (⟨1, ![1024]⟩ : Shape).Idx → EReal) (ix1 d)) := by
  refine (Arrays.arr6 m c).trans ?_
  rw [Operands.mod_gate m c, Operands.gain m c, Operands.out_weights m c, V_main_arg0 m c, V_main_arg1 m c, V_main_arg3 m c]
end

/-- The reference runs, its arguments end unchanged and every semaphore counter is zero. -/
theorem ref_frame (m : (ℓ : Loc Cert.OutSmpRefIdeal.nD Cert.OutSmpRefIdeal.τ Cert.OutSmpRefIdeal.sig) → Buf (Elt Ideal) ℓ) (ρ : Dev Cert.OutSmpRefIdeal.nD → PrngReg) :
    θ_run (Cert.OutSmpRefIdeal.defs (F := Ideal)) (onTc (τ := Cert.OutSmpRefIdeal.τ) (Cert.OutSmpRefIdeal.main (F := Ideal))) ⟨m, fun _ => 0, ρ⟩
      (fun r => (∀ c : Dev Cert.OutSmpRefIdeal.nD, r.2.mem ((c.tc : Thread Cert.OutSmpRefIdeal.nD Cert.OutSmpRefIdeal.τ).loc Cert.OutSmpRefIdeal.main_arg0) = m ((c.tc : Thread Cert.OutSmpRefIdeal.nD Cert.OutSmpRefIdeal.τ).loc Cert.OutSmpRefIdeal.main_arg0) ∧ r.2.mem ((c.tc : Thread Cert.OutSmpRefIdeal.nD Cert.OutSmpRefIdeal.τ).loc Cert.OutSmpRefIdeal.main_arg1) = m ((c.tc : Thread Cert.OutSmpRefIdeal.nD Cert.OutSmpRefIdeal.τ).loc Cert.OutSmpRefIdeal.main_arg1) ∧ r.2.mem ((c.tc : Thread Cert.OutSmpRefIdeal.nD Cert.OutSmpRefIdeal.τ).loc Cert.OutSmpRefIdeal.main_arg2) = m ((c.tc : Thread Cert.OutSmpRefIdeal.nD Cert.OutSmpRefIdeal.τ).loc Cert.OutSmpRefIdeal.main_arg2) ∧ r.2.mem ((c.tc : Thread Cert.OutSmpRefIdeal.nD Cert.OutSmpRefIdeal.τ).loc Cert.OutSmpRefIdeal.main_arg3) = m ((c.tc : Thread Cert.OutSmpRefIdeal.nD Cert.OutSmpRefIdeal.τ).loc Cert.OutSmpRefIdeal.main_arg3) ∧ r.2.mem ((c.tc : Thread Cert.OutSmpRefIdeal.nD Cert.OutSmpRefIdeal.τ).loc Cert.OutSmpRefIdeal.main_arg4) = m ((c.tc : Thread Cert.OutSmpRefIdeal.nD Cert.OutSmpRefIdeal.τ).loc Cert.OutSmpRefIdeal.main_arg4) ∧ r.2.mem ((c.tc : Thread Cert.OutSmpRefIdeal.nD Cert.OutSmpRefIdeal.τ).loc Cert.OutSmpRefIdeal.main_arg5) = m ((c.tc : Thread Cert.OutSmpRefIdeal.nD Cert.OutSmpRefIdeal.τ).loc Cert.OutSmpRefIdeal.main_arg5)) ∧ r.2.sem = fun _ => 0) :=
  (θ_run Cert.OutSmpRefIdeal.defs _ _).mono (fun r h => ⟨fun c => (h c).2, sem_eq_zero_of_no_sems (by decide) r.2⟩)
    (Cert.OutSmpRefIdeal.Value.run (F := Ideal) m ρ)

/-- The idealized kernel and the idealized reference end with the same array. -/
theorem algebraic : Cert.algebraic_OutSmpIdeal_OutSmpRefIdeal (hOutSmpIdeal := Cert.OutSmpIdeal.Gen.facts) (hOutSmpRefIdeal := Cert.OutSmpRefIdeal.Gen.facts) := by
  intro m ρ m' ρ' _ hagree
  refine ⟨fun c => resSmp (m ((c.tc : Thread Cert.OutSmpIdeal.nD Cert.OutSmpIdeal.τ).loc Cert.OutSmpIdeal.main_arg0)) (m ((c.tc : Thread Cert.OutSmpIdeal.nD Cert.OutSmpIdeal.τ).loc Cert.OutSmpIdeal.main_arg1)) (m ((c.tc : Thread Cert.OutSmpIdeal.nD Cert.OutSmpIdeal.τ).loc Cert.OutSmpIdeal.main_arg2)) (m ((c.tc : Thread Cert.OutSmpIdeal.nD Cert.OutSmpIdeal.τ).loc Cert.OutSmpIdeal.main_arg3)) (fun (b : Fin 2) (d : Fin 1024) => (m ((c.tc : Thread Cert.OutSmpIdeal.nD Cert.OutSmpIdeal.τ).loc Cert.OutSmpIdeal.main_arg4) : (⟨2, ![2, 3072]⟩ : Shape).Idx → EReal) (ix2 b ⟨2048 + d.val, by omega⟩)) (fun d : Fin 1024 => (m ((c.tc : Thread Cert.OutSmpIdeal.nD Cert.OutSmpIdeal.τ).loc Cert.OutSmpIdeal.main_arg5) : (⟨1, ![1024]⟩ : Shape).Idx → EReal) (ix1 d)), ?_, ?_⟩
  · exact (θ_run Cert.OutSmpIdeal.defs _ _).mono (fun r h c => ⟨(h c).1.trans (out0 m c), (h c).2⟩)
      (Cert.OutSmpIdeal.Value.run_blocks (F := Ideal) m ρ)
  · refine (θ_run Cert.OutSmpRefIdeal.defs _ _).mono (fun r h c => ?_) (Cert.OutSmpRefIdeal.Value.run (F := Ideal) m' ρ')
    refine ⟨((h c).1.trans (Cert.OutSmpRefIdeal.Read.val_main_v27_eq _ _ _ _ _ _)).trans ?_, (h c).2⟩
    show Cert.OutSmpRefIdeal.Read.val_main_v27 (F := Ideal) (m' ((c.tc : Thread Cert.OutSmpRefIdeal.nD Cert.OutSmpRefIdeal.τ).loc Cert.OutSmpRefIdeal.main_arg0)) (m' ((c.tc : Thread Cert.OutSmpRefIdeal.nD Cert.OutSmpRefIdeal.τ).loc Cert.OutSmpRefIdeal.main_arg1)) (m' ((c.tc : Thread Cert.OutSmpRefIdeal.nD Cert.OutSmpRefIdeal.τ).loc Cert.OutSmpRefIdeal.main_arg2)) (m' ((c.tc : Thread Cert.OutSmpRefIdeal.nD Cert.OutSmpRefIdeal.τ).loc Cert.OutSmpRefIdeal.main_arg3)) (m' ((c.tc : Thread Cert.OutSmpRefIdeal.nD Cert.OutSmpRefIdeal.τ).loc Cert.OutSmpRefIdeal.main_arg4)) (m' ((c.tc : Thread Cert.OutSmpRefIdeal.nD Cert.OutSmpRefIdeal.τ).loc Cert.OutSmpRefIdeal.main_arg5)) = _
    rw [(hagree c).1, (hagree c).2.1, (hagree c).2.2.1, (hagree c).2.2.2.1, (hagree c).2.2.2.2.1, (hagree c).2.2.2.2.2]
    exact Cert.OutSmpRefIdeal.Stages.res_eq _ _ _ _ _ _

end Cert.OutSmpRuns
end
-- ==== Proof.OutAbArrays.lean ====
module
public import proofs.«01_k».proof.Proof.Gen.OutAbIdeal.Value
public import proofs.«01_k».proof.Proof.OutSpec
public import Idealize.ShloMosaic.Lib.Pipeline.ValueKit
public import Idealize.ShloMosaic.Lib.Pipeline.ReadBack
/-! What the result array of the output projection holds, over the operands of its call. -/
@[expose] public section
set_option maxRecDepth 16384
noncomputable section
open Idealize.ShloMosaic Idealize.ShloMosaic.TcCoe Idealize.SL.Sem
open Idealize.ShloMosaic.Pipeline (Dat)
namespace Cert.OutAbIdeal.Arrays
open Cert.OutAbIdeal Cert.OutAbIdeal.Gen Cert.Outputs
variable (m : (ℓ : Loc nD τ sig) → Buf (Elt Ideal) ℓ)

/-- The block of each window at a grid point. -/
theorem idx : ∀ t : Fin cfg0.N, win0_0.index t = ![0, t.val] ∧ win0_1.index t = ![0, t.val] ∧ win0_2.index t = ![t.val, 0] ∧ win0_3.index t = ![0, 0] ∧ win0_4.index t = ![0, 0] ∧ win0_5.index t = ![t.val, 0] ∧ win0_6.index t = ![0, 0] ∧ win0_7.index t = ![t.val, 0] ∧ win0_8.index t = ![0, 0, 0] ∧ win0_9.index t = ![0, 0] ∧ win0_10.index t = ![t.val, 0] :=
  (by decide +kernel : ∀ t : Fin grid0.N, _)

set_option maxHeartbeats 6400000 in
/-- The result array. -/
theorem arr10 (c : Dev nD) : (dats m 0 c).arrAt 10 cfg0.N
    = resAb (V m c main_arg0) (V m c main_arg1) (V m c main_arg2) (fun d => (V m c main_v0 : S1x1024.Idx → EReal) (ix2 0 d)) (V m c main_v1) (V m c main_arg5) (V m c main_v2) (V m c main_arg7)
      (fun n => (V m c main_v13 : S1x3x1024.Idx → EReal) (ix3 0 2 n)) (fun n => (V m c main_v14 : S1x1024.Idx → EReal) (ix2 0 n)) := by
  refine (dats m 0 c).arrAt_eq_of_covers 10 _ (by decide +kernel) fun t hf y => ?_
  blk_simp
  rw [after0_10]
  canon_tiles x h
  idx_vars x
  unfold resAb finish acc branch mixed gelu sigm
  pointwise [k0_pay1, k0_pay2, k0_pay3]
  blk_point [iblk, idx t]
end Cert.OutAbIdeal.Arrays
end
-- ==== Proof.OutAbOperands.lean ====
module
public import proofs.«01_k».proof.Proof.Gen.OutAbIdeal.Value
public import proofs.«01_k».proof.Proof.Modulation
public import Idealize.ShloMosaic.Lib.Pipeline.ReadBack
/-! What the operands of the call of the output projection hold. -/
@[expose] public section
set_option maxRecDepth 16384
noncomputable section
open Idealize.ShloMosaic Idealize.ShloMosaic.TcCoe Idealize.SL.Sem
namespace Cert.OutAbIdeal.Operands
open Cert.OutAbIdeal Cert.OutAbIdeal.Gen Cert.Modulation
variable (m : (ℓ : Loc nD τ sig) → Buf (Elt Ideal) ℓ)

/-- The weights (`gate`) are the argument. -/
theorem gate_weights (c : Dev nD) : (V m c main_v1 : S1024x1024.Idx → EReal) = (m ((c : Thread nD τ).loc main_arg4) : S1024x1024.Idx → EReal) := by
  unfold V
  simp only [hostOps0, List.flatten_cons, List.flatten_nil, List.append_nil, List.cons_append, List.nil_append]
  after_results
  try rfl

/-- The weights (`out`) are the argument. -/
theorem out_weights (c : Dev nD) : (V m c main_v2 : S2048x1024.Idx → EReal) = (m ((c : Thread nD τ).loc main_arg6) : S2048x1024.Idx → EReal) := by
  unfold V
  simp only [hostOps0, List.flatten_cons, List.flatten_nil, List.append_nil, List.cons_append, List.nil_append]
  after_results
  try rfl

/-- The argument as a row (`gain`), as computed. -/
theorem gain_term (c : Dev nD) : V m c main_v14
    = broadcastInDim S1x1024 ![1] bcast_S1024_S1x1024_1 (m ((c : Thread nD τ).loc main_arg9)) := by
  unfold V
  simp only [hostOps0, List.flatten_cons, List.flatten_nil, List.append_nil, List.cons_append, List.nil_append]
  after_results
  try rfl

/-- The row (`gain`) is the argument. -/
theorem gain (c : Dev nD) : (fun d => (V m c main_v14 : S1x1024.Idx → EReal) (ix2 0 d)) = fun d => (m ((c : Thread nD τ).loc main_arg9) : S1024.Idx → EReal) (ix1 d) := by
  funext d
  rw [gain_term]
  pointwise

/-- The argument as a row (`skip`), as computed. -/
theorem skip_term (c : Dev nD) : V m c main_v0
    = broadcastInDim S1x1024 ![1] bcast_S1024_S1x1024_1 (m ((c : Thread nD τ).loc main_arg3)) := by
  unfold V
  simp only [hostOps0, List.flatten_cons, List.flatten_nil, List.append_nil, List.cons_append, List.nil_append]
  after_results
  try rfl

/-- The row (`skip`) is the argument. -/
theorem skip (c : Dev nD) : (fun d => (V m c main_v0 : S1x1024.Idx → EReal) (ix2 0 d)) = fun d => (m ((c : Thread nD τ).loc main_arg3) : S1024.Idx → EReal) (ix1 d) := by
  funext d
  rw [skip_term]
  pointwise

/-- The row numbers 1, 0, 2. -/
def order : IVec S3 32 := fun i => lit0 (S3.rowMajor i)

/-- The modulation rows, as computed. -/
theorem mod_term (c : Dev nD) : V m c main_v13
    = Host.gather gather_S1x3x1024_S3x1_S1x3x1024_02_1_n_n_1_1_111024
        (Host.scatter scatter_S1x3x1024_S1_S1x1024_01_1_1_0 (FloatOps.addf (F := Ideal) (φ := .f32))
          (shapeCast S1x3x1024 (m ((c : Thread nD τ).loc main_arg8)) shapeCasts_S1x3072_S1x3x1024)
          (broadcastInDim S1 ![] bcast_S_S1 (constantI S_ 32 1#32))
          (broadcastInDim S1x1024 ![] bcast_S_S1x1024 (constant (F := Ideal) S_ .f32 0x3F800000#32)))
        (broadcastInDim S3x1 ![0] bcast_S3_S3x1_0 (select (cmpi .slt order (broadcastInDim S3 ![] bcast_S_S3 (constantI S_ 32 0#32)))
          (addi order (broadcastInDim S3 ![] bcast_S_S3 (constantI S_ 32 3#32))) order)) := by
  unfold V
  simp only [hostOps0, List.flatten_cons, List.flatten_nil, List.append_nil, List.cons_append, List.nil_append]
  after_results
  try rfl

/-- The row numbers, where a negative one would count from the end, are 1, 0, 2. -/
theorem order_at (r : Fin 3) : broadcastInDim S3x1 ![0] bcast_S3_S3x1_0 (select (cmpi .slt order (broadcastInDim S3 ![] bcast_S_S3 (constantI S_ 32 0#32)))
    (addi order (broadcastInDim S3 ![] bcast_S_S3 (constantI S_ 32 3#32))) order) (ix2 r 0) = BitVec.ofNat 32 ((![1, 0, 2] : Fin 3 → Fin 3) r).val := by
  match r with
  | ⟨0, _⟩ => rfl
  | ⟨1, _⟩ => rfl
  | ⟨2, _⟩ => rfl

/-- The third modulation row is the gate. -/
theorem mod_gate (c : Dev nD) : (fun d : Fin 1024 => (V m c main_v13 : S1x3x1024.Idx → EReal) (ix3 0 2 d))
    = fun d => (m ((c : Thread nD τ).loc main_arg8) : S1x3072.Idx → EReal) (ix2 0 ⟨2048 + d.val, by omega⟩) := by
  funext d
  rw [mod_term]
  refine (take_row _ _ _ 2 2 (order_at 2) 0 d).trans ?_
  refine (add_row _ _ _ _ (fun _ => rfl) _ 0 2 d).trans ?_
  rw [if_neg (by decide)]
  pointwise
end Cert.OutAbIdeal.Operands
end
-- ==== Proof.OutAbRef.lean ====
module
public import proofs.«01_k».proof.Proof.Gen.OutAbRefIdeal.Read
public import proofs.«01_k».proof.Proof.OutSpec
/-! What the reference of the output projection computes. -/
@[expose] public section
set_option maxRecDepth 16384
noncomputable section
open Idealize.ShloMosaic Idealize.ShloMosaic.TcCoe Idealize.SL.Sem
namespace Cert.OutAbRefIdeal.Stages
open Cert.OutAbRefIdeal Cert.OutAbRefIdeal.Gen Cert.OutAbRefIdeal.Read Cert.Outputs
variable (Y U : FVec Ideal S256x32768 .f32) (Z : FVec Ideal S8192x4096 .f32) (D : FVec Ideal S1024 .f32) (WG : FVec Ideal S1024x1024 .f32)
  (YB : FVec Ideal S8192x1024 .bf16) (W : FVec Ideal S2048x1024 .f32) (X : FVec Ideal S8192x1024 .f32) (M : FVec Ideal S1x3072 .f32) (G : FVec Ideal S1024 .f32)

/-- The recurrence and the direct path. -/
theorem mixed_at (a : Fin 8192) (d : Fin 1024) : val_main_v9 (F := Ideal) Y U D (ix2 a d) = mixed Y U (fun d => D (ix1 d)) a d := by
  unfold mixed
  pointwise [val_main_v0, val_main_v1, val_main_v2, val_main_v3, val_main_v4, val_main_v5, val_main_v6, val_main_v7, val_main_v8, val_main_v9]

/-- The rectified row. -/
theorem gelu_at (a : Fin 8192) (d : Fin 1024) : val_main_v22 (F := Ideal) Y U D (ix2 a d) = gelu (mixed Y U (fun d => D (ix1 d)) a d) := by
  rw [← mixed_at]
  unfold gelu
  pointwise [val_main_v10, val_main_v11, val_main_v12, val_main_v13, val_main_v14, val_main_v15, val_main_v16, val_main_v17, val_main_v18, val_main_v19, val_main_v20, val_main_v21, val_main_v22, val_main_cst, val_main_cst_0, val_main_cst_1, val_main_cst_2]
  rw [← mul_assoc, mul_comm (val_main_v9 (F := Ideal) Y U D (ix2 a d)) (Ideal.ofBits .f32 0x3F000000#32)]

/-- The gates that the rectified row gives itself. -/
theorem glu_at (a : Fin 8192) (d : Fin 1024) : val_main_v29 (F := Ideal) Y U D WG (ix2 a d)
    = sigm (∑ e : Fin 1024, gelu (mixed Y U (fun d => D (ix1 d)) a e) * WG (ix2 e d)) := by
  unfold sigm
  pointwise [val_main_v23, val_main_v24, val_main_v25, val_main_cst_3, val_main_v26, val_main_v27, val_main_cst_4, val_main_v28, val_main_v29]
  rw [zero_sub]
  simp only [gelu_at]

/-- The gate of the branch. -/
theorem silu_at (a : Fin 8192) (d : Fin 1024) : val_main_v32 (F := Ideal) Z (ix2 a d)
    = Z (ix2 a ⟨d.val, by omega⟩) * sigm (Z (ix2 a ⟨d.val, by omega⟩)) := by
  unfold sigm
  pointwise [val_main_v31, val_main_call0_v0, val_main_call0_v1, val_main_call0_cst, val_main_call0_v2, val_main_call0_v3, val_main_call0_cst_0, val_main_call0_v4, val_main_call0_v5, val_main_v32]
  rw [zero_sub]

/-- The gated branch. -/
theorem branch_at (a : Fin 8192) (d : Fin 1024) : val_main_v33 (F := Ideal) Y U Z D WG (ix2 a d)
    = branch (mixed Y U (fun d => D (ix1 d)) a) (fun d => Z (ix2 a ⟨d.val, by omega⟩)) WG d := by
  unfold branch
  rw [← gelu_at, ← glu_at, ← silu_at]
  pointwise [val_main_v30, val_main_v33]

/-- The first 1024 columns of the two branches side by side. -/
theorem left_at (a : Fin 8192) (j : Fin 1024) : val_main_v35 (F := Ideal) Y U Z D WG YB (ix2 a (Fin.castAdd 1024 j)) = (branch (mixed Y U (fun d => D (ix1 d)) a) (fun d => Z (ix2 a ⟨d.val, by omega⟩)) WG) j := by
  unfold val_main_v35
  pointwise [val_main_v34]
  exact (dif_pos j.isLt).trans (branch_at Y U Z D WG a j)

/-- The last 1024 columns of the two branches side by side. -/
theorem right_at (a : Fin 8192) (j : Fin 1024) : val_main_v35 (F := Ideal) Y U Z D WG YB (ix2 a (Fin.natAdd 1024 j)) = YB (ix2 a j) := by
  unfold val_main_v35
  pointwise [val_main_v34]
  refine (dif_neg (by simp)).trans ?_
  exact congrArg (fun k => YB (ix2 a k)) (Fin.ext (by simp))

/-- The two branches times the weights. -/
theorem acc_at (a : Fin 8192) (n : Fin 1024) : val_main_v36 (F := Ideal) Y U Z D WG YB W (ix2 a n) = acc (branch (mixed Y U (fun d => D (ix1 d)) a) (fun d => Z (ix2 a ⟨d.val, by omega⟩)) WG) (fun j => YB (ix2 a j)) W n := by
  unfold acc
  pointwise [val_main_v36]
  refine (Fin.sum_univ_add (a := 1024) (b := 1024) _).trans ?_
  refine congrArg₂ (· + ·) (Finset.sum_congr rfl fun j _ => ?_) (Finset.sum_congr rfl fun j _ => ?_)
  · exact congrArg₂ (· * ·) (left_at Y U Z D WG YB a j) rfl
  · exact congrArg₂ (· * ·) (right_at Y U Z D WG YB a j) rfl

/-- The result. -/
theorem res_eq : val_main_v55 (F := Ideal) Y U Z D WG YB W X M G
    = resAb Y U Z (fun d => D (ix1 d)) WG YB W X (fun d => M (ix2 0 ⟨2048 + d.val, by omega⟩)) (fun d => G (ix1 d)) := by
  funext i
  idx_vars i
  unfold resAb finish
  pointwise [val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_cst_5, val_main_cst_6, val_main_cst_7]
  simp only [acc_at]
end Cert.OutAbRefIdeal.Stages
end
-- ==== Proof.OutAbRuns.lean ====
module
public import proofs.«01_k».proof.Defs
public import proofs.«01_k».proof.Proof.Gen.OutAbRefIdeal.Run
public import proofs.«01_k».proof.Proof.Gen.OutAbIdeal.Value
public import proofs.«01_k».proof.Proof.OutAbArrays
public import proofs.«01_k».proof.Proof.OutAbOperands
public import proofs.«01_k».proof.Proof.OutAbRef
public import Idealize.ShloMosaic.Lib.Claim
/-! The output projection: both idealized programs run and end with the same array. -/
@[expose] public section
set_option maxRecDepth 16384
noncomputable section
open Idealize.ShloMosaic Idealize.ShloMosaic.TcCoe Idealize.SL.Sem
namespace Cert.OutAbRuns
open Cert.Outputs

section
open Cert.OutAbIdeal Cert.OutAbIdeal.Gen
variable (m : (ℓ : Loc nD τ sig) → Buf (Elt Ideal) ℓ)

/-- The result array of the kernel. -/
theorem out0 (c : Dev nD) : (dats m 0 c).arrAt 10 cfg0.N
    = resAb (m ((c : Thread nD τ).loc main_arg0)) (m ((c : Thread nD τ).loc main_arg1)) (m ((c : Thread nD τ).loc main_arg2)) (fun d : Fin 1024 => (m ((c : Thread nD τ).loc main_arg3) : (⟨1, ![1024]⟩ : Shape).Idx → EReal) (ix1 d)) (m ((c : Thread nD τ).loc main_arg4)) (m ((c : Thread nD τ).loc main_arg5)) (m ((c : Thread nD τ).loc main_arg6)) (m ((c : Thread nD τ).loc main_arg7)) (fun d : Fin 1024 => (m ((c : Thread nD τ).loc main_arg8) : (⟨2, ![1, 3072]⟩ : Shape).Idx → EReal) (ix2 0 ⟨2048 + d.val, by omega⟩)) (fun d : Fin 1024 => (m ((c : Thread nD τ).loc main_arg9) : (⟨1, ![1024]⟩ : Shape).Idx → EReal) (ix1 d)) := by
  refine (Arrays.arr10 m c).trans ?_
  rw [Operands.mod_gate m c, Operands.gain m c, Operands.out_weights m c, Operands.gate_weights m c, Operands.skip m c, V_main_arg0 m c, V_main_arg1 m c, V_main_arg2 m c, V_main_arg5 m c, V_main_arg7 m c]
end

/-- The reference runs, its arguments end unchanged and every semaphore counter is zero. -/
theorem ref_frame (m : (ℓ : Loc Cert.OutAbRefIdeal.nD Cert.OutAbRefIdeal.τ Cert.OutAbRefIdeal.sig) → Buf (Elt Ideal) ℓ) (ρ : Dev Cert.OutAbRefIdeal.nD → PrngReg) :
    θ_run (Cert.OutAbRefIdeal.defs (F := Ideal)) (onTc (τ := Cert.OutAbRefIdeal.τ) (Cert.OutAbRefIdeal.main (F := Ideal))) ⟨m, fun _ => 0, ρ⟩
      (fun r => (∀ c : Dev Cert.OutAbRefIdeal.nD, r.2.mem ((c.tc : Thread Cert.OutAbRefIdeal.nD Cert.OutAbRefIdeal.τ).loc Cert.OutAbRefIdeal.main_arg0) = m ((c.tc : Thread Cert.OutAbRefIdeal.nD Cert.OutAbRefIdeal.τ).loc Cert.OutAbRefIdeal.main_arg0) ∧ r.2.mem ((c.tc : Thread Cert.OutAbRefIdeal.nD Cert.OutAbRefIdeal.τ).loc Cert.OutAbRefIdeal.main_arg1) = m ((c.tc : Thread Cert.OutAbRefIdeal.nD Cert.OutAbRefIdeal.τ).loc Cert.OutAbRefIdeal.main_arg1) ∧ r.2.mem ((c.tc : Thread Cert.OutAbRefIdeal.nD Cert.OutAbRefIdeal.τ).loc Cert.OutAbRefIdeal.main_arg2) = m ((c.tc : Thread Cert.OutAbRefIdeal.nD Cert.OutAbRefIdeal.τ).loc Cert.OutAbRefIdeal.main_arg2) ∧ r.2.mem ((c.tc : Thread Cert.OutAbRefIdeal.nD Cert.OutAbRefIdeal.τ).loc Cert.OutAbRefIdeal.main_arg3) = m ((c.tc : Thread Cert.OutAbRefIdeal.nD Cert.OutAbRefIdeal.τ).loc Cert.OutAbRefIdeal.main_arg3) ∧ r.2.mem ((c.tc : Thread Cert.OutAbRefIdeal.nD Cert.OutAbRefIdeal.τ).loc Cert.OutAbRefIdeal.main_arg4) = m ((c.tc : Thread Cert.OutAbRefIdeal.nD Cert.OutAbRefIdeal.τ).loc Cert.OutAbRefIdeal.main_arg4) ∧ r.2.mem ((c.tc : Thread Cert.OutAbRefIdeal.nD Cert.OutAbRefIdeal.τ).loc Cert.OutAbRefIdeal.main_arg5) = m ((c.tc : Thread Cert.OutAbRefIdeal.nD Cert.OutAbRefIdeal.τ).loc Cert.OutAbRefIdeal.main_arg5) ∧ r.2.mem ((c.tc : Thread Cert.OutAbRefIdeal.nD Cert.OutAbRefIdeal.τ).loc Cert.OutAbRefIdeal.main_arg6) = m ((c.tc : Thread Cert.OutAbRefIdeal.nD Cert.OutAbRefIdeal.τ).loc Cert.OutAbRefIdeal.main_arg6) ∧ r.2.mem ((c.tc : Thread Cert.OutAbRefIdeal.nD Cert.OutAbRefIdeal.τ).loc Cert.OutAbRefIdeal.main_arg7) = m ((c.tc : Thread Cert.OutAbRefIdeal.nD Cert.OutAbRefIdeal.τ).loc Cert.OutAbRefIdeal.main_arg7) ∧ r.2.mem ((c.tc : Thread Cert.OutAbRefIdeal.nD Cert.OutAbRefIdeal.τ).loc Cert.OutAbRefIdeal.main_arg8) = m ((c.tc : Thread Cert.OutAbRefIdeal.nD Cert.OutAbRefIdeal.τ).loc Cert.OutAbRefIdeal.main_arg8) ∧ r.2.mem ((c.tc : Thread Cert.OutAbRefIdeal.nD Cert.OutAbRefIdeal.τ).loc Cert.OutAbRefIdeal.main_arg9) = m ((c.tc : Thread Cert.OutAbRefIdeal.nD Cert.OutAbRefIdeal.τ).loc Cert.OutAbRefIdeal.main_arg9)) ∧ r.2.sem = fun _ => 0) :=
  (θ_run Cert.OutAbRefIdeal.defs _ _).mono (fun r h => ⟨fun c => (h c).2, sem_eq_zero_of_no_sems (by decide) r.2⟩)
    (Cert.OutAbRefIdeal.Value.run (F := Ideal) m ρ)

/-- The idealized kernel and the idealized reference end with the same array. -/
theorem algebraic : Cert.algebraic_OutAbIdeal_OutAbRefIdeal (hOutAbIdeal := Cert.OutAbIdeal.Gen.facts) (hOutAbRefIdeal := Cert.OutAbRefIdeal.Gen.facts) := by
  intro m ρ m' ρ' _ hagree
  refine ⟨fun c => resAb (m ((c.tc : Thread Cert.OutAbIdeal.nD Cert.OutAbIdeal.τ).loc Cert.OutAbIdeal.main_arg0)) (m ((c.tc : Thread Cert.OutAbIdeal.nD Cert.OutAbIdeal.τ).loc Cert.OutAbIdeal.main_arg1)) (m ((c.tc : Thread Cert.OutAbIdeal.nD Cert.OutAbIdeal.τ).loc Cert.OutAbIdeal.main_arg2)) (fun d : Fin 1024 => (m ((c.tc : Thread Cert.OutAbIdeal.nD Cert.OutAbIdeal.τ).loc Cert.OutAbIdeal.main_arg3) : (⟨1, ![1024]⟩ : Shape).Idx → EReal) (ix1 d)) (m ((c.tc : Thread Cert.OutAbIdeal.nD Cert.OutAbIdeal.τ).loc Cert.OutAbIdeal.main_arg4)) (m ((c.tc : Thread Cert.OutAbIdeal.nD Cert.OutAbIdeal.τ).loc Cert.OutAbIdeal.main_arg5)) (m ((c.tc : Thread Cert.OutAbIdeal.nD Cert.OutAbIdeal.τ).loc Cert.OutAbIdeal.main_arg6)) (m ((c.tc : Thread Cert.OutAbIdeal.nD Cert.OutAbIdeal.τ).loc Cert.OutAbIdeal.main_arg7)) (fun d : Fin 1024 => (m ((c.tc : Thread Cert.OutAbIdeal.nD Cert.OutAbIdeal.τ).loc Cert.OutAbIdeal.main_arg8) : (⟨2, ![1, 3072]⟩ : Shape).Idx → EReal) (ix2 0 ⟨2048 + d.val, by omega⟩)) (fun d : Fin 1024 => (m ((c.tc : Thread Cert.OutAbIdeal.nD Cert.OutAbIdeal.τ).loc Cert.OutAbIdeal.main_arg9) : (⟨1, ![1024]⟩ : Shape).Idx → EReal) (ix1 d)), ?_, ?_⟩
  · exact (θ_run Cert.OutAbIdeal.defs _ _).mono (fun r h c => ⟨(h c).1.trans (out0 m c), (h c).2⟩)
      (Cert.OutAbIdeal.Value.run_blocks (F := Ideal) m ρ)
  · refine (θ_run Cert.OutAbRefIdeal.defs _ _).mono (fun r h c => ?_) (Cert.OutAbRefIdeal.Value.run (F := Ideal) m' ρ')
    refine ⟨((h c).1.trans (Cert.OutAbRefIdeal.Read.val_main_v55_eq _ _)).trans ?_, (h c).2⟩
    show Cert.OutAbRefIdeal.Read.val_main_v55 (F := Ideal) (m' ((c.tc : Thread Cert.OutAbRefIdeal.nD Cert.OutAbRefIdeal.τ).loc Cert.OutAbRefIdeal.main_arg0)) (m' ((c.tc : Thread Cert.OutAbRefIdeal.nD Cert.OutAbRefIdeal.τ).loc Cert.OutAbRefIdeal.main_arg1)) (m' ((c.tc : Thread Cert.OutAbRefIdeal.nD Cert.OutAbRefIdeal.τ).loc Cert.OutAbRefIdeal.main_arg2)) (m' ((c.tc : Thread Cert.OutAbRefIdeal.nD Cert.OutAbRefIdeal.τ).loc Cert.OutAbRefIdeal.main_arg3)) (m' ((c.tc : Thread Cert.OutAbRefIdeal.nD Cert.OutAbRefIdeal.τ).loc Cert.OutAbRefIdeal.main_arg4)) (m' ((c.tc : Thread Cert.OutAbRefIdeal.nD Cert.OutAbRefIdeal.τ).loc Cert.OutAbRefIdeal.main_arg5)) (m' ((c.tc : Thread Cert.OutAbRefIdeal.nD Cert.OutAbRefIdeal.τ).loc Cert.OutAbRefIdeal.main_arg6)) (m' ((c.tc : Thread Cert.OutAbRefIdeal.nD Cert.OutAbRefIdeal.τ).loc Cert.OutAbRefIdeal.main_arg7)) (m' ((c.tc : Thread Cert.OutAbRefIdeal.nD Cert.OutAbRefIdeal.τ).loc Cert.OutAbRefIdeal.main_arg8)) (m' ((c.tc : Thread Cert.OutAbRefIdeal.nD Cert.OutAbRefIdeal.τ).loc Cert.OutAbRefIdeal.main_arg9)) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
    exact Cert.OutAbRefIdeal.Stages.res_eq _ _ _ _ _ _ _ _ _ _

end Cert.OutAbRuns
end
-- ==== Proof.OutCdArrays.lean ====
module
public import proofs.«01_k».proof.Proof.Gen.OutCdIdeal.Value
public import proofs.«01_k».proof.Proof.OutSpec
public import Idealize.ShloMosaic.Lib.Pipeline.ValueKit
public import Idealize.ShloMosaic.Lib.Pipeline.ReadBack
/-! What the result array of the output projection holds, over the operands of its call. -/
@[expose] public section
set_option maxRecDepth 16384
noncomputable section
open Idealize.ShloMosaic Idealize.ShloMosaic.TcCoe Idealize.SL.Sem
open Idealize.ShloMosaic.Pipeline (Dat)
namespace Cert.OutCdIdeal.Arrays
open Cert.OutCdIdeal Cert.OutCdIdeal.Gen Cert.Outputs
variable (m : (ℓ : Loc nD τ sig) → Buf (Elt Ideal) ℓ)

/-- The block of each window at a grid point. -/
theorem idx : ∀ t : Fin cfg0.N, win0_0.index t = ![t.val, 0] ∧ win0_1.index t = ![t.val, 0] ∧ win0_2.index t = ![0, 0] ∧ win0_3.index t = ![t.val, 0] ∧ win0_4.index t = ![0, 0, 0] ∧ win0_5.index t = ![0, 0] ∧ win0_6.index t = ![t.val, 0] :=
  (by decide +kernel : ∀ t : Fin grid0.N, _)

set_option maxHeartbeats 6400000 in
/-- The result array. -/
theorem arr6 (c : Dev nD) : (dats m 0 c).arrAt 6 cfg0.N
    = resCd (V m c main_arg0) (V m c main_arg1) (V m c main_v0) (V m c main_arg3)
      (fun n => (V m c main_v11 : S1x3x1024.Idx → EReal) (ix3 0 2 n)) (fun n => (V m c main_v12 : S1x1024.Idx → EReal) (ix2 0 n)) := by
  refine (dats m 0 c).arrAt_eq_of_covers 6 _ (by decide +kernel) fun t hf y => ?_
  blk_simp
  rw [after0_6]
  canon_tiles x h
  idx_vars x
  unfold resCd finish acc
  pointwise [k0_pay1]
  blk_point [iblk, idx t]
end Cert.OutCdIdeal.Arrays
end
-- ==== Proof.OutCdOperands.lean ====
module
public import proofs.«01_k».proof.Proof.Gen.OutCdIdeal.Value
public import proofs.«01_k».proof.Proof.Modulation
public import Idealize.ShloMosaic.Lib.Pipeline.ReadBack
/-! What the operands of the call of the output projection hold. -/
@[expose] public section
set_option maxRecDepth 16384
noncomputable section
open Idealize.ShloMosaic Idealize.ShloMosaic.TcCoe Idealize.SL.Sem
namespace Cert.OutCdIdeal.Operands
open Cert.OutCdIdeal Cert.OutCdIdeal.Gen Cert.Modulation
variable (m : (ℓ : Loc nD τ sig) → Buf (Elt Ideal) ℓ)

/-- The weights (`out`) are the argument. -/
theorem out_weights (c : Dev nD) : (V m c main_v0 : S2048x1024.Idx → EReal) = (m ((c : Thread nD τ).loc main_arg2) : S2048x1024.Idx → EReal) := by
  unfold V
  simp only [hostOps0, List.flatten_cons, List.flatten_nil, List.append_nil, List.cons_append, List.nil_append]
  after_results
  try rfl

/-- The argument as a row (`gain`), as computed. -/
theorem gain_term (c : Dev nD) : V m c main_v12
    = broadcastInDim S1x1024 ![1] bcast_S1024_S1x1024_1 (m ((c : Thread nD τ).loc main_arg5)) := by
  unfold V
  simp only [hostOps0, List.flatten_cons, List.flatten_nil, List.append_nil, List.cons_append, List.nil_append]
  after_results
  try rfl

/-- The row (`gain`) is the argument. -/
theorem gain (c : Dev nD) : (fun d => (V m c main_v12 : S1x1024.Idx → EReal) (ix2 0 d)) = fun d => (m ((c : Thread nD τ).loc main_arg5) : S1024.Idx → EReal) (ix1 d) := by
  funext d
  rw [gain_term]
  pointwise

/-- The row numbers 1, 0, 2. -/
def order : IVec S3 32 := fun i => lit0 (S3.rowMajor i)

/-- The modulation rows, as computed. -/
theorem mod_term (c : Dev nD) : V m c main_v11
    = Host.gather gather_S1x3x1024_S3x1_S1x3x1024_02_1_n_n_1_1_111024
        (Host.scatter scatter_S1x3x1024_S1_S1x1024_01_1_1_0 (FloatOps.addf (F := Ideal) (φ := .f32))
          (shapeCast S1x3x1024 (m ((c : Thread nD τ).loc main_arg4)) shapeCasts_S1x3072_S1x3x1024)
          (broadcastInDim S1 ![] bcast_S_S1 (constantI S_ 32 1#32))
          (broadcastInDim S1x1024 ![] bcast_S_S1x1024 (constant (F := Ideal) S_ .f32 0x3F800000#32)))
        (broadcastInDim S3x1 ![0] bcast_S3_S3x1_0 (select (cmpi .slt order (broadcastInDim S3 ![] bcast_S_S3 (constantI S_ 32 0#32)))
          (addi order (broadcastInDim S3 ![] bcast_S_S3 (constantI S_ 32 3#32))) order)) := by
  unfold V
  simp only [hostOps0, List.flatten_cons, List.flatten_nil, List.append_nil, List.cons_append, List.nil_append]
  after_results
  try rfl

/-- The row numbers, where a negative one would count from the end, are 1, 0, 2. -/
theorem order_at (r : Fin 3) : broadcastInDim S3x1 ![0] bcast_S3_S3x1_0 (select (cmpi .slt order (broadcastInDim S3 ![] bcast_S_S3 (constantI S_ 32 0#32)))
    (addi order (broadcastInDim S3 ![] bcast_S_S3 (constantI S_ 32 3#32))) order) (ix2 r 0) = BitVec.ofNat 32 ((![1, 0, 2] : Fin 3 → Fin 3) r).val := by
  match r with
  | ⟨0, _⟩ => rfl
  | ⟨1, _⟩ => rfl
  | ⟨2, _⟩ => rfl

/-- The third modulation row is the gate. -/
theorem mod_gate (c : Dev nD) : (fun d : Fin 1024 => (V m c main_v11 : S1x3x1024.Idx → EReal) (ix3 0 2 d))
    = fun d => (m ((c : Thread nD τ).loc main_arg4) : S1x3072.Idx → EReal) (ix2 0 ⟨2048 + d.val, by omega⟩) := by
  funext d
  rw [mod_term]
  refine (take_row _ _ _ 2 2 (order_at 2) 0 d).trans ?_
  refine (add_row _ _ _ _ (fun _ => rfl) _ 0 2 d).trans ?_
  rw [if_neg (by decide)]
  pointwise
end Cert.OutCdIdeal.Operands
end
-- ==== Proof.OutCdRef.lean ====
module
public import proofs.«01_k».proof.Proof.Gen.OutCdRefIdeal.Read
public import proofs.«01_k».proof.Proof.OutSpec
/-! What the reference of the output projection computes. -/
@[expose] public section
set_option maxRecDepth 16384
noncomputable section
open Idealize.ShloMosaic Idealize.ShloMosaic.TcCoe Idealize.SL.Sem
namespace Cert.OutCdRefIdeal.Stages
open Cert.OutCdRefIdeal Cert.OutCdRefIdeal.Gen Cert.OutCdRefIdeal.Read Cert.Outputs
variable (YA YB : FVec Ideal S8192x1024 .bf16) (W : FVec Ideal S2048x1024 .f32) (X : FVec Ideal S8192x1024 .f32) (M : FVec Ideal S1x3072 .f32) (G : FVec Ideal S1024 .f32)

/-- The first 1024 columns of the two branches side by side. -/
theorem left_at (a : Fin 8192) (j : Fin 1024) : val_main_v2 (F := Ideal) YA YB (ix2 a (Fin.castAdd 1024 j)) = (fun j => YA (ix2 a j)) j := by
  unfold val_main_v2
  pointwise [val_main_v0, val_main_v1]
  exact dif_pos j.isLt

/-- The last 1024 columns of the two branches side by side. -/
theorem right_at (a : Fin 8192) (j : Fin 1024) : val_main_v2 (F := Ideal) YA YB (ix2 a (Fin.natAdd 1024 j)) = YB (ix2 a j) := by
  unfold val_main_v2
  pointwise [val_main_v0, val_main_v1]
  refine (dif_neg (by simp)).trans ?_
  exact congrArg (fun k => YB (ix2 a k)) (Fin.ext (by simp))

/-- The two branches times the weights. -/
theorem acc_at (a : Fin 8192) (n : Fin 1024) : val_main_v3 (F := Ideal) YA YB W (ix2 a n) = acc (fun j => YA (ix2 a j)) (fun j => YB (ix2 a j)) W n := by
  unfold acc
  pointwise [val_main_v3]
  refine (Fin.sum_univ_add (a := 1024) (b := 1024) _).trans ?_
  refine congrArg₂ (· + ·) (Finset.sum_congr rfl fun j _ => ?_) (Finset.sum_congr rfl fun j _ => ?_)
  · exact congrArg₂ (· * ·) (left_at YA YB a j) rfl
  · exact congrArg₂ (· * ·) (right_at YA YB a j) rfl

/-- The result. -/
theorem res_eq : val_main_v22 (F := Ideal) YA YB W X M G
    = resCd YA YB W X (fun d => M (ix2 0 ⟨2048 + d.val, by omega⟩)) (fun d => G (ix1 d)) := by
  funext i
  idx_vars i
  unfold resCd finish
  pointwise [val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_cst, val_main_cst_0, val_main_cst_1]
  simp only [acc_at]
end Cert.OutCdRefIdeal.Stages
end
-- ==== Proof.OutCdRuns.lean ====
module
public import proofs.«01_k».proof.Defs
public import proofs.«01_k».proof.Proof.Gen.OutCdRefIdeal.Run
public import proofs.«01_k».proof.Proof.Gen.OutCdIdeal.Value
public import proofs.«01_k».proof.Proof.OutCdArrays
public import proofs.«01_k».proof.Proof.OutCdOperands
public import proofs.«01_k».proof.Proof.OutCdRef
public import Idealize.ShloMosaic.Lib.Claim
/-! The output projection: both idealized programs run and end with the same array. -/
@[expose] public section
set_option maxRecDepth 16384
noncomputable section
open Idealize.ShloMosaic Idealize.ShloMosaic.TcCoe Idealize.SL.Sem
namespace Cert.OutCdRuns
open Cert.Outputs

section
open Cert.OutCdIdeal Cert.OutCdIdeal.Gen
variable (m : (ℓ : Loc nD τ sig) → Buf (Elt Ideal) ℓ)

/-- The result array of the kernel. -/
theorem out0 (c : Dev nD) : (dats m 0 c).arrAt 6 cfg0.N
    = resCd (m ((c : Thread nD τ).loc main_arg0)) (m ((c : Thread nD τ).loc main_arg1)) (m ((c : Thread nD τ).loc main_arg2)) (m ((c : Thread nD τ).loc main_arg3)) (fun d : Fin 1024 => (m ((c : Thread nD τ).loc main_arg4) : (⟨2, ![1, 3072]⟩ : Shape).Idx → EReal) (ix2 0 ⟨2048 + d.val, by omega⟩)) (fun d : Fin 1024 => (m ((c : Thread nD τ).loc main_arg5) : (⟨1, ![1024]⟩ : Shape).Idx → EReal) (ix1 d)) := by
  refine (Arrays.arr6 m c).trans ?_
  rw [Operands.mod_gate m c, Operands.gain m c, Operands.out_weights m c, V_main_arg0 m c, V_main_arg1 m c, V_main_arg3 m c]
end

/-- The reference runs, its arguments end unchanged and every semaphore counter is zero. -/
theorem ref_frame (m : (ℓ : Loc Cert.OutCdRefIdeal.nD Cert.OutCdRefIdeal.τ Cert.OutCdRefIdeal.sig) → Buf (Elt Ideal) ℓ) (ρ : Dev Cert.OutCdRefIdeal.nD → PrngReg) :
    θ_run (Cert.OutCdRefIdeal.defs (F := Ideal)) (onTc (τ := Cert.OutCdRefIdeal.τ) (Cert.OutCdRefIdeal.main (F := Ideal))) ⟨m, fun _ => 0, ρ⟩
      (fun r => (∀ c : Dev Cert.OutCdRefIdeal.nD, r.2.mem ((c.tc : Thread Cert.OutCdRefIdeal.nD Cert.OutCdRefIdeal.τ).loc Cert.OutCdRefIdeal.main_arg0) = m ((c.tc : Thread Cert.OutCdRefIdeal.nD Cert.OutCdRefIdeal.τ).loc Cert.OutCdRefIdeal.main_arg0) ∧ r.2.mem ((c.tc : Thread Cert.OutCdRefIdeal.nD Cert.OutCdRefIdeal.τ).loc Cert.OutCdRefIdeal.main_arg1) = m ((c.tc : Thread Cert.OutCdRefIdeal.nD Cert.OutCdRefIdeal.τ).loc Cert.OutCdRefIdeal.main_arg1) ∧ r.2.mem ((c.tc : Thread Cert.OutCdRefIdeal.nD Cert.OutCdRefIdeal.τ).loc Cert.OutCdRefIdeal.main_arg2) = m ((c.tc : Thread Cert.OutCdRefIdeal.nD Cert.OutCdRefIdeal.τ).loc Cert.OutCdRefIdeal.main_arg2) ∧ r.2.mem ((c.tc : Thread Cert.OutCdRefIdeal.nD Cert.OutCdRefIdeal.τ).loc Cert.OutCdRefIdeal.main_arg3) = m ((c.tc : Thread Cert.OutCdRefIdeal.nD Cert.OutCdRefIdeal.τ).loc Cert.OutCdRefIdeal.main_arg3) ∧ r.2.mem ((c.tc : Thread Cert.OutCdRefIdeal.nD Cert.OutCdRefIdeal.τ).loc Cert.OutCdRefIdeal.main_arg4) = m ((c.tc : Thread Cert.OutCdRefIdeal.nD Cert.OutCdRefIdeal.τ).loc Cert.OutCdRefIdeal.main_arg4) ∧ r.2.mem ((c.tc : Thread Cert.OutCdRefIdeal.nD Cert.OutCdRefIdeal.τ).loc Cert.OutCdRefIdeal.main_arg5) = m ((c.tc : Thread Cert.OutCdRefIdeal.nD Cert.OutCdRefIdeal.τ).loc Cert.OutCdRefIdeal.main_arg5)) ∧ r.2.sem = fun _ => 0) :=
  (θ_run Cert.OutCdRefIdeal.defs _ _).mono (fun r h => ⟨fun c => (h c).2, sem_eq_zero_of_no_sems (by decide) r.2⟩)
    (Cert.OutCdRefIdeal.Value.run (F := Ideal) m ρ)

/-- The idealized kernel and the idealized reference end with the same array. -/
theorem algebraic : Cert.algebraic_OutCdIdeal_OutCdRefIdeal (hOutCdIdeal := Cert.OutCdIdeal.Gen.facts) (hOutCdRefIdeal := Cert.OutCdRefIdeal.Gen.facts) := by
  intro m ρ m' ρ' _ hagree
  refine ⟨fun c => resCd (m ((c.tc : Thread Cert.OutCdIdeal.nD Cert.OutCdIdeal.τ).loc Cert.OutCdIdeal.main_arg0)) (m ((c.tc : Thread Cert.OutCdIdeal.nD Cert.OutCdIdeal.τ).loc Cert.OutCdIdeal.main_arg1)) (m ((c.tc : Thread Cert.OutCdIdeal.nD Cert.OutCdIdeal.τ).loc Cert.OutCdIdeal.main_arg2)) (m ((c.tc : Thread Cert.OutCdIdeal.nD Cert.OutCdIdeal.τ).loc Cert.OutCdIdeal.main_arg3)) (fun d : Fin 1024 => (m ((c.tc : Thread Cert.OutCdIdeal.nD Cert.OutCdIdeal.τ).loc Cert.OutCdIdeal.main_arg4) : (⟨2, ![1, 3072]⟩ : Shape).Idx → EReal) (ix2 0 ⟨2048 + d.val, by omega⟩)) (fun d : Fin 1024 => (m ((c.tc : Thread Cert.OutCdIdeal.nD Cert.OutCdIdeal.τ).loc Cert.OutCdIdeal.main_arg5) : (⟨1, ![1024]⟩ : Shape).Idx → EReal) (ix1 d)), ?_, ?_⟩
  · exact (θ_run Cert.OutCdIdeal.defs _ _).mono (fun r h c => ⟨(h c).1.trans (out0 m c), (h c).2⟩)
      (Cert.OutCdIdeal.Value.run_blocks (F := Ideal) m ρ)
  · refine (θ_run Cert.OutCdRefIdeal.defs _ _).mono (fun r h c => ?_) (Cert.OutCdRefIdeal.Value.run (F := Ideal) m' ρ')
    refine ⟨((h c).1.trans (Cert.OutCdRefIdeal.Read.val_main_v22_eq _ _ _ _ _ _)).trans ?_, (h c).2⟩
    show Cert.OutCdRefIdeal.Read.val_main_v22 (F := Ideal) (m' ((c.tc : Thread Cert.OutCdRefIdeal.nD Cert.OutCdRefIdeal.τ).loc Cert.OutCdRefIdeal.main_arg0)) (m' ((c.tc : Thread Cert.OutCdRefIdeal.nD Cert.OutCdRefIdeal.τ).loc Cert.OutCdRefIdeal.main_arg1)) (m' ((c.tc : Thread Cert.OutCdRefIdeal.nD Cert.OutCdRefIdeal.τ).loc Cert.OutCdRefIdeal.main_arg2)) (m' ((c.tc : Thread Cert.OutCdRefIdeal.nD Cert.OutCdRefIdeal.τ).loc Cert.OutCdRefIdeal.main_arg3)) (m' ((c.tc : Thread Cert.OutCdRefIdeal.nD Cert.OutCdRefIdeal.τ).loc Cert.OutCdRefIdeal.main_arg4)) (m' ((c.tc : Thread Cert.OutCdRefIdeal.nD Cert.OutCdRefIdeal.τ).loc Cert.OutCdRefIdeal.main_arg5)) = _
    rw [(hagree c).1, (hagree c).2.1, (hagree c).2.2.1, (hagree c).2.2.2.1, (hagree c).2.2.2.2.1, (hagree c).2.2.2.2.2]
    exact Cert.OutCdRefIdeal.Stages.res_eq _ _ _ _ _ _

end Cert.OutCdRuns
end
-- ==== Proof.InSpec.lean ====
module
public import Idealize.ShloMosaic.Lib.Pointwise
/-! The input projection of a layer: each row divided by its root mean square, scaled, shifted, and multiplied with
the weights; written once over the arguments and once over the operands that the kernel is given. -/
@[expose] public section
set_option maxRecDepth 16384
noncomputable section
open Idealize.ShloMosaic
namespace Cert.Inputs

/-- The factor that divides row `a` by its root mean square. -/
def scaleOf (X : (⟨2, ![8192, 1024]⟩ : Shape).Idx → EReal) (a : Fin 8192) : EReal :=
  Ideal.rsqrt (Ideal.div (∑ e : Fin 1024, X (ix2 a e) * X (ix2 a e)) (Ideal.ofBits .f32 0x44800000#32) + Ideal.ofBits .f32 0x358637BD#32)

/-- Entry `d` of the normalised, scaled and shifted row `a`. -/
def hid (X : (⟨2, ![8192, 1024]⟩ : Shape).Idx → EReal) (M : (⟨2, ![1, 3072]⟩ : Shape).Idx → EReal) (G : (⟨1, ![1024]⟩ : Shape).Idx → EReal)
    (a : Fin 8192) (d : Fin 1024) : EReal :=
  X (ix2 a d) * scaleOf X a * G (ix1 d) * (1 + M (ix2 0 ⟨1024 + d.val, by omega⟩)) + M (ix2 0 ⟨d.val, by omega⟩)

/-- Entry `j` of row `a` times the weights. -/
def proj {n : ℕ} (X : (⟨2, ![8192, 1024]⟩ : Shape).Idx → EReal) (M : (⟨2, ![1, 3072]⟩ : Shape).Idx → EReal)
    (G : (⟨1, ![1024]⟩ : Shape).Idx → EReal) (W : (⟨2, ![1024, n]⟩ : Shape).Idx → EReal) (a : Fin 8192) (j : Fin n) : EReal :=
  ∑ d : Fin 1024, hid X M G a d * W (ix2 d j)

/-- The same entry of the row over the operands of the call: two modulation rows (scale, then shift) and the gain as a row. -/
def hidOp (X : (⟨2, ![8192, 1024]⟩ : Shape).Idx → EReal) (Mo : (⟨3, ![1, 2, 1024]⟩ : Shape).Idx → EReal)
    (Go : (⟨2, ![1, 1024]⟩ : Shape).Idx → EReal) (a : Fin 8192) (d : Fin 1024) : EReal :=
  X (ix2 a d) * scaleOf X a * Go (ix2 0 d) * Mo (ix3 0 0 d) + Mo (ix3 0 1 d)

/-- Entry `j` of row `a` times the weights, over the operands. -/
def projOp {n : ℕ} (X : (⟨2, ![8192, 1024]⟩ : Shape).Idx → EReal) (Mo : (⟨3, ![1, 2, 1024]⟩ : Shape).Idx → EReal)
    (Go : (⟨2, ![1, 1024]⟩ : Shape).Idx → EReal) (W : (⟨2, ![1024, n]⟩ : Shape).Idx → EReal) (a : Fin 8192) (j : Fin n) : EReal :=
  ∑ d : Fin 1024, hidOp X Mo Go a d * W (ix2 d j)

/-- Gate `j` of row `a`, over the operands: the gate weights are transposed and stand first. -/
def gateOp {n : ℕ} (X : (⟨2, ![8192, 1024]⟩ : Shape).Idx → EReal) (Mo : (⟨3, ![1, 2, 1024]⟩ : Shape).Idx → EReal)
    (Go : (⟨2, ![1, 1024]⟩ : Shape).Idx → EReal) (W : (⟨2, ![n, 1024]⟩ : Shape).Idx → EReal) (a : Fin 8192) (j : Fin n) : EReal :=
  ∑ d : Fin 1024, W (ix2 j d) * hidOp X Mo Go a d

/-- Where the operands of the call hold what the arguments hold, the two rows agree. -/
theorem hidOp_eq (X : (⟨2, ![8192, 1024]⟩ : Shape).Idx → EReal) (M : (⟨2, ![1, 3072]⟩ : Shape).Idx → EReal) (G : (⟨1, ![1024]⟩ : Shape).Idx → EReal)
    (Mo : (⟨3, ![1, 2, 1024]⟩ : Shape).Idx → EReal) (Go : (⟨2, ![1, 1024]⟩ : Shape).Idx → EReal)
    (h0 : ∀ d, Mo (ix3 0 0 d) = M (ix2 0 ⟨1024 + d.val, by omega⟩) + 1) (h1 : ∀ d, Mo (ix3 0 1 d) = M (ix2 0 ⟨d.val, by omega⟩))
    (hg : ∀ d, Go (ix2 0 d) = G (ix1 d)) (a : Fin 8192) (d : Fin 1024) : hidOp X Mo Go a d = hid X M G a d := by
  unfold hidOp hid
  rw [h0, h1, hg, add_comm (M _) 1]

/-- Columns `off, off + 1, …` of the projection. -/
def cols {n k : ℕ} (off : ℕ) (h : off + k ≤ n) (X : (⟨2, ![8192, 1024]⟩ : Shape).Idx → EReal) (M : (⟨2, ![1, 3072]⟩ : Shape).Idx → EReal)
    (G : (⟨1, ![1024]⟩ : Shape).Idx → EReal) (W : (⟨2, ![1024, n]⟩ : Shape).Idx → EReal) : (⟨2, ![8192, k]⟩ : Shape).Idx → EReal := fun i =>
  proj X M G W (i 0) ⟨off + (i 1).val, by
    have h1 : (i 1).val < k := (i 1).isLt
    omega⟩

/-- The same columns as rows. -/
def colsT {n k : ℕ} (off : ℕ) (h : off + k ≤ n) (X : (⟨2, ![8192, 1024]⟩ : Shape).Idx → EReal) (M : (⟨2, ![1, 3072]⟩ : Shape).Idx → EReal)
    (G : (⟨1, ![1024]⟩ : Shape).Idx → EReal) (W : (⟨2, ![1024, n]⟩ : Shape).Idx → EReal) : (⟨2, ![k, 8192]⟩ : Shape).Idx → EReal := fun i =>
  proj X M G W (i 1) ⟨off + (i 0).val, by
    have h1 : (i 0).val < k := (i 0).isLt
    omega⟩

/-- The first 1024 columns with the position within a window of 256 as the row, the windows side by side. -/
def posMajor {n : ℕ} (h : 1024 ≤ n) (X : (⟨2, ![8192, 1024]⟩ : Shape).Idx → EReal) (M : (⟨2, ![1, 3072]⟩ : Shape).Idx → EReal)
    (G : (⟨1, ![1024]⟩ : Shape).Idx → EReal) (W : (⟨2, ![1024, n]⟩ : Shape).Idx → EReal) : (⟨2, ![256, 32768]⟩ : Shape).Idx → EReal := fun i =>
  proj X M G W ⟨256 * ((i 1).val / 1024) + (i 0).val, by
    have h0 : (i 0).val < 256 := (i 0).isLt
    have h1 : (i 1).val < 32768 := (i 1).isLt
    omega⟩ ⟨(i 1).val % 1024, lt_of_lt_of_le (Nat.mod_lt _ (by decide)) h⟩

/-- The projection over the operands is the projection, where the operands hold what the arguments hold. -/
theorem projOp_eq {n k : ℕ} (X : (⟨2, ![8192, 1024]⟩ : Shape).Idx → EReal) (M : (⟨2, ![1, 3072]⟩ : Shape).Idx → EReal) (G : (⟨1, ![1024]⟩ : Shape).Idx → EReal)
    (W : (⟨2, ![1024, n]⟩ : Shape).Idx → EReal) (Xo : (⟨2, ![8192, 1024]⟩ : Shape).Idx → EReal)
    (Mo : (⟨3, ![1, 2, 1024]⟩ : Shape).Idx → EReal) (Go : (⟨2, ![1, 1024]⟩ : Shape).Idx → EReal) (Wo : (⟨2, ![1024, k]⟩ : Shape).Idx → EReal)
    (hx : Xo = X) (h0 : ∀ d, Mo (ix3 0 0 d) = M (ix2 0 ⟨1024 + d.val, by omega⟩) + 1) (h1 : ∀ d, Mo (ix3 0 1 d) = M (ix2 0 ⟨d.val, by omega⟩))
    (hg : ∀ d, Go (ix2 0 d) = G (ix1 d)) (a : Fin 8192) (i : Fin k) (j : Fin n) (hw : ∀ d, Wo (ix2 d i) = W (ix2 d j)) :
    projOp Xo Mo Go Wo a i = proj X M G W a j := by
  subst hx
  exact Finset.sum_congr rfl fun d _ => congrArg₂ (· * ·) (hidOp_eq _ M G Mo Go h0 h1 hg a d) (hw d)

/-- The gates over the operands are columns of the projection, where the operands hold what the arguments hold. -/
theorem gateOp_eq {n k : ℕ} (X : (⟨2, ![8192, 1024]⟩ : Shape).Idx → EReal) (M : (⟨2, ![1, 3072]⟩ : Shape).Idx → EReal) (G : (⟨1, ![1024]⟩ : Shape).Idx → EReal)
    (W : (⟨2, ![1024, n]⟩ : Shape).Idx → EReal) (Xo : (⟨2, ![8192, 1024]⟩ : Shape).Idx → EReal)
    (Mo : (⟨3, ![1, 2, 1024]⟩ : Shape).Idx → EReal) (Go : (⟨2, ![1, 1024]⟩ : Shape).Idx → EReal) (Wo : (⟨2, ![k, 1024]⟩ : Shape).Idx → EReal)
    (hx : Xo = X) (h0 : ∀ d, Mo (ix3 0 0 d) = M (ix2 0 ⟨1024 + d.val, by omega⟩) + 1) (h1 : ∀ d, Mo (ix3 0 1 d) = M (ix2 0 ⟨d.val, by omega⟩))
    (hg : ∀ d, Go (ix2 0 d) = G (ix1 d)) (a : Fin 8192) (i : Fin k) (j : Fin n) (hw : ∀ d, Wo (ix2 i d) = W (ix2 d j)) :
    gateOp Xo Mo Go Wo a i = proj X M G W a j := by
  subst hx
  refine Finset.sum_congr rfl fun d _ => ?_
  rw [hidOp_eq _ M G Mo Go h0 h1 hg a d, hw d, mul_comm]

end Cert.Inputs
end
-- ==== Proof.InAbArrays.lean ====
module
public import proofs.«01_k».proof.Proof.Gen.InAbIdeal.Value
public import proofs.«01_k».proof.Proof.InSpec
public import Idealize.ShloMosaic.Lib.Pipeline.ValueKit
public import Idealize.ShloMosaic.Lib.Pipeline.ReadBack
/-! What the result arrays of the first input projection hold, over the operands of its call. -/
@[expose] public section
set_option maxRecDepth 16384
noncomputable section
open Idealize.ShloMosaic Idealize.ShloMosaic.TcCoe Idealize.SL.Sem
open Idealize.ShloMosaic.Pipeline (Dat)
namespace Cert.InAbIdeal.Arrays
open Cert.InAbIdeal Cert.InAbIdeal.Gen Cert.Inputs
variable (m : (ℓ : Loc nD τ sig) → Buf (Elt Ideal) ℓ)

/-- The block of each window at a grid point. -/
theorem idx : ∀ t : Fin cfg0.N, win0_0.index t = ![t.val, 0] ∧ win0_1.index t = ![0, 0, 0] ∧ win0_2.index t = ![0, 0]
    ∧ win0_3.index t = ![0, 0] ∧ win0_4.index t = ![0, 0] ∧ win0_5.index t = ![0, t.val] ∧ win0_6.index t = ![t.val, 0]
    ∧ win0_7.index t = ![t.val, 0] ∧ win0_8.index t = ![0, t.val] :=
  (by decide +kernel : ∀ t : Fin grid0.N, _)

/-- Row `a` times column `j` of the padded weights. -/
def prod (c : Dev nD) (a : Fin 8192) (j : Fin 6272) : EReal :=
  projOp (V m c main_arg0) (V m c main_v16) (V m c main_v17) (V m c main_v1) a j

/-- Gate column `j` times row `a`. -/
def gate (c : Dev nD) (a : Fin 8192) (j : Fin 16) : EReal :=
  gateOp (V m c main_arg0) (V m c main_v16) (V m c main_v17) (V m c main_v4) a j

set_option maxHeartbeats 3200000 in
/-- The first result array: the first 1024 columns, position major. -/
theorem arr5 (c : Dev nD) : (dats m 0 c).arrAt 5 cfg0.N
    = fun i : S256x32768.Idx => prod m c ⟨256 * ((i 1).val / 1024) + (i 0).val, by
        have h0 : (i 0).val < 256 := (i 0).isLt
        have h1 : (i 1).val < 32768 := (i 1).isLt
        omega⟩ ⟨(i 1).val % 1024, lt_of_lt_of_le (Nat.mod_lt _ (by decide)) (by decide)⟩ := by
  refine (dats m 0 c).arrAt_eq_of_covers 5 _ (by decide +kernel) fun t hf y => ?_
  blk_simp
  rw [after0_5]
  canon_tiles x h
  · idx_vars x
    unfold prod projOp hidOp scaleOf
    pointwise [k0_pay9, k0_pay6, k0_pay7]
    blk_point [iblk, idx t]

set_option maxHeartbeats 3200000 in
/-- The result array that holds the next 4096 columns. -/
theorem arr6 (c : Dev nD) : (dats m 0 c).arrAt 6 cfg0.N
    = fun i : S8192x4096.Idx => prod m c (i 0) ⟨1024 + (i 1).val, by
        have h1 : (i 1).val < 4096 := (i 1).isLt
        omega⟩ := by
  refine (dats m 0 c).arrAt_eq_of_covers 6 _ (by decide +kernel) fun t hf y => ?_
  blk_simp
  rw [after0_6]
  canon_tiles x h
  · idx_vars x
    unfold prod projOp hidOp scaleOf
    pointwise [k0_pay9, k0_pay6, k0_pay3]
    blk_point [iblk, idx t]
  · idx_vars x
    unfold prod projOp hidOp scaleOf
    pointwise [k0_pay9, k0_pay6, k0_pay2]
    blk_point [iblk, idx t]
  · idx_vars x
    unfold prod projOp hidOp scaleOf
    pointwise [k0_pay9, k0_pay6, k0_pay1]
    blk_point [iblk, idx t]
  · idx_vars x
    unfold prod projOp hidOp scaleOf
    pointwise [k0_pay9, k0_pay6, k0_pay8]
    blk_point [iblk, idx t]

set_option maxHeartbeats 3200000 in
/-- The result array that holds the last 1024 columns. -/
theorem arr7 (c : Dev nD) : (dats m 0 c).arrAt 7 cfg0.N
    = fun i : S8192x1024.Idx => prod m c (i 0) ⟨5136 + (i 1).val, by
        have h1 : (i 1).val < 1024 := (i 1).isLt
        omega⟩ := by
  refine (dats m 0 c).arrAt_eq_of_covers 7 _ (by decide +kernel) fun t hf y => ?_
  blk_simp
  rw [after0_7]
  canon_tiles x h
  · idx_vars x
    unfold prod projOp hidOp scaleOf
    pointwise [k0_pay9, k0_pay6, k0_pay4]
    blk_point [iblk, idx t]

set_option maxHeartbeats 3200000 in
/-- The result array that holds the gate columns. -/
theorem arr8 (c : Dev nD) : (dats m 0 c).arrAt 8 cfg0.N
    = fun i : S16x8192.Idx => gate m c (i 1) (i 0) := by
  refine (dats m 0 c).arrAt_eq_of_covers 8 _ (by decide +kernel) fun t hf y => ?_
  blk_simp
  rw [after0_8]
  canon_tiles x h
  · idx_vars x
    unfold gate gateOp hidOp scaleOf
    pointwise [k0_pay9, k0_pay6, k0_pay5]
    blk_point [iblk, idx t]
end Cert.InAbIdeal.Arrays
end
-- ==== Proof.InAbOperands.lean ====
module
public import proofs.«01_k».proof.Proof.Gen.InAbIdeal.Value
public import proofs.«01_k».proof.Proof.Modulation
public import Idealize.ShloMosaic.Lib.Pipeline.ReadBack
/-! What the operands of the call of the first input projection hold. -/
@[expose] public section
set_option maxRecDepth 16384
noncomputable section
open Idealize.ShloMosaic Idealize.ShloMosaic.TcCoe Idealize.SL.Sem
open Idealize.ShloMosaic.Pipeline (Dat)
namespace Cert.InAbIdeal.Operands
open Cert.InAbIdeal Cert.InAbIdeal.Gen Cert.Modulation
variable (m : (ℓ : Loc nD τ sig) → Buf (Elt Ideal) ℓ)

/-- The padded weights, as computed. -/
theorem weights_term (c : Dev nD) : V m c main_v1
    = pad S1024x6272 ![0, 0] ![0, 112] ![0, 0] (truncf (F := Ideal) .bf16 (m ((c : Thread nD τ).loc main_arg3)) bitsLt_bf16_f32)
        (sitofp (F := Ideal) .bf16 (constantI S_ 32 0#32)) pads_S1024x6160_S1024x6272_000_01120 h_S_ := by
  unfold V
  simp only [hostOps0, hostOps0_1, hostOps0_2, List.flatten_cons, List.flatten_nil, List.append_nil, List.cons_append, List.nil_append]
  after_results
  try rfl

/-- The gate columns, as computed. -/
theorem gates_term (c : Dev nD) : V m c main_v4
    = truncf (F := Ideal) .bf16 (transpose S16x1024 [1, 0] (extractStridedSlice S1024x16 ![0, 5120] (m ((c : Thread nD τ).loc main_arg3))
        slices_S1024x6160_S1024x16_0_5120) transposes_S1024x16_S16x1024_1_0) bitsLt_bf16_f32 := by
  unfold V
  simp only [hostOps0, hostOps0_1, hostOps0_2, List.flatten_cons, List.flatten_nil, List.append_nil, List.cons_append, List.nil_append]
  after_results
  try rfl

/-- The gain as a row, as computed. -/
theorem gain_term (c : Dev nD) : V m c main_v17
    = broadcastInDim S1x1024 ![1] bcast_S1024_S1x1024_1 (m ((c : Thread nD τ).loc main_arg2)) := by
  unfold V
  simp only [hostOps0, hostOps0_1, hostOps0_2, List.flatten_cons, List.flatten_nil, List.append_nil, List.cons_append, List.nil_append]
  after_results
  try rfl

/-- The row numbers 1, 0, 2. -/
def order : IVec S3 32 := fun i => lit0 (S3.rowMajor i)

/-- The two modulation rows, as computed. -/
theorem mod_term (c : Dev nD) : V m c main_v16
    = extractStridedSlice S1x2x1024 ![0, 0, 0] (Host.gather gather_S1x3x1024_S3x1_S1x3x1024_02_1_n_n_1_1_111024
        (Host.scatter scatter_S1x3x1024_S1_S1x1024_01_1_1_0 (FloatOps.addf (F := Ideal) (φ := .f32))
          (shapeCast S1x3x1024 (m ((c : Thread nD τ).loc main_arg1)) shapeCasts_S1x3072_S1x3x1024)
          (broadcastInDim S1 ![] bcast_S_S1 (constantI S_ 32 1#32))
          (broadcastInDim S1x1024 ![] bcast_S_S1x1024 (constant (F := Ideal) S_ .f32 0x3F800000#32)))
        (broadcastInDim S3x1 ![0] bcast_S3_S3x1_0 (select (cmpi .slt order (broadcastInDim S3 ![] bcast_S_S3 (constantI S_ 32 0#32)))
          (addi order (broadcastInDim S3 ![] bcast_S_S3 (constantI S_ 32 3#32))) order)))
        slices_S1x3x1024_S1x2x1024_0_0_0 := by
  unfold V
  simp only [hostOps0, hostOps0_1, hostOps0_2, List.flatten_cons, List.flatten_nil, List.append_nil, List.cons_append, List.nil_append]
  after_results
  try rfl

/-- The weights are the first columns of the padded weights. -/
theorem weights (c : Dev nD) (d : Fin 1024) (j : Fin 6272) (hj : j.val < 6160) :
    (V m c main_v1 : S1024x6272.Idx → EReal) (ix2 d j) = (m ((c : Thread nD τ).loc main_arg3) : S1024x6160.Idx → EReal) (ix2 d ⟨j.val, hj⟩) := by
  rw [weights_term]
  pointwise
  refine dif_pos fun a => ?_
  match a with
  | ⟨0, _⟩ => exact ⟨Nat.zero_le _, Nat.mod_one _, by show (d.val - 0) / (0 + 1) < 1024; omega⟩
  | ⟨1, _⟩ => exact ⟨Nat.zero_le _, Nat.mod_one _, by show (j.val - 0) / (0 + 1) < 6160; omega⟩

/-- The gate columns are columns of the weights. -/
theorem gates (c : Dev nD) (d : Fin 1024) (j : Fin 16) : (V m c main_v4 : S16x1024.Idx → EReal) (ix2 j d)
    = (m ((c : Thread nD τ).loc main_arg3) : S1024x6160.Idx → EReal) (ix2 d ⟨5120 + j.val, by omega⟩) := by
  rw [gates_term]
  pointwise

/-- The gain row is the gain. -/
theorem gain (c : Dev nD) (d : Fin 1024) : (V m c main_v17 : S1x1024.Idx → EReal) (ix2 0 d)
    = (m ((c : Thread nD τ).loc main_arg2) : S1024.Idx → EReal) (ix1 d) := by
  rw [gain_term]
  pointwise

/-- The first two of three rows. -/
theorem two_rows (x : S1x3x1024.Idx → EReal) (r : Fin 2) (d : Fin 1024) :
    extractStridedSlice S1x2x1024 ![0, 0, 0] x slices_S1x3x1024_S1x2x1024_0_0_0 (ix3 0 r d) = x (ix3 0 ⟨r.val, by omega⟩ d) := by
  pointwise

/-- The row numbers, where a negative one would count from the end, are 1, 0, 2. -/
theorem order_at (r : Fin 3) : broadcastInDim S3x1 ![0] bcast_S3_S3x1_0 (select (cmpi .slt order (broadcastInDim S3 ![] bcast_S_S3 (constantI S_ 32 0#32)))
    (addi order (broadcastInDim S3 ![] bcast_S_S3 (constantI S_ 32 3#32))) order) (ix2 r 0) = BitVec.ofNat 32 ((![1, 0, 2] : Fin 3 → Fin 3) r).val := by
  match r with
  | ⟨0, _⟩ => rfl
  | ⟨1, _⟩ => rfl
  | ⟨2, _⟩ => rfl

/-- The first modulation row is the scale plus one. -/
theorem mod_scale (c : Dev nD) (M : S1x3072.Idx → EReal) (hM : m ((c : Thread nD τ).loc main_arg1) = M) (d : Fin 1024) :
    (V m c main_v16 : S1x2x1024.Idx → EReal) (ix3 0 0 d) = M (ix2 0 ⟨1024 + d.val, by omega⟩) + 1 := by
  subst hM
  rw [mod_term, two_rows]
  refine (take_row _ _ _ 0 1 (order_at 0) 0 d).trans ?_
  refine (add_row _ _ _ _ (fun _ => rfl) _ 0 1 d).trans ?_
  rw [if_pos rfl]
  pointwise

/-- The second modulation row is the shift. -/
theorem mod_shift (c : Dev nD) (d : Fin 1024) : (V m c main_v16 : S1x2x1024.Idx → EReal) (ix3 0 1 d)
    = (m ((c : Thread nD τ).loc main_arg1) : S1x3072.Idx → EReal) (ix2 0 ⟨d.val, by omega⟩) := by
  rw [mod_term, two_rows]
  refine (take_row _ _ _ 1 0 (order_at 1) 0 d).trans ?_
  refine (add_row _ _ _ _ (fun _ => rfl) _ 0 0 d).trans ?_
  rw [if_neg (by decide)]
  pointwise
end Cert.InAbIdeal.Operands
end
-- ==== Proof.InAbRef.lean ====
module
public import proofs.«01_k».proof.Proof.Gen.InAbRefIdeal.Read
public import proofs.«01_k».proof.Proof.InSpec
public import Idealize.ShloMosaic.Lib.Pointwise
/-! What the reference of the first input projection computes. -/
@[expose] public section
set_option maxRecDepth 16384
noncomputable section
open Idealize.ShloMosaic Idealize.ShloMosaic.TcCoe Idealize.SL.Sem
namespace Cert.InAbRefIdeal.Stages
open Cert.InAbRefIdeal Cert.InAbRefIdeal.Gen Cert.InAbRefIdeal.Read Cert.Inputs
variable (X : FVec Ideal S8192x1024 .f32) (M : FVec Ideal S1x3072 .f32) (G : FVec Ideal S1024 .f32) (W : FVec Ideal S1024x6160 .f32)

/-- The normalised, scaled and shifted rows. -/
theorem hid_at (a : Fin 8192) (d : Fin 1024) : val_main_v21 (F := Ideal) X M G (ix2 a d) = hid X M G a d := by
  unfold hid scaleOf
  pointwise [val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_cst_2, val_main_v16, val_main_v17, val_main_v18, val_main_v19, val_main_v20, val_main_v21]

/-- The rows times the weights. -/
theorem proj_at (a : Fin 8192) (j : Fin 6160) : val_main_v22 (F := Ideal) X M G W (ix2 a j) = proj X M G W a j := by
  unfold proj
  pointwise [val_main_v22]
  exact Finset.sum_congr rfl fun d _ => congrArg (· * _) (hid_at X M G a d)

/-- The first 1024 columns, position major. -/
theorem u_eq : val_main_v26 (F := Ideal) X M G W = posMajor (by decide) X M G W := by
  funext i
  idx_vars i
  unfold posMajor
  pointwise [val_main_v26, val_main_v25, val_main_v24, val_main_v23]
  refine (proj_at X M G W _ _).trans ?_
  refine congrArg₂ (proj X M G W) (Fin.ext ?_) (Fin.ext ?_)
  · show _ = 256 * (_ / 1024) + _
    simp only []
    omega
  · show _ = _ % 1024
    simp only []

/-- The next 4096 columns. -/
theorem main_eq : val_main_v27 (F := Ideal) X M G W = cols 1024 (by decide) X M G W := by
  funext i
  idx_vars i
  unfold cols
  pointwise [val_main_v27]
  exact proj_at X M G W _ _

/-- The last 1024 columns. -/
theorem z_eq : val_main_v28 (F := Ideal) X M G W = cols 5136 (by decide) X M G W := by
  funext i
  idx_vars i
  unfold cols
  pointwise [val_main_v28]
  exact proj_at X M G W _ _

/-- The gate columns. -/
theorem gates_eq : val_main_v30 (F := Ideal) X M G W = colsT 5120 (by decide) X M G W := by
  funext i
  idx_vars i
  unfold colsT
  pointwise [val_main_v30, val_main_v29]
  exact proj_at X M G W _ _
end Cert.InAbRefIdeal.Stages
end
-- ==== Proof.InAbRuns.lean ====
module
public import proofs.«01_k».proof.Defs
public import proofs.«01_k».proof.Proof.Gen.InAbRefIdeal.Run
public import proofs.«01_k».proof.Proof.Gen.InAbIdeal.Value
public import proofs.«01_k».proof.Proof.InAbArrays
public import proofs.«01_k».proof.Proof.InAbOperands
public import proofs.«01_k».proof.Proof.InAbRef
public import Idealize.ShloMosaic.Lib.Claim
/-! The first input projection: both idealized programs run and end with the same arrays. -/
@[expose] public section
set_option maxRecDepth 16384
noncomputable section
open Idealize.ShloMosaic Idealize.ShloMosaic.TcCoe Idealize.SL.Sem
namespace Cert.InAbRuns
open Cert.Inputs

section
open Cert.InAbIdeal Cert.InAbIdeal.Gen
variable (m : (ℓ : Loc nD τ sig) → Buf (Elt Ideal) ℓ)

/-- A column of the product over the operands is a column of the projection. -/
theorem prod_eq (c : Dev nD) (a : Fin 8192) (j : Fin 6272) (i : Fin 6160) (h : j.val = i.val) :
    Arrays.prod m c a j = proj (m ((c : Thread nD τ).loc main_arg0)) (m ((c : Thread nD τ).loc main_arg1)) (m ((c : Thread nD τ).loc main_arg2)) (m ((c : Thread nD τ).loc main_arg3)) a i := by
  unfold Arrays.prod
  refine projOp_eq _ _ _ _ _ _ _ _ (V_main_arg0 m c) (Operands.mod_scale m c _ rfl) (Operands.mod_shift m c) (Operands.gain m c) a j i fun d => ?_
  refine (Operands.weights m c d j (by omega)).trans ?_
  exact congrArg _ (congrArg (ix2 d) (Fin.ext h))

/-- A gate over the operands is a column of the projection. -/
theorem gate_eq (c : Dev nD) (a : Fin 8192) (j : Fin 16) (i : Fin 6160) (h : 5120 + j.val = i.val) :
    Arrays.gate m c a j = proj (m ((c : Thread nD τ).loc main_arg0)) (m ((c : Thread nD τ).loc main_arg1)) (m ((c : Thread nD τ).loc main_arg2)) (m ((c : Thread nD τ).loc main_arg3)) a i := by
  unfold Arrays.gate
  refine gateOp_eq _ _ _ _ _ _ _ _ (V_main_arg0 m c) (Operands.mod_scale m c _ rfl) (Operands.mod_shift m c) (Operands.gain m c) a j i fun d => ?_
  refine (Operands.gates m c d j).trans ?_
  exact congrArg _ (congrArg (ix2 d) (Fin.ext h))

/-- Result array 1 of the kernel. -/
theorem out0 (c : Dev nD) : (dats m 0 c).arrAt 5 cfg0.N
    = posMajor (by decide) (m ((c : Thread nD τ).loc main_arg0)) (m ((c : Thread nD τ).loc main_arg1)) (m ((c : Thread nD τ).loc main_arg2)) (m ((c : Thread nD τ).loc main_arg3)) :=
  (Arrays.arr5 m c).trans (funext fun i => prod_eq m c _ _ _ rfl)

/-- Result array 2 of the kernel. -/
theorem out1 (c : Dev nD) : (dats m 0 c).arrAt 6 cfg0.N
    = cols 1024 (by decide) (m ((c : Thread nD τ).loc main_arg0)) (m ((c : Thread nD τ).loc main_arg1)) (m ((c : Thread nD τ).loc main_arg2)) (m ((c : Thread nD τ).loc main_arg3)) :=
  (Arrays.arr6 m c).trans (funext fun i => prod_eq m c _ _ _ rfl)

/-- Result array 3 of the kernel. -/
theorem out2 (c : Dev nD) : (dats m 0 c).arrAt 7 cfg0.N
    = cols 5136 (by decide) (m ((c : Thread nD τ).loc main_arg0)) (m ((c : Thread nD τ).loc main_arg1)) (m ((c : Thread nD τ).loc main_arg2)) (m ((c : Thread nD τ).loc main_arg3)) :=
  (Arrays.arr7 m c).trans (funext fun i => prod_eq m c _ _ _ rfl)

/-- Result array 4 of the kernel. -/
theorem out3 (c : Dev nD) : (dats m 0 c).arrAt 8 cfg0.N
    = colsT 5120 (by decide) (m ((c : Thread nD τ).loc main_arg0)) (m ((c : Thread nD τ).loc main_arg1)) (m ((c : Thread nD τ).loc main_arg2)) (m ((c : Thread nD τ).loc main_arg3)) :=
  (Arrays.arr8 m c).trans (funext fun i => gate_eq m c _ _ _ rfl)
end

/-- The reference runs, its arguments end unchanged and every semaphore counter is zero. -/
theorem ref_frame (m : (ℓ : Loc Cert.InAbRefIdeal.nD Cert.InAbRefIdeal.τ Cert.InAbRefIdeal.sig) → Buf (Elt Ideal) ℓ) (ρ : Dev Cert.InAbRefIdeal.nD → PrngReg) :
    θ_run (Cert.InAbRefIdeal.defs (F := Ideal)) (onTc (τ := Cert.InAbRefIdeal.τ) (Cert.InAbRefIdeal.main (F := Ideal))) ⟨m, fun _ => 0, ρ⟩
      (fun r => (∀ c : Dev Cert.InAbRefIdeal.nD, r.2.mem ((c.tc : Thread Cert.InAbRefIdeal.nD Cert.InAbRefIdeal.τ).loc Cert.InAbRefIdeal.main_arg0) = m ((c.tc : Thread Cert.InAbRefIdeal.nD Cert.InAbRefIdeal.τ).loc Cert.InAbRefIdeal.main_arg0) ∧ r.2.mem ((c.tc : Thread Cert.InAbRefIdeal.nD Cert.InAbRefIdeal.τ).loc Cert.InAbRefIdeal.main_arg1) = m ((c.tc : Thread Cert.InAbRefIdeal.nD Cert.InAbRefIdeal.τ).loc Cert.InAbRefIdeal.main_arg1) ∧ r.2.mem ((c.tc : Thread Cert.InAbRefIdeal.nD Cert.InAbRefIdeal.τ).loc Cert.InAbRefIdeal.main_arg2) = m ((c.tc : Thread Cert.InAbRefIdeal.nD Cert.InAbRefIdeal.τ).loc Cert.InAbRefIdeal.main_arg2) ∧ r.2.mem ((c.tc : Thread Cert.InAbRefIdeal.nD Cert.InAbRefIdeal.τ).loc Cert.InAbRefIdeal.main_arg3) = m ((c.tc : Thread Cert.InAbRefIdeal.nD Cert.InAbRefIdeal.τ).loc Cert.InAbRefIdeal.main_arg3)) ∧ r.2.sem = fun _ => 0) :=
  (θ_run Cert.InAbRefIdeal.defs _ _).mono (fun r h => ⟨fun c => (h c).2.2.2.2, sem_eq_zero_of_no_sems (by decide) r.2⟩)
    (Cert.InAbRefIdeal.Value.run (F := Ideal) m ρ)

/-- The idealized kernel and the idealized reference end with the same arrays. -/
theorem algebraic : Cert.algebraic_InAbIdeal_InAbRefIdeal (hInAbIdeal := Cert.InAbIdeal.Gen.facts) (hInAbRefIdeal := Cert.InAbRefIdeal.Gen.facts) := by
  intro m ρ m' ρ' _ hagree
  refine ⟨fun c => posMajor (by decide) (m ((c.tc : Thread Cert.InAbIdeal.nD Cert.InAbIdeal.τ).loc Cert.InAbIdeal.main_arg0)) (m ((c.tc : Thread Cert.InAbIdeal.nD Cert.InAbIdeal.τ).loc Cert.InAbIdeal.main_arg1)) (m ((c.tc : Thread Cert.InAbIdeal.nD Cert.InAbIdeal.τ).loc Cert.InAbIdeal.main_arg2)) (m ((c.tc : Thread Cert.InAbIdeal.nD Cert.InAbIdeal.τ).loc Cert.InAbIdeal.main_arg3)),
    fun c => cols 1024 (by decide) (m ((c.tc : Thread Cert.InAbIdeal.nD Cert.InAbIdeal.τ).loc Cert.InAbIdeal.main_arg0)) (m ((c.tc : Thread Cert.InAbIdeal.nD Cert.InAbIdeal.τ).loc Cert.InAbIdeal.main_arg1)) (m ((c.tc : Thread Cert.InAbIdeal.nD Cert.InAbIdeal.τ).loc Cert.InAbIdeal.main_arg2)) (m ((c.tc : Thread Cert.InAbIdeal.nD Cert.InAbIdeal.τ).loc Cert.InAbIdeal.main_arg3)),
    fun c => cols 5136 (by decide) (m ((c.tc : Thread Cert.InAbIdeal.nD Cert.InAbIdeal.τ).loc Cert.InAbIdeal.main_arg0)) (m ((c.tc : Thread Cert.InAbIdeal.nD Cert.InAbIdeal.τ).loc Cert.InAbIdeal.main_arg1)) (m ((c.tc : Thread Cert.InAbIdeal.nD Cert.InAbIdeal.τ).loc Cert.InAbIdeal.main_arg2)) (m ((c.tc : Thread Cert.InAbIdeal.nD Cert.InAbIdeal.τ).loc Cert.InAbIdeal.main_arg3)),
    fun c => colsT 5120 (by decide) (m ((c.tc : Thread Cert.InAbIdeal.nD Cert.InAbIdeal.τ).loc Cert.InAbIdeal.main_arg0)) (m ((c.tc : Thread Cert.InAbIdeal.nD Cert.InAbIdeal.τ).loc Cert.InAbIdeal.main_arg1)) (m ((c.tc : Thread Cert.InAbIdeal.nD Cert.InAbIdeal.τ).loc Cert.InAbIdeal.main_arg2)) (m ((c.tc : Thread Cert.InAbIdeal.nD Cert.InAbIdeal.τ).loc Cert.InAbIdeal.main_arg3)), ?_, ?_⟩
  · exact (θ_run Cert.InAbIdeal.defs _ _).mono (fun r h c => ⟨(h c).1.trans (out0 m c), (h c).2.1.trans (out1 m c), (h c).2.2.1.trans (out2 m c), (h c).2.2.2.1.trans (out3 m c), (h c).2.2.2.2⟩)
      (Cert.InAbIdeal.Value.run_blocks (F := Ideal) m ρ)
  · refine (θ_run Cert.InAbRefIdeal.defs _ _).mono (fun r h c => ?_) (Cert.InAbRefIdeal.Value.run (F := Ideal) m' ρ')
    refine ⟨((h c).1.trans (Cert.InAbRefIdeal.Read.val_main_v26_eq _ _ _ _)).trans ?_, ((h c).2.1.trans (Cert.InAbRefIdeal.Read.val_main_v27_eq _ _ _ _)).trans ?_, ((h c).2.2.1.trans (Cert.InAbRefIdeal.Read.val_main_v28_eq _ _ _ _)).trans ?_, ((h c).2.2.2.1.trans (Cert.InAbRefIdeal.Read.val_main_v30_eq _ _ _ _)).trans ?_, (h c).2.2.2.2⟩
    · show Cert.InAbRefIdeal.Read.val_main_v26 (F := Ideal) (m' ((c.tc : Thread Cert.InAbRefIdeal.nD Cert.InAbRefIdeal.τ).loc Cert.InAbRefIdeal.main_arg0)) (m' ((c.tc : Thread Cert.InAbRefIdeal.nD Cert.InAbRefIdeal.τ).loc Cert.InAbRefIdeal.main_arg1)) (m' ((c.tc : Thread Cert.InAbRefIdeal.nD Cert.InAbRefIdeal.τ).loc Cert.InAbRefIdeal.main_arg2)) (m' ((c.tc : Thread Cert.InAbRefIdeal.nD Cert.InAbRefIdeal.τ).loc Cert.InAbRefIdeal.main_arg3)) = _
      rw [(hagree c).1, (hagree c).2.1, (hagree c).2.2.1, (hagree c).2.2.2]
      exact Cert.InAbRefIdeal.Stages.u_eq _ _ _ _
    · show Cert.InAbRefIdeal.Read.val_main_v27 (F := Ideal) (m' ((c.tc : Thread Cert.InAbRefIdeal.nD Cert.InAbRefIdeal.τ).loc Cert.InAbRefIdeal.main_arg0)) (m' ((c.tc : Thread Cert.InAbRefIdeal.nD Cert.InAbRefIdeal.τ).loc Cert.InAbRefIdeal.main_arg1)) (m' ((c.tc : Thread Cert.InAbRefIdeal.nD Cert.InAbRefIdeal.τ).loc Cert.InAbRefIdeal.main_arg2)) (m' ((c.tc : Thread Cert.InAbRefIdeal.nD Cert.InAbRefIdeal.τ).loc Cert.InAbRefIdeal.main_arg3)) = _
      rw [(hagree c).1, (hagree c).2.1, (hagree c).2.2.1, (hagree c).2.2.2]
      exact Cert.InAbRefIdeal.Stages.main_eq _ _ _ _
    · show Cert.InAbRefIdeal.Read.val_main_v28 (F := Ideal) (m' ((c.tc : Thread Cert.InAbRefIdeal.nD Cert.InAbRefIdeal.τ).loc Cert.InAbRefIdeal.main_arg0)) (m' ((c.tc : Thread Cert.InAbRefIdeal.nD Cert.InAbRefIdeal.τ).loc Cert.InAbRefIdeal.main_arg1)) (m' ((c.tc : Thread Cert.InAbRefIdeal.nD Cert.InAbRefIdeal.τ).loc Cert.InAbRefIdeal.main_arg2)) (m' ((c.tc : Thread Cert.InAbRefIdeal.nD Cert.InAbRefIdeal.τ).loc Cert.InAbRefIdeal.main_arg3)) = _
      rw [(hagree c).1, (hagree c).2.1, (hagree c).2.2.1, (hagree c).2.2.2]
      exact Cert.InAbRefIdeal.Stages.z_eq _ _ _ _
    · show Cert.InAbRefIdeal.Read.val_main_v30 (F := Ideal) (m' ((c.tc : Thread Cert.InAbRefIdeal.nD Cert.InAbRefIdeal.τ).loc Cert.InAbRefIdeal.main_arg0)) (m' ((c.tc : Thread Cert.InAbRefIdeal.nD Cert.InAbRefIdeal.τ).loc Cert.InAbRefIdeal.main_arg1)) (m' ((c.tc : Thread Cert.InAbRefIdeal.nD Cert.InAbRefIdeal.τ).loc Cert.InAbRefIdeal.main_arg2)) (m' ((c.tc : Thread Cert.InAbRefIdeal.nD Cert.InAbRefIdeal.τ).loc Cert.InAbRefIdeal.main_arg3)) = _
      rw [(hagree c).1, (hagree c).2.1, (hagree c).2.2.1, (hagree c).2.2.2]
      exact Cert.InAbRefIdeal.Stages.gates_eq _ _ _ _

end Cert.InAbRuns
end
-- ==== Proof.InCdArrays.lean ====
module
public import proofs.«01_k».proof.Proof.Gen.InCdIdeal.Value
public import proofs.«01_k».proof.Proof.InSpec
public import Idealize.ShloMosaic.Lib.Pipeline.ValueKit
public import Idealize.ShloMosaic.Lib.Pipeline.ReadBack
/-! What the result arrays of the second input projection hold, over the operands of its call. -/
@[expose] public section
set_option maxRecDepth 16384
noncomputable section
open Idealize.ShloMosaic Idealize.ShloMosaic.TcCoe Idealize.SL.Sem
open Idealize.ShloMosaic.Pipeline (Dat)
namespace Cert.InCdIdeal.Arrays
open Cert.InCdIdeal Cert.InCdIdeal.Gen Cert.Inputs
variable (m : (ℓ : Loc nD τ sig) → Buf (Elt Ideal) ℓ)

/-- The block of each window at a grid point. -/
theorem idx : ∀ t : Fin cfg0.N, win0_0.index t = ![t.val, 0] ∧ win0_1.index t = ![0, 0, 0] ∧ win0_2.index t = ![0, 0]
    ∧ win0_3.index t = ![0, 0] ∧ win0_4.index t = ![0, 0] ∧ win0_5.index t = ![t.val, 0] ∧ win0_6.index t = ![t.val, 0]
    ∧ win0_7.index t = ![0, t.val] :=
  (by decide +kernel : ∀ t : Fin grid0.N, _)

/-- Row `a` times column `j` of the padded weights. -/
def prod (c : Dev nD) (a : Fin 8192) (j : Fin 7296) : EReal :=
  projOp (V m c main_arg0) (V m c main_v16) (V m c main_v17) (V m c main_v1) a j

/-- Gate column `j` times row `a`. -/
def gate (c : Dev nD) (a : Fin 8192) (j : Fin 32) : EReal :=
  gateOp (V m c main_arg0) (V m c main_v16) (V m c main_v17) (V m c main_v4) a j

set_option maxHeartbeats 3200000 in
/-- The first result array. -/
theorem arr5 (c : Dev nD) : (dats m 0 c).arrAt 5 cfg0.N
    = fun i : S8192x6144.Idx => prod m c (i 0) ⟨0 + (i 1).val, by
        have h1 : (i 1).val < 6144 := (i 1).isLt
        omega⟩ := by
  refine (dats m 0 c).arrAt_eq_of_covers 5 _ (by decide +kernel) fun t hf y => ?_
  blk_simp
  rw [after0_5]
  canon_tiles x h
  · idx_vars x
    unfold prod projOp hidOp scaleOf
    pointwise [k0_pay10, k0_pay1, k0_pay7]
    blk_point [iblk, idx t]
  · idx_vars x
    unfold prod projOp hidOp scaleOf
    pointwise [k0_pay10, k0_pay1, k0_pay6]
    blk_point [iblk, idx t]
  · idx_vars x
    unfold prod projOp hidOp scaleOf
    pointwise [k0_pay10, k0_pay1, k0_pay5]
    blk_point [iblk, idx t]
  · idx_vars x
    unfold prod projOp hidOp scaleOf
    pointwise [k0_pay10, k0_pay1, k0_pay4]
    blk_point [iblk, idx t]
  · idx_vars x
    unfold prod projOp hidOp scaleOf
    pointwise [k0_pay10, k0_pay1, k0_pay3]
    blk_point [iblk, idx t]
  · idx_vars x
    unfold prod projOp hidOp scaleOf
    pointwise [k0_pay10, k0_pay1, k0_pay2]
    blk_point [iblk, idx t]

set_option maxHeartbeats 3200000 in
/-- The result array that holds the last 1024 columns. -/
theorem arr6 (c : Dev nD) : (dats m 0 c).arrAt 6 cfg0.N
    = fun i : S8192x1024.Idx => prod m c (i 0) ⟨6176 + (i 1).val, by
        have h1 : (i 1).val < 1024 := (i 1).isLt
        omega⟩ := by
  refine (dats m 0 c).arrAt_eq_of_covers 6 _ (by decide +kernel) fun t hf y => ?_
  blk_simp
  rw [after0_6]
  canon_tiles x h
  · idx_vars x
    unfold prod projOp hidOp scaleOf
    pointwise [k0_pay10, k0_pay1, k0_pay8]
    blk_point [iblk, idx t]

set_option maxHeartbeats 3200000 in
/-- The result array that holds the gate columns. -/
theorem arr7 (c : Dev nD) : (dats m 0 c).arrAt 7 cfg0.N
    = fun i : S32x8192.Idx => gate m c (i 1) (i 0) := by
  refine (dats m 0 c).arrAt_eq_of_covers 7 _ (by decide +kernel) fun t hf y => ?_
  blk_simp
  rw [after0_7]
  canon_tiles x h
  · idx_vars x
    unfold gate gateOp hidOp scaleOf
    pointwise [k0_pay10, k0_pay1, k0_pay9]
    blk_point [iblk, idx t]
end Cert.InCdIdeal.Arrays
end
-- ==== Proof.InCdOperands.lean ====
module
public import proofs.«01_k».proof.Proof.Gen.InCdIdeal.Value
public import proofs.«01_k».proof.Proof.Modulation
public import Idealize.ShloMosaic.Lib.Pipeline.ReadBack
/-! What the operands of the call of the second input projection hold. -/
@[expose] public section
set_option maxRecDepth 16384
noncomputable section
open Idealize.ShloMosaic Idealize.ShloMosaic.TcCoe Idealize.SL.Sem
open Idealize.ShloMosaic.Pipeline (Dat)
namespace Cert.InCdIdeal.Operands
open Cert.InCdIdeal Cert.InCdIdeal.Gen Cert.Modulation
variable (m : (ℓ : Loc nD τ sig) → Buf (Elt Ideal) ℓ)

/-- The padded weights, as computed. -/
theorem weights_term (c : Dev nD) : V m c main_v1
    = pad S1024x7296 ![0, 0] ![0, 96] ![0, 0] (truncf (F := Ideal) .bf16 (m ((c : Thread nD τ).loc main_arg3)) bitsLt_bf16_f32)
        (sitofp (F := Ideal) .bf16 (constantI S_ 32 0#32)) pads_S1024x7200_S1024x7296_000_0960 h_S_ := by
  unfold V
  simp only [hostOps0, hostOps0_1, hostOps0_2, List.flatten_cons, List.flatten_nil, List.append_nil, List.cons_append, List.nil_append]
  after_results
  try rfl

/-- The gate columns, as computed. -/
theorem gates_term (c : Dev nD) : V m c main_v4
    = truncf (F := Ideal) .bf16 (transpose S32x1024 [1, 0] (extractStridedSlice S1024x32 ![0, 6144] (m ((c : Thread nD τ).loc main_arg3))
        slices_S1024x7200_S1024x32_0_6144) transposes_S1024x32_S32x1024_1_0) bitsLt_bf16_f32 := by
  unfold V
  simp only [hostOps0, hostOps0_1, hostOps0_2, List.flatten_cons, List.flatten_nil, List.append_nil, List.cons_append, List.nil_append]
  after_results
  try rfl

/-- The gain as a row, as computed. -/
theorem gain_term (c : Dev nD) : V m c main_v17
    = broadcastInDim S1x1024 ![1] bcast_S1024_S1x1024_1 (m ((c : Thread nD τ).loc main_arg2)) := by
  unfold V
  simp only [hostOps0, hostOps0_1, hostOps0_2, List.flatten_cons, List.flatten_nil, List.append_nil, List.cons_append, List.nil_append]
  after_results
  try rfl

/-- The row numbers 1, 0, 2. -/
def order : IVec S3 32 := fun i => lit0 (S3.rowMajor i)

/-- The two modulation rows, as computed. -/
theorem mod_term (c : Dev nD) : V m c main_v16
    = extractStridedSlice S1x2x1024 ![0, 0, 0] (Host.gather gather_S1x3x1024_S3x1_S1x3x1024_02_1_n_n_1_1_111024
        (Host.scatter scatter_S1x3x1024_S1_S1x1024_01_1_1_0 (FloatOps.addf (F := Ideal) (φ := .f32))
          (shapeCast S1x3x1024 (m ((c : Thread nD τ).loc main_arg1)) shapeCasts_S1x3072_S1x3x1024)
          (broadcastInDim S1 ![] bcast_S_S1 (constantI S_ 32 1#32))
          (broadcastInDim S1x1024 ![] bcast_S_S1x1024 (constant (F := Ideal) S_ .f32 0x3F800000#32)))
        (broadcastInDim S3x1 ![0] bcast_S3_S3x1_0 (select (cmpi .slt order (broadcastInDim S3 ![] bcast_S_S3 (constantI S_ 32 0#32)))
          (addi order (broadcastInDim S3 ![] bcast_S_S3 (constantI S_ 32 3#32))) order)))
        slices_S1x3x1024_S1x2x1024_0_0_0 := by
  unfold V
  simp only [hostOps0, hostOps0_1, hostOps0_2, List.flatten_cons, List.flatten_nil, List.append_nil, List.cons_append, List.nil_append]
  after_results
  try rfl

/-- The weights are the first columns of the padded weights. -/
theorem weights (c : Dev nD) (d : Fin 1024) (j : Fin 7296) (hj : j.val < 7200) :
    (V m c main_v1 : S1024x7296.Idx → EReal) (ix2 d j) = (m ((c : Thread nD τ).loc main_arg3) : S1024x7200.Idx → EReal) (ix2 d ⟨j.val, hj⟩) := by
  rw [weights_term]
  pointwise
  refine dif_pos fun a => ?_
  match a with
  | ⟨0, _⟩ => exact ⟨Nat.zero_le _, Nat.mod_one _, by show (d.val - 0) / (0 + 1) < 1024; omega⟩
  | ⟨1, _⟩ => exact ⟨Nat.zero_le _, Nat.mod_one _, by show (j.val - 0) / (0 + 1) < 7200; omega⟩

/-- The gate columns are columns of the weights. -/
theorem gates (c : Dev nD) (d : Fin 1024) (j : Fin 32) : (V m c main_v4 : S32x1024.Idx → EReal) (ix2 j d)
    = (m ((c : Thread nD τ).loc main_arg3) : S1024x7200.Idx → EReal) (ix2 d ⟨6144 + j.val, by omega⟩) := by
  rw [gates_term]
  pointwise

/-- The gain row is the gain. -/
theorem gain (c : Dev nD) (d : Fin 1024) : (V m c main_v17 : S1x1024.Idx → EReal) (ix2 0 d)
    = (m ((c : Thread nD τ).loc main_arg2) : S1024.Idx → EReal) (ix1 d) := by
  rw [gain_term]
  pointwise

/-- The first two of three rows. -/
theorem two_rows (x : S1x3x1024.Idx → EReal) (r : Fin 2) (d : Fin 1024) :
    extractStridedSlice S1x2x1024 ![0, 0, 0] x slices_S1x3x1024_S1x2x1024_0_0_0 (ix3 0 r d) = x (ix3 0 ⟨r.val, by omega⟩ d) := by
  pointwise

/-- The row numbers, where a negative one would count from the end, are 1, 0, 2. -/
theorem order_at (r : Fin 3) : broadcastInDim S3x1 ![0] bcast_S3_S3x1_0 (select (cmpi .slt order (broadcastInDim S3 ![] bcast_S_S3 (constantI S_ 32 0#32)))
    (addi order (broadcastInDim S3 ![] bcast_S_S3 (constantI S_ 32 3#32))) order) (ix2 r 0) = BitVec.ofNat 32 ((![1, 0, 2] : Fin 3 → Fin 3) r).val := by
  match r with
  | ⟨0, _⟩ => rfl
  | ⟨1, _⟩ => rfl
  | ⟨2, _⟩ => rfl

/-- The first modulation row is the scale plus one. -/
theorem mod_scale (c : Dev nD) (M : S1x3072.Idx → EReal) (hM : m ((c : Thread nD τ).loc main_arg1) = M) (d : Fin 1024) :
    (V m c main_v16 : S1x2x1024.Idx → EReal) (ix3 0 0 d) = M (ix2 0 ⟨1024 + d.val, by omega⟩) + 1 := by
  subst hM
  rw [mod_term, two_rows]
  refine (take_row _ _ _ 0 1 (order_at 0) 0 d).trans ?_
  refine (add_row _ _ _ _ (fun _ => rfl) _ 0 1 d).trans ?_
  rw [if_pos rfl]
  pointwise

/-- The second modulation row is the shift. -/
theorem mod_shift (c : Dev nD) (d : Fin 1024) : (V m c main_v16 : S1x2x1024.Idx → EReal) (ix3 0 1 d)
    = (m ((c : Thread nD τ).loc main_arg1) : S1x3072.Idx → EReal) (ix2 0 ⟨d.val, by omega⟩) := by
  rw [mod_term, two_rows]
  refine (take_row _ _ _ 1 0 (order_at 1) 0 d).trans ?_
  refine (add_row _ _ _ _ (fun _ => rfl) _ 0 0 d).trans ?_
  rw [if_neg (by decide)]
  pointwise
end Cert.InCdIdeal.Operands
end
-- ==== Proof.InCdRef.lean ====
module
public import proofs.«01_k».proof.Proof.Gen.InCdRefIdeal.Read
public import proofs.«01_k».proof.Proof.InSpec
public import Idealize.ShloMosaic.Lib.Pointwise
/-! What the reference of the second input projection computes. -/
@[expose] public section
set_option maxRecDepth 16384
noncomputable section
open Idealize.ShloMosaic Idealize.ShloMosaic.TcCoe Idealize.SL.Sem
namespace Cert.InCdRefIdeal.Stages
open Cert.InCdRefIdeal Cert.InCdRefIdeal.Gen Cert.InCdRefIdeal.Read Cert.Inputs
variable (X : FVec Ideal S8192x1024 .f32) (M : FVec Ideal S1x3072 .f32) (G : FVec Ideal S1024 .f32) (W : FVec Ideal S1024x7200 .f32)

/-- The normalised, scaled and shifted rows. -/
theorem hid_at (a : Fin 8192) (d : Fin 1024) : val_main_v21 (F := Ideal) X M G (ix2 a d) = hid X M G a d := by
  unfold hid scaleOf
  pointwise [val_main_v0, val_main_v1, val_main_v2, val_main_v3, val_main_cst, val_main_v4, val_main_v5, val_main_cst_0, val_main_v6, val_main_v7, val_main_cst_1, val_main_v8, val_main_v9, val_main_v10, val_main_v11, val_main_v12, val_main_v13, val_main_v14, val_main_v15, val_main_cst_2, val_main_v16, val_main_v17, val_main_v18, val_main_v19, val_main_v20, val_main_v21]

/-- The rows times the weights. -/
theorem proj_at (a : Fin 8192) (j : Fin 7200) : val_main_v22 (F := Ideal) X M G W (ix2 a j) = proj X M G W a j := by
  unfold proj
  pointwise [val_main_v22]
  exact Finset.sum_congr rfl fun d _ => congrArg (· * _) (hid_at X M G a d)

/-- The first 6144 columns. -/
theorem main_eq : val_main_v23 (F := Ideal) X M G W = cols 0 (by decide) X M G W := by
  funext i
  idx_vars i
  unfold cols
  pointwise [val_main_v23]
  refine (proj_at X M G W _ _).trans ?_
  exact congrArg (proj X M G W _) (Fin.ext (by simp))

/-- The last 1024 columns. -/
theorem z_eq : val_main_v24 (F := Ideal) X M G W = cols 6176 (by decide) X M G W := by
  funext i
  idx_vars i
  unfold cols
  pointwise [val_main_v24]
  exact proj_at X M G W _ _

/-- The gate columns. -/
theorem gates_eq : val_main_v26 (F := Ideal) X M G W = colsT 6144 (by decide) X M G W := by
  funext i
  idx_vars i
  unfold colsT
  pointwise [val_main_v26, val_main_v25]
  exact proj_at X M G W _ _
end Cert.InCdRefIdeal.Stages
end
-- ==== Proof.InCdRuns.lean ====
module
public import proofs.«01_k».proof.Defs
public import proofs.«01_k».proof.Proof.Gen.InCdRefIdeal.Run
public import proofs.«01_k».proof.Proof.Gen.InCdIdeal.Value
public import proofs.«01_k».proof.Proof.InCdArrays
public import proofs.«01_k».proof.Proof.InCdOperands
public import proofs.«01_k».proof.Proof.InCdRef
public import Idealize.ShloMosaic.Lib.Claim
/-! The second input projection: both idealized programs run and end with the same arrays. -/
@[expose] public section
set_option maxRecDepth 16384
noncomputable section
open Idealize.ShloMosaic Idealize.ShloMosaic.TcCoe Idealize.SL.Sem
namespace Cert.InCdRuns
open Cert.Inputs

section
open Cert.InCdIdeal Cert.InCdIdeal.Gen
variable (m : (ℓ : Loc nD τ sig) → Buf (Elt Ideal) ℓ)

/-- A column of the product over the operands is a column of the projection. -/
theorem prod_eq (c : Dev nD) (a : Fin 8192) (j : Fin 7296) (i : Fin 7200) (h : j.val = i.val) :
    Arrays.prod m c a j = proj (m ((c : Thread nD τ).loc main_arg0)) (m ((c : Thread nD τ).loc main_arg1)) (m ((c : Thread nD τ).loc main_arg2)) (m ((c : Thread nD τ).loc main_arg3)) a i := by
  unfold Arrays.prod
  refine projOp_eq _ _ _ _ _ _ _ _ (V_main_arg0 m c) (Operands.mod_scale m c _ rfl) (Operands.mod_shift m c) (Operands.gain m c) a j i fun d => ?_
  refine (Operands.weights m c d j (by omega)).trans ?_
  exact congrArg _ (congrArg (ix2 d) (Fin.ext h))

/-- A gate over the operands is a column of the projection. -/
theorem gate_eq (c : Dev nD) (a : Fin 8192) (j : Fin 32) (i : Fin 7200) (h : 6144 + j.val = i.val) :
    Arrays.gate m c a j = proj (m ((c : Thread nD τ).loc main_arg0)) (m ((c : Thread nD τ).loc main_arg1)) (m ((c : Thread nD τ).loc main_arg2)) (m ((c : Thread nD τ).loc main_arg3)) a i := by
  unfold Arrays.gate
  refine gateOp_eq _ _ _ _ _ _ _ _ (V_main_arg0 m c) (Operands.mod_scale m c _ rfl) (Operands.mod_shift m c) (Operands.gain m c) a j i fun d => ?_
  refine (Operands.gates m c d j).trans ?_
  exact congrArg _ (congrArg (ix2 d) (Fin.ext h))

/-- Result array 1 of the kernel. -/
theorem out0 (c : Dev nD) : (dats m 0 c).arrAt 5 cfg0.N
    = cols 0 (by decide) (m ((c : Thread nD τ).loc main_arg0)) (m ((c : Thread nD τ).loc main_arg1)) (m ((c : Thread nD τ).loc main_arg2)) (m ((c : Thread nD τ).loc main_arg3)) :=
  (Arrays.arr5 m c).trans (funext fun i => prod_eq m c _ _ _ rfl)

/-- Result array 2 of the kernel. -/
theorem out1 (c : Dev nD) : (dats m 0 c).arrAt 6 cfg0.N
    = cols 6176 (by decide) (m ((c : Thread nD τ).loc main_arg0)) (m ((c : Thread nD τ).loc main_arg1)) (m ((c : Thread nD τ).loc main_arg2)) (m ((c : Thread nD τ).loc main_arg3)) :=
  (Arrays.arr6 m c).trans (funext fun i => prod_eq m c _ _ _ rfl)

/-- Result array 3 of the kernel. -/
theorem out2 (c : Dev nD) : (dats m 0 c).arrAt 7 cfg0.N
    = colsT 6144 (by decide) (m ((c : Thread nD τ).loc main_arg0)) (m ((c : Thread nD τ).loc main_arg1)) (m ((c : Thread nD τ).loc main_arg2)) (m ((c : Thread nD τ).loc main_arg3)) :=
  (Arrays.arr7 m c).trans (funext fun i => gate_eq m c _ _ _ rfl)
end

/-- The reference runs, its arguments end unchanged and every semaphore counter is zero. -/
theorem ref_frame (m : (ℓ : Loc Cert.InCdRefIdeal.nD Cert.InCdRefIdeal.τ Cert.InCdRefIdeal.sig) → Buf (Elt Ideal) ℓ) (ρ : Dev Cert.InCdRefIdeal.nD → PrngReg) :
    θ_run (Cert.InCdRefIdeal.defs (F := Ideal)) (onTc (τ := Cert.InCdRefIdeal.τ) (Cert.InCdRefIdeal.main (F := Ideal))) ⟨m, fun _ => 0, ρ⟩
      (fun r => (∀ c : Dev Cert.InCdRefIdeal.nD, r.2.mem ((c.tc : Thread Cert.InCdRefIdeal.nD Cert.InCdRefIdeal.τ).loc Cert.InCdRefIdeal.main_arg0) = m ((c.tc : Thread Cert.InCdRefIdeal.nD Cert.InCdRefIdeal.τ).loc Cert.InCdRefIdeal.main_arg0) ∧ r.2.mem ((c.tc : Thread Cert.InCdRefIdeal.nD Cert.InCdRefIdeal.τ).loc Cert.InCdRefIdeal.main_arg1) = m ((c.tc : Thread Cert.InCdRefIdeal.nD Cert.InCdRefIdeal.τ).loc Cert.InCdRefIdeal.main_arg1) ∧ r.2.mem ((c.tc : Thread Cert.InCdRefIdeal.nD Cert.InCdRefIdeal.τ).loc Cert.InCdRefIdeal.main_arg2) = m ((c.tc : Thread Cert.InCdRefIdeal.nD Cert.InCdRefIdeal.τ).loc Cert.InCdRefIdeal.main_arg2) ∧ r.2.mem ((c.tc : Thread Cert.InCdRefIdeal.nD Cert.InCdRefIdeal.τ).loc Cert.InCdRefIdeal.main_arg3) = m ((c.tc : Thread Cert.InCdRefIdeal.nD Cert.InCdRefIdeal.τ).loc Cert.InCdRefIdeal.main_arg3)) ∧ r.2.sem = fun _ => 0) :=
  (θ_run Cert.InCdRefIdeal.defs _ _).mono (fun r h => ⟨fun c => (h c).2.2.2, sem_eq_zero_of_no_sems (by decide) r.2⟩)
    (Cert.InCdRefIdeal.Value.run (F := Ideal) m ρ)

/-- The idealized kernel and the idealized reference end with the same arrays. -/
theorem algebraic : Cert.algebraic_InCdIdeal_InCdRefIdeal (hInCdIdeal := Cert.InCdIdeal.Gen.facts) (hInCdRefIdeal := Cert.InCdRefIdeal.Gen.facts) := by
  intro m ρ m' ρ' _ hagree
  refine ⟨fun c => cols 0 (by decide) (m ((c.tc : Thread Cert.InCdIdeal.nD Cert.InCdIdeal.τ).loc Cert.InCdIdeal.main_arg0)) (m ((c.tc : Thread Cert.InCdIdeal.nD Cert.InCdIdeal.τ).loc Cert.InCdIdeal.main_arg1)) (m ((c.tc : Thread Cert.InCdIdeal.nD Cert.InCdIdeal.τ).loc Cert.InCdIdeal.main_arg2)) (m ((c.tc : Thread Cert.InCdIdeal.nD Cert.InCdIdeal.τ).loc Cert.InCdIdeal.main_arg3)),
    fun c => cols 6176 (by decide) (m ((c.tc : Thread Cert.InCdIdeal.nD Cert.InCdIdeal.τ).loc Cert.InCdIdeal.main_arg0)) (m ((c.tc : Thread Cert.InCdIdeal.nD Cert.InCdIdeal.τ).loc Cert.InCdIdeal.main_arg1)) (m ((c.tc : Thread Cert.InCdIdeal.nD Cert.InCdIdeal.τ).loc Cert.InCdIdeal.main_arg2)) (m ((c.tc : Thread Cert.InCdIdeal.nD Cert.InCdIdeal.τ).loc Cert.InCdIdeal.main_arg3)),
    fun c => colsT 6144 (by decide) (m ((c.tc : Thread Cert.InCdIdeal.nD Cert.InCdIdeal.τ).loc Cert.InCdIdeal.main_arg0)) (m ((c.tc : Thread Cert.InCdIdeal.nD Cert.InCdIdeal.τ).loc Cert.InCdIdeal.main_arg1)) (m ((c.tc : Thread Cert.InCdIdeal.nD Cert.InCdIdeal.τ).loc Cert.InCdIdeal.main_arg2)) (m ((c.tc : Thread Cert.InCdIdeal.nD Cert.InCdIdeal.τ).loc Cert.InCdIdeal.main_arg3)), ?_, ?_⟩
  · exact (θ_run Cert.InCdIdeal.defs _ _).mono (fun r h c => ⟨(h c).1.trans (out0 m c), (h c).2.1.trans (out1 m c), (h c).2.2.1.trans (out2 m c), (h c).2.2.2⟩)
      (Cert.InCdIdeal.Value.run_blocks (F := Ideal) m ρ)
  · refine (θ_run Cert.InCdRefIdeal.defs _ _).mono (fun r h c => ?_) (Cert.InCdRefIdeal.Value.run (F := Ideal) m' ρ')
    refine ⟨((h c).1.trans (Cert.InCdRefIdeal.Read.val_main_v23_eq _ _ _ _)).trans ?_, ((h c).2.1.trans (Cert.InCdRefIdeal.Read.val_main_v24_eq _ _ _ _)).trans ?_, ((h c).2.2.1.trans (Cert.InCdRefIdeal.Read.val_main_v26_eq _ _ _ _)).trans ?_, (h c).2.2.2⟩
    · show Cert.InCdRefIdeal.Read.val_main_v23 (F := Ideal) (m' ((c.tc : Thread Cert.InCdRefIdeal.nD Cert.InCdRefIdeal.τ).loc Cert.InCdRefIdeal.main_arg0)) (m' ((c.tc : Thread Cert.InCdRefIdeal.nD Cert.InCdRefIdeal.τ).loc Cert.InCdRefIdeal.main_arg1)) (m' ((c.tc : Thread Cert.InCdRefIdeal.nD Cert.InCdRefIdeal.τ).loc Cert.InCdRefIdeal.main_arg2)) (m' ((c.tc : Thread Cert.InCdRefIdeal.nD Cert.InCdRefIdeal.τ).loc Cert.InCdRefIdeal.main_arg3)) = _
      rw [(hagree c).1, (hagree c).2.1, (hagree c).2.2.1, (hagree c).2.2.2]
      exact Cert.InCdRefIdeal.Stages.main_eq _ _ _ _
    · show Cert.InCdRefIdeal.Read.val_main_v24 (F := Ideal) (m' ((c.tc : Thread Cert.InCdRefIdeal.nD Cert.InCdRefIdeal.τ).loc Cert.InCdRefIdeal.main_arg0)) (m' ((c.tc : Thread Cert.InCdRefIdeal.nD Cert.InCdRefIdeal.τ).loc Cert.InCdRefIdeal.main_arg1)) (m' ((c.tc : Thread Cert.InCdRefIdeal.nD Cert.InCdRefIdeal.τ).loc Cert.InCdRefIdeal.main_arg2)) (m' ((c.tc : Thread Cert.InCdRefIdeal.nD Cert.InCdRefIdeal.τ).loc Cert.InCdRefIdeal.main_arg3)) = _
      rw [(hagree c).1, (hagree c).2.1, (hagree c).2.2.1, (hagree c).2.2.2]
      exact Cert.InCdRefIdeal.Stages.z_eq _ _ _ _
    · show Cert.InCdRefIdeal.Read.val_main_v26 (F := Ideal) (m' ((c.tc : Thread Cert.InCdRefIdeal.nD Cert.InCdRefIdeal.τ).loc Cert.InCdRefIdeal.main_arg0)) (m' ((c.tc : Thread Cert.InCdRefIdeal.nD Cert.InCdRefIdeal.τ).loc Cert.InCdRefIdeal.main_arg1)) (m' ((c.tc : Thread Cert.InCdRefIdeal.nD Cert.InCdRefIdeal.τ).loc Cert.InCdRefIdeal.main_arg2)) (m' ((c.tc : Thread Cert.InCdRefIdeal.nD Cert.InCdRefIdeal.τ).loc Cert.InCdRefIdeal.main_arg3)) = _
      rw [(hagree c).1, (hagree c).2.1, (hagree c).2.2.1, (hagree c).2.2.2]
      exact Cert.InCdRefIdeal.Stages.gates_eq _ _ _ _

end Cert.InCdRuns
end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Pre_finite_qv
public import proofs.«01_k».proof.Proof.Gen.Pre_finite_qv_forget
public import proofs.«01_k».proof.Proof.Gen.InCd
public import proofs.«01_k».proof.Proof.Gen.InCd.Frame
public import proofs.«01_k».proof.Proof.Gen.InCdIdeal
public import proofs.«01_k».proof.Proof.Gen.InCdIdeal.Frame
public import proofs.«01_k».proof.Proof.Gen.InCdIdeal.Value
public import proofs.«01_k».proof.Proof.Gen.InCdRefIdeal
public import proofs.«01_k».proof.Proof.Gen.InCdRefIdeal.Run
public import proofs.«01_k».proof.Proof.Gen.InCdRefIdeal.Read
public import proofs.«01_k».proof.Proof.Gen.InAb
public import proofs.«01_k».proof.Proof.Gen.InAb.Frame
public import proofs.«01_k».proof.Proof.Gen.InAbIdeal
public import proofs.«01_k».proof.Proof.Gen.InAbIdeal.Frame
public import proofs.«01_k».proof.Proof.Gen.InAbIdeal.Value
public import proofs.«01_k».proof.Proof.Gen.InAbRefIdeal
public import proofs.«01_k».proof.Proof.Gen.InAbRefIdeal.Run
public import proofs.«01_k».proof.Proof.Gen.InAbRefIdeal.Read
public import proofs.«01_k».proof.Proof.Gen.OutCd
public import proofs.«01_k».proof.Proof.Gen.OutCd.Frame
public import proofs.«01_k».proof.Proof.Gen.OutCdIdeal
public import proofs.«01_k».proof.Proof.Gen.OutCdIdeal.Frame
public import proofs.«01_k».proof.Proof.Gen.OutCdIdeal.Value
public import proofs.«01_k».proof.Proof.Gen.OutCdRefIdeal
public import proofs.«01_k».proof.Proof.Gen.OutCdRefIdeal.Run
public import proofs.«01_k».proof.Proof.Gen.OutCdRefIdeal.Read
public import proofs.«01_k».proof.Proof.Gen.OutAb
public import proofs.«01_k».proof.Proof.Gen.OutAb.Frame
public import proofs.«01_k».proof.Proof.Gen.OutAbIdeal
public import proofs.«01_k».proof.Proof.Gen.OutAbIdeal.Frame
public import proofs.«01_k».proof.Proof.Gen.OutAbIdeal.Value
public import proofs.«01_k».proof.Proof.Gen.OutAbRefIdeal
public import proofs.«01_k».proof.Proof.Gen.OutAbRefIdeal.Run
public import proofs.«01_k».proof.Proof.Gen.OutAbRefIdeal.Read
public import proofs.«01_k».proof.Proof.Gen.OutSmp
public import proofs.«01_k».proof.Proof.Gen.OutSmp.Frame
public import proofs.«01_k».proof.Proof.Gen.OutSmpIdeal
public import proofs.«01_k».proof.Proof.Gen.OutSmpIdeal.Frame
public import proofs.«01_k».proof.Proof.Gen.OutSmpIdeal.Value
public import proofs.«01_k».proof.Proof.Gen.OutSmpRefIdeal
public import proofs.«01_k».proof.Proof.Gen.OutSmpRefIdeal.Run
public import proofs.«01_k».proof.Proof.Gen.OutSmpRefIdeal.Read
public import proofs.«01_k».proof.Proof.Gen.Mlstm
public import proofs.«01_k».proof.Proof.Gen.Mlstm.Frame
public import proofs.«01_k».proof.Proof.Gen.MlstmIdeal
public import proofs.«01_k».proof.Proof.Gen.MlstmIdeal.Frame
public import proofs.«01_k».proof.Proof.Gen.MlstmIdeal.Value
public import proofs.«01_k».proof.Proof.Gen.MlstmRefIdeal
public import proofs.«01_k».proof.Proof.Gen.MlstmRefIdeal.Run
public import proofs.«01_k».proof.Proof.Gen.MlstmRefIdeal.Read
public import proofs.«01_k».proof.Proof.Gen.Modul
public import proofs.«01_k».proof.Proof.Gen.Modul.Frame
public import proofs.«01_k».proof.Proof.Gen.ModulIdeal
public import proofs.«01_k».proof.Proof.Gen.ModulIdeal.Frame
public import proofs.«01_k».proof.Proof.Gen.ModulIdeal.Value
public import proofs.«01_k».proof.Proof.Gen.ModulRefIdeal
public import proofs.«01_k».proof.Proof.Gen.ModulRefIdeal.Run
public import proofs.«01_k».proof.Proof.Gen.ModulRefIdeal.Read
public import proofs.«01_k».proof.Proof.Runs
public import proofs.«01_k».proof.Proof.ModulRuns
public import proofs.«01_k».proof.Proof.MlstmRuns
public import proofs.«01_k».proof.Proof.OutSmpRuns
public import proofs.«01_k».proof.Proof.OutAbRuns
public import proofs.«01_k».proof.Proof.OutCdRuns
public import proofs.«01_k».proof.Proof.InAbRuns
public import proofs.«01_k».proof.Proof.InCdRuns

@[expose] public section

noncomputable section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts,
    Cert.InCd.Gen.facts, Cert.InCdIdeal.Gen.facts, Cert.InCdRefIdeal.Gen.facts,
    Cert.InAb.Gen.facts, Cert.InAbIdeal.Gen.facts, Cert.InAbRefIdeal.Gen.facts,
    Cert.OutCd.Gen.facts, Cert.OutCdIdeal.Gen.facts, Cert.OutCdRefIdeal.Gen.facts,
    Cert.OutAb.Gen.facts, Cert.OutAbIdeal.Gen.facts, Cert.OutAbRefIdeal.Gen.facts,
    Cert.OutSmp.Gen.facts, Cert.OutSmpIdeal.Gen.facts, Cert.OutSmpRefIdeal.Gen.facts,
    Cert.Mlstm.Gen.facts, Cert.MlstmIdeal.Gen.facts, Cert.MlstmRefIdeal.Gen.facts,
    Cert.Modul.Gen.facts, Cert.ModulIdeal.Gen.facts, Cert.ModulRefIdeal.Gen.facts,
    Cert.Pre_finite_qv.Gen.facts, Cert.Pre_finite_qv_forget.Gen.facts,
    fun m ρ _ => Cert.Kernel.Gen.frame m ρ,
    fun m ρ _ => Cert.KernelIdeal.Gen.frame m ρ,
    fun m ρ _ => Cert.KernelIdeal.Gen.frame m ρ,
    fun m ρ _ => Cert.Retention.ref_frame m ρ,
    fun m ρ _ => Cert.Retention.ref_frame m ρ,
    fun m ρ _ => Cert.InCd.Gen.frame m ρ,
    fun m ρ _ => Cert.InCdIdeal.Gen.frame m ρ,
    fun m ρ _ => Cert.InCdRuns.ref_frame m ρ,
    fun m ρ _ => Cert.InAb.Gen.frame m ρ,
    fun m ρ _ => Cert.InAbIdeal.Gen.frame m ρ,
    fun m ρ _ => Cert.InAbRuns.ref_frame m ρ,
    fun m ρ _ => Cert.OutCd.Gen.frame m ρ,
    fun m ρ _ => Cert.OutCdIdeal.Gen.frame m ρ,
    fun m ρ _ => Cert.OutCdRuns.ref_frame m ρ,
    fun m ρ _ => Cert.OutAb.Gen.frame m ρ,
    fun m ρ _ => Cert.OutAbIdeal.Gen.frame m ρ,
    fun m ρ _ => Cert.OutAbRuns.ref_frame m ρ,
    fun m ρ _ => Cert.OutSmp.Gen.frame m ρ,
    fun m ρ _ => Cert.OutSmpIdeal.Gen.frame m ρ,
    fun m ρ _ => Cert.OutSmpRuns.ref_frame m ρ,
    fun m ρ _ => Cert.Mlstm.Gen.frame m ρ,
    fun m ρ _ => Cert.MlstmIdeal.Gen.frame m ρ,
    fun m ρ _ => Cert.MlstmIdeal.Gen.frame m ρ,
    fun m ρ _ => Cert.MlstmRuns.ref_frame m ρ,
    fun m ρ _ => Cert.MlstmRuns.ref_frame m ρ,
    fun m ρ _ => Cert.Modul.Gen.frame m ρ,
    fun m ρ _ => Cert.ModulIdeal.Gen.frame m ρ,
    fun m ρ _ => Cert.ModulRuns.ref_frame m ρ,
    trivial,
    Cert.Retention.algebraic,
    trivial,
    Cert.InCdRuns.algebraic,
    trivial,
    Cert.InAbRuns.algebraic,
    trivial,
    Cert.OutCdRuns.algebraic,
    trivial,
    Cert.OutAbRuns.algebraic,
    trivial,
    Cert.OutSmpRuns.algebraic,
    trivial,
    Cert.MlstmRuns.algebraic,
    trivial,
    Cert.ModulRuns.algebraic⟩

end Cert.Proof

end
